-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)) (v2 : (c : Dev Cert.Kernel2Ideal.nD) → Buf (Elt Ideal) ((c.tc : Thread Cert.Kernel2Ideal.nD Cert.Kernel2Ideal.τ).loc Cert.Kernel2Ideal.main_v18_2)) (v3 : (c : Dev Cert.Kernel2Ideal.nD) → Buf (Elt Ideal) ((c.tc : Thread Cert.Kernel2Ideal.nD Cert.Kernel2Ideal.τ).loc Cert.Kernel2Ideal.main_v18_3)) (v4 : (c : Dev Cert.Kernel2Ideal.nD) → Buf (Elt Ideal) ((c.tc : Thread Cert.Kernel2Ideal.nD Cert.Kernel2Ideal.τ).loc Cert.Kernel2Ideal.main_v18_4)) (v5 : (c : Dev Cert.Kernel2Ideal.nD) → Buf (Elt Ideal) ((c.tc : Thread Cert.Kernel2Ideal.nD Cert.Kernel2Ideal.τ).loc Cert.Kernel2Ideal.main_v18_5)) (v6 : (c : Dev Cert.Kernel2Ideal.nD) → Buf (Elt Ideal) ((c.tc : Thread Cert.Kernel2Ideal.nD Cert.Kernel2Ideal.τ).loc Cert.Kernel2Ideal.main_v18_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_v18_2) = v2 c
          ∧ r.2.mem ((c.tc : Thread Cert.Kernel2Ideal.nD Cert.Kernel2Ideal.τ).loc Cert.Kernel2Ideal.main_v18_3) = v3 c
          ∧ r.2.mem ((c.tc : Thread Cert.Kernel2Ideal.nD Cert.Kernel2Ideal.τ).loc Cert.Kernel2Ideal.main_v18_4) = v4 c
          ∧ r.2.mem ((c.tc : Thread Cert.Kernel2Ideal.nD Cert.Kernel2Ideal.τ).loc Cert.Kernel2Ideal.main_v18_5) = v5 c
          ∧ r.2.mem ((c.tc : Thread Cert.Kernel2Ideal.nD Cert.Kernel2Ideal.τ).loc Cert.Kernel2Ideal.main_v18_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v57) = v2 c
          ∧ r.2.mem ((c.tc : Thread Cert.Reference2Ideal.nD Cert.Reference2Ideal.τ).loc Cert.Reference2Ideal.main_v58) = v3 c
          ∧ r.2.mem ((c.tc : Thread Cert.Reference2Ideal.nD Cert.Reference2Ideal.τ).loc Cert.Reference2Ideal.main_v59) = v4 c
          ∧ r.2.mem ((c.tc : Thread Cert.Reference2Ideal.nD Cert.Reference2Ideal.τ).loc Cert.Reference2Ideal.main_v60) = v5 c
          ∧ r.2.mem ((c.tc : Thread Cert.Reference2Ideal.nD Cert.Reference2Ideal.τ).loc Cert.Reference2Ideal.main_v61) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
-- ==== Pre_finite.lean ====
abbrev S4x8192x1536 : Shape := ⟨3, ![4, 8192, 1536]⟩
abbrev S4x8192x512 : Shape := ⟨3, ![4, 8192, 512]⟩
abbrev S4x8192x8 : Shape := ⟨3, ![4, 8192, 8]⟩
abbrev S4x8192x1024 : Shape := ⟨3, ![4, 8192, 1024]⟩
abbrev S1x4x1536 : Shape := ⟨3, ![1, 4, 1536]⟩
abbrev S1x4 : Shape := ⟨2, ![1, 4]⟩
abbrev S1x128 : Shape := ⟨2, ![1, 128]⟩
abbrev S1x1024x1024 : Shape := ⟨3, ![1, 1024, 1024]⟩
abbrev S_ : Shape := ⟨0, ![]⟩

class Facts : Prop where
  bcast_S_S4x8192x1536 : S_.BroadcastsInDim S4x8192x1536 (![] : Fin 0 → Fin S4x8192x1536.rank)
  reducesTo_S4x8192x1536_S_d0_1_2 : S4x8192x1536.ReducesTo [0, 1, 2] S_
  h_S_ : 0 < S_.numel
  bcast_S_S4x8192x512 : S_.BroadcastsInDim S4x8192x512 (![] : Fin 0 → Fin S4x8192x512.rank)
  reducesTo_S4x8192x512_S_d0_1_2 : S4x8192x512.ReducesTo [0, 1, 2] S_
  bcast_S_S4x8192x8 : S_.BroadcastsInDim S4x8192x8 (![] : Fin 0 → Fin S4x8192x8.rank)
  reducesTo_S4x8192x8_S_d0_1_2 : S4x8192x8.ReducesTo [0, 1, 2] S_
  bcast_S_S1x4x1536 : S_.BroadcastsInDim S1x4x1536 (![] : Fin 0 → Fin S1x4x1536.rank)
  reducesTo_S1x4x1536_S_d0_1_2 : S1x4x1536.ReducesTo [0, 1, 2] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_arg6 : FVec F S1x4 .f32) (main_arg7 : FVec F S1x4 .f32) (main_v13 : IVec S_ 1) (main_v16 : IVec S1x4x1536 1) : IVec S_ 1 :=
  let main_c_5 : IVec S_ 1 := constantI S_ 1 1#1
  let main_v17 : IVec S_ 1 := (fun x v => Host.reduce IntOp.andi x v reducesTo_S1x4x1536_S_d0_1_2 h_S_) main_v16 main_c_5
  let main_v18 : IVec S_ 1 := andi main_v13 main_v17
  let main_v19 : FVec F S1x4 .f32 := Host.absf main_arg6
  let main_cst_6 : FVec F S_ .f32 := constant S_ .f32 0x7F800000#32
  let main_v20 : FVec F S1x4 .f32 := broadcastInDim S1x4 ![] bcast_S_S1x4 main_cst_6
  let main_v21 : IVec S1x4 1 := cmpf .olt main_v19 main_v20
  let main_c_7 : IVec S_ 1 := constantI S_ 1 1#1
  let main_v22 : IVec S_ 1 := (fun x v => Host.reduce IntOp.andi x v reducesTo_S1x4_S_d0_1 h_S_) main_v21 main_c_7
  let main_v23 : IVec S_ 1 := andi main_v18 main_v22
  let main_v24 : FVec F S1x4 .f32 := Host.absf main_arg7
  let main_cst_8 : FVec F S_ .f32 := constant S_ .f32 0x7F800000#32
  let main_v25 : FVec F S1x4 .f32 := broadcastInDim S1x4 ![] bcast_S_S1x4 main_cst_8
  let main_v26 : IVec S1x4 1 := cmpf .olt main_v24 main_v25
  let main_c_9 : IVec S_ 1 := constantI S_ 1 1#1
  let main_v27 : IVec S_ 1 := (fun x v => Host.reduce IntOp.andi x v reducesTo_S1x4_S_d0_1 h_S_) main_v26 main_c_9
  let main_v28 : IVec S_ 1 := andi main_v23 main_v27
  main_v28

def fn {F : FTy → Type} [FloatOps F] (main_arg0 : FVec F S4x8192x1536 .f32) (main_arg1 : FVec F S4x8192x512 .f32) (main_arg2 : FVec F S4x8192x8 .f32) (main_arg3 : FVec F S4x8192x1024 .f32) (main_arg4 : FVec F S4x8192x512 .f32) (main_arg5 : FVec F S1x4x1536 .f32) (main_arg6 : FVec F S1x4 .f32) (main_arg7 : FVec F S1x4 .f32) (main_arg8 : FVec F S1x128 .f32) (main_arg9 : FVec F S1x1024x1024 .f32) : IVec S_ 1 :=
  let main_v0 : FVec F S4x8192x1536 .f32 := Host.absf main_arg0
  let main_cst : FVec F S_ .f32 := constant S_ .f32 0x7F800000#32
  let main_v1 : FVec F S4x8192x1536 .f32 := broadcastInDim S4x8192x1536 ![] bcast_S_S4x8192x1536 main_cst
  let main_v2 : IVec S4x8192x1536 1 := cmpf .olt main_v0 main_v1
  let main_c : IVec S_ 1 := constantI S_ 1 1#1
  let main_v3 : IVec S_ 1 := (fun x v => Host.reduce IntOp.andi x v reducesTo_S4x8192x1536_S_d0_1_2 h_S_) main_v2 main_c
  let main_v4 : FVec F S4x8192x512 .f32 := Host.absf main_arg1
  let main_cst_0 : FVec F S_ .f32 := constant S_ .f32 0x7F800000#32
  let main_v5 : FVec F S4x8192x512 .f32 := broadcastInDim S4x8192x512 ![] bcast_S_S4x8192x512 main_cst_0
  let main_v6 : IVec S4x8192x512 1 := cmpf .olt main_v4 main_v5
  let main_c_1 : IVec S_ 1 := constantI S_ 1 1#1
  let main_v7 : IVec S_ 1 := (fun x v => Host.reduce IntOp.andi x v reducesTo_S4x8192x512_S_d0_1_2 h_S_) main_v6 main_c_1
  let main_v8 : IVec S_ 1 := andi main_v3 main_v7
  let main_v9 : FVec F S4x8192x8 .f32 := Host.absf main_arg2
  let main_cst_2 : FVec F S_ .f32 := constant S_ .f32 0x7F800000#32
  let main_v10 : FVec F S4x8192x8 .f32 := broadcastInDim S4x8192x8 ![] bcast_S_S4x8192x8 main_cst_2
  let main_v11 : IVec S4x8192x8 1 := cmpf .olt main_v9 main_v10
  let main_c_3 : IVec S_ 1 := constantI S_ 1 1#1
  let main_v12 : IVec S_ 1 := (fun x v => Host.reduce IntOp.andi x v reducesTo_S4x8192x8_S_d0_1_2 h_S_) main_v11 main_c_3
  let main_v13 : IVec S_ 1 := andi main_v8 main_v12
  let main_v14 : FVec F S1x4x1536 .f32 := Host.absf main_arg5
  let main_cst_4 : FVec F S_ .f32 := constant S_ .f32 0x7F800000#32
  let main_v15 : FVec F S1x4x1536 .f32 := broadcastInDim S1x4x1536 ![] bcast_S_S1x4x1536 main_cst_4
  let main_v16 : IVec S1x4x1536 1 := cmpf .olt main_v14 main_v15
  fn_part1 (F := F) main_arg6 main_arg7 main_v13 main_v16
-- ==== Kernel.lean ====
abbrev S4x8192x1536 : Shape := ⟨3, ![4, 8192, 1536]⟩
abbrev S4x8192x512 : Shape := ⟨3, ![4, 8192, 512]⟩
abbrev S4x8192x8 : Shape := ⟨3, ![4, 8192, 8]⟩
abbrev S4x8192x1024 : Shape := ⟨3, ![4, 8192, 1024]⟩
abbrev S1x4x1536 : Shape := ⟨3, ![1, 4, 1536]⟩
abbrev S1x4 : Shape := ⟨2, ![1, 4]⟩
abbrev S1x128 : Shape := ⟨2, ![1, 128]⟩
abbrev S1x1024x1024 : Shape := ⟨3, ![1, 1024, 1024]⟩
abbrev S_ : Shape := ⟨0, ![]⟩
abbrev S4x8192x128 : Shape := ⟨3, ![4, 8192, 128]⟩
abbrev S1024x1024 : Shape := ⟨2, ![1024, 1024]⟩
abbrev S4 : Shape := ⟨1, ![4]⟩
abbrev S4x1536 : Shape := ⟨2, ![4, 1536]⟩
abbrev S512x1024 : Shape := ⟨2, ![512, 1024]⟩
abbrev S1x256x1536 : Shape := ⟨3, ![1, 256, 1536]⟩
abbrev S1x256x512 : Shape := ⟨3, ![1, 256, 512]⟩
abbrev S1x256x128 : Shape := ⟨3, ![1, 256, 128]⟩
abbrev S1x256x1024 : Shape := ⟨3, ![1, 256, 1024]⟩
abbrev S4x128x128 : Shape := ⟨3, ![4, 128, 128]⟩
abbrev S264x1536 : Shape := ⟨2, ![264, 1536]⟩
abbrev S256x1536 : Shape := ⟨2, ![256, 1536]⟩
abbrev S256x1024 : Shape := ⟨2, ![256, 1024]⟩
abbrev S256x512 : Shape := ⟨2, ![256, 512]⟩
abbrev S8x1536 : Shape := ⟨2, ![8, 1536]⟩
abbrev S264x128 : Shape := ⟨2, ![264, 128]⟩
abbrev S256x128 : Shape := ⟨2, ![256, 128]⟩
abbrev S256 : Shape := ⟨1, ![256]⟩
abbrev S256x1 : Shape := ⟨2, ![256, 1]⟩
abbrev S1x8x1536 : Shape := ⟨3, ![1, 8, 1536]⟩
abbrev S1 : Shape := ⟨1, ![1]⟩
abbrev S256x256 : Shape := ⟨2, ![256, 256]⟩
abbrev S128x1024 : Shape := ⟨2, ![128, 1024]⟩
abbrev S64x128 : Shape := ⟨2, ![64, 128]⟩
abbrev S16x128 : Shape := ⟨2, ![16, 128]⟩
abbrev S16x256 : Shape := ⟨2, ![16, 256]⟩
abbrev S1x256 : Shape := ⟨2, ![1, 256]⟩
abbrev S1x128x128 : Shape := ⟨3, ![1, 128, 128]⟩
abbrev S128x128 : Shape := ⟨2, ![128, 128]⟩
abbrev S1x64x128 : Shape := ⟨3, ![1, 64, 128]⟩

abbrev nBuf : Space → Nat
  | .hbm => 22
  | .vmem => 21
  | .smem => 2
  | _ => 0

abbrev bufTy : (tb : Table) → Fin (tcTables nBuf tb) → BufTy
  | .hbm, ⟨0, _⟩ => ⟨S4x8192x1536, .f32⟩
  | .hbm, ⟨1, _⟩ => ⟨S4x8192x512, .f32⟩
  | .hbm, ⟨2, _⟩ => ⟨S4x8192x8, .f32⟩
  | .hbm, ⟨3, _⟩ => ⟨S4x8192x1024, .f32⟩
  | .hbm, ⟨4, _⟩ => ⟨S4x8192x512, .f32⟩
  | .hbm, ⟨5, _⟩ => ⟨S1x4x1536, .f32⟩
  | .hbm, ⟨6, _⟩ => ⟨S1x4, .f32⟩
  | .hbm, ⟨7, _⟩ => ⟨S1x4, .f32⟩
  | .hbm, ⟨8, _⟩ => ⟨S1x128, .f32⟩
  | .hbm, ⟨9, _⟩ => ⟨S1x1024x1024, .f32⟩
  | .hbm, ⟨10, _⟩ => ⟨S_, .i32⟩
  | .hbm, ⟨11, _⟩ => ⟨S_, .f32⟩
  | .hbm, ⟨12, _⟩ => ⟨S4x8192x128, .f32⟩
  | .hbm, ⟨13, _⟩ => ⟨S1024x1024, .f32⟩
  | .hbm, ⟨14, _⟩ => ⟨S1024x1024, .bf16⟩
  | .hbm, ⟨15, _⟩ => ⟨S4, .f32⟩
  | .hbm, ⟨16, _⟩ => ⟨S4, .f32⟩
  | .hbm, ⟨17, _⟩ => ⟨S4x1536, .f32⟩
  | .hbm, ⟨18, _⟩ => ⟨S4x8192x512, .bf16⟩
  | .hbm, ⟨19, _⟩ => ⟨S512x1024, .bf16⟩
  | .hbm, ⟨20, _⟩ => ⟨S512x1024, .bf16⟩
  | .hbm, ⟨21, _⟩ => ⟨S4x8192x1024, .f32⟩
  | .local _ .vmem, ⟨0, _⟩ => ⟨S1x256x1536, .f32⟩
  | .local _ .vmem, ⟨1, _⟩ => ⟨S1x256x1536, .f32⟩
  | .local _ .vmem, ⟨2, _⟩ => ⟨S1x256x512, .f32⟩
  | .local _ .vmem, ⟨3, _⟩ => ⟨S1x256x512, .f32⟩
  | .local _ .vmem, ⟨4, _⟩ => ⟨S1x256x128, .f32⟩
  | .local _ .vmem, ⟨5, _⟩ => ⟨S1x256x128, .f32⟩
  | .local _ .vmem, ⟨6, _⟩ => ⟨S4x1536, .f32⟩
  | .local _ .vmem, ⟨7, _⟩ => ⟨S1x128, .f32⟩
  | .local _ .vmem, ⟨8, _⟩ => ⟨S1x256x1024, .f32⟩
  | .local _ .vmem, ⟨9, _⟩ => ⟨S1x256x1024, .f32⟩
  | .local _ .vmem, ⟨10, _⟩ => ⟨S1x256x512, .bf16⟩
  | .local _ .vmem, ⟨11, _⟩ => ⟨S1x256x512, .bf16⟩
  | .local _ .vmem, ⟨12, _⟩ => ⟨S512x1024, .bf16⟩
  | .local _ .vmem, ⟨13, _⟩ => ⟨S512x1024, .bf16⟩
  | .local _ .vmem, ⟨14, _⟩ => ⟨S1x256x1024, .f32⟩
  | .local _ .vmem, ⟨15, _⟩ => ⟨S1x256x1024, .f32⟩
  | .local _ .vmem, ⟨16, _⟩ => ⟨S4x128x128, .f32⟩
  | .local _ .vmem, ⟨17, _⟩ => ⟨S264x1536, .f32⟩
  | .local _ .vmem, ⟨18, _⟩ => ⟨S256x1536, .f32⟩
  | .local _ .vmem, ⟨19, _⟩ => ⟨S256x1024, .f32⟩
  | .local _ .vmem, ⟨20, _⟩ => ⟨S256x512, .bf16⟩
  | .local _ .smem, ⟨0, _⟩ => ⟨S4, .f32⟩
  | .local _ .smem, ⟨1, _⟩ => ⟨S4, .f32⟩
  | _, _ => ⟨S4x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x8192x1536 : Shape := ⟨3, ![4, 8192, 1536]⟩
abbrev S4x8192x512 : Shape := ⟨3, ![4, 8192, 512]⟩
abbrev S4x8192x8 : Shape := ⟨3, ![4, 8192, 8]⟩
abbrev S4x8192x1024 : Shape := ⟨3, ![4, 8192, 1024]⟩
abbrev S1x4x1536 : Shape := ⟨3, ![1, 4, 1536]⟩
abbrev S1x4 : Shape := ⟨2, ![1, 4]⟩
abbrev S1x128 : Shape := ⟨2, ![1, 128]⟩
abbrev S1x1024x1024 : Shape := ⟨3, ![1, 1024, 1024]⟩
abbrev S4x8192x4 : Shape := ⟨3, ![4, 8192, 4]⟩
abbrev S4x1536 : Shape := ⟨2, ![4, 1536]⟩
abbrev S_ : Shape := ⟨0, ![]⟩
abbrev S4x8195x1536 : Shape := ⟨3, ![4, 8195, 1536]⟩
abbrev S1x1536 : Shape := ⟨2, ![1, 1536]⟩
abbrev S1536 : Shape := ⟨1, ![1536]⟩
abbrev S1x1x1536 : Shape := ⟨3, ![1, 1, 1536]⟩
abbrev S4x8192x4x128 : Shape := ⟨4, ![4, 8192, 4, 128]⟩
abbrev S4x8192x4x1 : Shape := ⟨4, ![4, 8192, 4, 1]⟩
abbrev S8192x4x4x128 : Shape := ⟨4, ![8192, 4, 4, 128]⟩
abbrev S8192x4x4 : Shape := ⟨3, ![8192, 4, 4]⟩
abbrev S4 : Shape := ⟨1, ![4]⟩
abbrev S1x1x4 : Shape := ⟨3, ![1, 1, 4]⟩
abbrev S4x4x128x128 : Shape := ⟨4, ![4, 4, 128, 128]⟩
abbrev S1x4x4x128 : Shape := ⟨4, ![1, 4, 4, 128]⟩
abbrev S4x4x128 : Shape := ⟨3, ![4, 4, 128]⟩
abbrev S1x4x4 : Shape := ⟨3, ![1, 4, 4]⟩
abbrev S4x4 : Shape := ⟨2, ![4, 4]⟩
abbrev S4x4x1 : Shape := ⟨3, ![4, 4, 1]⟩
abbrev S4x4x128x1 : Shape := ⟨4, ![4, 4, 128, 1]⟩
abbrev S4x4x1x1 : Shape := ⟨4, ![4, 4, 1, 1]⟩
abbrev S4x4x1x128 : Shape := ⟨4, ![4, 4, 1, 128]⟩
abbrev S128 : Shape := ⟨1, ![128]⟩
abbrev S1x1x1x128 : Shape := ⟨4, ![1, 1, 1, 128]⟩
abbrev S1024x1024 : Shape := ⟨2, ![1024, 1024]⟩

abbrev nBuf : Space → Nat
  | .hbm => 219
  | .vmem => 0
  | .smem => 0
  | _ => 0

abbrev hbmTy0_0 (i : Nat) : BufTy := match i % 128 with
  | 0 => ⟨S4x8192x1536, .f32⟩
  | 1 => ⟨S4x8192x512, .f32⟩
  | 2 => ⟨S4x8192x8, .f32⟩
  | 3 => ⟨S4x8192x1024, .f32⟩
  | 4 => ⟨S4x8192x512, .f32⟩
  | 5 => ⟨S1x4x1536, .f32⟩
  | 6 => ⟨S1x4, .f32⟩
  | 7 => ⟨S1x4, .f32⟩
  | 8 => ⟨S1x128, .f32⟩
  | 9 => ⟨S1x1024x1024, .f32⟩
  | 10 => ⟨S4x8192x4, .f32⟩
  | 11 => ⟨S4x8192x4, .f32⟩
  | 12 => ⟨S4x1536, .f32⟩
  | 13 => ⟨S_, .i32⟩
  | 14 => ⟨S_, .f32⟩
  | 15 => ⟨S4x8195x1536, .f32⟩
  | 16 => ⟨S4x8192x1536, .f32⟩
  | 17 => ⟨S1x1536, .f32⟩
  | 18 => ⟨S1536, .f32⟩
  | 19 => ⟨S1x1x1536, .f32⟩
  | 20 => ⟨S4x8192x1536, .f32⟩
  | 21 => ⟨S4x8192x1536, .f32⟩
  | 22 => ⟨S_, .f32⟩
  | 23 => ⟨S4x8192x1536, .f32⟩
  | 24 => ⟨S4x8192x1536, .f32⟩
  | 25 => ⟨S4x8192x1536, .f32⟩
  | 26 => ⟨S1x1536, .f32⟩
  | 27 => ⟨S1536, .f32⟩
  | 28 => ⟨S1x1x1536, .f32⟩
  | 29 => ⟨S4x8192x1536, .f32⟩
  | 30 => ⟨S4x8192x1536, .f32⟩
  | 31 => ⟨S4x8192x1536, .f32⟩
  | 32 => ⟨S4x8192x1536, .f32⟩
  | 33 => ⟨S1x1536, .f32⟩
  | 34 => ⟨S1536, .f32⟩
  | 35 => ⟨S1x1x1536, .f32⟩
  | 36 => ⟨S4x8192x1536, .f32⟩
  | 37 => ⟨S4x8192x1536, .f32⟩
  | 38 => ⟨S4x8192x1536, .f32⟩
  | 39 => ⟨S4x8192x1536, .f32⟩
  | 40 => ⟨S1x1536, .f32⟩
  | 41 => ⟨S1536, .f32⟩
  | 42 => ⟨S1x1x1536, .f32⟩
  | 43 => ⟨S4x8192x1536, .f32⟩
  | 44 => ⟨S4x8192x1536, .f32⟩
  | 45 => ⟨S4x8192x1536, .f32⟩
  | 46 => ⟨S4x8192x1536, .f32⟩
  | 47 => ⟨S4x8192x1536, .f32⟩
  | 48 => ⟨S_, .f32⟩
  | 49 => ⟨S4x8192x1536, .f32⟩
  | 50 => ⟨S4x8192x1536, .f32⟩
  | 51 => ⟨S_, .f32⟩
  | 52 => ⟨S4x8192x1536, .f32⟩
  | 53 => ⟨S4x8192x1536, .f32⟩
  | 54 => ⟨S4x8192x1536, .f32⟩
  | 55 => ⟨S4x8192x512, .f32⟩
  | 56 => ⟨S4x8192x512, .f32⟩
  | 57 => ⟨S4x8192x512, .f32⟩
  | 58 => ⟨S4x8192x4x128, .f32⟩
  | 59 => ⟨S4x8192x4x128, .f32⟩
  | 60 => ⟨S_, .f32⟩
  | 61 => ⟨S4x8192x4, .f32⟩
  | 62 => ⟨S4x8192x4x1, .f32⟩
  | 63 => ⟨S_, .f32⟩
  | 64 => ⟨S4x8192x4x1, .f32⟩
  | 65 => ⟨S4x8192x4x1, .f32⟩
  | 66 => ⟨S4x8192x4x1, .f32⟩
  | 67 => ⟨S4x8192x4x128, .f32⟩
  | 68 => ⟨S4x8192x4x128, .f32⟩
  | 69 => ⟨S8192x4x4x128, .f32⟩
  | 70 => ⟨S4x8192x4x128, .f32⟩
  | 71 => ⟨S4x8192x4x128, .f32⟩
  | 72 => ⟨S_, .f32⟩
  | 73 => ⟨S4x8192x4, .f32⟩
  | 74 => ⟨S4x8192x4x1, .f32⟩
  | 75 => ⟨S_, .f32⟩
  | 76 => ⟨S4x8192x4x1, .f32⟩
  | 77 => ⟨S4x8192x4x1, .f32⟩
  | 78 => ⟨S4x8192x4x1, .f32⟩
  | 79 => ⟨S4x8192x4x128, .f32⟩
  | 80 => ⟨S4x8192x4x128, .f32⟩
  | 81 => ⟨S8192x4x4x128, .f32⟩
  | 82 => ⟨S4x8192x4x128, .f32⟩
  | 83 => ⟨S8192x4x4x128, .f32⟩
  | 84 => ⟨S4x8192x4, .f32⟩
  | 85 => ⟨S4x8192x4, .f32⟩
  | 86 => ⟨S_, .f32⟩
  | 87 => ⟨S4x8192x4, .f32⟩
  | 88 => ⟨S4x8192x4, .f32⟩
  | 89 => ⟨S_, .f32⟩
  | 90 => ⟨S4x8192x4, .f32⟩
  | 91 => ⟨S4x8192x4, .f32⟩
  | 92 => ⟨S8192x4x4, .f32⟩
  | 93 => ⟨S4, .f32⟩
  | 94 => ⟨S4, .f32⟩
  | 95 => ⟨S4, .f32⟩
  | 96 => ⟨S4, .f32⟩
  | 97 => ⟨S1x1x4, .f32⟩
  | 98 => ⟨S4x8192x4, .f32⟩
  | 99 => ⟨S4x8192x4, .f32⟩
  | 100 => ⟨S_, .f32⟩
  | 101 => ⟨S4x8192x4, .f32⟩
  | 102 => ⟨S4x8192x4, .f32⟩
  | 103 => ⟨S4x8192x4, .f32⟩
  | 104 => ⟨S4x8192x4, .f32⟩
  | 105 => ⟨S4x8192x4, .i1⟩
  | 106 => ⟨S4x8192x4, .f32⟩
  | 107 => ⟨S4x8192x4, .f32⟩
  | 108 => ⟨S4x8192x4, .f32⟩
  | 109 => ⟨S4x8192x4, .f32⟩
  | 110 => ⟨S4x8192x4, .f32⟩
  | 111 => ⟨S4x8192x4, .f32⟩
  | 112 => ⟨S4x8192x4, .f32⟩
  | 113 => ⟨S4x8192x4, .f32⟩
  | 114 => ⟨S1x1x4, .f32⟩
  | 115 => ⟨S4x8192x4, .f32⟩
  | 116 => ⟨S4x8192x4, .f32⟩
  | 117 => ⟨S8192x4x4, .f32⟩
  | 118 => ⟨S_, .f32⟩
  | 119 => ⟨S4x4x128x128, .f32⟩
  | 120 => ⟨S_, .f32⟩
  | 121 => ⟨S8192x4x4x128, .f32⟩
  | 122 => ⟨S8192x4x4x128, .f32⟩
  | 123 => ⟨S8192x4x4, .f32⟩
  | 124 => ⟨S_, .f32⟩
  | 125 => ⟨S8192x4x4x128, .f32⟩
  | 126 => ⟨S_, .i32⟩
  | 127 => ⟨S8192x4x4x128, .f32⟩
  | _ => ⟨S4x8192x1536, .f32⟩

abbrev hbmTy0_1 (i : Nat) : BufTy := match i % 128 with
  | 0 => ⟨S8192x4x4x128, .f32⟩
  | 1 => ⟨S8192x4x4x128, .f32⟩
  | 2 => ⟨S8192x4x4, .f32⟩
  | 3 => ⟨S8192x4x4, .f32⟩
  | 4 => ⟨S_, .i32⟩
  | 5 => ⟨S4x4x128x128, .f32⟩
  | 6 => ⟨S8192x4x4x128, .f32⟩
  | 7 => ⟨S_, .i32⟩
  | 8 => ⟨S_, .i1⟩
  | 9 => ⟨S_, .i32⟩
  | 10 => ⟨S_, .i32⟩
  | 11 => ⟨S_, .i32⟩
  | 12 => ⟨S1x4x4x128, .f32⟩
  | 13 => ⟨S4x4x128, .f32⟩
  | 14 => ⟨S_, .i32⟩
  | 15 => ⟨S_, .i32⟩
  | 16 => ⟨S_, .i32⟩
  | 17 => ⟨S1x4x4x128, .f32⟩
  | 18 => ⟨S4x4x128, .f32⟩
  | 19 => ⟨S_, .i32⟩
  | 20 => ⟨S_, .i32⟩
  | 21 => ⟨S_, .i32⟩
  | 22 => ⟨S1x4x4x128, .f32⟩
  | 23 => ⟨S4x4x128, .f32⟩
  | 24 => ⟨S_, .i32⟩
  | 25 => ⟨S_, .i32⟩
  | 26 => ⟨S1x4x4, .f32⟩
  | 27 => ⟨S4x4, .f32⟩
  | 28 => ⟨S_, .i32⟩
  | 29 => ⟨S_, .i32⟩
  | 30 => ⟨S1x4x4, .f32⟩
  | 31 => ⟨S4x4, .f32⟩
  | 32 => ⟨S4x4x1, .f32⟩
  | 33 => ⟨S4x4x128, .f32⟩
  | 34 => ⟨S4x4x128, .f32⟩
  | 35 => ⟨S4x4x128x1, .f32⟩
  | 36 => ⟨S4x4x128, .f32⟩
  | 37 => ⟨S4x4x1x1, .f32⟩
  | 38 => ⟨S4x4x1x128, .f32⟩
  | 39 => ⟨S4x4x128x128, .f32⟩
  | 40 => ⟨S4x4x128x128, .f32⟩
  | 41 => ⟨S4x4x128x128, .f32⟩
  | 42 => ⟨S4x4x128x128, .f32⟩
  | 43 => ⟨S4x4x128x128, .f32⟩
  | 44 => ⟨S4x4x128x128, .f32⟩
  | 45 => ⟨S4x4x1x128, .f32⟩
  | 46 => ⟨S4x4x128x128, .f32⟩
  | 47 => ⟨S4x4x128x128, .f32⟩
  | 48 => ⟨S4x4x128x128, .f32⟩
  | 49 => ⟨S4x4x128x128, .f32⟩
  | 50 => ⟨S4x4x128, .f32⟩
  | 51 => ⟨S1x4x4x128, .f32⟩
  | 52 => ⟨S_, .i32⟩
  | 53 => ⟨S_, .i32⟩
  | 54 => ⟨S_, .i32⟩
  | 55 => ⟨S8192x4x4x128, .f32⟩
  | 56 => ⟨S_, .i32⟩
  | 57 => ⟨S_, .i32⟩
  | 58 => ⟨S4x8192x4x128, .f32⟩
  | 59 => ⟨S128, .f32⟩
  | 60 => ⟨S4x8192x4x128, .f32⟩
  | 61 => ⟨S_, .f32⟩
  | 62 => ⟨S4x8192x4, .f32⟩
  | 63 => ⟨S4x8192x4x1, .f32⟩
  | 64 => ⟨S_, .f32⟩
  | 65 => ⟨S4x8192x4x1, .f32⟩
  | 66 => ⟨S4x8192x4x1, .f32⟩
  | 67 => ⟨S_, .f32⟩
  | 68 => ⟨S4x8192x4x1, .f32⟩
  | 69 => ⟨S4x8192x4x1, .f32⟩
  | 70 => ⟨S4x8192x4x1, .f32⟩
  | 71 => ⟨S4x8192x4x128, .f32⟩
  | 72 => ⟨S4x8192x4x128, .f32⟩
  | 73 => ⟨S1x1x1x128, .f32⟩
  | 74 => ⟨S4x8192x4x128, .f32⟩
  | 75 => ⟨S4x8192x4x128, .f32⟩
  | 76 => ⟨S4x8192x512, .f32⟩
  | 77 => ⟨S4x8192x512, .f32⟩
  | 78 => ⟨S4x8192x512, .f32⟩
  | 79 => ⟨S_, .f32⟩
  | 80 => ⟨S4x8192x512, .f32⟩
  | 81 => ⟨S4x8192x512, .f32⟩
  | 82 => ⟨S_, .f32⟩
  | 83 => ⟨S4x8192x512, .f32⟩
  | 84 => ⟨S4x8192x512, .f32⟩
  | 85 => ⟨S4x8192x512, .f32⟩
  | 86 => ⟨S4x8192x512, .f32⟩
  | 87 => ⟨S4x8192x1024, .f32⟩
  | 88 => ⟨S1024x1024, .f32⟩
  | 89 => ⟨S4x8192x1024, .f32⟩
  | 90 => ⟨S4x8192x1024, .f32⟩
  | _ => ⟨S4x8192x1536, .f32⟩

abbrev hbmTy (i : Nat) : BufTy := match i / 128 with
  | 0 => hbmTy0_0 i
  | 1 => hbmTy0_1 i
  | _ => ⟨S4x8192x1536, .f32⟩

abbrev bufTy : (tb : Table) → Fin (tcTables nBuf tb) → BufTy
  | .hbm, ⟨i, _⟩ => hbmTy i
  | _, _ => ⟨S4x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_0 : Ref sig .tc := ⟨.hbm, 60, rfl⟩
abbrev main_v39 : Ref sig .tc := ⟨.hbm, 61, rfl⟩
abbrev main_v40 : Ref sig .tc := ⟨.hbm, 62, rfl⟩
abbrev main_cst_1 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_2 : Ref sig .tc := ⟨.hbm, 72, rfl⟩
abbrev main_v49 : Ref sig .tc := ⟨.hbm, 73, rfl⟩
abbrev main_v50 : Ref sig .tc := ⟨.hbm, 74, rfl⟩
abbrev main_cst_3 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_4 : Ref sig .tc := ⟨.hbm, 86, rfl⟩
abbrev main_v61 : Ref sig .tc := ⟨.hbm, 87, rfl⟩
abbrev main_v62 : Ref sig .tc := ⟨.hbm, 88, rfl⟩
abbrev main_cst_5 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call2_cst : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_6 : Ref sig .tc := ⟨.hbm, 118, rfl⟩
abbrev main_v78 : Ref sig .tc := ⟨.hbm, 119, rfl⟩
abbrev main_cst_7 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_8 : Ref sig .tc := ⟨.hbm, 124, rfl⟩
abbrev main_v82 : Ref sig .tc := ⟨.hbm, 125, rfl⟩
abbrev main_c_9 : Ref sig .tc := ⟨.hbm, 126, rfl⟩
abbrev main_v83_0 : Ref sig .tc := ⟨.hbm, 127, rfl⟩
abbrev main_v83_1 : Ref sig .tc := ⟨.hbm, 128, rfl⟩
abbrev main_v83_2 : Ref sig .tc := ⟨.hbm, 129, rfl⟩
abbrev main_v83_3 : Ref sig .tc := ⟨.hbm, 130, rfl⟩
abbrev main_v83_4 : Ref sig .tc := ⟨.hbm, 131, rfl⟩
abbrev main_v83_5 : Ref sig .tc := ⟨.hbm, 132, rfl⟩
abbrev main_v83_6 : Ref sig .tc := ⟨.hbm, 133, rfl⟩
abbrev main_v83_7 : Ref sig .tc := ⟨.hbm, 134, rfl⟩
abbrev main_while0c_c_20 : Ref sig .tc := ⟨.hbm, 135, rfl⟩
abbrev main_while0c_v106 : Ref sig .tc := ⟨.hbm, 136, rfl⟩
abbrev main_while0b_call3_c : Ref sig .tc := ⟨.hbm, 137, rfl⟩
abbrev main_while0b_call3_c_0 : Ref sig .tc := ⟨.hbm, 138, rfl⟩
abbrev main_while0b_call3_c_1 : Ref sig .tc := ⟨.hbm, 139, rfl⟩
abbrev main_while0b_call3_v0 : Ref sig .tc := ⟨.hbm, 140, rfl⟩
abbrev main_while0b_v106 : Ref sig .tc := ⟨.hbm, 141, rfl⟩
abbrev main_while0b_call4_c : Ref sig .tc := ⟨.hbm, 142, rfl⟩
abbrev main_while0b_call4_c_0 : Ref sig .tc := ⟨.hbm, 143, rfl⟩
abbrev main_while0b_call4_c_1 : Ref sig .tc := ⟨.hbm, 144, rfl⟩
abbrev main_while0b_call4_v0 : Ref sig .tc := ⟨.hbm, 145, rfl⟩
abbrev main_while0b_v107 : Ref sig .tc := ⟨.hbm, 146, rfl⟩
abbrev main_while0b_call5_c : Ref sig .tc := ⟨.hbm, 147, rfl⟩
abbrev main_while0b_call5_c_0 : Ref sig .tc := ⟨.hbm, 148, rfl⟩
abbrev main_while0b_call5_c_1 : Ref sig .tc := ⟨.hbm, 149, rfl⟩
abbrev main_while0b_call5_v0 : Ref sig .tc := ⟨.hbm, 150, rfl⟩
abbrev main_while0b_v108 : Ref sig .tc := ⟨.hbm, 151, rfl⟩
abbrev main_while0b_call6_c : Ref sig .tc := ⟨.hbm, 152, rfl⟩
abbrev main_while0b_call6_c_0 : Ref sig .tc := ⟨.hbm, 153, rfl⟩
abbrev main_while0b_call6_v0 : Ref sig .tc := ⟨.hbm, 154, rfl⟩
abbrev main_while0b_v109 : Ref sig .tc := ⟨.hbm, 155, rfl⟩
abbrev main_while0b_call7_c : Ref sig .tc := ⟨.hbm, 156, rfl⟩
abbrev main_while0b_call7_c_0 : Ref sig .tc := ⟨.hbm, 157, rfl⟩
abbrev main_while0b_call7_v0 : Ref sig .tc := ⟨.hbm, 158, rfl⟩
abbrev main_while0b_v110 : Ref sig .tc := ⟨.hbm, 159, rfl⟩
abbrev main_while0b_v111 : Ref sig .tc := ⟨.hbm, 160, rfl⟩
abbrev main_while0b_v112 : Ref sig .tc := ⟨.hbm, 161, rfl⟩
abbrev main_while0b_v113 : Ref sig .tc := ⟨.hbm, 162, rfl⟩
abbrev main_while0b_v114 : Ref sig .tc := ⟨.hbm, 163, rfl⟩
abbrev main_while0b_v115 : Ref sig .tc := ⟨.hbm, 164, rfl⟩
abbrev main_while0b_v116 : Ref sig .tc := ⟨.hbm, 165, rfl⟩
abbrev main_while0b_v117 : Ref sig .tc := ⟨.hbm, 166, rfl⟩
abbrev main_while0b_v118 : Ref sig .tc := ⟨.hbm, 167, rfl⟩
abbrev main_while0b_v119 : Ref sig .tc := ⟨.hbm, 168, rfl⟩
abbrev main_while0b_v120 : Ref sig .tc := ⟨.hbm, 169, rfl⟩
abbrev main_while0b_v121 : Ref sig .tc := ⟨.hbm, 170, rfl⟩
abbrev main_while0b_v122 : Ref sig .tc := ⟨.hbm, 171, rfl⟩
abbrev main_while0b_v123 : Ref sig .tc := ⟨.hbm, 172, rfl⟩
abbrev main_while0b_v124 : Ref sig .tc := ⟨.hbm, 173, rfl⟩
abbrev main_while0b_v125 : Ref sig .tc := ⟨.hbm, 174, rfl⟩
abbrev main_while0b_v126 : Ref sig .tc := ⟨.hbm, 175, rfl⟩
abbrev main_while0b_v127 : Ref sig .tc := ⟨.hbm, 176, rfl⟩
abbrev main_while0b_v128 : Ref sig .tc := ⟨.hbm, 177, rfl⟩
abbrev main_while0b_v129 : Ref sig .tc := ⟨.hbm, 178, rfl⟩
abbrev main_while0b_call8_v0 : Ref sig .tc := ⟨.hbm, 179, rfl⟩
abbrev main_while0b_call8_c : Ref sig .tc := ⟨.hbm, 180, rfl⟩
abbrev main_while0b_call8_c_0 : Ref sig .tc := ⟨.hbm, 181, rfl⟩
abbrev main_while0b_call8_c_1 : Ref sig .tc := ⟨.hbm, 182, rfl⟩
abbrev main_while0b_v130 : Ref sig .tc := ⟨.hbm, 183, rfl⟩
abbrev main_while0b_c_20 : Ref sig .tc := ⟨.hbm, 184, rfl⟩
abbrev main_while0b_v131 : Ref sig .tc := ⟨.hbm, 185, rfl⟩
abbrev main_v84 : Ref sig .tc := ⟨.hbm, 186, rfl⟩
abbrev main_v85 : Ref sig .tc := ⟨.hbm, 187, rfl⟩
abbrev main_v86 : Ref sig .tc := ⟨.hbm, 188, rfl⟩
abbrev main_cst_10 : Ref sig .tc := ⟨.hbm, 189, rfl⟩
abbrev main_v87 : Ref sig .tc := ⟨.hbm, 190, rfl⟩
abbrev main_v88 : Ref sig .tc := ⟨.hbm, 191, rfl⟩
abbrev main_cst_11 : Ref sig .tc := ⟨.hbm, 192, rfl⟩
abbrev main_v89 : Ref sig .tc := ⟨.hbm, 193, rfl⟩
abbrev main_v90 : Ref sig .tc := ⟨.hbm, 194, rfl⟩
abbrev main_cst_12 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_call9_v0 : Ref sig .tc := ⟨.hbm, 205, rfl⟩
abbrev main_call9_v1 : Ref sig .tc := ⟨.hbm, 206, rfl⟩
abbrev main_call9_cst : Ref sig .tc := ⟨.hbm, 207, rfl⟩
abbrev main_call9_v2 : Ref sig .tc := ⟨.hbm, 208, rfl⟩
abbrev main_call9_v3 : Ref sig .tc := ⟨.hbm, 209, rfl⟩
abbrev main_call9_cst_0 : Ref sig .tc := ⟨.hbm, 210, rfl⟩
abbrev main_call9_v4 : Ref sig .tc := ⟨.hbm, 211, rfl⟩
abbrev main_call9_v5 : Ref sig .tc := ⟨.hbm, 212, rfl⟩
abbrev main_v100 : Ref sig .tc := ⟨.hbm, 213, rfl⟩
abbrev main_v101 : Ref sig .tc := ⟨.hbm, 214, rfl⟩
abbrev main_v102 : Ref sig .tc := ⟨.hbm, 215, rfl⟩
abbrev main_v103 : Ref sig .tc := ⟨.hbm, 216, rfl⟩
abbrev main_v104 : Ref sig .tc := ⟨.hbm, 217, rfl⟩
abbrev main_v105 : Ref sig .tc := ⟨.hbm, 218, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S4x8192x1024 : Shape := ⟨3, ![4, 8192, 1024]⟩
abbrev S1x1024 : Shape := ⟨2, ![1, 1024]⟩
abbrev S1x1024x4104 : Shape := ⟨3, ![1, 1024, 4104]⟩
abbrev S1x64 : Shape := ⟨2, ![1, 64]⟩
abbrev S32768x1024 : Shape := ⟨2, ![32768, 1024]⟩
abbrev S1024x4104 : Shape := ⟨2, ![1024, 4104]⟩
abbrev S1024x4096 : Shape := ⟨2, ![1024, 4096]⟩
abbrev S1024x8 : Shape := ⟨2, ![1024, 8]⟩
abbrev S_ : Shape := ⟨0, ![]⟩
abbrev S1024x128 : Shape := ⟨2, ![1024, 128]⟩
abbrev S64 : Shape := ⟨1, ![64]⟩
abbrev S8x64 : Shape := ⟨2, ![8, 64]⟩
abbrev S512 : Shape := ⟨1, ![512]⟩
abbrev S1x512 : Shape := ⟨2, ![1, 512]⟩
abbrev S32768x512 : Shape := ⟨2, ![32768, 512]⟩
abbrev S32768x1536 : Shape := ⟨2, ![32768, 1536]⟩
abbrev S32768x128 : Shape := ⟨2, ![32768, 128]⟩
abbrev S1024x1024 : Shape := ⟨2, ![1024, 1024]⟩
abbrev S1024x512 : Shape := ⟨2, ![1024, 512]⟩
abbrev S1024x1536 : Shape := ⟨2, ![1024, 1536]⟩
abbrev S1024 : Shape := ⟨1, ![1024]⟩
abbrev S1024x1 : Shape := ⟨2, ![1024, 1]⟩
abbrev S256x256 : Shape := ⟨2, ![256, 256]⟩
abbrev S1024x256 : Shape := ⟨2, ![1024, 256]⟩

abbrev nBuf : Space → Nat
  | .hbm => 32
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4104, .f32⟩
  | .hbm, ⟨3, _⟩ => ⟨S1x64, .f32⟩
  | .hbm, ⟨4, _⟩ => ⟨S1x64, .f32⟩
  | .hbm, ⟨5, _⟩ => ⟨S32768x1024, .f32⟩
  | .hbm, ⟨6, _⟩ => ⟨S1024x4104, .f32⟩
  | .hbm, ⟨7, _⟩ => ⟨S1024x4096, .f32⟩
  | .hbm, ⟨8, _⟩ => ⟨S1024x4096, .bf16⟩
  | .hbm, ⟨9, _⟩ => ⟨S1024x4104, .f32⟩
  | .hbm, ⟨10, _⟩ => ⟨S1024x8, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S64, .f32⟩
  | .hbm, ⟨16, _⟩ => ⟨S1x64, .f32⟩
  | .hbm, ⟨17, _⟩ => ⟨S8x64, .f32⟩
  | .hbm, ⟨18, _⟩ => ⟨S512, .f32⟩
  | .hbm, ⟨19, _⟩ => ⟨S1x512, .f32⟩
  | .hbm, ⟨20, _⟩ => ⟨S64, .f32⟩
  | .hbm, ⟨21, _⟩ => ⟨S1x64, .f32⟩
  | .hbm, ⟨22, _⟩ => ⟨S8x64, .f32⟩
  | .hbm, ⟨23, _⟩ => ⟨S512, .f32⟩
  | .hbm, ⟨24, _⟩ => ⟨S1x512, .f32⟩
  | .hbm, ⟨25, _⟩ => ⟨S32768x512, .f32⟩
  | .hbm, ⟨26, _⟩ => ⟨S32768x512, .f32⟩
  | .hbm, ⟨27, _⟩ => ⟨S32768x512, .bf16⟩
  | .hbm, ⟨28, _⟩ => ⟨S32768x512, .f32⟩
  | .hbm, ⟨29, _⟩ => ⟨S32768x1536, .f32⟩
  | .hbm, ⟨30, _⟩ => ⟨S32768x512, .f32⟩
  | .hbm, ⟨31, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x128, .bf16⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | .local _ .vmem, ⟨13, _⟩ => ⟨S1024x512, .f32⟩
  | .local _ .vmem, ⟨14, _⟩ => ⟨S1024x512, .f32⟩
  | .local _ .vmem, ⟨15, _⟩ => ⟨S1024x1536, .f32⟩
  | .local _ .vmem, ⟨16, _⟩ => ⟨S1024x1536, .f32⟩
  | .local _ .vmem, ⟨17, _⟩ => ⟨S1024x512, .f32⟩
  | .local _ .vmem, ⟨18, _⟩ => ⟨S1024x512, .f32⟩
  | .local _ .vmem, ⟨19, _⟩ => ⟨S1024x128, .f32⟩
  | .local _ .vmem, ⟨20, _⟩ => ⟨S1024x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev main_v18_5 : Ref sig .tc := ⟨.hbm, 30, rfl⟩
abbrev main_v18_6 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S4x8192x1024 : Shape := ⟨3, ![4, 8192, 1024]⟩
abbrev S1x1024 : Shape := ⟨2, ![1, 1024]⟩
abbrev S1x1024x4104 : Shape := ⟨3, ![1, 1024, 4104]⟩
abbrev S1x64 : Shape := ⟨2, ![1, 64]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x4104 : Shape := ⟨2, ![1024, 4104]⟩
abbrev S4x8192x4104 : Shape := ⟨3, ![4, 8192, 4104]⟩
abbrev S4x8192x512 : Shape := ⟨3, ![4, 8192, 512]⟩
abbrev S4x8192x1536 : Shape := ⟨3, ![4, 8192, 1536]⟩
abbrev S4x8192x8 : Shape := ⟨3, ![4, 8192, 8]⟩
abbrev S4x8192x8x64 : Shape := ⟨4, ![4, 8192, 8, 64]⟩
abbrev S64 : Shape := ⟨1, ![64]⟩
abbrev S4x8192x8x1 : Shape := ⟨4, ![4, 8192, 8, 1]⟩
abbrev S1x1x1x64 : Shape := ⟨4, ![1, 1, 1, 64]⟩
abbrev S4x8192x128 : Shape := ⟨3, ![4, 8192, 128]⟩
abbrev S32768x512 : Shape := ⟨2, ![32768, 512]⟩
abbrev S32768x1536 : Shape := ⟨2, ![32768, 1536]⟩
abbrev S32768x128 : Shape := ⟨2, ![32768, 128]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4104, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S1024x4104, .f32⟩
  | .hbm, ⟨23, _⟩ => ⟨S4x8192x4104, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S4x8192x512, .f32⟩
  | .hbm, ⟨28, _⟩ => ⟨S4x8192x1536, .f32⟩
  | .hbm, ⟨29, _⟩ => ⟨S4x8192x512, .f32⟩
  | .hbm, ⟨30, _⟩ => ⟨S4x8192x8, .f32⟩
  | .hbm, ⟨31, _⟩ => ⟨S4x8192x8x64, .f32⟩
  | .hbm, ⟨32, _⟩ => ⟨S64, .f32⟩
  | .hbm, ⟨33, _⟩ => ⟨S4x8192x8x64, .f32⟩
  | .hbm, ⟨34, _⟩ => ⟨S_, .f32⟩
  | .hbm, ⟨35, _⟩ => ⟨S4x8192x8, .f32⟩
  | .hbm, ⟨36, _⟩ => ⟨S4x8192x8x1, .f32⟩
  | .hbm, ⟨37, _⟩ => ⟨S_, .f32⟩
  | .hbm, ⟨38, _⟩ => ⟨S4x8192x8x1, .f32⟩
  | .hbm, ⟨39, _⟩ => ⟨S4x8192x8x1, .f32⟩
  | .hbm, ⟨40, _⟩ => ⟨S_, .f32⟩
  | .hbm, ⟨41, _⟩ => ⟨S4x8192x8x1, .f32⟩
  | .hbm, ⟨42, _⟩ => ⟨S4x8192x8x1, .f32⟩
  | .hbm, ⟨43, _⟩ => ⟨S4x8192x8x1, .f32⟩
  | .hbm, ⟨44, _⟩ => ⟨S4x8192x8x64, .f32⟩
  | .hbm, ⟨45, _⟩ => ⟨S4x8192x8x64, .f32⟩
  | .hbm, ⟨46, _⟩ => ⟨S1x1x1x64, .f32⟩
  | .hbm, ⟨47, _⟩ => ⟨S4x8192x8x64, .f32⟩
  | .hbm, ⟨48, _⟩ => ⟨S4x8192x8x64, .f32⟩
  | .hbm, ⟨49, _⟩ => ⟨S4x8192x8x64, .f32⟩
  | .hbm, ⟨50, _⟩ => ⟨S64, .f32⟩
  | .hbm, ⟨51, _⟩ => ⟨S4x8192x8x64, .f32⟩
  | .hbm, ⟨52, _⟩ => ⟨S_, .f32⟩
  | .hbm, ⟨53, _⟩ => ⟨S4x8192x8, .f32⟩
  | .hbm, ⟨54, _⟩ => ⟨S4x8192x8x1, .f32⟩
  | .hbm, ⟨55, _⟩ => ⟨S_, .f32⟩
  | .hbm, ⟨56, _⟩ => ⟨S4x8192x8x1, .f32⟩
  | .hbm, ⟨57, _⟩ => ⟨S4x8192x8x1, .f32⟩
  | .hbm, ⟨58, _⟩ => ⟨S_, .f32⟩
  | .hbm, ⟨59, _⟩ => ⟨S4x8192x8x1, .f32⟩
  | .hbm, ⟨60, _⟩ => ⟨S4x8192x8x1, .f32⟩
  | .hbm, ⟨61, _⟩ => ⟨S4x8192x8x1, .f32⟩
  | .hbm, ⟨62, _⟩ => ⟨S4x8192x8x64, .f32⟩
  | .hbm, ⟨63, _⟩ => ⟨S4x8192x8x64, .f32⟩
  | .hbm, ⟨64, _⟩ => ⟨S1x1x1x64, .f32⟩
  | .hbm, ⟨65, _⟩ => ⟨S4x8192x8x64, .f32⟩
  | .hbm, ⟨66, _⟩ => ⟨S4x8192x8x64, .f32⟩
  | .hbm, ⟨67, _⟩ => ⟨S_, .i32⟩
  | .hbm, ⟨68, _⟩ => ⟨S_, .f32⟩
  | .hbm, ⟨69, _⟩ => ⟨S4x8192x128, .f32⟩
  | .hbm, ⟨70, _⟩ => ⟨S32768x512, .f32⟩
  | .hbm, ⟨71, _⟩ => ⟨S32768x512, .f32⟩
  | .hbm, ⟨72, _⟩ => ⟨S32768x512, .f32⟩
  | .hbm, ⟨73, _⟩ => ⟨S32768x512, .bf16⟩
  | .hbm, ⟨74, _⟩ => ⟨S32768x512, .f32⟩
  | .hbm, ⟨75, _⟩ => ⟨S32768x1536, .f32⟩
  | .hbm, ⟨76, _⟩ => ⟨S32768x512, .f32⟩
  | .hbm, ⟨77, _⟩ => ⟨S32768x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c : Ref sig .tc := ⟨.hbm, 67, rfl⟩
abbrev main_call0_v0 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Kernel3.lean ====
abbrev S4x8192x512 : Shape := ⟨3, ![4, 8192, 512]⟩
abbrev S32x8 : Shape := ⟨2, ![32, 8]⟩
abbrev S1x256x128 : Shape := ⟨3, ![1, 256, 128]⟩
abbrev S1x8192x128 : Shape := ⟨3, ![1, 8192, 128]⟩
abbrev S2x33x256x128 : Shape := ⟨4, ![2, 33, 256, 128]⟩
abbrev S33x2x80x256 : Shape := ⟨4, ![33, 2, 80, 256]⟩
abbrev S2x64x128 : Shape := ⟨3, ![2, 64, 128]⟩
abbrev S2x2x256x256 : Shape := ⟨4, ![2, 2, 256, 256]⟩
abbrev S2x80x256 : Shape := ⟨3, ![2, 80, 256]⟩
abbrev S2x2x128x256 : Shape := ⟨4, ![2, 2, 128, 256]⟩
abbrev S4x2x256x256 : Shape := ⟨4, ![4, 2, 256, 256]⟩
abbrev S256x128 : Shape := ⟨2, ![256, 128]⟩
abbrev S128x128 : Shape := ⟨2, ![128, 128]⟩
abbrev S64x256 : Shape := ⟨2, ![64, 256]⟩
abbrev S1x128 : Shape := ⟨2, ![1, 128]⟩
abbrev S16x256 : Shape := ⟨2, ![16, 256]⟩
abbrev S128 : Shape := ⟨1, ![128]⟩
abbrev S1x1x128 : Shape := ⟨3, ![1, 1, 128]⟩
abbrev S1x1x256x128 : Shape := ⟨4, ![1, 1, 256, 128]⟩
abbrev S128x256 : Shape := ⟨2, ![128, 256]⟩
abbrev S80x256 : Shape := ⟨2, ![80, 256]⟩
abbrev S1x1x80x256 : Shape := ⟨4, ![1, 1, 80, 256]⟩
abbrev S1x2x80x256 : Shape := ⟨4, ![1, 2, 80, 256]⟩
abbrev S1x64x128 : Shape := ⟨3, ![1, 64, 128]⟩
abbrev S64x128 : Shape := ⟨2, ![64, 128]⟩
abbrev S256 : Shape := ⟨1, ![256]⟩
abbrev S1x256 : Shape := ⟨2, ![1, 256]⟩
abbrev S1x1x128x256 : Shape := ⟨4, ![1, 1, 128, 256]⟩
abbrev S256x256 : Shape := ⟨2, ![256, 256]⟩
abbrev S1x1 : Shape := ⟨2, ![1, 1]⟩
abbrev S1x1x256x256 : Shape := ⟨4, ![1, 1, 256, 256]⟩
abbrev S1x2x256x256 : Shape := ⟨4, ![1, 2, 256, 256]⟩
abbrev S2x256x256 : Shape := ⟨3, ![2, 256, 256]⟩
abbrev S1x256x256 : Shape := ⟨3, ![1, 256, 256]⟩
abbrev S1x80x256 : Shape := ⟨3, ![1, 80, 256]⟩
abbrev S1x64x256 : Shape := ⟨3, ![1, 64, 256]⟩
abbrev S1x1x256 : Shape := ⟨3, ![1, 1, 256]⟩

abbrev nBuf : Space → Nat
  | .hbm => 7
  | .vmem => 19
  | .smem => 1
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S32x8, .f32⟩
  | .hbm, ⟨5, _⟩ => ⟨S4x8192x512, .bf16⟩
  | .hbm, ⟨6, _⟩ => ⟨S4x8192x512, .bf16⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x8192x128, .f32⟩
  | .local _ .vmem, ⟨5, _⟩ => ⟨S1x8192x128, .f32⟩
  | .local _ .vmem, ⟨6, _⟩ => ⟨S1x8192x128, .bf16⟩
  | .local _ .vmem, ⟨7, _⟩ => ⟨S1x8192x128, .bf16⟩
  | .local _ .vmem, ⟨8, _⟩ => ⟨S1x256x128, .f32⟩
  | .local _ .vmem, ⟨9, _⟩ => ⟨S1x256x128, .f32⟩
  | .local _ .vmem, ⟨10, _⟩ => ⟨S1x256x128, .bf16⟩
  | .local _ .vmem, ⟨11, _⟩ => ⟨S1x256x128, .bf16⟩
  | .local _ .vmem, ⟨12, _⟩ => ⟨S2x33x256x128, .bf16⟩
  | .local _ .vmem, ⟨13, _⟩ => ⟨S33x2x80x256, .bf16⟩
  | .local _ .vmem, ⟨14, _⟩ => ⟨S2x64x128, .f32⟩
  | .local _ .vmem, ⟨15, _⟩ => ⟨S2x2x256x256, .f32⟩
  | .local _ .vmem, ⟨16, _⟩ => ⟨S2x80x256, .f32⟩
  | .local _ .vmem, ⟨17, _⟩ => ⟨S2x2x128x256, .bf16⟩
  | .local _ .vmem, ⟨18, _⟩ => ⟨S4x2x256x256, .f32⟩
  | .local _ .smem, ⟨0, _⟩ => ⟨S32x8, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 32], ![false, false, false]⟩

def k0_cond1 (i : grid0.Coords) : BitVec 1 :=
  let arg2 : BitVec 32 := BitVec.ofNat 32 (i 2).val
  let c0_i32_4 : BitVec 32 := 0#32
  let v21 : BitVec 1 := Scalar.cmpi .eq arg2 c0_i32_4
  let v22 : BitVec 32 := Scalar.extui v21
  let c0_i32_5 : BitVec 32 := 0#32
  let v23 : BitVec 1 := Scalar.cmpi .ne v22 c0_i32_5
  v23

@[reducible] def k0_t1_loop : Scf.Loop 32 :=
  let c0_i32_502 : BitVec 32 := 0#32
  let c32_i32_503 : BitVec 32 := 32#32
  let v697 : BitVec 32 := Scalar.addi c0_i32_502 c32_i32_503
  let c1_i32_504 : BitVec 32 := 1#32
  ⟨c0_i32_502, v697, c1_i32_504⟩
def k0_mult1 (k0_t1 : Fin k0_t1_loop.trips) : BitVec 32 :=
  let c0_i32_502 : BitVec 32 := 0#32
  let c1_i32_504 : BitVec 32 := 1#32
  let arg17 : BitVec 32 := Scf.iv c0_i32_502 c1_i32_504 k0_t1
  let c256_i32 : BitVec 32 := 256#32
  let v880 : BitVec 32 := Scalar.muli arg17 c256_i32
  v880
def k0_off1 (k0_t1 : Fin k0_t1_loop.trips) : Fin 3 → Nat :=
  let c0_585 : Index := 0#32
  let c0_i32_502 : BitVec 32 := 0#32
  let c1_i32_504 : BitVec 32 := 1#32
  let arg17 : BitVec 32 := Scf.iv c0_i32_502 c1_i32_504 k0_t1
  let c256_i32 : BitVec 32 := 256#32
  let v880 : BitVec 32 := Scalar.muli arg17 c256_i32
  let v881 : BitVec 32 := v880
  let v882 : Index := Scalar.indexCast v881
  let c0_586 : Index := 0#32
  ![0, v882.toNat, 0]
def k0_off2 (k0_t1 : Fin k0_t1_loop.trips) : Fin 3 → Nat :=
  let c0_591 : Index := 0#32
  let c0_i32_502 : BitVec 32 := 0#32
  let c1_i32_504 : BitVec 32 := 1#32
  let arg17 : BitVec 32 := Scf.iv c0_i32_502 c1_i32_504 k0_t1
  let v893 : Index := Scalar.indexCast arg17
  let c0_592 : Index := 0#32
  ![0, v893.toNat, 0]
def k0_off3 (k0_t1 : Fin k0_t1_loop.trips) : Fin 3 → Nat :=
  let c1_595 : Index := 1#32
  let c0_i32_502 : BitVec 32 := 0#32
  let c1_i32_504 : BitVec 32 := 1#32
  let arg17 : BitVec 32 := Scf.iv c0_i32_502 c1_i32_504 k0_t1
  let v901 : Index := Scalar.indexCast arg17
  let c0_596 : Index := 0#32
  ![1, v901.toNat, 0]
def k0_off4 (k0_t1 : Fin k0_t1_loop.trips) : Fin 4 → Nat :=
  let c0_600 : Index := 0#32
  let c0_i32_502 : BitVec 32 := 0#32
  let c1_i32_504 : BitVec 32 := 1#32
  let arg17 : BitVec 32 := Scf.iv c0_i32_502 c1_i32_504 k0_t1
  let v913 : Index := Scalar.indexCast arg17
  let c0_601 : Index := 0#32
  let c0_602 : Index := 0#32
  ![0, v913.toNat, 0, 0]
def k0_off5 (k0_t1 : Fin k0_t1_loop.trips) : Fin 4 → Nat :=
  let c1_605 : Index := 1#32
  let c0_i32_502 : BitVec 32 := 0#32
  let c1_i32_504 : BitVec 32 := 1#32
  let arg17 : BitVec 32 := Scf.iv c0_i32_502 c1_i32_504 k0_t1
  let v924 : Index := Scalar.indexCast arg17
  let c0_606 : Index := 0#32
  let c0_607 : Index := 0#32
  ![1, v924.toNat, 0, 0]
def k0_off6 (k0_t1 : Fin k0_t1_loop.trips) : Fin 4 → Nat :=
  let c0_i32_502 : BitVec 32 := 0#32
  let c1_i32_504 : BitVec 32 := 1#32
  let arg17 : BitVec 32 := Scf.iv c0_i32_502 c1_i32_504 k0_t1
  let v935 : Index := Scalar.indexCast arg17
  let c0_611 : Index := 0#32
  let c0_612 : Index := 0#32
  let c0_613 : Index := 0#32
  ![v935.toNat, 0, 0, 0]
def k0_off7 (k0_t1 : Fin k0_t1_loop.trips) : Fin 4 → Nat :=
  let c0_i32_502 : BitVec 32 := 0#32
  let c1_i32_504 : BitVec 32 := 1#32
  let arg17 : BitVec 32 := Scf.iv c0_i32_502 c1_i32_504 k0_t1
  let v941 : Index := Scalar.indexCast arg17
  let c1_614 : Index := 1#32
  let c0_615 : Index := 0#32
  let c0_616 : Index := 0#32
  ![v941.toNat, 1, 0, 0]
def k0_cond2 (i : grid0.Coords) : BitVec 1 :=
  let arg2 : BitVec 32 := BitVec.ofNat 32 (i 2).val
  let c0_i32_6 : BitVec 32 := 0#32
  let v24 : BitVec 1 := Scalar.cmpi .eq arg2 c0_i32_6
  let arg1 : BitVec 32 := BitVec.ofNat 32 (i 1).val
  let c0_i32_7 : BitVec 32 := 0#32
  let v25 : BitVec 1 := Scalar.cmpi .eq arg1 c0_i32_7
  let v26 : BitVec 1 := Scalar.andi v24 v25
  let v27 : BitVec 32 := Scalar.extui v26
  let c0_i32_8 : BitVec 32 := 0#32
  let v28 : BitVec 1 := Scalar.cmpi .ne v27 c0_i32_8
  v28

def k0_off8 (i : grid0.Coords) (c0_i32_498 : BitVec 32) : Fin 2 → Nat :=
  let c31 : Index := 31#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v718 : Index := Scalar.indexCast v692
  ![31, v718.toNat]
def k0_off9 (i : grid0.Coords) (c0_i32_498 : BitVec 32) : Fin 2 → Nat :=
  let c0_509 : Index := 0#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v723 : Index := Scalar.indexCast v692
  ![0, v723.toNat]
def k0_off10 (i : grid0.Coords) (c0_i32_498 : BitVec 32) : Fin 2 → Nat :=
  let c1_511 : Index := 1#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v730 : Index := Scalar.indexCast v692
  ![1, v730.toNat]
def k0_off11 (i : grid0.Coords) (c0_i32_498 : BitVec 32) : Fin 2 → Nat :=
  let c2 : Index := 2#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v737 : Index := Scalar.indexCast v692
  ![2, v737.toNat]
def k0_off12 (i : grid0.Coords) (c0_i32_498 : BitVec 32) : Fin 2 → Nat :=
  let c3 : Index := 3#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v744 : Index := Scalar.indexCast v692
  ![3, v744.toNat]
def k0_off13 (i : grid0.Coords) (c0_i32_498 : BitVec 32) : Fin 2 → Nat :=
  let c4 : Index := 4#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v751 : Index := Scalar.indexCast v692
  ![4, v751.toNat]
def k0_off14 (i : grid0.Coords) (c0_i32_498 : BitVec 32) : Fin 2 → Nat :=
  let c5 : Index := 5#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v758 : Index := Scalar.indexCast v692
  ![5, v758.toNat]
def k0_off15 (i : grid0.Coords) (c0_i32_498 : BitVec 32) : Fin 2 → Nat :=
  let c6 : Index := 6#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v765 : Index := Scalar.indexCast v692
  ![6, v765.toNat]
def k0_off16 (i : grid0.Coords) (c0_i32_498 : BitVec 32) : Fin 2 → Nat :=
  let c7 : Index := 7#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v772 : Index := Scalar.indexCast v692
  ![7, v772.toNat]
def k0_off17 (i : grid0.Coords) (c0_i32_498 : BitVec 32) : Fin 2 → Nat :=
  let c8 : Index := 8#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v779 : Index := Scalar.indexCast v692
  ![8, v779.toNat]
def k0_off18 (i : grid0.Coords) (c0_i32_498 : BitVec 32) : Fin 2 → Nat :=
  let c9 : Index := 9#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v786 : Index := Scalar.indexCast v692
  ![9, v786.toNat]
def k0_off19 (i : grid0.Coords) (c0_i32_498 : BitVec 32) : Fin 2 → Nat :=
  let c10 : Index := 10#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v793 : Index := Scalar.indexCast v692
  ![10, v793.toNat]
def k0_off20 (i : grid0.Coords) (c0_i32_498 : BitVec 32) : Fin 2 → Nat :=
  let c11 : Index := 11#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v800 : Index := Scalar.indexCast v692
  ![11, v800.toNat]
def k0_off21 (i : grid0.Coords) (c0_i32_498 : BitVec 32) : Fin 2 → Nat :=
  let c12 : Index := 12#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v807 : Index := Scalar.indexCast v692
  ![12, v807.toNat]
def k0_off22 (i : grid0.Coords) (c0_i32_498 : BitVec 32) : Fin 2 → Nat :=
  let c13 : Index := 13#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v814 : Index := Scalar.indexCast v692
  ![13, v814.toNat]
def k0_off23 (i : grid0.Coords) (c0_i32_498 : BitVec 32) : Fin 2 → Nat :=
  let c14 : Index := 14#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v821 : Index := Scalar.indexCast v692
  ![14, v821.toNat]
def k0_off24 (i : grid0.Coords) (c0_i32_498 : BitVec 32) : Fin 2 → Nat :=
  let c15 : Index := 15#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v828 : Index := Scalar.indexCast v692
  ![15, v828.toNat]
def k0_off25 (i : grid0.Coords) (c0_i32_498 : BitVec 32) : Fin 2 → Nat :=
  let c16 : Index := 16#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v835 : Index := Scalar.indexCast v692
  ![16, v835.toNat]
def k0_off26 (i : grid0.Coords) (c0_i32_498 : BitVec 32) : Fin 2 → Nat :=
  let c17 : Index := 17#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v842 : Index := Scalar.indexCast v692
  ![17, v842.toNat]
def k0_off27 (i : grid0.Coords) (c0_i32_498 : BitVec 32) : Fin 2 → Nat :=
  let c18 : Index := 18#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v849 : Index := Scalar.indexCast v692
  ![18, v849.toNat]
def k0_off28 (i : grid0.Coords) (c0_i32_498 : BitVec 32) : Fin 2 → Nat :=
  let c19 : Index := 19#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v856 : Index := Scalar.indexCast v692
  ![19, v856.toNat]
def k0_off29 (i : grid0.Coords) (c0_i32_498 : BitVec 32) : Fin 2 → Nat :=
  let c20 : Index := 20#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v863 : Index := Scalar.indexCast v692
  ![20, v863.toNat]
def k0_off30 (i : grid0.Coords) (c0_i32_498 : BitVec 32) : Fin 2 → Nat :=
  let c21 : Index := 21#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v870 : Index := Scalar.indexCast v692
  ![21, v870.toNat]
def k0_off31 (i : grid0.Coords) (c0_i32_498 : BitVec 32) : Fin 2 → Nat :=
  let c22 : Index := 22#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v877 : Index := Scalar.indexCast v692
  ![22, v877.toNat]
def k0_off32 (i : grid0.Coords) (c0_i32_498 : BitVec 32) : Fin 2 → Nat :=
  let c23 : Index := 23#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v884 : Index := Scalar.indexCast v692
  ![23, v884.toNat]
def k0_off33 (i : grid0.Coords) (c0_i32_498 : BitVec 32) : Fin 2 → Nat :=
  let c24 : Index := 24#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v891 : Index := Scalar.indexCast v692
  ![24, v891.toNat]
def k0_off34 (i : grid0.Coords) (c0_i32_498 : BitVec 32) : Fin 2 → Nat :=
  let c25 : Index := 25#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v898 : Index := Scalar.indexCast v692
  ![25, v898.toNat]
def k0_off35 (i : grid0.Coords) (c0_i32_498 : BitVec 32) : Fin 2 → Nat :=
  let c26 : Index := 26#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v905 : Index := Scalar.indexCast v692
  ![26, v905.toNat]
def k0_off36 (i : grid0.Coords) (c0_i32_498 : BitVec 32) : Fin 2 → Nat :=
  let c27 : Index := 27#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v912 : Index := Scalar.indexCast v692
  ![27, v912.toNat]
def k0_off37 (i : grid0.Coords) (c0_i32_498 : BitVec 32) : Fin 2 → Nat :=
  let c28 : Index := 28#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v919 : Index := Scalar.indexCast v692
  ![28, v919.toNat]
def k0_off38 (i : grid0.Coords) (c0_i32_498 : BitVec 32) : Fin 2 → Nat :=
  let c29 : Index := 29#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v926 : Index := Scalar.indexCast v692
  ![29, v926.toNat]
def k0_off39 (i : grid0.Coords) (c0_i32_498 : BitVec 32) : Fin 2 → Nat :=
  let c30 : Index := 30#32
  let c2_i32_497 : BitVec 32 := 2#32
  let arg0 : BitVec 32 := BitVec.ofNat 32 (i 0).val
  let v691 : BitVec 32 := Scalar.muli c2_i32_497 arg0
  let v692 : BitVec 32 := Scalar.addi v691 c0_i32_498
  let v933 : Index := Scalar.indexCast v692
  ![30, v933.toNat]
def k0_off40 (i : grid0.Coords) : Fin 4 → Nat :=
  let c0_28 : Index := 0#32
  let arg2 : BitVec 32 := BitVec.ofNat 32 (i 2).val
  let v66 : Index := Scalar.indexCast arg2
  let c0_29 : Index := 0#32
  let c0_30 : Index := 0#32
  ![0, v66.toNat, 0, 0]
def k0_off41 (i : grid0.Coords) : Fin 4 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v69 : Index := Scalar.indexCast v9
  let c0_31 : Index := 0#32
  let c0_32 : Index := 0#32
  let c0_33 : Index := 0#32
  ![v69.toNat, 0, 0, 0]
def k0_off42 (i : grid0.Coords) : Fin 4 → Nat :=
  let c1_42 : Index := 1#32
  let arg2 : BitVec 32 := BitVec.ofNat 32 (i 2).val
  let v78 : Index := Scalar.indexCast arg2
  let c0_43 : Index := 0#32
  let c0_44 : Index := 0#32
  ![1, v78.toNat, 0, 0]
def k0_off43 (i : grid0.Coords) : Fin 4 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v81 : Index := Scalar.indexCast v9
  let c1_45 : Index := 1#32
  let c0_46 : Index := 0#32
  let c0_47 : Index := 0#32
  ![v81.toNat, 1, 0, 0]
def k0_off44 (i : grid0.Coords) : Fin 4 → Nat :=
  let c0_56 : Index := 0#32
  let arg2 : BitVec 32 := BitVec.ofNat 32 (i 2).val
  let c1_i32_11 : BitVec 32 := 1#32
  let v31 : BitVec 1 := Scalar.cmpi .sge arg2 c1_i32_11
  let c1_i32_12 : BitVec 32 := 1#32
  let v32 : BitVec 32 := Scalar.subi arg2 c1_i32_12
  let c32_i32 : BitVec 32 := 32#32
  let v33 : BitVec 32 := Scalar.select v31 v32 c32_i32
  let v90 : Index := Scalar.indexCast v33
  let c0_57 : Index := 0#32
  let c0_58 : Index := 0#32
  ![0, v90.toNat, 0, 0]
def k0_off45 (i : grid0.Coords) : Fin 4 → Nat :=
  let c1_70 : Index := 1#32
  let arg2 : BitVec 32 := BitVec.ofNat 32 (i 2).val
  let c1_i32_11 : BitVec 32 := 1#32
  let v31 : BitVec 1 := Scalar.cmpi .sge arg2 c1_i32_11
  let c1_i32_12 : BitVec 32 := 1#32
  let v32 : BitVec 32 := Scalar.subi arg2 c1_i32_12
  let c32_i32 : BitVec 32 := 32#32
  let v33 : BitVec 32 := Scalar.select v31 v32 c32_i32
  let v102 : Index := Scalar.indexCast v33
  let c0_71 : Index := 0#32
  let c0_72 : Index := 0#32
  ![1, v102.toNat, 0, 0]
def k0_off46 (i : grid0.Coords) (c0_i32_84 : BitVec 32) (c0_i32_85 : BitVec 32) : Fin 4 → Nat :=
  let c0_87 : Index := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let v114 : BitVec 1 := Scalar.cmpi .sgt v30 c0_i32_84
  let c32_i32_86 : BitVec 32 := 32#32
  let v115 : BitVec 32 := Scalar.select v114 c0_i32_85 c32_i32_86
  let v116 : Index := Scalar.indexCast v115
  let c0_88 : Index := 0#32
  let c0_89 : Index := 0#32
  ![0, v116.toNat, 0, 0]
def k0_off46_at (r : Fin 4) : BitVec 32 × BitVec 32 :=
  if r.val < 2 then
    if r.val < 1 then
      (0#32, 0#32)
    else
      (1#32, 1#32)
  else
    if r.val < 3 then
      (2#32, 2#32)
    else
      (3#32, 3#32)
def k0_off47 (i : grid0.Coords) (c0_i32_84 : BitVec 32) (c0_i32_85 : BitVec 32) : Fin 4 → Nat :=
  let c1_101 : Index := 1#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let v114 : BitVec 1 := Scalar.cmpi .sgt v30 c0_i32_84
  let c32_i32_86 : BitVec 32 := 32#32
  let v115 : BitVec 32 := Scalar.select v114 c0_i32_85 c32_i32_86
  let v128 : Index := Scalar.indexCast v115
  let c0_102 : Index := 0#32
  let c0_103 : Index := 0#32
  ![1, v128.toNat, 0, 0]
def k0_off47_at (r : Fin 4) : BitVec 32 × BitVec 32 :=
  if r.val < 2 then
    if r.val < 1 then
      (0#32, 0#32)
    else
      (1#32, 1#32)
  else
    if r.val < 3 then
      (2#32, 2#32)
    else
      (3#32, 3#32)
def k0_off48 (i : grid0.Coords) : Fin 4 → Nat :=
  let c1_i32_145 : BitVec 32 := 1#32
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v166 : BitVec 32 := Scalar.subi c1_i32_145 v9
  let v229 : Index := Scalar.indexCast v166
  let c0_164 : Index := 0#32
  let c0_165 : Index := 0#32
  let c0_166 : Index := 0#32
  ![v229.toNat, 0, 0, 0]
def k0_off49 (i : grid0.Coords) : Fin 4 → Nat :=
  let c1_i32_145 : BitVec 32 := 1#32
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v166 : BitVec 32 := Scalar.subi c1_i32_145 v9
  let v294 : Index := Scalar.indexCast v166
  let c1_184 : Index := 1#32
  let c0_185 : Index := 0#32
  let c0_186 : Index := 0#32
  ![v294.toNat, 1, 0, 0]
def k0_off50 (i : grid0.Coords) : Fin 4 → Nat :=
  let arg2 : BitVec 32 := BitVec.ofNat 32 (i 2).val
  let v317 : Index := Scalar.indexCast arg2
  let c0_204 : Index := 0#32
  let c0_205 : Index := 0#32
  let c0_206 : Index := 0#32
  ![v317.toNat, 0, 0, 0]
def k0_off51 (i : grid0.Coords) : Fin 4 → Nat :=
  let arg2 : BitVec 32 := BitVec.ofNat 32 (i 2).val
  let v345 : Index := Scalar.indexCast arg2
  let c1_226 : Index := 1#32
  let c0_227 : Index := 0#32
  let c0_228 : Index := 0#32
  ![v345.toNat, 1, 0, 0]
def k0_off52 (i : grid0.Coords) : Fin 4 → Nat :=
  let arg2 : BitVec 32 := BitVec.ofNat 32 (i 2).val
  let c1_i32_11 : BitVec 32 := 1#32
  let v31 : BitVec 1 := Scalar.cmpi .sge arg2 c1_i32_11
  let c1_i32_12 : BitVec 32 := 1#32
  let v32 : BitVec 32 := Scalar.subi arg2 c1_i32_12
  let c32_i32 : BitVec 32 := 32#32
  let v33 : BitVec 32 := Scalar.select v31 v32 c32_i32
  let v399 : Index := Scalar.indexCast v33
  let c0_279 : Index := 0#32
  let c0_280 : Index := 0#32
  let c0_281 : Index := 0#32
  ![v399.toNat, 0, 0, 0]
def k0_off53 (i : grid0.Coords) : Fin 4 → Nat :=
  let arg2 : BitVec 32 := BitVec.ofNat 32 (i 2).val
  let c1_i32_11 : BitVec 32 := 1#32
  let v31 : BitVec 1 := Scalar.cmpi .sge arg2 c1_i32_11
  let c1_i32_12 : BitVec 32 := 1#32
  let v32 : BitVec 32 := Scalar.subi arg2 c1_i32_12
  let c32_i32 : BitVec 32 := 32#32
  let v33 : BitVec 32 := Scalar.select v31 v32 c32_i32
  let v427 : Index := Scalar.indexCast v33
  let c1_301 : Index := 1#32
  let c0_302 : Index := 0#32
  let c0_303 : Index := 0#32
  ![v427.toNat, 1, 0, 0]
def k0_off54 (i : grid0.Coords) (c0_i32_342 : BitVec 32) (c0_i32_343 : BitVec 32) : Fin 4 → Nat :=
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let v467 : BitVec 1 := Scalar.cmpi .sgt v30 c0_i32_342
  let c32_i32_344 : BitVec 32 := 32#32
  let v468 : BitVec 32 := Scalar.select v467 c0_i32_343 c32_i32_344
  let v480 : Index := Scalar.indexCast v468
  let c0_353 : Index := 0#32
  let c0_354 : Index := 0#32
  let c0_355 : Index := 0#32
  ![v480.toNat, 0, 0, 0]
def k0_off54_at (r : Fin 2) : BitVec 32 × BitVec 32 :=
  if r.val < 1 then
    (0#32, 0#32)
  else
    (1#32, 1#32)
def k0_off55 (i : grid0.Coords) (c0_i32_342 : BitVec 32) (c0_i32_343 : BitVec 32) : Fin 4 → Nat :=
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let v467 : BitVec 1 := Scalar.cmpi .sgt v30 c0_i32_342
  let c32_i32_344 : BitVec 32 := 32#32
  let v468 : BitVec 32 := Scalar.select v467 c0_i32_343 c32_i32_344
  let v505 : Index := Scalar.indexCast v468
  let c1_371 : Index := 1#32
  let c0_372 : Index := 0#32
  let c0_373 : Index := 0#32
  ![v505.toNat, 1, 0, 0]
def k0_off55_at (r : Fin 2) : BitVec 32 × BitVec 32 :=
  if r.val < 1 then
    (0#32, 0#32)
  else
    (1#32, 1#32)
@[reducible] def k0_t2_loop (i : grid0.Coords) : Scf.Loop 32 :=
  let c0_i32_432 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v590 : BitVec 32 := Scalar.subi v589 c0_i32_432
  let c1_i32_433 : BitVec 32 := 1#32
  let v592 : BitVec 32 := Scalar.divsi v590 c1_i32_433
  let v593 : BitVec 32 := Scalar.muli v592 c1_i32_433
  let v594 : BitVec 32 := Scalar.addi c0_i32_432 v593
  let c1_i32_434 : BitVec 32 := 1#32
  ⟨c0_i32_432, v594, c1_i32_434⟩
def k0_off56 (i : grid0.Coords) (k0_t2 : Fin (k0_t2_loop i).trips) (c0_i32_498 : BitVec 32) (c2_i32_500 : BitVec 32) : Fin 4 → Nat :=
  let c0_502 : Index := 0#32
  let c16_i32_497 : BitVec 32 := 16#32
  let c0_i32_432 : BitVec 32 := 0#32
  let c1_i32_434 : BitVec 32 := 1#32
  let arg17 : BitVec 32 := Scf.iv c0_i32_432 c1_i32_434 k0_t2
  let v691 : BitVec 32 := Scalar.muli c16_i32_497 arg17
  let v692 : BitVec 32 := Scalar.addi v691 c0_i32_498
  let c2_i32_499 : BitVec 32 := 2#32
  let v693 : BitVec 32 := Scalar.addi v692 c2_i32_499
  let v694 : BitVec 32 := Scalar.addi v693 c2_i32_500
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let v695 : BitVec 1 := Scalar.cmpi .slt v694 v30
  let c32_i32_501 : BitVec 32 := 32#32
  let v696 : BitVec 32 := Scalar.select v695 v694 c32_i32_501
  let v697 : Index := Scalar.indexCast v696
  let c0_503 : Index := 0#32
  let c0_504 : Index := 0#32
  ![0, v697.toNat, 0, 0]
def k0_off57 (i : grid0.Coords) : Fin 4 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v700 : Index := Scalar.indexCast v9
  let c0_505 : Index := 0#32
  let c0_506 : Index := 0#32
  let c0_507 : Index := 0#32
  ![v700.toNat, 0, 0, 0]
def k0_off58 (i : grid0.Coords) (k0_t2 : Fin (k0_t2_loop i).trips) (c0_i32_498 : BitVec 32) (c2_i32_500 : BitVec 32) : Fin 4 → Nat :=
  let c1_515 : Index := 1#32
  let c16_i32_497 : BitVec 32 := 16#32
  let c0_i32_432 : BitVec 32 := 0#32
  let c1_i32_434 : BitVec 32 := 1#32
  let arg17 : BitVec 32 := Scf.iv c0_i32_432 c1_i32_434 k0_t2
  let v691 : BitVec 32 := Scalar.muli c16_i32_497 arg17
  let v692 : BitVec 32 := Scalar.addi v691 c0_i32_498
  let c2_i32_499 : BitVec 32 := 2#32
  let v693 : BitVec 32 := Scalar.addi v692 c2_i32_499
  let v694 : BitVec 32 := Scalar.addi v693 c2_i32_500
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let v695 : BitVec 1 := Scalar.cmpi .slt v694 v30
  let c32_i32_501 : BitVec 32 := 32#32
  let v696 : BitVec 32 := Scalar.select v695 v694 c32_i32_501
  let v709 : Index := Scalar.indexCast v696
  let c0_516 : Index := 0#32
  let c0_517 : Index := 0#32
  ![1, v709.toNat, 0, 0]
def k0_off59 (i : grid0.Coords) : Fin 4 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v712 : Index := Scalar.indexCast v9
  let c1_518 : Index := 1#32
  let c0_519 : Index := 0#32
  let c0_520 : Index := 0#32
  ![v712.toNat, 1, 0, 0]
def k0_off60 (i : grid0.Coords) (k0_t2 : Fin (k0_t2_loop i).trips) (c0_i32_498 : BitVec 32) : Fin 4 → Nat :=
  let c16_i32_497 : BitVec 32 := 16#32
  let c0_i32_432 : BitVec 32 := 0#32
  let c1_i32_434 : BitVec 32 := 1#32
  let arg17 : BitVec 32 := Scf.iv c0_i32_432 c1_i32_434 k0_t2
  let v691 : BitVec 32 := Scalar.muli c16_i32_497 arg17
  let v692 : BitVec 32 := Scalar.addi v691 c0_i32_498
  let c2_i32_499 : BitVec 32 := 2#32
  let v693 : BitVec 32 := Scalar.addi v692 c2_i32_499
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let v748 : BitVec 1 := Scalar.cmpi .slt v693 v30
  let c32_i32_556 : BitVec 32 := 32#32
  let v749 : BitVec 32 := Scalar.select v748 v693 c32_i32_556
  let v761 : Index := Scalar.indexCast v749
  let c0_564 : Index := 0#32
  let c0_565 : Index := 0#32
  let c0_566 : Index := 0#32
  ![v761.toNat, 0, 0, 0]
def k0_off61 (i : grid0.Coords) (k0_t2 : Fin (k0_t2_loop i).trips) (c0_i32_498 : BitVec 32) : Fin 4 → Nat :=
  let c16_i32_497 : BitVec 32 := 16#32
  let c0_i32_432 : BitVec 32 := 0#32
  let c1_i32_434 : BitVec 32 := 1#32
  let arg17 : BitVec 32 := Scf.iv c0_i32_432 c1_i32_434 k0_t2
  let v691 : BitVec 32 := Scalar.muli c16_i32_497 arg17
  let v692 : BitVec 32 := Scalar.addi v691 c0_i32_498
  let c2_i32_499 : BitVec 32 := 2#32
  let v693 : BitVec 32 := Scalar.addi v692 c2_i32_499
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let v748 : BitVec 1 := Scalar.cmpi .slt v693 v30
  let c32_i32_556 : BitVec 32 := 32#32
  let v749 : BitVec 32 := Scalar.select v748 v693 c32_i32_556
  let v786 : Index := Scalar.indexCast v749
  let c1_581 : Index := 1#32
  let c0_582 : Index := 0#32
  let c0_583 : Index := 0#32
  ![v786.toNat, 1, 0, 0]
def k0_off62 (i : grid0.Coords) (k0_t2 : Fin (k0_t2_loop i).trips) (c0_i32_498 : BitVec 32) (c1_i32_619 : BitVec 32) : Fin 4 → Nat :=
  let c16_i32_497 : BitVec 32 := 16#32
  let c0_i32_432 : BitVec 32 := 0#32
  let c1_i32_434 : BitVec 32 := 1#32
  let arg17 : BitVec 32 := Scf.iv c0_i32_432 c1_i32_434 k0_t2
  let v691 : BitVec 32 := Scalar.muli c16_i32_497 arg17
  let v692 : BitVec 32 := Scalar.addi v691 c0_i32_498
  let c2_i32_499 : BitVec 32 := 2#32
  let v693 : BitVec 32 := Scalar.addi v692 c2_i32_499
  let v827 : BitVec 32 := Scalar.addi v693 c1_i32_619
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let v828 : BitVec 1 := Scalar.cmpi .slt v827 v30
  let c32_i32_620 : BitVec 32 := 32#32
  let v829 : BitVec 32 := Scalar.select v828 v827 c32_i32_620
  let v841 : Index := Scalar.indexCast v829
  let c0_628 : Index := 0#32
  let c0_629 : Index := 0#32
  let c0_630 : Index := 0#32
  ![v841.toNat, 0, 0, 0]
def k0_off63 (i : grid0.Coords) (k0_t2 : Fin (k0_t2_loop i).trips) (c0_i32_498 : BitVec 32) (c1_i32_619 : BitVec 32) : Fin 4 → Nat :=
  let c16_i32_497 : BitVec 32 := 16#32
  let c0_i32_432 : BitVec 32 := 0#32
  let c1_i32_434 : BitVec 32 := 1#32
  let arg17 : BitVec 32 := Scf.iv c0_i32_432 c1_i32_434 k0_t2
  let v691 : BitVec 32 := Scalar.muli c16_i32_497 arg17
  let v692 : BitVec 32 := Scalar.addi v691 c0_i32_498
  let c2_i32_499 : BitVec 32 := 2#32
  let v693 : BitVec 32 := Scalar.addi v692 c2_i32_499
  let v827 : BitVec 32 := Scalar.addi v693 c1_i32_619
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let v828 : BitVec 1 := Scalar.cmpi .slt v827 v30
  let c32_i32_620 : BitVec 32 := 32#32
  let v829 : BitVec 32 := Scalar.select v828 v827 c32_i32_620
  let v866 : Index := Scalar.indexCast v829
  let c1_645 : Index := 1#32
  let c0_646 : Index := 0#32
  let c0_647 : Index := 0#32
  ![v866.toNat, 1, 0, 0]
@[reducible] def k0_t3_loop (i : grid0.Coords) : Scf.Loop 32 :=
  let c0_i32_432 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v590 : BitVec 32 := Scalar.subi v589 c0_i32_432
  let c1_i32_433 : BitVec 32 := 1#32
  let v592 : BitVec 32 := Scalar.divsi v590 c1_i32_433
  let v593 : BitVec 32 := Scalar.muli v592 c1_i32_433
  let v594 : BitVec 32 := Scalar.addi c0_i32_432 v593
  let v591 : BitVec 32 := Scalar.addi c0_i32_432 v590
  let c1_i32_435 : BitVec 32 := 1#32
  ⟨v594, v591, c1_i32_435⟩
def k0_off64 (i : grid0.Coords) (k0_t3 : Fin (k0_t3_loop i).trips) (c0_i32_498 : BitVec 32) (c2_i32_500 : BitVec 32) : Fin 4 → Nat :=
  let c0_502 : Index := 0#32
  let c16_i32_497 : BitVec 32 := 16#32
  let c0_i32_432 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v590 : BitVec 32 := Scalar.subi v589 c0_i32_432
  let c1_i32_433 : BitVec 32 := 1#32
  let v592 : BitVec 32 := Scalar.divsi v590 c1_i32_433
  let v593 : BitVec 32 := Scalar.muli v592 c1_i32_433
  let v594 : BitVec 32 := Scalar.addi c0_i32_432 v593
  let c1_i32_435 : BitVec 32 := 1#32
  let arg17 : BitVec 32 := Scf.iv v594 c1_i32_435 k0_t3
  let v691 : BitVec 32 := Scalar.muli c16_i32_497 arg17
  let v692 : BitVec 32 := Scalar.addi v691 c0_i32_498
  let c2_i32_499 : BitVec 32 := 2#32
  let v693 : BitVec 32 := Scalar.addi v692 c2_i32_499
  let v694 : BitVec 32 := Scalar.addi v693 c2_i32_500
  let v695 : BitVec 1 := Scalar.cmpi .slt v694 v30
  let c32_i32_501 : BitVec 32 := 32#32
  let v696 : BitVec 32 := Scalar.select v695 v694 c32_i32_501
  let v697 : Index := Scalar.indexCast v696
  let c0_503 : Index := 0#32
  let c0_504 : Index := 0#32
  ![0, v697.toNat, 0, 0]
def k0_off65 (i : grid0.Coords) : Fin 4 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v700 : Index := Scalar.indexCast v9
  let c0_505 : Index := 0#32
  let c0_506 : Index := 0#32
  let c0_507 : Index := 0#32
  ![v700.toNat, 0, 0, 0]
def k0_off66 (i : grid0.Coords) (k0_t3 : Fin (k0_t3_loop i).trips) (c0_i32_498 : BitVec 32) (c2_i32_500 : BitVec 32) : Fin 4 → Nat :=
  let c1_515 : Index := 1#32
  let c16_i32_497 : BitVec 32 := 16#32
  let c0_i32_432 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v590 : BitVec 32 := Scalar.subi v589 c0_i32_432
  let c1_i32_433 : BitVec 32 := 1#32
  let v592 : BitVec 32 := Scalar.divsi v590 c1_i32_433
  let v593 : BitVec 32 := Scalar.muli v592 c1_i32_433
  let v594 : BitVec 32 := Scalar.addi c0_i32_432 v593
  let c1_i32_435 : BitVec 32 := 1#32
  let arg17 : BitVec 32 := Scf.iv v594 c1_i32_435 k0_t3
  let v691 : BitVec 32 := Scalar.muli c16_i32_497 arg17
  let v692 : BitVec 32 := Scalar.addi v691 c0_i32_498
  let c2_i32_499 : BitVec 32 := 2#32
  let v693 : BitVec 32 := Scalar.addi v692 c2_i32_499
  let v694 : BitVec 32 := Scalar.addi v693 c2_i32_500
  let v695 : BitVec 1 := Scalar.cmpi .slt v694 v30
  let c32_i32_501 : BitVec 32 := 32#32
  let v696 : BitVec 32 := Scalar.select v695 v694 c32_i32_501
  let v709 : Index := Scalar.indexCast v696
  let c0_516 : Index := 0#32
  let c0_517 : Index := 0#32
  ![1, v709.toNat, 0, 0]
def k0_off67 (i : grid0.Coords) : Fin 4 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v712 : Index := Scalar.indexCast v9
  let c1_518 : Index := 1#32
  let c0_519 : Index := 0#32
  let c0_520 : Index := 0#32
  ![v712.toNat, 1, 0, 0]
def k0_off68 (i : grid0.Coords) (k0_t3 : Fin (k0_t3_loop i).trips) (c0_i32_498 : BitVec 32) : Fin 4 → Nat :=
  let c16_i32_497 : BitVec 32 := 16#32
  let c0_i32_432 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v590 : BitVec 32 := Scalar.subi v589 c0_i32_432
  let c1_i32_433 : BitVec 32 := 1#32
  let v592 : BitVec 32 := Scalar.divsi v590 c1_i32_433
  let v593 : BitVec 32 := Scalar.muli v592 c1_i32_433
  let v594 : BitVec 32 := Scalar.addi c0_i32_432 v593
  let c1_i32_435 : BitVec 32 := 1#32
  let arg17 : BitVec 32 := Scf.iv v594 c1_i32_435 k0_t3
  let v691 : BitVec 32 := Scalar.muli c16_i32_497 arg17
  let v692 : BitVec 32 := Scalar.addi v691 c0_i32_498
  let c2_i32_499 : BitVec 32 := 2#32
  let v693 : BitVec 32 := Scalar.addi v692 c2_i32_499
  let v748 : BitVec 1 := Scalar.cmpi .slt v693 v30
  let c32_i32_556 : BitVec 32 := 32#32
  let v749 : BitVec 32 := Scalar.select v748 v693 c32_i32_556
  let v761 : Index := Scalar.indexCast v749
  let c0_564 : Index := 0#32
  let c0_565 : Index := 0#32
  let c0_566 : Index := 0#32
  ![v761.toNat, 0, 0, 0]
def k0_off69 (i : grid0.Coords) (k0_t3 : Fin (k0_t3_loop i).trips) (c0_i32_498 : BitVec 32) : Fin 4 → Nat :=
  let c16_i32_497 : BitVec 32 := 16#32
  let c0_i32_432 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v590 : BitVec 32 := Scalar.subi v589 c0_i32_432
  let c1_i32_433 : BitVec 32 := 1#32
  let v592 : BitVec 32 := Scalar.divsi v590 c1_i32_433
  let v593 : BitVec 32 := Scalar.muli v592 c1_i32_433
  let v594 : BitVec 32 := Scalar.addi c0_i32_432 v593
  let c1_i32_435 : BitVec 32 := 1#32
  let arg17 : BitVec 32 := Scf.iv v594 c1_i32_435 k0_t3
  let v691 : BitVec 32 := Scalar.muli c16_i32_497 arg17
  let v692 : BitVec 32 := Scalar.addi v691 c0_i32_498
  let c2_i32_499 : BitVec 32 := 2#32
  let v693 : BitVec 32 := Scalar.addi v692 c2_i32_499
  let v748 : BitVec 1 := Scalar.cmpi .slt v693 v30
  let c32_i32_556 : BitVec 32 := 32#32
  let v749 : BitVec 32 := Scalar.select v748 v693 c32_i32_556
  let v786 : Index := Scalar.indexCast v749
  let c1_581 : Index := 1#32
  let c0_582 : Index := 0#32
  let c0_583 : Index := 0#32
  ![v786.toNat, 1, 0, 0]
def k0_off70 (i : grid0.Coords) (k0_t3 : Fin (k0_t3_loop i).trips) (c0_i32_498 : BitVec 32) (c1_i32_619 : BitVec 32) : Fin 4 → Nat :=
  let c16_i32_497 : BitVec 32 := 16#32
  let c0_i32_432 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v590 : BitVec 32 := Scalar.subi v589 c0_i32_432
  let c1_i32_433 : BitVec 32 := 1#32
  let v592 : BitVec 32 := Scalar.divsi v590 c1_i32_433
  let v593 : BitVec 32 := Scalar.muli v592 c1_i32_433
  let v594 : BitVec 32 := Scalar.addi c0_i32_432 v593
  let c1_i32_435 : BitVec 32 := 1#32
  let arg17 : BitVec 32 := Scf.iv v594 c1_i32_435 k0_t3
  let v691 : BitVec 32 := Scalar.muli c16_i32_497 arg17
  let v692 : BitVec 32 := Scalar.addi v691 c0_i32_498
  let c2_i32_499 : BitVec 32 := 2#32
  let v693 : BitVec 32 := Scalar.addi v692 c2_i32_499
  let v827 : BitVec 32 := Scalar.addi v693 c1_i32_619
  let v828 : BitVec 1 := Scalar.cmpi .slt v827 v30
  let c32_i32_620 : BitVec 32 := 32#32
  let v829 : BitVec 32 := Scalar.select v828 v827 c32_i32_620
  let v841 : Index := Scalar.indexCast v829
  let c0_628 : Index := 0#32
  let c0_629 : Index := 0#32
  let c0_630 : Index := 0#32
  ![v841.toNat, 0, 0, 0]
def k0_off71 (i : grid0.Coords) (k0_t3 : Fin (k0_t3_loop i).trips) (c0_i32_498 : BitVec 32) (c1_i32_619 : BitVec 32) : Fin 4 → Nat :=
  let c16_i32_497 : BitVec 32 := 16#32
  let c0_i32_432 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v590 : BitVec 32 := Scalar.subi v589 c0_i32_432
  let c1_i32_433 : BitVec 32 := 1#32
  let v592 : BitVec 32 := Scalar.divsi v590 c1_i32_433
  let v593 : BitVec 32 := Scalar.muli v592 c1_i32_433
  let v594 : BitVec 32 := Scalar.addi c0_i32_432 v593
  let c1_i32_435 : BitVec 32 := 1#32
  let arg17 : BitVec 32 := Scf.iv v594 c1_i32_435 k0_t3
  let v691 : BitVec 32 := Scalar.muli c16_i32_497 arg17
  let v692 : BitVec 32 := Scalar.addi v691 c0_i32_498
  let c2_i32_499 : BitVec 32 := 2#32
  let v693 : BitVec 32 := Scalar.addi v692 c2_i32_499
  let v827 : BitVec 32 := Scalar.addi v693 c1_i32_619
  let v828 : BitVec 1 := Scalar.cmpi .slt v827 v30
  let c32_i32_620 : BitVec 32 := 32#32
  let v829 : BitVec 32 := Scalar.select v828 v827 c32_i32_620
  let v866 : Index := Scalar.indexCast v829
  let c1_645 : Index := 1#32
  let c0_646 : Index := 0#32
  let c0_647 : Index := 0#32
  ![v866.toNat, 1, 0, 0]
@[reducible] def k0_t4_loop (i : grid0.Coords) : Scf.Loop 32 :=
  let c0_i32_449 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v618 : BitVec 32 := Scalar.subi v617 c0_i32_449
  let c1_i32_450 : BitVec 32 := 1#32
  let v620 : BitVec 32 := Scalar.divsi v618 c1_i32_450
  let v621 : BitVec 32 := Scalar.muli v620 c1_i32_450
  let v622 : BitVec 32 := Scalar.addi c0_i32_449 v621
  let c1_i32_451 : BitVec 32 := 1#32
  ⟨c0_i32_449, v622, c1_i32_451⟩
def k0_off72 (i : grid0.Coords) (k0_t4 : Fin (k0_t4_loop i).trips) (c2_i32_500 : BitVec 32) : Fin 4 → Nat :=
  let c0_502 : Index := 0#32
  let c8_i32_499 : BitVec 32 := 8#32
  let c0_i32_449 : BitVec 32 := 0#32
  let c1_i32_451 : BitVec 32 := 1#32
  let arg17 : BitVec 32 := Scf.iv c0_i32_449 c1_i32_451 k0_t4
  let v694 : BitVec 32 := Scalar.muli c8_i32_499 arg17
  let c16_i32_436 : BitVec 32 := 16#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v597 : BitVec 32 := Scalar.muli c16_i32_436 v589
  let c2_i32_437 : BitVec 32 := 2#32
  let v598 : BitVec 32 := Scalar.addi v597 c2_i32_437
  let v695 : BitVec 32 := Scalar.addi v694 v598
  let v696 : BitVec 32 := Scalar.addi v695 c2_i32_500
  let v697 : BitVec 1 := Scalar.cmpi .slt v696 v30
  let c32_i32_501 : BitVec 32 := 32#32
  let v698 : BitVec 32 := Scalar.select v697 v696 c32_i32_501
  let v699 : Index := Scalar.indexCast v698
  let c0_503 : Index := 0#32
  let c0_504 : Index := 0#32
  ![0, v699.toNat, 0, 0]
def k0_off73 (i : grid0.Coords) : Fin 4 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v702 : Index := Scalar.indexCast v9
  let c0_505 : Index := 0#32
  let c0_506 : Index := 0#32
  let c0_507 : Index := 0#32
  ![v702.toNat, 0, 0, 0]
def k0_off74 (i : grid0.Coords) (k0_t4 : Fin (k0_t4_loop i).trips) (c2_i32_500 : BitVec 32) : Fin 4 → Nat :=
  let c1_515 : Index := 1#32
  let c8_i32_499 : BitVec 32 := 8#32
  let c0_i32_449 : BitVec 32 := 0#32
  let c1_i32_451 : BitVec 32 := 1#32
  let arg17 : BitVec 32 := Scf.iv c0_i32_449 c1_i32_451 k0_t4
  let v694 : BitVec 32 := Scalar.muli c8_i32_499 arg17
  let c16_i32_436 : BitVec 32 := 16#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v597 : BitVec 32 := Scalar.muli c16_i32_436 v589
  let c2_i32_437 : BitVec 32 := 2#32
  let v598 : BitVec 32 := Scalar.addi v597 c2_i32_437
  let v695 : BitVec 32 := Scalar.addi v694 v598
  let v696 : BitVec 32 := Scalar.addi v695 c2_i32_500
  let v697 : BitVec 1 := Scalar.cmpi .slt v696 v30
  let c32_i32_501 : BitVec 32 := 32#32
  let v698 : BitVec 32 := Scalar.select v697 v696 c32_i32_501
  let v711 : Index := Scalar.indexCast v698
  let c0_516 : Index := 0#32
  let c0_517 : Index := 0#32
  ![1, v711.toNat, 0, 0]
def k0_off75 (i : grid0.Coords) : Fin 4 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v714 : Index := Scalar.indexCast v9
  let c1_518 : Index := 1#32
  let c0_519 : Index := 0#32
  let c0_520 : Index := 0#32
  ![v714.toNat, 1, 0, 0]
def k0_off76 (i : grid0.Coords) (k0_t4 : Fin (k0_t4_loop i).trips) : Fin 4 → Nat :=
  let c8_i32_499 : BitVec 32 := 8#32
  let c0_i32_449 : BitVec 32 := 0#32
  let c1_i32_451 : BitVec 32 := 1#32
  let arg17 : BitVec 32 := Scf.iv c0_i32_449 c1_i32_451 k0_t4
  let v694 : BitVec 32 := Scalar.muli c8_i32_499 arg17
  let c16_i32_436 : BitVec 32 := 16#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v597 : BitVec 32 := Scalar.muli c16_i32_436 v589
  let c2_i32_437 : BitVec 32 := 2#32
  let v598 : BitVec 32 := Scalar.addi v597 c2_i32_437
  let v695 : BitVec 32 := Scalar.addi v694 v598
  let v750 : BitVec 1 := Scalar.cmpi .slt v695 v30
  let c32_i32_556 : BitVec 32 := 32#32
  let v751 : BitVec 32 := Scalar.select v750 v695 c32_i32_556
  let v763 : Index := Scalar.indexCast v751
  let c0_564 : Index := 0#32
  let c0_565 : Index := 0#32
  let c0_566 : Index := 0#32
  ![v763.toNat, 0, 0, 0]
def k0_off77 (i : grid0.Coords) (k0_t4 : Fin (k0_t4_loop i).trips) : Fin 4 → Nat :=
  let c8_i32_499 : BitVec 32 := 8#32
  let c0_i32_449 : BitVec 32 := 0#32
  let c1_i32_451 : BitVec 32 := 1#32
  let arg17 : BitVec 32 := Scf.iv c0_i32_449 c1_i32_451 k0_t4
  let v694 : BitVec 32 := Scalar.muli c8_i32_499 arg17
  let c16_i32_436 : BitVec 32 := 16#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v597 : BitVec 32 := Scalar.muli c16_i32_436 v589
  let c2_i32_437 : BitVec 32 := 2#32
  let v598 : BitVec 32 := Scalar.addi v597 c2_i32_437
  let v695 : BitVec 32 := Scalar.addi v694 v598
  let v750 : BitVec 1 := Scalar.cmpi .slt v695 v30
  let c32_i32_556 : BitVec 32 := 32#32
  let v751 : BitVec 32 := Scalar.select v750 v695 c32_i32_556
  let v788 : Index := Scalar.indexCast v751
  let c1_581 : Index := 1#32
  let c0_582 : Index := 0#32
  let c0_583 : Index := 0#32
  ![v788.toNat, 1, 0, 0]
def k0_off78 (i : grid0.Coords) (k0_t4 : Fin (k0_t4_loop i).trips) (c1_i32_619 : BitVec 32) : Fin 4 → Nat :=
  let c8_i32_499 : BitVec 32 := 8#32
  let c0_i32_449 : BitVec 32 := 0#32
  let c1_i32_451 : BitVec 32 := 1#32
  let arg17 : BitVec 32 := Scf.iv c0_i32_449 c1_i32_451 k0_t4
  let v694 : BitVec 32 := Scalar.muli c8_i32_499 arg17
  let c16_i32_436 : BitVec 32 := 16#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v597 : BitVec 32 := Scalar.muli c16_i32_436 v589
  let c2_i32_437 : BitVec 32 := 2#32
  let v598 : BitVec 32 := Scalar.addi v597 c2_i32_437
  let v695 : BitVec 32 := Scalar.addi v694 v598
  let v829 : BitVec 32 := Scalar.addi v695 c1_i32_619
  let v830 : BitVec 1 := Scalar.cmpi .slt v829 v30
  let c32_i32_620 : BitVec 32 := 32#32
  let v831 : BitVec 32 := Scalar.select v830 v829 c32_i32_620
  let v843 : Index := Scalar.indexCast v831
  let c0_628 : Index := 0#32
  let c0_629 : Index := 0#32
  let c0_630 : Index := 0#32
  ![v843.toNat, 0, 0, 0]
def k0_off79 (i : grid0.Coords) (k0_t4 : Fin (k0_t4_loop i).trips) (c1_i32_619 : BitVec 32) : Fin 4 → Nat :=
  let c8_i32_499 : BitVec 32 := 8#32
  let c0_i32_449 : BitVec 32 := 0#32
  let c1_i32_451 : BitVec 32 := 1#32
  let arg17 : BitVec 32 := Scf.iv c0_i32_449 c1_i32_451 k0_t4
  let v694 : BitVec 32 := Scalar.muli c8_i32_499 arg17
  let c16_i32_436 : BitVec 32 := 16#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v597 : BitVec 32 := Scalar.muli c16_i32_436 v589
  let c2_i32_437 : BitVec 32 := 2#32
  let v598 : BitVec 32 := Scalar.addi v597 c2_i32_437
  let v695 : BitVec 32 := Scalar.addi v694 v598
  let v829 : BitVec 32 := Scalar.addi v695 c1_i32_619
  let v830 : BitVec 1 := Scalar.cmpi .slt v829 v30
  let c32_i32_620 : BitVec 32 := 32#32
  let v831 : BitVec 32 := Scalar.select v830 v829 c32_i32_620
  let v868 : Index := Scalar.indexCast v831
  let c1_645 : Index := 1#32
  let c0_646 : Index := 0#32
  let c0_647 : Index := 0#32
  ![v868.toNat, 1, 0, 0]
def k0_off80 (i : grid0.Coords) (k0_t4 : Fin (k0_t4_loop i).trips) (c2_i32_754 : BitVec 32) : Fin 4 → Nat :=
  let c0_756 : Index := 0#32
  let c8_i32_497 : BitVec 32 := 8#32
  let c0_i32_449 : BitVec 32 := 0#32
  let c1_i32_451 : BitVec 32 := 1#32
  let arg17 : BitVec 32 := Scf.iv c0_i32_449 c1_i32_451 k0_t4
  let v691 : BitVec 32 := Scalar.muli c8_i32_497 arg17
  let c4_i32_498 : BitVec 32 := 4#32
  let v692 : BitVec 32 := Scalar.addi v691 c4_i32_498
  let c16_i32_436 : BitVec 32 := 16#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v597 : BitVec 32 := Scalar.muli c16_i32_436 v589
  let c2_i32_437 : BitVec 32 := 2#32
  let v598 : BitVec 32 := Scalar.addi v597 c2_i32_437
  let v693 : BitVec 32 := Scalar.addi v692 v598
  let v1015 : BitVec 32 := Scalar.addi v693 c2_i32_754
  let v1016 : BitVec 1 := Scalar.cmpi .slt v1015 v30
  let c32_i32_755 : BitVec 32 := 32#32
  let v1017 : BitVec 32 := Scalar.select v1016 v1015 c32_i32_755
  let v1018 : Index := Scalar.indexCast v1017
  let c0_757 : Index := 0#32
  let c0_758 : Index := 0#32
  ![0, v1018.toNat, 0, 0]
def k0_off81 (i : grid0.Coords) (k0_t4 : Fin (k0_t4_loop i).trips) (c2_i32_754 : BitVec 32) : Fin 4 → Nat :=
  let c1_769 : Index := 1#32
  let c8_i32_497 : BitVec 32 := 8#32
  let c0_i32_449 : BitVec 32 := 0#32
  let c1_i32_451 : BitVec 32 := 1#32
  let arg17 : BitVec 32 := Scf.iv c0_i32_449 c1_i32_451 k0_t4
  let v691 : BitVec 32 := Scalar.muli c8_i32_497 arg17
  let c4_i32_498 : BitVec 32 := 4#32
  let v692 : BitVec 32 := Scalar.addi v691 c4_i32_498
  let c16_i32_436 : BitVec 32 := 16#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v597 : BitVec 32 := Scalar.muli c16_i32_436 v589
  let c2_i32_437 : BitVec 32 := 2#32
  let v598 : BitVec 32 := Scalar.addi v597 c2_i32_437
  let v693 : BitVec 32 := Scalar.addi v692 v598
  let v1015 : BitVec 32 := Scalar.addi v693 c2_i32_754
  let v1016 : BitVec 1 := Scalar.cmpi .slt v1015 v30
  let c32_i32_755 : BitVec 32 := 32#32
  let v1017 : BitVec 32 := Scalar.select v1016 v1015 c32_i32_755
  let v1030 : Index := Scalar.indexCast v1017
  let c0_770 : Index := 0#32
  let c0_771 : Index := 0#32
  ![1, v1030.toNat, 0, 0]
def k0_off82 (i : grid0.Coords) (k0_t4 : Fin (k0_t4_loop i).trips) : Fin 4 → Nat :=
  let c8_i32_497 : BitVec 32 := 8#32
  let c0_i32_449 : BitVec 32 := 0#32
  let c1_i32_451 : BitVec 32 := 1#32
  let arg17 : BitVec 32 := Scf.iv c0_i32_449 c1_i32_451 k0_t4
  let v691 : BitVec 32 := Scalar.muli c8_i32_497 arg17
  let c4_i32_498 : BitVec 32 := 4#32
  let v692 : BitVec 32 := Scalar.addi v691 c4_i32_498
  let c16_i32_436 : BitVec 32 := 16#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v597 : BitVec 32 := Scalar.muli c16_i32_436 v589
  let c2_i32_437 : BitVec 32 := 2#32
  let v598 : BitVec 32 := Scalar.addi v597 c2_i32_437
  let v693 : BitVec 32 := Scalar.addi v692 v598
  let v1069 : BitVec 1 := Scalar.cmpi .slt v693 v30
  let c32_i32_810 : BitVec 32 := 32#32
  let v1070 : BitVec 32 := Scalar.select v1069 v693 c32_i32_810
  let v1082 : Index := Scalar.indexCast v1070
  let c0_818 : Index := 0#32
  let c0_819 : Index := 0#32
  let c0_820 : Index := 0#32
  ![v1082.toNat, 0, 0, 0]
def k0_off83 (i : grid0.Coords) (k0_t4 : Fin (k0_t4_loop i).trips) : Fin 4 → Nat :=
  let c8_i32_497 : BitVec 32 := 8#32
  let c0_i32_449 : BitVec 32 := 0#32
  let c1_i32_451 : BitVec 32 := 1#32
  let arg17 : BitVec 32 := Scf.iv c0_i32_449 c1_i32_451 k0_t4
  let v691 : BitVec 32 := Scalar.muli c8_i32_497 arg17
  let c4_i32_498 : BitVec 32 := 4#32
  let v692 : BitVec 32 := Scalar.addi v691 c4_i32_498
  let c16_i32_436 : BitVec 32 := 16#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v597 : BitVec 32 := Scalar.muli c16_i32_436 v589
  let c2_i32_437 : BitVec 32 := 2#32
  let v598 : BitVec 32 := Scalar.addi v597 c2_i32_437
  let v693 : BitVec 32 := Scalar.addi v692 v598
  let v1069 : BitVec 1 := Scalar.cmpi .slt v693 v30
  let c32_i32_810 : BitVec 32 := 32#32
  let v1070 : BitVec 32 := Scalar.select v1069 v693 c32_i32_810
  let v1107 : Index := Scalar.indexCast v1070
  let c1_835 : Index := 1#32
  let c0_836 : Index := 0#32
  let c0_837 : Index := 0#32
  ![v1107.toNat, 1, 0, 0]
def k0_off84 (i : grid0.Coords) (k0_t4 : Fin (k0_t4_loop i).trips) (c1_i32_873 : BitVec 32) : Fin 4 → Nat :=
  let c8_i32_497 : BitVec 32 := 8#32
  let c0_i32_449 : BitVec 32 := 0#32
  let c1_i32_451 : BitVec 32 := 1#32
  let arg17 : BitVec 32 := Scf.iv c0_i32_449 c1_i32_451 k0_t4
  let v691 : BitVec 32 := Scalar.muli c8_i32_497 arg17
  let c4_i32_498 : BitVec 32 := 4#32
  let v692 : BitVec 32 := Scalar.addi v691 c4_i32_498
  let c16_i32_436 : BitVec 32 := 16#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v597 : BitVec 32 := Scalar.muli c16_i32_436 v589
  let c2_i32_437 : BitVec 32 := 2#32
  let v598 : BitVec 32 := Scalar.addi v597 c2_i32_437
  let v693 : BitVec 32 := Scalar.addi v692 v598
  let v1148 : BitVec 32 := Scalar.addi v693 c1_i32_873
  let v1149 : BitVec 1 := Scalar.cmpi .slt v1148 v30
  let c32_i32_874 : BitVec 32 := 32#32
  let v1150 : BitVec 32 := Scalar.select v1149 v1148 c32_i32_874
  let v1162 : Index := Scalar.indexCast v1150
  let c0_882 : Index := 0#32
  let c0_883 : Index := 0#32
  let c0_884 : Index := 0#32
  ![v1162.toNat, 0, 0, 0]
def k0_off85 (i : grid0.Coords) (k0_t4 : Fin (k0_t4_loop i).trips) (c1_i32_873 : BitVec 32) : Fin 4 → Nat :=
  let c8_i32_497 : BitVec 32 := 8#32
  let c0_i32_449 : BitVec 32 := 0#32
  let c1_i32_451 : BitVec 32 := 1#32
  let arg17 : BitVec 32 := Scf.iv c0_i32_449 c1_i32_451 k0_t4
  let v691 : BitVec 32 := Scalar.muli c8_i32_497 arg17
  let c4_i32_498 : BitVec 32 := 4#32
  let v692 : BitVec 32 := Scalar.addi v691 c4_i32_498
  let c16_i32_436 : BitVec 32 := 16#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v597 : BitVec 32 := Scalar.muli c16_i32_436 v589
  let c2_i32_437 : BitVec 32 := 2#32
  let v598 : BitVec 32 := Scalar.addi v597 c2_i32_437
  let v693 : BitVec 32 := Scalar.addi v692 v598
  let v1148 : BitVec 32 := Scalar.addi v693 c1_i32_873
  let v1149 : BitVec 1 := Scalar.cmpi .slt v1148 v30
  let c32_i32_874 : BitVec 32 := 32#32
  let v1150 : BitVec 32 := Scalar.select v1149 v1148 c32_i32_874
  let v1187 : Index := Scalar.indexCast v1150
  let c1_899 : Index := 1#32
  let c0_900 : Index := 0#32
  let c0_901 : Index := 0#32
  ![v1187.toNat, 1, 0, 0]
@[reducible] def k0_t5_loop (i : grid0.Coords) : Scf.Loop 32 :=
  let c0_i32_449 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v618 : BitVec 32 := Scalar.subi v617 c0_i32_449
  let c1_i32_450 : BitVec 32 := 1#32
  let v620 : BitVec 32 := Scalar.divsi v618 c1_i32_450
  let v621 : BitVec 32 := Scalar.muli v620 c1_i32_450
  let v622 : BitVec 32 := Scalar.addi c0_i32_449 v621
  let v619 : BitVec 32 := Scalar.addi c0_i32_449 v618
  let c1_i32_452 : BitVec 32 := 1#32
  ⟨v622, v619, c1_i32_452⟩
def k0_off86 (i : grid0.Coords) (k0_t5 : Fin (k0_t5_loop i).trips) (c2_i32_500 : BitVec 32) : Fin 4 → Nat :=
  let c0_502 : Index := 0#32
  let c8_i32_499 : BitVec 32 := 8#32
  let c0_i32_449 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v618 : BitVec 32 := Scalar.subi v617 c0_i32_449
  let c1_i32_450 : BitVec 32 := 1#32
  let v620 : BitVec 32 := Scalar.divsi v618 c1_i32_450
  let v621 : BitVec 32 := Scalar.muli v620 c1_i32_450
  let v622 : BitVec 32 := Scalar.addi c0_i32_449 v621
  let c1_i32_452 : BitVec 32 := 1#32
  let arg17 : BitVec 32 := Scf.iv v622 c1_i32_452 k0_t5
  let v694 : BitVec 32 := Scalar.muli c8_i32_499 arg17
  let c16_i32_436 : BitVec 32 := 16#32
  let v597 : BitVec 32 := Scalar.muli c16_i32_436 v589
  let c2_i32_437 : BitVec 32 := 2#32
  let v598 : BitVec 32 := Scalar.addi v597 c2_i32_437
  let v695 : BitVec 32 := Scalar.addi v694 v598
  let v696 : BitVec 32 := Scalar.addi v695 c2_i32_500
  let v697 : BitVec 1 := Scalar.cmpi .slt v696 v30
  let c32_i32_501 : BitVec 32 := 32#32
  let v698 : BitVec 32 := Scalar.select v697 v696 c32_i32_501
  let v699 : Index := Scalar.indexCast v698
  let c0_503 : Index := 0#32
  let c0_504 : Index := 0#32
  ![0, v699.toNat, 0, 0]
def k0_off87 (i : grid0.Coords) : Fin 4 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v702 : Index := Scalar.indexCast v9
  let c0_505 : Index := 0#32
  let c0_506 : Index := 0#32
  let c0_507 : Index := 0#32
  ![v702.toNat, 0, 0, 0]
def k0_off88 (i : grid0.Coords) (k0_t5 : Fin (k0_t5_loop i).trips) (c2_i32_500 : BitVec 32) : Fin 4 → Nat :=
  let c1_515 : Index := 1#32
  let c8_i32_499 : BitVec 32 := 8#32
  let c0_i32_449 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v618 : BitVec 32 := Scalar.subi v617 c0_i32_449
  let c1_i32_450 : BitVec 32 := 1#32
  let v620 : BitVec 32 := Scalar.divsi v618 c1_i32_450
  let v621 : BitVec 32 := Scalar.muli v620 c1_i32_450
  let v622 : BitVec 32 := Scalar.addi c0_i32_449 v621
  let c1_i32_452 : BitVec 32 := 1#32
  let arg17 : BitVec 32 := Scf.iv v622 c1_i32_452 k0_t5
  let v694 : BitVec 32 := Scalar.muli c8_i32_499 arg17
  let c16_i32_436 : BitVec 32 := 16#32
  let v597 : BitVec 32 := Scalar.muli c16_i32_436 v589
  let c2_i32_437 : BitVec 32 := 2#32
  let v598 : BitVec 32 := Scalar.addi v597 c2_i32_437
  let v695 : BitVec 32 := Scalar.addi v694 v598
  let v696 : BitVec 32 := Scalar.addi v695 c2_i32_500
  let v697 : BitVec 1 := Scalar.cmpi .slt v696 v30
  let c32_i32_501 : BitVec 32 := 32#32
  let v698 : BitVec 32 := Scalar.select v697 v696 c32_i32_501
  let v711 : Index := Scalar.indexCast v698
  let c0_516 : Index := 0#32
  let c0_517 : Index := 0#32
  ![1, v711.toNat, 0, 0]
def k0_off89 (i : grid0.Coords) : Fin 4 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v714 : Index := Scalar.indexCast v9
  let c1_518 : Index := 1#32
  let c0_519 : Index := 0#32
  let c0_520 : Index := 0#32
  ![v714.toNat, 1, 0, 0]
def k0_off90 (i : grid0.Coords) (k0_t5 : Fin (k0_t5_loop i).trips) : Fin 4 → Nat :=
  let c8_i32_499 : BitVec 32 := 8#32
  let c0_i32_449 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v618 : BitVec 32 := Scalar.subi v617 c0_i32_449
  let c1_i32_450 : BitVec 32 := 1#32
  let v620 : BitVec 32 := Scalar.divsi v618 c1_i32_450
  let v621 : BitVec 32 := Scalar.muli v620 c1_i32_450
  let v622 : BitVec 32 := Scalar.addi c0_i32_449 v621
  let c1_i32_452 : BitVec 32 := 1#32
  let arg17 : BitVec 32 := Scf.iv v622 c1_i32_452 k0_t5
  let v694 : BitVec 32 := Scalar.muli c8_i32_499 arg17
  let c16_i32_436 : BitVec 32 := 16#32
  let v597 : BitVec 32 := Scalar.muli c16_i32_436 v589
  let c2_i32_437 : BitVec 32 := 2#32
  let v598 : BitVec 32 := Scalar.addi v597 c2_i32_437
  let v695 : BitVec 32 := Scalar.addi v694 v598
  let v750 : BitVec 1 := Scalar.cmpi .slt v695 v30
  let c32_i32_556 : BitVec 32 := 32#32
  let v751 : BitVec 32 := Scalar.select v750 v695 c32_i32_556
  let v763 : Index := Scalar.indexCast v751
  let c0_564 : Index := 0#32
  let c0_565 : Index := 0#32
  let c0_566 : Index := 0#32
  ![v763.toNat, 0, 0, 0]
def k0_off91 (i : grid0.Coords) (k0_t5 : Fin (k0_t5_loop i).trips) : Fin 4 → Nat :=
  let c8_i32_499 : BitVec 32 := 8#32
  let c0_i32_449 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v618 : BitVec 32 := Scalar.subi v617 c0_i32_449
  let c1_i32_450 : BitVec 32 := 1#32
  let v620 : BitVec 32 := Scalar.divsi v618 c1_i32_450
  let v621 : BitVec 32 := Scalar.muli v620 c1_i32_450
  let v622 : BitVec 32 := Scalar.addi c0_i32_449 v621
  let c1_i32_452 : BitVec 32 := 1#32
  let arg17 : BitVec 32 := Scf.iv v622 c1_i32_452 k0_t5
  let v694 : BitVec 32 := Scalar.muli c8_i32_499 arg17
  let c16_i32_436 : BitVec 32 := 16#32
  let v597 : BitVec 32 := Scalar.muli c16_i32_436 v589
  let c2_i32_437 : BitVec 32 := 2#32
  let v598 : BitVec 32 := Scalar.addi v597 c2_i32_437
  let v695 : BitVec 32 := Scalar.addi v694 v598
  let v750 : BitVec 1 := Scalar.cmpi .slt v695 v30
  let c32_i32_556 : BitVec 32 := 32#32
  let v751 : BitVec 32 := Scalar.select v750 v695 c32_i32_556
  let v788 : Index := Scalar.indexCast v751
  let c1_581 : Index := 1#32
  let c0_582 : Index := 0#32
  let c0_583 : Index := 0#32
  ![v788.toNat, 1, 0, 0]
def k0_off92 (i : grid0.Coords) (k0_t5 : Fin (k0_t5_loop i).trips) (c1_i32_619 : BitVec 32) : Fin 4 → Nat :=
  let c8_i32_499 : BitVec 32 := 8#32
  let c0_i32_449 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v618 : BitVec 32 := Scalar.subi v617 c0_i32_449
  let c1_i32_450 : BitVec 32 := 1#32
  let v620 : BitVec 32 := Scalar.divsi v618 c1_i32_450
  let v621 : BitVec 32 := Scalar.muli v620 c1_i32_450
  let v622 : BitVec 32 := Scalar.addi c0_i32_449 v621
  let c1_i32_452 : BitVec 32 := 1#32
  let arg17 : BitVec 32 := Scf.iv v622 c1_i32_452 k0_t5
  let v694 : BitVec 32 := Scalar.muli c8_i32_499 arg17
  let c16_i32_436 : BitVec 32 := 16#32
  let v597 : BitVec 32 := Scalar.muli c16_i32_436 v589
  let c2_i32_437 : BitVec 32 := 2#32
  let v598 : BitVec 32 := Scalar.addi v597 c2_i32_437
  let v695 : BitVec 32 := Scalar.addi v694 v598
  let v829 : BitVec 32 := Scalar.addi v695 c1_i32_619
  let v830 : BitVec 1 := Scalar.cmpi .slt v829 v30
  let c32_i32_620 : BitVec 32 := 32#32
  let v831 : BitVec 32 := Scalar.select v830 v829 c32_i32_620
  let v843 : Index := Scalar.indexCast v831
  let c0_628 : Index := 0#32
  let c0_629 : Index := 0#32
  let c0_630 : Index := 0#32
  ![v843.toNat, 0, 0, 0]
def k0_off93 (i : grid0.Coords) (k0_t5 : Fin (k0_t5_loop i).trips) (c1_i32_619 : BitVec 32) : Fin 4 → Nat :=
  let c8_i32_499 : BitVec 32 := 8#32
  let c0_i32_449 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v618 : BitVec 32 := Scalar.subi v617 c0_i32_449
  let c1_i32_450 : BitVec 32 := 1#32
  let v620 : BitVec 32 := Scalar.divsi v618 c1_i32_450
  let v621 : BitVec 32 := Scalar.muli v620 c1_i32_450
  let v622 : BitVec 32 := Scalar.addi c0_i32_449 v621
  let c1_i32_452 : BitVec 32 := 1#32
  let arg17 : BitVec 32 := Scf.iv v622 c1_i32_452 k0_t5
  let v694 : BitVec 32 := Scalar.muli c8_i32_499 arg17
  let c16_i32_436 : BitVec 32 := 16#32
  let v597 : BitVec 32 := Scalar.muli c16_i32_436 v589
  let c2_i32_437 : BitVec 32 := 2#32
  let v598 : BitVec 32 := Scalar.addi v597 c2_i32_437
  let v695 : BitVec 32 := Scalar.addi v694 v598
  let v829 : BitVec 32 := Scalar.addi v695 c1_i32_619
  let v830 : BitVec 1 := Scalar.cmpi .slt v829 v30
  let c32_i32_620 : BitVec 32 := 32#32
  let v831 : BitVec 32 := Scalar.select v830 v829 c32_i32_620
  let v868 : Index := Scalar.indexCast v831
  let c1_645 : Index := 1#32
  let c0_646 : Index := 0#32
  let c0_647 : Index := 0#32
  ![v868.toNat, 1, 0, 0]
def k0_off94 (i : grid0.Coords) (k0_t5 : Fin (k0_t5_loop i).trips) (c2_i32_754 : BitVec 32) : Fin 4 → Nat :=
  let c0_756 : Index := 0#32
  let c8_i32_497 : BitVec 32 := 8#32
  let c0_i32_449 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v618 : BitVec 32 := Scalar.subi v617 c0_i32_449
  let c1_i32_450 : BitVec 32 := 1#32
  let v620 : BitVec 32 := Scalar.divsi v618 c1_i32_450
  let v621 : BitVec 32 := Scalar.muli v620 c1_i32_450
  let v622 : BitVec 32 := Scalar.addi c0_i32_449 v621
  let c1_i32_452 : BitVec 32 := 1#32
  let arg17 : BitVec 32 := Scf.iv v622 c1_i32_452 k0_t5
  let v691 : BitVec 32 := Scalar.muli c8_i32_497 arg17
  let c4_i32_498 : BitVec 32 := 4#32
  let v692 : BitVec 32 := Scalar.addi v691 c4_i32_498
  let c16_i32_436 : BitVec 32 := 16#32
  let v597 : BitVec 32 := Scalar.muli c16_i32_436 v589
  let c2_i32_437 : BitVec 32 := 2#32
  let v598 : BitVec 32 := Scalar.addi v597 c2_i32_437
  let v693 : BitVec 32 := Scalar.addi v692 v598
  let v1015 : BitVec 32 := Scalar.addi v693 c2_i32_754
  let v1016 : BitVec 1 := Scalar.cmpi .slt v1015 v30
  let c32_i32_755 : BitVec 32 := 32#32
  let v1017 : BitVec 32 := Scalar.select v1016 v1015 c32_i32_755
  let v1018 : Index := Scalar.indexCast v1017
  let c0_757 : Index := 0#32
  let c0_758 : Index := 0#32
  ![0, v1018.toNat, 0, 0]
def k0_off95 (i : grid0.Coords) (k0_t5 : Fin (k0_t5_loop i).trips) (c2_i32_754 : BitVec 32) : Fin 4 → Nat :=
  let c1_769 : Index := 1#32
  let c8_i32_497 : BitVec 32 := 8#32
  let c0_i32_449 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v618 : BitVec 32 := Scalar.subi v617 c0_i32_449
  let c1_i32_450 : BitVec 32 := 1#32
  let v620 : BitVec 32 := Scalar.divsi v618 c1_i32_450
  let v621 : BitVec 32 := Scalar.muli v620 c1_i32_450
  let v622 : BitVec 32 := Scalar.addi c0_i32_449 v621
  let c1_i32_452 : BitVec 32 := 1#32
  let arg17 : BitVec 32 := Scf.iv v622 c1_i32_452 k0_t5
  let v691 : BitVec 32 := Scalar.muli c8_i32_497 arg17
  let c4_i32_498 : BitVec 32 := 4#32
  let v692 : BitVec 32 := Scalar.addi v691 c4_i32_498
  let c16_i32_436 : BitVec 32 := 16#32
  let v597 : BitVec 32 := Scalar.muli c16_i32_436 v589
  let c2_i32_437 : BitVec 32 := 2#32
  let v598 : BitVec 32 := Scalar.addi v597 c2_i32_437
  let v693 : BitVec 32 := Scalar.addi v692 v598
  let v1015 : BitVec 32 := Scalar.addi v693 c2_i32_754
  let v1016 : BitVec 1 := Scalar.cmpi .slt v1015 v30
  let c32_i32_755 : BitVec 32 := 32#32
  let v1017 : BitVec 32 := Scalar.select v1016 v1015 c32_i32_755
  let v1030 : Index := Scalar.indexCast v1017
  let c0_770 : Index := 0#32
  let c0_771 : Index := 0#32
  ![1, v1030.toNat, 0, 0]
def k0_off96 (i : grid0.Coords) (k0_t5 : Fin (k0_t5_loop i).trips) : Fin 4 → Nat :=
  let c8_i32_497 : BitVec 32 := 8#32
  let c0_i32_449 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v618 : BitVec 32 := Scalar.subi v617 c0_i32_449
  let c1_i32_450 : BitVec 32 := 1#32
  let v620 : BitVec 32 := Scalar.divsi v618 c1_i32_450
  let v621 : BitVec 32 := Scalar.muli v620 c1_i32_450
  let v622 : BitVec 32 := Scalar.addi c0_i32_449 v621
  let c1_i32_452 : BitVec 32 := 1#32
  let arg17 : BitVec 32 := Scf.iv v622 c1_i32_452 k0_t5
  let v691 : BitVec 32 := Scalar.muli c8_i32_497 arg17
  let c4_i32_498 : BitVec 32 := 4#32
  let v692 : BitVec 32 := Scalar.addi v691 c4_i32_498
  let c16_i32_436 : BitVec 32 := 16#32
  let v597 : BitVec 32 := Scalar.muli c16_i32_436 v589
  let c2_i32_437 : BitVec 32 := 2#32
  let v598 : BitVec 32 := Scalar.addi v597 c2_i32_437
  let v693 : BitVec 32 := Scalar.addi v692 v598
  let v1069 : BitVec 1 := Scalar.cmpi .slt v693 v30
  let c32_i32_810 : BitVec 32 := 32#32
  let v1070 : BitVec 32 := Scalar.select v1069 v693 c32_i32_810
  let v1082 : Index := Scalar.indexCast v1070
  let c0_818 : Index := 0#32
  let c0_819 : Index := 0#32
  let c0_820 : Index := 0#32
  ![v1082.toNat, 0, 0, 0]
def k0_off97 (i : grid0.Coords) (k0_t5 : Fin (k0_t5_loop i).trips) : Fin 4 → Nat :=
  let c8_i32_497 : BitVec 32 := 8#32
  let c0_i32_449 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v618 : BitVec 32 := Scalar.subi v617 c0_i32_449
  let c1_i32_450 : BitVec 32 := 1#32
  let v620 : BitVec 32 := Scalar.divsi v618 c1_i32_450
  let v621 : BitVec 32 := Scalar.muli v620 c1_i32_450
  let v622 : BitVec 32 := Scalar.addi c0_i32_449 v621
  let c1_i32_452 : BitVec 32 := 1#32
  let arg17 : BitVec 32 := Scf.iv v622 c1_i32_452 k0_t5
  let v691 : BitVec 32 := Scalar.muli c8_i32_497 arg17
  let c4_i32_498 : BitVec 32 := 4#32
  let v692 : BitVec 32 := Scalar.addi v691 c4_i32_498
  let c16_i32_436 : BitVec 32 := 16#32
  let v597 : BitVec 32 := Scalar.muli c16_i32_436 v589
  let c2_i32_437 : BitVec 32 := 2#32
  let v598 : BitVec 32 := Scalar.addi v597 c2_i32_437
  let v693 : BitVec 32 := Scalar.addi v692 v598
  let v1069 : BitVec 1 := Scalar.cmpi .slt v693 v30
  let c32_i32_810 : BitVec 32 := 32#32
  let v1070 : BitVec 32 := Scalar.select v1069 v693 c32_i32_810
  let v1107 : Index := Scalar.indexCast v1070
  let c1_835 : Index := 1#32
  let c0_836 : Index := 0#32
  let c0_837 : Index := 0#32
  ![v1107.toNat, 1, 0, 0]
def k0_off98 (i : grid0.Coords) (k0_t5 : Fin (k0_t5_loop i).trips) (c1_i32_873 : BitVec 32) : Fin 4 → Nat :=
  let c8_i32_497 : BitVec 32 := 8#32
  let c0_i32_449 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v618 : BitVec 32 := Scalar.subi v617 c0_i32_449
  let c1_i32_450 : BitVec 32 := 1#32
  let v620 : BitVec 32 := Scalar.divsi v618 c1_i32_450
  let v621 : BitVec 32 := Scalar.muli v620 c1_i32_450
  let v622 : BitVec 32 := Scalar.addi c0_i32_449 v621
  let c1_i32_452 : BitVec 32 := 1#32
  let arg17 : BitVec 32 := Scf.iv v622 c1_i32_452 k0_t5
  let v691 : BitVec 32 := Scalar.muli c8_i32_497 arg17
  let c4_i32_498 : BitVec 32 := 4#32
  let v692 : BitVec 32 := Scalar.addi v691 c4_i32_498
  let c16_i32_436 : BitVec 32 := 16#32
  let v597 : BitVec 32 := Scalar.muli c16_i32_436 v589
  let c2_i32_437 : BitVec 32 := 2#32
  let v598 : BitVec 32 := Scalar.addi v597 c2_i32_437
  let v693 : BitVec 32 := Scalar.addi v692 v598
  let v1148 : BitVec 32 := Scalar.addi v693 c1_i32_873
  let v1149 : BitVec 1 := Scalar.cmpi .slt v1148 v30
  let c32_i32_874 : BitVec 32 := 32#32
  let v1150 : BitVec 32 := Scalar.select v1149 v1148 c32_i32_874
  let v1162 : Index := Scalar.indexCast v1150
  let c0_882 : Index := 0#32
  let c0_883 : Index := 0#32
  let c0_884 : Index := 0#32
  ![v1162.toNat, 0, 0, 0]
def k0_off99 (i : grid0.Coords) (k0_t5 : Fin (k0_t5_loop i).trips) (c1_i32_873 : BitVec 32) : Fin 4 → Nat :=
  let c8_i32_497 : BitVec 32 := 8#32
  let c0_i32_449 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v618 : BitVec 32 := Scalar.subi v617 c0_i32_449
  let c1_i32_450 : BitVec 32 := 1#32
  let v620 : BitVec 32 := Scalar.divsi v618 c1_i32_450
  let v621 : BitVec 32 := Scalar.muli v620 c1_i32_450
  let v622 : BitVec 32 := Scalar.addi c0_i32_449 v621
  let c1_i32_452 : BitVec 32 := 1#32
  let arg17 : BitVec 32 := Scf.iv v622 c1_i32_452 k0_t5
  let v691 : BitVec 32 := Scalar.muli c8_i32_497 arg17
  let c4_i32_498 : BitVec 32 := 4#32
  let v692 : BitVec 32 := Scalar.addi v691 c4_i32_498
  let c16_i32_436 : BitVec 32 := 16#32
  let v597 : BitVec 32 := Scalar.muli c16_i32_436 v589
  let c2_i32_437 : BitVec 32 := 2#32
  let v598 : BitVec 32 := Scalar.addi v597 c2_i32_437
  let v693 : BitVec 32 := Scalar.addi v692 v598
  let v1148 : BitVec 32 := Scalar.addi v693 c1_i32_873
  let v1149 : BitVec 1 := Scalar.cmpi .slt v1148 v30
  let c32_i32_874 : BitVec 32 := 32#32
  let v1150 : BitVec 32 := Scalar.select v1149 v1148 c32_i32_874
  let v1187 : Index := Scalar.indexCast v1150
  let c1_899 : Index := 1#32
  let c0_900 : Index := 0#32
  let c0_901 : Index := 0#32
  ![v1187.toNat, 1, 0, 0]
@[reducible] def k0_t6_loop (i : grid0.Coords) : Scf.Loop 32 :=
  let c0_i32_465 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_453 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v625 : BitVec 32 := Scalar.muli c16_i32_453 v589
  let v626 : BitVec 32 := Scalar.subi v572 v625
  let c8_i32_454 : BitVec 32 := 8#32
  let c16_i32_438 : BitVec 32 := 16#32
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v646 : BitVec 32 := Scalar.subi v645 c0_i32_465
  let c1_i32_466 : BitVec 32 := 1#32
  let v648 : BitVec 32 := Scalar.divsi v646 c1_i32_466
  let v649 : BitVec 32 := Scalar.muli v648 c1_i32_466
  let v650 : BitVec 32 := Scalar.addi c0_i32_465 v649
  let c1_i32_467 : BitVec 32 := 1#32
  ⟨c0_i32_465, v650, c1_i32_467⟩
def k0_off100 (i : grid0.Coords) (k0_t6 : Fin (k0_t6_loop i).trips) (c2_i32_499 : BitVec 32) : Fin 4 → Nat :=
  let c0_501 : Index := 0#32
  let c8_i32_497 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v691 : BitVec 32 := Scalar.muli c8_i32_497 v617
  let c4_i32_498 : BitVec 32 := 4#32
  let c0_i32_465 : BitVec 32 := 0#32
  let c1_i32_467 : BitVec 32 := 1#32
  let arg17 : BitVec 32 := Scf.iv c0_i32_465 c1_i32_467 k0_t6
  let v692 : BitVec 32 := Scalar.muli c4_i32_498 arg17
  let v693 : BitVec 32 := Scalar.addi v691 v692
  let c16_i32_436 : BitVec 32 := 16#32
  let v597 : BitVec 32 := Scalar.muli c16_i32_436 v589
  let c2_i32_437 : BitVec 32 := 2#32
  let v598 : BitVec 32 := Scalar.addi v597 c2_i32_437
  let v694 : BitVec 32 := Scalar.addi v693 v598
  let v695 : BitVec 32 := Scalar.addi v694 c2_i32_499
  let v696 : BitVec 1 := Scalar.cmpi .slt v695 v30
  let c32_i32_500 : BitVec 32 := 32#32
  let v697 : BitVec 32 := Scalar.select v696 v695 c32_i32_500
  let v698 : Index := Scalar.indexCast v697
  let c0_502 : Index := 0#32
  let c0_503 : Index := 0#32
  ![0, v698.toNat, 0, 0]
def k0_off101 (i : grid0.Coords) : Fin 4 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v701 : Index := Scalar.indexCast v9
  let c0_504 : Index := 0#32
  let c0_505 : Index := 0#32
  let c0_506 : Index := 0#32
  ![v701.toNat, 0, 0, 0]
def k0_off102 (i : grid0.Coords) (k0_t6 : Fin (k0_t6_loop i).trips) (c2_i32_499 : BitVec 32) : Fin 4 → Nat :=
  let c1_514 : Index := 1#32
  let c8_i32_497 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v691 : BitVec 32 := Scalar.muli c8_i32_497 v617
  let c4_i32_498 : BitVec 32 := 4#32
  let c0_i32_465 : BitVec 32 := 0#32
  let c1_i32_467 : BitVec 32 := 1#32
  let arg17 : BitVec 32 := Scf.iv c0_i32_465 c1_i32_467 k0_t6
  let v692 : BitVec 32 := Scalar.muli c4_i32_498 arg17
  let v693 : BitVec 32 := Scalar.addi v691 v692
  let c16_i32_436 : BitVec 32 := 16#32
  let v597 : BitVec 32 := Scalar.muli c16_i32_436 v589
  let c2_i32_437 : BitVec 32 := 2#32
  let v598 : BitVec 32 := Scalar.addi v597 c2_i32_437
  let v694 : BitVec 32 := Scalar.addi v693 v598
  let v695 : BitVec 32 := Scalar.addi v694 c2_i32_499
  let v696 : BitVec 1 := Scalar.cmpi .slt v695 v30
  let c32_i32_500 : BitVec 32 := 32#32
  let v697 : BitVec 32 := Scalar.select v696 v695 c32_i32_500
  let v710 : Index := Scalar.indexCast v697
  let c0_515 : Index := 0#32
  let c0_516 : Index := 0#32
  ![1, v710.toNat, 0, 0]
def k0_off103 (i : grid0.Coords) : Fin 4 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v713 : Index := Scalar.indexCast v9
  let c1_517 : Index := 1#32
  let c0_518 : Index := 0#32
  let c0_519 : Index := 0#32
  ![v713.toNat, 1, 0, 0]
def k0_off104 (i : grid0.Coords) (k0_t6 : Fin (k0_t6_loop i).trips) : Fin 4 → Nat :=
  let c8_i32_497 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v691 : BitVec 32 := Scalar.muli c8_i32_497 v617
  let c4_i32_498 : BitVec 32 := 4#32
  let c0_i32_465 : BitVec 32 := 0#32
  let c1_i32_467 : BitVec 32 := 1#32
  let arg17 : BitVec 32 := Scf.iv c0_i32_465 c1_i32_467 k0_t6
  let v692 : BitVec 32 := Scalar.muli c4_i32_498 arg17
  let v693 : BitVec 32 := Scalar.addi v691 v692
  let c16_i32_436 : BitVec 32 := 16#32
  let v597 : BitVec 32 := Scalar.muli c16_i32_436 v589
  let c2_i32_437 : BitVec 32 := 2#32
  let v598 : BitVec 32 := Scalar.addi v597 c2_i32_437
  let v694 : BitVec 32 := Scalar.addi v693 v598
  let v749 : BitVec 1 := Scalar.cmpi .slt v694 v30
  let c32_i32_555 : BitVec 32 := 32#32
  let v750 : BitVec 32 := Scalar.select v749 v694 c32_i32_555
  let v762 : Index := Scalar.indexCast v750
  let c0_563 : Index := 0#32
  let c0_564 : Index := 0#32
  let c0_565 : Index := 0#32
  ![v762.toNat, 0, 0, 0]
def k0_off105 (i : grid0.Coords) (k0_t6 : Fin (k0_t6_loop i).trips) : Fin 4 → Nat :=
  let c8_i32_497 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v691 : BitVec 32 := Scalar.muli c8_i32_497 v617
  let c4_i32_498 : BitVec 32 := 4#32
  let c0_i32_465 : BitVec 32 := 0#32
  let c1_i32_467 : BitVec 32 := 1#32
  let arg17 : BitVec 32 := Scf.iv c0_i32_465 c1_i32_467 k0_t6
  let v692 : BitVec 32 := Scalar.muli c4_i32_498 arg17
  let v693 : BitVec 32 := Scalar.addi v691 v692
  let c16_i32_436 : BitVec 32 := 16#32
  let v597 : BitVec 32 := Scalar.muli c16_i32_436 v589
  let c2_i32_437 : BitVec 32 := 2#32
  let v598 : BitVec 32 := Scalar.addi v597 c2_i32_437
  let v694 : BitVec 32 := Scalar.addi v693 v598
  let v749 : BitVec 1 := Scalar.cmpi .slt v694 v30
  let c32_i32_555 : BitVec 32 := 32#32
  let v750 : BitVec 32 := Scalar.select v749 v694 c32_i32_555
  let v787 : Index := Scalar.indexCast v750
  let c1_580 : Index := 1#32
  let c0_581 : Index := 0#32
  let c0_582 : Index := 0#32
  ![v787.toNat, 1, 0, 0]
def k0_off106 (i : grid0.Coords) (k0_t6 : Fin (k0_t6_loop i).trips) (c1_i32_618 : BitVec 32) : Fin 4 → Nat :=
  let c8_i32_497 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v691 : BitVec 32 := Scalar.muli c8_i32_497 v617
  let c4_i32_498 : BitVec 32 := 4#32
  let c0_i32_465 : BitVec 32 := 0#32
  let c1_i32_467 : BitVec 32 := 1#32
  let arg17 : BitVec 32 := Scf.iv c0_i32_465 c1_i32_467 k0_t6
  let v692 : BitVec 32 := Scalar.muli c4_i32_498 arg17
  let v693 : BitVec 32 := Scalar.addi v691 v692
  let c16_i32_436 : BitVec 32 := 16#32
  let v597 : BitVec 32 := Scalar.muli c16_i32_436 v589
  let c2_i32_437 : BitVec 32 := 2#32
  let v598 : BitVec 32 := Scalar.addi v597 c2_i32_437
  let v694 : BitVec 32 := Scalar.addi v693 v598
  let v828 : BitVec 32 := Scalar.addi v694 c1_i32_618
  let v829 : BitVec 1 := Scalar.cmpi .slt v828 v30
  let c32_i32_619 : BitVec 32 := 32#32
  let v830 : BitVec 32 := Scalar.select v829 v828 c32_i32_619
  let v842 : Index := Scalar.indexCast v830
  let c0_627 : Index := 0#32
  let c0_628 : Index := 0#32
  let c0_629 : Index := 0#32
  ![v842.toNat, 0, 0, 0]
def k0_off107 (i : grid0.Coords) (k0_t6 : Fin (k0_t6_loop i).trips) (c1_i32_618 : BitVec 32) : Fin 4 → Nat :=
  let c8_i32_497 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v691 : BitVec 32 := Scalar.muli c8_i32_497 v617
  let c4_i32_498 : BitVec 32 := 4#32
  let c0_i32_465 : BitVec 32 := 0#32
  let c1_i32_467 : BitVec 32 := 1#32
  let arg17 : BitVec 32 := Scf.iv c0_i32_465 c1_i32_467 k0_t6
  let v692 : BitVec 32 := Scalar.muli c4_i32_498 arg17
  let v693 : BitVec 32 := Scalar.addi v691 v692
  let c16_i32_436 : BitVec 32 := 16#32
  let v597 : BitVec 32 := Scalar.muli c16_i32_436 v589
  let c2_i32_437 : BitVec 32 := 2#32
  let v598 : BitVec 32 := Scalar.addi v597 c2_i32_437
  let v694 : BitVec 32 := Scalar.addi v693 v598
  let v828 : BitVec 32 := Scalar.addi v694 c1_i32_618
  let v829 : BitVec 1 := Scalar.cmpi .slt v828 v30
  let c32_i32_619 : BitVec 32 := 32#32
  let v830 : BitVec 32 := Scalar.select v829 v828 c32_i32_619
  let v867 : Index := Scalar.indexCast v830
  let c1_644 : Index := 1#32
  let c0_645 : Index := 0#32
  let c0_646 : Index := 0#32
  ![v867.toNat, 1, 0, 0]
@[reducible] def k0_t7_loop (i : grid0.Coords) : Scf.Loop 32 :=
  let c0_i32_465 : BitVec 32 := 0#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_453 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v625 : BitVec 32 := Scalar.muli c16_i32_453 v589
  let v626 : BitVec 32 := Scalar.subi v572 v625
  let c8_i32_454 : BitVec 32 := 8#32
  let c16_i32_438 : BitVec 32 := 16#32
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v646 : BitVec 32 := Scalar.subi v645 c0_i32_465
  let c1_i32_466 : BitVec 32 := 1#32
  let v648 : BitVec 32 := Scalar.divsi v646 c1_i32_466
  let v649 : BitVec 32 := Scalar.muli v648 c1_i32_466
  let v650 : BitVec 32 := Scalar.addi c0_i32_465 v649
  let v647 : BitVec 32 := Scalar.addi c0_i32_465 v646
  let c1_i32_468 : BitVec 32 := 1#32
  ⟨v650, v647, c1_i32_468⟩
def k0_off108 (i : grid0.Coords) (k0_t7 : Fin (k0_t7_loop i).trips) (c2_i32_499 : BitVec 32) : Fin 4 → Nat :=
  let c0_501 : Index := 0#32
  let c8_i32_497 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v691 : BitVec 32 := Scalar.muli c8_i32_497 v617
  let c4_i32_498 : BitVec 32 := 4#32
  let c0_i32_465 : BitVec 32 := 0#32
  let c16_i32_453 : BitVec 32 := 16#32
  let v625 : BitVec 32 := Scalar.muli c16_i32_453 v589
  let v626 : BitVec 32 := Scalar.subi v572 v625
  let c8_i32_454 : BitVec 32 := 8#32
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v646 : BitVec 32 := Scalar.subi v645 c0_i32_465
  let c1_i32_466 : BitVec 32 := 1#32
  let v648 : BitVec 32 := Scalar.divsi v646 c1_i32_466
  let v649 : BitVec 32 := Scalar.muli v648 c1_i32_466
  let v650 : BitVec 32 := Scalar.addi c0_i32_465 v649
  let c1_i32_468 : BitVec 32 := 1#32
  let arg17 : BitVec 32 := Scf.iv v650 c1_i32_468 k0_t7
  let v692 : BitVec 32 := Scalar.muli c4_i32_498 arg17
  let v693 : BitVec 32 := Scalar.addi v691 v692
  let c16_i32_436 : BitVec 32 := 16#32
  let v597 : BitVec 32 := Scalar.muli c16_i32_436 v589
  let c2_i32_437 : BitVec 32 := 2#32
  let v598 : BitVec 32 := Scalar.addi v597 c2_i32_437
  let v694 : BitVec 32 := Scalar.addi v693 v598
  let v695 : BitVec 32 := Scalar.addi v694 c2_i32_499
  let v696 : BitVec 1 := Scalar.cmpi .slt v695 v30
  let c32_i32_500 : BitVec 32 := 32#32
  let v697 : BitVec 32 := Scalar.select v696 v695 c32_i32_500
  let v698 : Index := Scalar.indexCast v697
  let c0_502 : Index := 0#32
  let c0_503 : Index := 0#32
  ![0, v698.toNat, 0, 0]
def k0_off109 (i : grid0.Coords) : Fin 4 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v701 : Index := Scalar.indexCast v9
  let c0_504 : Index := 0#32
  let c0_505 : Index := 0#32
  let c0_506 : Index := 0#32
  ![v701.toNat, 0, 0, 0]
def k0_off110 (i : grid0.Coords) (k0_t7 : Fin (k0_t7_loop i).trips) (c2_i32_499 : BitVec 32) : Fin 4 → Nat :=
  let c1_514 : Index := 1#32
  let c8_i32_497 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v691 : BitVec 32 := Scalar.muli c8_i32_497 v617
  let c4_i32_498 : BitVec 32 := 4#32
  let c0_i32_465 : BitVec 32 := 0#32
  let c16_i32_453 : BitVec 32 := 16#32
  let v625 : BitVec 32 := Scalar.muli c16_i32_453 v589
  let v626 : BitVec 32 := Scalar.subi v572 v625
  let c8_i32_454 : BitVec 32 := 8#32
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v646 : BitVec 32 := Scalar.subi v645 c0_i32_465
  let c1_i32_466 : BitVec 32 := 1#32
  let v648 : BitVec 32 := Scalar.divsi v646 c1_i32_466
  let v649 : BitVec 32 := Scalar.muli v648 c1_i32_466
  let v650 : BitVec 32 := Scalar.addi c0_i32_465 v649
  let c1_i32_468 : BitVec 32 := 1#32
  let arg17 : BitVec 32 := Scf.iv v650 c1_i32_468 k0_t7
  let v692 : BitVec 32 := Scalar.muli c4_i32_498 arg17
  let v693 : BitVec 32 := Scalar.addi v691 v692
  let c16_i32_436 : BitVec 32 := 16#32
  let v597 : BitVec 32 := Scalar.muli c16_i32_436 v589
  let c2_i32_437 : BitVec 32 := 2#32
  let v598 : BitVec 32 := Scalar.addi v597 c2_i32_437
  let v694 : BitVec 32 := Scalar.addi v693 v598
  let v695 : BitVec 32 := Scalar.addi v694 c2_i32_499
  let v696 : BitVec 1 := Scalar.cmpi .slt v695 v30
  let c32_i32_500 : BitVec 32 := 32#32
  let v697 : BitVec 32 := Scalar.select v696 v695 c32_i32_500
  let v710 : Index := Scalar.indexCast v697
  let c0_515 : Index := 0#32
  let c0_516 : Index := 0#32
  ![1, v710.toNat, 0, 0]
def k0_off111 (i : grid0.Coords) : Fin 4 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v713 : Index := Scalar.indexCast v9
  let c1_517 : Index := 1#32
  let c0_518 : Index := 0#32
  let c0_519 : Index := 0#32
  ![v713.toNat, 1, 0, 0]
def k0_off112 (i : grid0.Coords) (k0_t7 : Fin (k0_t7_loop i).trips) : Fin 4 → Nat :=
  let c8_i32_497 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v691 : BitVec 32 := Scalar.muli c8_i32_497 v617
  let c4_i32_498 : BitVec 32 := 4#32
  let c0_i32_465 : BitVec 32 := 0#32
  let c16_i32_453 : BitVec 32 := 16#32
  let v625 : BitVec 32 := Scalar.muli c16_i32_453 v589
  let v626 : BitVec 32 := Scalar.subi v572 v625
  let c8_i32_454 : BitVec 32 := 8#32
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v646 : BitVec 32 := Scalar.subi v645 c0_i32_465
  let c1_i32_466 : BitVec 32 := 1#32
  let v648 : BitVec 32 := Scalar.divsi v646 c1_i32_466
  let v649 : BitVec 32 := Scalar.muli v648 c1_i32_466
  let v650 : BitVec 32 := Scalar.addi c0_i32_465 v649
  let c1_i32_468 : BitVec 32 := 1#32
  let arg17 : BitVec 32 := Scf.iv v650 c1_i32_468 k0_t7
  let v692 : BitVec 32 := Scalar.muli c4_i32_498 arg17
  let v693 : BitVec 32 := Scalar.addi v691 v692
  let c16_i32_436 : BitVec 32 := 16#32
  let v597 : BitVec 32 := Scalar.muli c16_i32_436 v589
  let c2_i32_437 : BitVec 32 := 2#32
  let v598 : BitVec 32 := Scalar.addi v597 c2_i32_437
  let v694 : BitVec 32 := Scalar.addi v693 v598
  let v749 : BitVec 1 := Scalar.cmpi .slt v694 v30
  let c32_i32_555 : BitVec 32 := 32#32
  let v750 : BitVec 32 := Scalar.select v749 v694 c32_i32_555
  let v762 : Index := Scalar.indexCast v750
  let c0_563 : Index := 0#32
  let c0_564 : Index := 0#32
  let c0_565 : Index := 0#32
  ![v762.toNat, 0, 0, 0]
def k0_off113 (i : grid0.Coords) (k0_t7 : Fin (k0_t7_loop i).trips) : Fin 4 → Nat :=
  let c8_i32_497 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v691 : BitVec 32 := Scalar.muli c8_i32_497 v617
  let c4_i32_498 : BitVec 32 := 4#32
  let c0_i32_465 : BitVec 32 := 0#32
  let c16_i32_453 : BitVec 32 := 16#32
  let v625 : BitVec 32 := Scalar.muli c16_i32_453 v589
  let v626 : BitVec 32 := Scalar.subi v572 v625
  let c8_i32_454 : BitVec 32 := 8#32
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v646 : BitVec 32 := Scalar.subi v645 c0_i32_465
  let c1_i32_466 : BitVec 32 := 1#32
  let v648 : BitVec 32 := Scalar.divsi v646 c1_i32_466
  let v649 : BitVec 32 := Scalar.muli v648 c1_i32_466
  let v650 : BitVec 32 := Scalar.addi c0_i32_465 v649
  let c1_i32_468 : BitVec 32 := 1#32
  let arg17 : BitVec 32 := Scf.iv v650 c1_i32_468 k0_t7
  let v692 : BitVec 32 := Scalar.muli c4_i32_498 arg17
  let v693 : BitVec 32 := Scalar.addi v691 v692
  let c16_i32_436 : BitVec 32 := 16#32
  let v597 : BitVec 32 := Scalar.muli c16_i32_436 v589
  let c2_i32_437 : BitVec 32 := 2#32
  let v598 : BitVec 32 := Scalar.addi v597 c2_i32_437
  let v694 : BitVec 32 := Scalar.addi v693 v598
  let v749 : BitVec 1 := Scalar.cmpi .slt v694 v30
  let c32_i32_555 : BitVec 32 := 32#32
  let v750 : BitVec 32 := Scalar.select v749 v694 c32_i32_555
  let v787 : Index := Scalar.indexCast v750
  let c1_580 : Index := 1#32
  let c0_581 : Index := 0#32
  let c0_582 : Index := 0#32
  ![v787.toNat, 1, 0, 0]
def k0_off114 (i : grid0.Coords) (k0_t7 : Fin (k0_t7_loop i).trips) (c1_i32_618 : BitVec 32) : Fin 4 → Nat :=
  let c8_i32_497 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v691 : BitVec 32 := Scalar.muli c8_i32_497 v617
  let c4_i32_498 : BitVec 32 := 4#32
  let c0_i32_465 : BitVec 32 := 0#32
  let c16_i32_453 : BitVec 32 := 16#32
  let v625 : BitVec 32 := Scalar.muli c16_i32_453 v589
  let v626 : BitVec 32 := Scalar.subi v572 v625
  let c8_i32_454 : BitVec 32 := 8#32
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v646 : BitVec 32 := Scalar.subi v645 c0_i32_465
  let c1_i32_466 : BitVec 32 := 1#32
  let v648 : BitVec 32 := Scalar.divsi v646 c1_i32_466
  let v649 : BitVec 32 := Scalar.muli v648 c1_i32_466
  let v650 : BitVec 32 := Scalar.addi c0_i32_465 v649
  let c1_i32_468 : BitVec 32 := 1#32
  let arg17 : BitVec 32 := Scf.iv v650 c1_i32_468 k0_t7
  let v692 : BitVec 32 := Scalar.muli c4_i32_498 arg17
  let v693 : BitVec 32 := Scalar.addi v691 v692
  let c16_i32_436 : BitVec 32 := 16#32
  let v597 : BitVec 32 := Scalar.muli c16_i32_436 v589
  let c2_i32_437 : BitVec 32 := 2#32
  let v598 : BitVec 32 := Scalar.addi v597 c2_i32_437
  let v694 : BitVec 32 := Scalar.addi v693 v598
  let v828 : BitVec 32 := Scalar.addi v694 c1_i32_618
  let v829 : BitVec 1 := Scalar.cmpi .slt v828 v30
  let c32_i32_619 : BitVec 32 := 32#32
  let v830 : BitVec 32 := Scalar.select v829 v828 c32_i32_619
  let v842 : Index := Scalar.indexCast v830
  let c0_627 : Index := 0#32
  let c0_628 : Index := 0#32
  let c0_629 : Index := 0#32
  ![v842.toNat, 0, 0, 0]
def k0_off115 (i : grid0.Coords) (k0_t7 : Fin (k0_t7_loop i).trips) (c1_i32_618 : BitVec 32) : Fin 4 → Nat :=
  let c8_i32_497 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v691 : BitVec 32 := Scalar.muli c8_i32_497 v617
  let c4_i32_498 : BitVec 32 := 4#32
  let c0_i32_465 : BitVec 32 := 0#32
  let c16_i32_453 : BitVec 32 := 16#32
  let v625 : BitVec 32 := Scalar.muli c16_i32_453 v589
  let v626 : BitVec 32 := Scalar.subi v572 v625
  let c8_i32_454 : BitVec 32 := 8#32
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v646 : BitVec 32 := Scalar.subi v645 c0_i32_465
  let c1_i32_466 : BitVec 32 := 1#32
  let v648 : BitVec 32 := Scalar.divsi v646 c1_i32_466
  let v649 : BitVec 32 := Scalar.muli v648 c1_i32_466
  let v650 : BitVec 32 := Scalar.addi c0_i32_465 v649
  let c1_i32_468 : BitVec 32 := 1#32
  let arg17 : BitVec 32 := Scf.iv v650 c1_i32_468 k0_t7
  let v692 : BitVec 32 := Scalar.muli c4_i32_498 arg17
  let v693 : BitVec 32 := Scalar.addi v691 v692
  let c16_i32_436 : BitVec 32 := 16#32
  let v597 : BitVec 32 := Scalar.muli c16_i32_436 v589
  let c2_i32_437 : BitVec 32 := 2#32
  let v598 : BitVec 32 := Scalar.addi v597 c2_i32_437
  let v694 : BitVec 32 := Scalar.addi v693 v598
  let v828 : BitVec 32 := Scalar.addi v694 c1_i32_618
  let v829 : BitVec 1 := Scalar.cmpi .slt v828 v30
  let c32_i32_619 : BitVec 32 := 32#32
  let v830 : BitVec 32 := Scalar.select v829 v828 c32_i32_619
  let v867 : Index := Scalar.indexCast v830
  let c1_644 : Index := 1#32
  let c0_645 : Index := 0#32
  let c0_646 : Index := 0#32
  ![v867.toNat, 1, 0, 0]
def k0_cond3 (i : grid0.Coords) : BitVec 1 :=
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c8_i32_469 : BitVec 32 := 8#32
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v653 : BitVec 32 := Scalar.muli c8_i32_469 v617
  let c4_i32_470 : BitVec 32 := 4#32
  let c16_i32_453 : BitVec 32 := 16#32
  let v625 : BitVec 32 := Scalar.muli c16_i32_453 v589
  let v626 : BitVec 32 := Scalar.subi v572 v625
  let c8_i32_454 : BitVec 32 := 8#32
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v654 : BitVec 32 := Scalar.muli c4_i32_470 v645
  let v655 : BitVec 32 := Scalar.addi v653 v654
  let c16_i32_436 : BitVec 32 := 16#32
  let v597 : BitVec 32 := Scalar.muli c16_i32_436 v589
  let c2_i32_437 : BitVec 32 := 2#32
  let v598 : BitVec 32 := Scalar.addi v597 c2_i32_437
  let v656 : BitVec 32 := Scalar.addi v655 v598
  let v657 : BitVec 32 := Scalar.subi v30 v656
  let c1_i32_471 : BitVec 32 := 1#32
  let v658 : BitVec 1 := Scalar.cmpi .sge v657 c1_i32_471
  let v659 : BitVec 32 := Scalar.extui v658
  let c0_i32_475 : BitVec 32 := 0#32
  let v660 : BitVec 1 := Scalar.cmpi .ne v659 c0_i32_475
  v660

def k0_off116 (i : grid0.Coords) : Fin 4 → Nat :=
  let c0_499 : Index := 0#32
  let c8_i32_469 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v653 : BitVec 32 := Scalar.muli c8_i32_469 v617
  let c4_i32_470 : BitVec 32 := 4#32
  let c16_i32_453 : BitVec 32 := 16#32
  let v625 : BitVec 32 := Scalar.muli c16_i32_453 v589
  let v626 : BitVec 32 := Scalar.subi v572 v625
  let c8_i32_454 : BitVec 32 := 8#32
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v654 : BitVec 32 := Scalar.muli c4_i32_470 v645
  let v655 : BitVec 32 := Scalar.addi v653 v654
  let c16_i32_436 : BitVec 32 := 16#32
  let v597 : BitVec 32 := Scalar.muli c16_i32_436 v589
  let c2_i32_437 : BitVec 32 := 2#32
  let v598 : BitVec 32 := Scalar.addi v597 c2_i32_437
  let v656 : BitVec 32 := Scalar.addi v655 v598
  let c2_i32_497 : BitVec 32 := 2#32
  let v691 : BitVec 32 := Scalar.addi v656 c2_i32_497
  let v692 : BitVec 1 := Scalar.cmpi .slt v691 v30
  let c32_i32_498 : BitVec 32 := 32#32
  let v693 : BitVec 32 := Scalar.select v692 v691 c32_i32_498
  let v694 : Index := Scalar.indexCast v693
  let c0_500 : Index := 0#32
  let c0_501 : Index := 0#32
  ![0, v694.toNat, 0, 0]
def k0_off117 (i : grid0.Coords) : Fin 4 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v697 : Index := Scalar.indexCast v9
  let c0_502 : Index := 0#32
  let c0_503 : Index := 0#32
  let c0_504 : Index := 0#32
  ![v697.toNat, 0, 0, 0]
def k0_off118 (i : grid0.Coords) : Fin 4 → Nat :=
  let c1_512 : Index := 1#32
  let c8_i32_469 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v653 : BitVec 32 := Scalar.muli c8_i32_469 v617
  let c4_i32_470 : BitVec 32 := 4#32
  let c16_i32_453 : BitVec 32 := 16#32
  let v625 : BitVec 32 := Scalar.muli c16_i32_453 v589
  let v626 : BitVec 32 := Scalar.subi v572 v625
  let c8_i32_454 : BitVec 32 := 8#32
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v654 : BitVec 32 := Scalar.muli c4_i32_470 v645
  let v655 : BitVec 32 := Scalar.addi v653 v654
  let c16_i32_436 : BitVec 32 := 16#32
  let v597 : BitVec 32 := Scalar.muli c16_i32_436 v589
  let c2_i32_437 : BitVec 32 := 2#32
  let v598 : BitVec 32 := Scalar.addi v597 c2_i32_437
  let v656 : BitVec 32 := Scalar.addi v655 v598
  let c2_i32_497 : BitVec 32 := 2#32
  let v691 : BitVec 32 := Scalar.addi v656 c2_i32_497
  let v692 : BitVec 1 := Scalar.cmpi .slt v691 v30
  let c32_i32_498 : BitVec 32 := 32#32
  let v693 : BitVec 32 := Scalar.select v692 v691 c32_i32_498
  let v706 : Index := Scalar.indexCast v693
  let c0_513 : Index := 0#32
  let c0_514 : Index := 0#32
  ![1, v706.toNat, 0, 0]
def k0_off119 (i : grid0.Coords) : Fin 4 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v709 : Index := Scalar.indexCast v9
  let c1_515 : Index := 1#32
  let c0_516 : Index := 0#32
  let c0_517 : Index := 0#32
  ![v709.toNat, 1, 0, 0]
def k0_off120 (i : grid0.Coords) : Fin 4 → Nat :=
  let c8_i32_469 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v653 : BitVec 32 := Scalar.muli c8_i32_469 v617
  let c4_i32_470 : BitVec 32 := 4#32
  let c16_i32_453 : BitVec 32 := 16#32
  let v625 : BitVec 32 := Scalar.muli c16_i32_453 v589
  let v626 : BitVec 32 := Scalar.subi v572 v625
  let c8_i32_454 : BitVec 32 := 8#32
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v654 : BitVec 32 := Scalar.muli c4_i32_470 v645
  let v655 : BitVec 32 := Scalar.addi v653 v654
  let c16_i32_436 : BitVec 32 := 16#32
  let v597 : BitVec 32 := Scalar.muli c16_i32_436 v589
  let c2_i32_437 : BitVec 32 := 2#32
  let v598 : BitVec 32 := Scalar.addi v597 c2_i32_437
  let v656 : BitVec 32 := Scalar.addi v655 v598
  let v718 : BitVec 1 := Scalar.cmpi .slt v656 v30
  let c32_i32_525 : BitVec 32 := 32#32
  let v719 : BitVec 32 := Scalar.select v718 v656 c32_i32_525
  let v731 : Index := Scalar.indexCast v719
  let c0_533 : Index := 0#32
  let c0_534 : Index := 0#32
  let c0_535 : Index := 0#32
  ![v731.toNat, 0, 0, 0]
def k0_off121 (i : grid0.Coords) : Fin 4 → Nat :=
  let c8_i32_469 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v653 : BitVec 32 := Scalar.muli c8_i32_469 v617
  let c4_i32_470 : BitVec 32 := 4#32
  let c16_i32_453 : BitVec 32 := 16#32
  let v625 : BitVec 32 := Scalar.muli c16_i32_453 v589
  let v626 : BitVec 32 := Scalar.subi v572 v625
  let c8_i32_454 : BitVec 32 := 8#32
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v654 : BitVec 32 := Scalar.muli c4_i32_470 v645
  let v655 : BitVec 32 := Scalar.addi v653 v654
  let c16_i32_436 : BitVec 32 := 16#32
  let v597 : BitVec 32 := Scalar.muli c16_i32_436 v589
  let c2_i32_437 : BitVec 32 := 2#32
  let v598 : BitVec 32 := Scalar.addi v597 c2_i32_437
  let v656 : BitVec 32 := Scalar.addi v655 v598
  let v718 : BitVec 1 := Scalar.cmpi .slt v656 v30
  let c32_i32_525 : BitVec 32 := 32#32
  let v719 : BitVec 32 := Scalar.select v718 v656 c32_i32_525
  let v756 : Index := Scalar.indexCast v719
  let c1_550 : Index := 1#32
  let c0_551 : Index := 0#32
  let c0_552 : Index := 0#32
  ![v756.toNat, 1, 0, 0]
def k0_off122 (i : grid0.Coords) : Fin 4 → Nat :=
  let c8_i32_469 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v653 : BitVec 32 := Scalar.muli c8_i32_469 v617
  let c4_i32_470 : BitVec 32 := 4#32
  let c16_i32_453 : BitVec 32 := 16#32
  let v625 : BitVec 32 := Scalar.muli c16_i32_453 v589
  let v626 : BitVec 32 := Scalar.subi v572 v625
  let c8_i32_454 : BitVec 32 := 8#32
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v654 : BitVec 32 := Scalar.muli c4_i32_470 v645
  let v655 : BitVec 32 := Scalar.addi v653 v654
  let c16_i32_436 : BitVec 32 := 16#32
  let v597 : BitVec 32 := Scalar.muli c16_i32_436 v589
  let c2_i32_437 : BitVec 32 := 2#32
  let v598 : BitVec 32 := Scalar.addi v597 c2_i32_437
  let v656 : BitVec 32 := Scalar.addi v655 v598
  let c1_i32_560 : BitVec 32 := 1#32
  let v770 : BitVec 32 := Scalar.addi v656 c1_i32_560
  let v771 : BitVec 1 := Scalar.cmpi .slt v770 v30
  let c32_i32_561 : BitVec 32 := 32#32
  let v772 : BitVec 32 := Scalar.select v771 v770 c32_i32_561
  let v784 : Index := Scalar.indexCast v772
  let c0_569 : Index := 0#32
  let c0_570 : Index := 0#32
  let c0_571 : Index := 0#32
  ![v784.toNat, 0, 0, 0]
def k0_off123 (i : grid0.Coords) : Fin 4 → Nat :=
  let c8_i32_469 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v653 : BitVec 32 := Scalar.muli c8_i32_469 v617
  let c4_i32_470 : BitVec 32 := 4#32
  let c16_i32_453 : BitVec 32 := 16#32
  let v625 : BitVec 32 := Scalar.muli c16_i32_453 v589
  let v626 : BitVec 32 := Scalar.subi v572 v625
  let c8_i32_454 : BitVec 32 := 8#32
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v654 : BitVec 32 := Scalar.muli c4_i32_470 v645
  let v655 : BitVec 32 := Scalar.addi v653 v654
  let c16_i32_436 : BitVec 32 := 16#32
  let v597 : BitVec 32 := Scalar.muli c16_i32_436 v589
  let c2_i32_437 : BitVec 32 := 2#32
  let v598 : BitVec 32 := Scalar.addi v597 c2_i32_437
  let v656 : BitVec 32 := Scalar.addi v655 v598
  let c1_i32_560 : BitVec 32 := 1#32
  let v770 : BitVec 32 := Scalar.addi v656 c1_i32_560
  let v771 : BitVec 1 := Scalar.cmpi .slt v770 v30
  let c32_i32_561 : BitVec 32 := 32#32
  let v772 : BitVec 32 := Scalar.select v771 v770 c32_i32_561
  let v809 : Index := Scalar.indexCast v772
  let c1_586 : Index := 1#32
  let c0_587 : Index := 0#32
  let c0_588 : Index := 0#32
  ![v809.toNat, 1, 0, 0]
def k0_cond4 (i : grid0.Coords) : BitVec 1 :=
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c8_i32_469 : BitVec 32 := 8#32
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v653 : BitVec 32 := Scalar.muli c8_i32_469 v617
  let c4_i32_470 : BitVec 32 := 4#32
  let c16_i32_453 : BitVec 32 := 16#32
  let v625 : BitVec 32 := Scalar.muli c16_i32_453 v589
  let v626 : BitVec 32 := Scalar.subi v572 v625
  let c8_i32_454 : BitVec 32 := 8#32
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v654 : BitVec 32 := Scalar.muli c4_i32_470 v645
  let v655 : BitVec 32 := Scalar.addi v653 v654
  let c16_i32_436 : BitVec 32 := 16#32
  let v597 : BitVec 32 := Scalar.muli c16_i32_436 v589
  let c2_i32_437 : BitVec 32 := 2#32
  let v598 : BitVec 32 := Scalar.addi v597 c2_i32_437
  let v656 : BitVec 32 := Scalar.addi v655 v598
  let v657 : BitVec 32 := Scalar.subi v30 v656
  let c3_i32_476 : BitVec 32 := 3#32
  let v662 : BitVec 1 := Scalar.cmpi .sge v657 c3_i32_476
  let v663 : BitVec 32 := Scalar.extui v662
  let c0_i32_478 : BitVec 32 := 0#32
  let v664 : BitVec 1 := Scalar.cmpi .ne v663 c0_i32_478
  v664

def k0_off124 (i : grid0.Coords) : Fin 4 → Nat :=
  let c8_i32_469 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v653 : BitVec 32 := Scalar.muli c8_i32_469 v617
  let c4_i32_470 : BitVec 32 := 4#32
  let c16_i32_453 : BitVec 32 := 16#32
  let v625 : BitVec 32 := Scalar.muli c16_i32_453 v589
  let v626 : BitVec 32 := Scalar.subi v572 v625
  let c8_i32_454 : BitVec 32 := 8#32
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v654 : BitVec 32 := Scalar.muli c4_i32_470 v645
  let v655 : BitVec 32 := Scalar.addi v653 v654
  let c16_i32_436 : BitVec 32 := 16#32
  let v597 : BitVec 32 := Scalar.muli c16_i32_436 v589
  let c2_i32_437 : BitVec 32 := 2#32
  let v598 : BitVec 32 := Scalar.addi v597 c2_i32_437
  let v656 : BitVec 32 := Scalar.addi v655 v598
  let c2_i32_497 : BitVec 32 := 2#32
  let v691 : BitVec 32 := Scalar.addi v656 c2_i32_497
  let v692 : BitVec 1 := Scalar.cmpi .slt v691 v30
  let c32_i32_498 : BitVec 32 := 32#32
  let v693 : BitVec 32 := Scalar.select v692 v691 c32_i32_498
  let v705 : Index := Scalar.indexCast v693
  let c0_506 : Index := 0#32
  let c0_507 : Index := 0#32
  let c0_508 : Index := 0#32
  ![v705.toNat, 0, 0, 0]
def k0_off125 (i : grid0.Coords) : Fin 4 → Nat :=
  let c8_i32_469 : BitVec 32 := 8#32
  let arg2 : BitVec 32 := BitVec.ofNat 32 (i 2).val
  let c1_i32_9 : BitVec 32 := 1#32
  let v29 : BitVec 32 := Scalar.subi arg2 c1_i32_9
  let c0_i32_10 : BitVec 32 := 0#32
  let v30 : BitVec 32 := Scalar.maxsi v29 c0_i32_10
  let c2_i32_420 : BitVec 32 := 2#32
  let v571 : BitVec 32 := Scalar.subi v30 c2_i32_420
  let c0_i32_421 : BitVec 32 := 0#32
  let v572 : BitVec 32 := Scalar.maxsi v571 c0_i32_421
  let c16_i32_438 : BitVec 32 := 16#32
  let c0_i32_422 : BitVec 32 := 0#32
  let v574 : BitVec 1 := Scalar.cmpi .sgt v572 c0_i32_422
  let v575 : BitVec 32 := Scalar.extui v574
  let c0_i32_423 : BitVec 32 := 0#32
  let v576 : BitVec 1 := Scalar.cmpi .slt v572 c0_i32_423
  let v577 : BitVec 32 := Scalar.extui v576
  let v578 : BitVec 32 := Scalar.subi v575 v577
  let c16_i32 : BitVec 32 := 16#32
  let c0_i32_424 : BitVec 32 := 0#32
  let v579 : BitVec 1 := Scalar.cmpi .sgt c16_i32 c0_i32_424
  let v580 : BitVec 32 := Scalar.extui v579
  let c0_i32_425 : BitVec 32 := 0#32
  let v581 : BitVec 1 := Scalar.cmpi .slt c16_i32 c0_i32_425
  let v582 : BitVec 32 := Scalar.extui v581
  let v583 : BitVec 32 := Scalar.subi v580 v582
  let v584 : BitVec 1 := Scalar.cmpi .ne v578 v583
  let v585 : BitVec 32 := Scalar.remsi v572 c16_i32
  let c0_i32_426 : BitVec 32 := 0#32
  let v586 : BitVec 1 := Scalar.cmpi .ne v585 c0_i32_426
  let v587 : BitVec 1 := Scalar.andi v584 v586
  let v573 : BitVec 32 := Scalar.divsi v572 c16_i32
  let c1_i32_427 : BitVec 32 := 1#32
  let v588 : BitVec 32 := Scalar.subi v573 c1_i32_427
  let v589 : BitVec 32 := Scalar.select v587 v588 v573
  let v599 : BitVec 32 := Scalar.muli c16_i32_438 v589
  let v600 : BitVec 32 := Scalar.subi v572 v599
  let c0_i32_439 : BitVec 32 := 0#32
  let v602 : BitVec 1 := Scalar.cmpi .sgt v600 c0_i32_439
  let v603 : BitVec 32 := Scalar.extui v602
  let c0_i32_440 : BitVec 32 := 0#32
  let v604 : BitVec 1 := Scalar.cmpi .slt v600 c0_i32_440
  let v605 : BitVec 32 := Scalar.extui v604
  let v606 : BitVec 32 := Scalar.subi v603 v605
  let c8_i32 : BitVec 32 := 8#32
  let c0_i32_441 : BitVec 32 := 0#32
  let v607 : BitVec 1 := Scalar.cmpi .sgt c8_i32 c0_i32_441
  let v608 : BitVec 32 := Scalar.extui v607
  let c0_i32_442 : BitVec 32 := 0#32
  let v609 : BitVec 1 := Scalar.cmpi .slt c8_i32 c0_i32_442
  let v610 : BitVec 32 := Scalar.extui v609
  let v611 : BitVec 32 := Scalar.subi v608 v610
  let v612 : BitVec 1 := Scalar.cmpi .ne v606 v611
  let v613 : BitVec 32 := Scalar.remsi v600 c8_i32
  let c0_i32_443 : BitVec 32 := 0#32
  let v614 : BitVec 1 := Scalar.cmpi .ne v613 c0_i32_443
  let v615 : BitVec 1 := Scalar.andi v612 v614
  let v601 : BitVec 32 := Scalar.divsi v600 c8_i32
  let c1_i32_444 : BitVec 32 := 1#32
  let v616 : BitVec 32 := Scalar.subi v601 c1_i32_444
  let v617 : BitVec 32 := Scalar.select v615 v616 v601
  let v653 : BitVec 32 := Scalar.muli c8_i32_469 v617
  let c4_i32_470 : BitVec 32 := 4#32
  let c16_i32_453 : BitVec 32 := 16#32
  let v625 : BitVec 32 := Scalar.muli c16_i32_453 v589
  let v626 : BitVec 32 := Scalar.subi v572 v625
  let c8_i32_454 : BitVec 32 := 8#32
  let v627 : BitVec 32 := Scalar.muli c8_i32_454 v617
  let v628 : BitVec 32 := Scalar.subi v626 v627
  let c0_i32_455 : BitVec 32 := 0#32
  let v630 : BitVec 1 := Scalar.cmpi .sgt v628 c0_i32_455
  let v631 : BitVec 32 := Scalar.extui v630
  let c0_i32_456 : BitVec 32 := 0#32
  let v632 : BitVec 1 := Scalar.cmpi .slt v628 c0_i32_456
  let v633 : BitVec 32 := Scalar.extui v632
  let v634 : BitVec 32 := Scalar.subi v631 v633
  let c4_i32 : BitVec 32 := 4#32
  let c0_i32_457 : BitVec 32 := 0#32
  let v635 : BitVec 1 := Scalar.cmpi .sgt c4_i32 c0_i32_457
  let v636 : BitVec 32 := Scalar.extui v635
  let c0_i32_458 : BitVec 32 := 0#32
  let v637 : BitVec 1 := Scalar.cmpi .slt c4_i32 c0_i32_458
  let v638 : BitVec 32 := Scalar.extui v637
  let v639 : BitVec 32 := Scalar.subi v636 v638
  let v640 : BitVec 1 := Scalar.cmpi .ne v634 v639
  let v641 : BitVec 32 := Scalar.remsi v628 c4_i32
  let c0_i32_459 : BitVec 32 := 0#32
  let v642 : BitVec 1 := Scalar.cmpi .ne v641 c0_i32_459
  let v643 : BitVec 1 := Scalar.andi v640 v642
  let v629 : BitVec 32 := Scalar.divsi v628 c4_i32
  let c1_i32_460 : BitVec 32 := 1#32
  let v644 : BitVec 32 := Scalar.subi v629 c1_i32_460
  let v645 : BitVec 32 := Scalar.select v643 v644 v629
  let v654 : BitVec 32 := Scalar.muli c4_i32_470 v645
  let v655 : BitVec 32 := Scalar.addi v653 v654
  let c16_i32_436 : BitVec 32 := 16#32
  let v597 : BitVec 32 := Scalar.muli c16_i32_436 v589
  let c2_i32_437 : BitVec 32 := 2#32
  let v598 : BitVec 32 := Scalar.addi v597 c2_i32_437
  let v656 : BitVec 32 := Scalar.addi v655 v598
  let c2_i32_497 : BitVec 32 := 2#32
  let v691 : BitVec 32 := Scalar.addi v656 c2_i32_497
  let v692 : BitVec 1 := Scalar.cmpi .slt v691 v30
  let c32_i32_498 : BitVec 32 := 32#32
  let v693 : BitVec 32 := Scalar.select v692 v691 c32_i32_498
  let v730 : Index := Scalar.indexCast v693
  let c1_523 : Index := 1#32
  let c0_524 : Index := 0#32
  let c0_525 : Index := 0#32
  ![v730.toNat, 1, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c31_i32 : BitVec 32 := 31#32
  let v1 : BitVec 32 := Scalar.minsi v0 c31_i32
  let c0_i32 : BitVec 32 := 0#32
  ![arg1.toNat, v1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Proof.InprojBody.lean ====
/-
  The projection kernel's body read at an index of its block: the normalised row, the projected entry, and the head norm
  that the kernel computes by a product with the matrix of ones on equal heads.
-/
module

public import proofs.«01_k».proof.Proof.Gen.Kernel2Ideal.Value
public import Idealize.ShloMosaic.Lib.Pointwise

@[expose] public section

set_option maxRecDepth 16384

noncomputable section

open Idealize.ShloMosaic Idealize.ShloMosaic.TcCoe Idealize.SL.Sem

namespace Cert.Kernel2Ideal.Body

open Cert.Kernel2Ideal Cert.Kernel2Ideal.Gen

variable (x0 : FVec Ideal S1024x1024 .f32) (x1 : FVec Ideal S1x1024 .f32)

/-- Row `r` of the block after the norm, at feature `k`. -/
def hb (r : Fin 1024) (k : Fin 1024) : EReal :=
  x0 (ix2 r k) * Ideal.rsqrt (Ideal.div (∑ l : Fin 1024, x0 (ix2 r l) * x0 (ix2 r l)) (Ideal.ofBits .f32 0x44800000#32)
    + Ideal.ofBits .f32 0x358637BD#32) * x1 (ix2 0 k)

theorem pay6_at (r k : Fin 1024) : k0_pay6 (F := Ideal) x0 x1 (ix2 r k) = hb x0 x1 r k := by
  pointwise [k0_pay6, hb]

/-- The floor quotient by 64 that the body computes on words, of a column number. -/
theorem quot64 : ∀ b : Fin 256, Scalar.select
    (IntOp.andi
      (IntOp.cmpi CmpIPredicate.ne
        (IntOp.subi (BitVec.setWidth 32 (IntOp.cmpi CmpIPredicate.sgt (BitVec.ofNat 32 b.val) 0#32))
          (BitVec.setWidth 32 (IntOp.cmpi CmpIPredicate.slt (BitVec.ofNat 32 b.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 b.val) 64#32) 0#32))
    (IntOp.subi (IntOp.divsi ArithUnit.vector (BitVec.ofNat 32 b.val) 64#32) 1#32)
    (IntOp.divsi ArithUnit.vector (BitVec.ofNat 32 b.val) 64#32) = BitVec.ofNat 32 (b.val / 64) := by decide +kernel

theorem eq_quot : ∀ p q : Fin 4, IntOp.cmpi CmpIPredicate.eq (BitVec.ofNat 32 p.val) (BitVec.ofNat 32 q.val)
    = if p = q then 1#1 else 0#1 := by decide +kernel

theorem pay7_at (a b : Fin 256) : k0_pay7 (ix2 a b) = BitVec.ofNat 32 (a.val / 64) := by
  pointwise [k0_pay7]
  exact quot64 a

/-- The matrix of ones on equal heads. -/
theorem pay9_at (a b : Fin 256) : k0_pay9 (F := Ideal) (iota .tc S256x256 32 [1] iota_S256x256_d1_w32) k0_pay7 64#32 k0_pay8 (ix2 a b)
   = if a.val / 64 = b.val / 64 then 1 else 0 := by
  pointwise [k0_pay9, pay7_at, k0_pay8]
  rw [quot64]
  have e := eq_quot ⟨a.val / 64, by omega⟩ ⟨b.val / 64, by omega⟩
  simp only [Fin.mk.injEq] at e
  rw [e]
  by_cases h : a.val / 64 = b.val / 64
  · rw [if_pos h, if_pos h]; rfl
  · rw [if_neg h, if_neg h]; rfl

/-- A sum against the ones of one head's columns is the sum over the head's lanes. -/
theorem sum_head (f : ℕ → EReal) (q : ℕ) (hq : q < 4) :
    ∑ k : Fin 256, f k.val * (if k.val / 64 = q then 1 else 0) = ∑ d : Fin 64, f (q * 64 + d.val) := by
  rw [Fin.sum_univ_tiles 4 64 rfl]
  rw [Finset.sum_eq_single (⟨q, hq⟩ : Fin 4)]
  · refine Finset.sum_congr rfl fun d _ => ?_
    have : (q * 64 + d.val) / 64 = q := by omega
    simp only [this, if_true, mul_one]
  · intro j _ hj
    refine Finset.sum_eq_zero fun d _ => ?_
    have h1 : (j.val * 64 + d.val) / 64 = j.val := by omega
    have h2 : j.val ≠ q := fun h => hj (Fin.ext h)
    simp only [h1, h2, if_false, mul_zero]
  · intro h; exact absurd (Finset.mem_univ _) h

/-- The patterns of 64 and of its reciprocal. -/
theorem ofBits_64 : Ideal.ofBits .f32 0x42800000#32 = ((64 : ℝ) : EReal) := by
  simp [Ideal.ofBits, Ideal.ieee, -EReal.coe_mul]; norm_num
theorem ofBits_inv64 : Ideal.ofBits .f32 0x3C800000#32 = ((1 / 64 : ℝ) : EReal) := by
  simp [Ideal.ofBits, Ideal.ieee, -EReal.coe_mul]; norm_num

theorem mul_inv64 (x : EReal) : x * Ideal.ofBits .f32 0x3C800000#32 = Ideal.div x (Ideal.ofBits .f32 0x42800000#32) := by
  rw [ofBits_64, ofBits_inv64, Ideal.div_coe (by norm_num)]

variable (h : FVec Ideal S1024x1024 .bf16) (wt : FVec Ideal S1024x512 .bf16) (w : FVec Ideal S1x512 .f32)

/-- One entry of the block's product. -/
def pb (r : Fin 1024) (c : ℕ) : EReal := if hc : c < 512 then ∑ k : Fin 1024, h (ix2 r k) * wt (ix2 k ⟨c, hc⟩) else 0

/-- The head norm of column `c` of the product. -/
def nb (r : Fin 1024) (c : Fin 512) : EReal :=
  pb h wt r c.val * Ideal.rsqrt (Ideal.div (∑ d : Fin 64, pb h wt r (c.val / 64 * 64 + d.val) * pb h wt r (c.val / 64 * 64 + d.val))
    (Ideal.ofBits .f32 0x42800000#32) + Ideal.ofBits .f32 0x358637BD#32) * w (ix2 0 c)

theorem pay10_at (r : Fin 1024) (c : Fin 512) : k0_pay10 (F := Ideal) h wt (ix2 r c) = pb h wt r c.val := by
  pointwise [k0_pay10, pb]

/-- A half of 256 columns, read at the column `c - o` of it: the head's sum of squares. -/
theorem half_sum (O : FVec Ideal S256x256 .bf16) (hO : ∀ a b : Fin 256, O (ix2 a b) = if a.val / 64 = b.val / 64 then 1 else 0)
    (f : ℕ → EReal) (o : ℕ) (ho : o % 256 = 0) (c : Fin 512) (b : Fin 256) (hb : o + b.val = c.val) :
    ∑ x : Fin 256, f (o + x.val) * O (ix2 x b) = ∑ d : Fin 64, f (c.val / 64 * 64 + d.val) := by
  simp only [hO]
  rw [sum_head (fun k => f (o + k)) (b.val / 64) (by omega)]
  refine Finset.sum_congr rfl fun d _ => congrArg f ?_
  omega

theorem pay13_at (r : Fin 1024) (c : Fin 512) :
    k0_pay13 (F := Ideal) (k0_pay10 h wt) (k0_pay11 w)
      (k0_pay12 h (iota .tc S256x256 32 [1] iota_S256x256_d1_w32) k0_pay7 64#32 k0_pay8 wt) (ix2 r c) = nb h wt w r c := by
  unfold k0_pay12
  generalize hO : k0_pay9 (F := Ideal) (iota .tc S256x256 32 [1] iota_S256x256_d1_w32) k0_pay7 64#32 k0_pay8 = O
  have hO' : ∀ a b : Fin 256, O (ix2 a b) = if a.val / 64 = b.val / 64 then 1 else 0 := fun a b => by rw [← hO]; exact pay9_at a b
  pointwise [k0_pay13, k0_pay11, pay10_at, nb]
  refine congrArg (fun e => _ * Ideal.rsqrt (e + _) * _) ?_
  rw [mul_inv64]
  refine congrArg (fun e => Ideal.div e _) ?_
  by_cases hc : c.val < 256
  · rw [dif_pos hc]
    have := half_sum O hO' (fun k => pb h wt r k * pb h wt r k) 0 rfl c ⟨c.val, hc⟩ (Nat.zero_add _)
    simp only [Nat.zero_add] at this
    exact this
  · rw [dif_neg hc]
    exact half_sum O hO' (fun k => pb h wt r k * pb h wt r k) 256 rfl c ⟨c.val - 256, by omega⟩ (by show 256 + (c.val - 256) = c.val; omega)

theorem pay14_eq : k0_pay14 (F := Ideal) h (k0_pay9 (F := Ideal) (iota .tc S256x256 32 [1] iota_S256x256_d1_w32) k0_pay7 64#32 k0_pay8) wt w
    = k0_pay13 (F := Ideal) (k0_pay10 h wt) (k0_pay11 w)
      (k0_pay12 h (iota .tc S256x256 32 [1] iota_S256x256_d1_w32) k0_pay7 64#32 k0_pay8 wt) := rfl

theorem pay15_at (r : Fin 1024) (c : Fin 512) : k0_pay15 (F := Ideal) h wt (ix2 r c) = pb h wt r c.val := by
  pointwise [k0_pay15, pb]
theorem pay16_at (r : Fin 1024) (c : Fin 512) : k0_pay16 (F := Ideal) h wt (ix2 r c) = pb h wt r c.val := by
  pointwise [k0_pay16, pb]
theorem pay1_at (r : Fin 1024) (c : Fin 512) : k0_pay1 (F := Ideal) h wt (ix2 r c) = pb h wt r c.val := by
  pointwise [k0_pay1, pb]
theorem pay2_at (r : Fin 1024) (c : Fin 512) : k0_pay2 (F := Ideal) h wt (ix2 r c) = pb h wt r c.val := by
  pointwise [k0_pay2, pb]
theorem pay3_at (r : Fin 1024) (c : Fin 512) : k0_pay3 (F := Ideal) h wt (ix2 r c) = pb h wt r c.val := by
  pointwise [k0_pay3, pb]
theorem pay4_at (r : Fin 1024) (c : Fin 512) : k0_pay4 (F := Ideal) h wt (ix2 r c) = pb h wt r c.val := by
  pointwise [k0_pay4, pb]
theorem pay5_at (wg : FVec Ideal S1024x128 .bf16) (r : Fin 1024) (c : Fin 128) :
    k0_pay5 (F := Ideal) h wg (ix2 r c) = ∑ k : Fin 1024, h (ix2 r k) * wg (ix2 k c) := by
  pointwise [k0_pay5]

end Cert.Kernel2Ideal.Body
-- ==== Proof.InprojRef.lean ====
/-
  The input projection of the layer, read index by index: the normalised row, one entry of the projection,
  and one head's RMS norm, as scalars over the extended reals; and the reference's seven results at an index.
-/
module

public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

namespace Cert.Inproj

open Cert.Reference2Ideal

variable (X : FVec Ideal S4x8192x1024 .f32) (nw : FVec Ideal S1x1024 .f32) (W : FVec Ideal S1x1024x4104 .f32)

/-- Row `(b, s)` of the input after the layer's RMS norm, at feature `k`. -/
def hrow (b : Fin 4) (s : Fin 8192) (k : Fin 1024) : EReal :=
  X (ix3 b s k) * Ideal.rsqrt (Ideal.div (∑ l : Fin 1024, X (ix3 b s l) * X (ix3 b s l)) (Ideal.ofBits .f32 0x44800000#32)
    + Ideal.ofBits .f32 0x358637BD#32) * nw (ix2 0 k)

/-- Entry `n` of the projected row `(b, s)`. -/
def proj (b : Fin 4) (s : Fin 8192) (n : Fin 4104) : EReal :=
  ∑ k : Fin 1024, hrow X nw b s k * W (ix3 0 k n)

/-- Sixty-four consecutive entries from `o`, head `h`, lane `l`: the entry times the reciprocal root of the head's mean
    square, times the head weight. -/
def headNorm (w : FVec Ideal S1x64 .f32) (o : ℕ) (ho : o + 512 ≤ 4104) (b : Fin 4) (s : Fin 8192) (h : Fin 8) (l : Fin 64) : EReal :=
  proj X nw W b s ⟨o + (h * 64 + l), by omega⟩
    * Ideal.rsqrt (Ideal.div (∑ d : Fin 64, proj X nw W b s ⟨o + (h * 64 + d), by omega⟩ * proj X nw W b s ⟨o + (h * 64 + d), by omega⟩)
        (Ideal.ofBits .f32 0x42800000#32) + Ideal.ofBits .f32 0x358637BD#32)
    * w (ix2 0 l)

open Cert.Reference2Ideal.Read

theorem v13_at (b : Fin 4) (s : Fin 8192) (k : Fin 1024) :
    val_main_v13 (F := Ideal) X nw (ix3 b s k) = hrow X nw b s k := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, hrow]

theorem v15_at (b : Fin 4) (s : Fin 8192) (n : Fin 4104) :
    val_main_v15 (F := Ideal) X nw W (ix3 b s n) = proj X nw W b s n := by
  pointwise [val_main_v15, val_main_v14, v13_at, proj]

/-- The batch index and the position of flat row `r`. -/
abbrev rb (r : Fin 32768) : Fin 4 := ⟨r.val / 8192, by omega⟩
abbrev rs (r : Fin 32768) : Fin 8192 := ⟨r.val % 8192, by omega⟩

variable (qw kw : FVec Ideal S1x64 .f32)

/-- The seven results, as functions of the arguments index by index. -/
def Gq : FVec Ideal S32768x512 .f32 := fun i =>
  headNorm X nw W qw 0 (by omega) (rb (i 0)) (rs (i 0)) ⟨(i 1).val / 64, by have h : (i 1).val < 512 := (i 1).isLt; omega⟩ ⟨(i 1).val % 64, by omega⟩
def Gk : FVec Ideal S32768x512 .f32 := fun i =>
  headNorm X nw W kw 512 (by omega) (rb (i 0)) (rs (i 0)) ⟨(i 1).val / 64, by have h : (i 1).val < 512 := (i 1).isLt; omega⟩ ⟨(i 1).val % 64, by omega⟩
def Gv : FVec Ideal S32768x512 .bf16 := fun i =>
  proj X nw W (rb (i 0)) (rs (i 0)) ⟨1024 + (i 1).val, by have h : (i 1).val < 512 := (i 1).isLt; omega⟩
def Gz : FVec Ideal S32768x512 .f32 := fun i =>
  proj X nw W (rb (i 0)) (rs (i 0)) ⟨1536 + (i 1).val, by have h : (i 1).val < 512 := (i 1).isLt; omega⟩
def Gqkv : FVec Ideal S32768x1536 .f32 := fun i =>
  proj X nw W (rb (i 0)) (rs (i 0)) ⟨2048 + (i 1).val, by have h : (i 1).val < 1536 := (i 1).isLt; omega⟩
def Gzd : FVec Ideal S32768x512 .f32 := fun i =>
  proj X nw W (rb (i 0)) (rs (i 0)) ⟨3584 + (i 1).val, by have h : (i 1).val < 512 := (i 1).isLt; omega⟩
def Gg : FVec Ideal S32768x128 .f32 := fun i =>
  if h : (i 1).val < 8 then proj X nw W (rb (i 0)) (rs (i 0)) ⟨4096 + (i 1).val, by omega⟩ else 0

theorem ref_q : val_main_v54 (F := Ideal) X nw W qw = Gq X nw W qw := by
  funext i
  idx_vars i
  pointwise [val_main_v54, val_main_v37, val_main_v36, val_main_v35, val_main_v34, val_main_v33, val_main_v32, val_main_v31, val_main_v30,
    val_main_v29, val_main_v28, val_main_v27, val_main_v26, val_main_v25, val_main_v24, val_main_v23, val_main_v16, val_main_cst_2, val_main_cst_3, val_main_cst_4,
    v15_at, Gq, headNorm, rb, rs]
  refine congrArg₂ (· * ·) (congrArg₂ (· * ·) (congrArg _ (Fin.ext ?_)) rfl) rfl
  show (i1 : ℕ) = i1.val / 64 * 64 + i1.val % 64
  omega

theorem ref_k : val_main_v55 (F := Ideal) X nw W kw = Gk X nw W kw := by
  funext i
  idx_vars i
  pointwise [val_main_v55, val_main_v52, val_main_v51, val_main_v50, val_main_v49, val_main_v48, val_main_v47, val_main_v46, val_main_v45,
    val_main_v44, val_main_v43, val_main_v42, val_main_v41, val_main_v40, val_main_v39, val_main_v38, val_main_v17, val_main_cst_5, val_main_cst_6, val_main_cst_7,
    v15_at, Gk, headNorm, rb, rs]
  refine congrArg₂ (· * ·) (congrArg₂ (· * ·) (congrArg _ (Fin.ext ?_)) rfl) rfl
  show 512 + (i1 : ℕ) = 512 + (i1.val / 64 * 64 + i1.val % 64)
  omega

theorem ref_v : val_main_v57 (F := Ideal) X nw W = Gv X nw W := by
  funext i
  idx_vars i
  pointwise [val_main_v57, val_main_v56, val_main_v18, v15_at, Gv, rb, rs]

theorem ref_z : val_main_v58 (F := Ideal) X nw W = Gz X nw W := by
  funext i
  idx_vars i
  pointwise [val_main_v58, val_main_v19, v15_at, Gz, rb, rs]

theorem ref_qkv : val_main_v59 (F := Ideal) X nw W = Gqkv X nw W := by
  funext i
  idx_vars i
  pointwise [val_main_v59, val_main_v20, v15_at, Gqkv, rb, rs]

theorem ref_zd : val_main_v60 (F := Ideal) X nw W = Gzd X nw W := by
  funext i
  idx_vars i
  pointwise [val_main_v60, val_main_v21, v15_at, Gzd, rb, rs]

/-- Two guarded values under equivalent guards agree when their branches do. -/
theorem dite_same {p q : Prop} [Decidable p] [Decidable q] (f : p → EReal) (g : q → EReal) (z z' : EReal) (hpq : p ↔ q)
    (hfg : ∀ hp hq, f hp = g hq) (hz : z = z') : dite p f (fun _ => z) = dite q g (fun _ => z') := by
  by_cases h : p
  · rw [dif_pos h, dif_pos (hpq.1 h)]; exact hfg _ _
  · rw [dif_neg h, dif_neg (fun hq => h (hpq.2 hq))]; exact hz

theorem sitofp_zero : (FloatOps.sitofp (F := Ideal) FTy.f32 0#32 : EReal) = 0 := by
  show (((0#32 : BitVec 32).toInt : ℝ) : EReal) = 0
  simp

theorem ref_g : val_main_v61 (F := Ideal) X nw W = Gg X nw W := by
  funext i
  idx_vars i
  pointwise [val_main_v61, val_main_v53, val_main_v22, val_main_call0_v0, val_main_c, v15_at, Gg, rb, rs]
  exact dite_same _ _ _ _ ⟨fun h => h.2.2, fun h => ⟨by omega, by omega, h⟩⟩ (fun _ _ => rfl) sitofp_zero

end Cert.Inproj
-- ==== Proof.InprojArr.lean ====
/-
  The projection kernel's seven result arrays after the run: every grid point writes one block of 1024 rows, and row by row
  the block holds the norm, the projection and the head norms of `Cert.Inproj`.
-/
module

public import proofs.«01_k».proof.Proof.InprojBody
public import proofs.«01_k».proof.Proof.InprojRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Arr

open Cert.Kernel2Ideal Cert.Kernel2Ideal.Gen Cert.Kernel2Ideal.Body

variable (m : (ℓ : Loc nD τ sig) → Buf (Elt Ideal) ℓ)

/-- The windows' index maps, decided over the grid. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ t.val < 32 :=
  (by decide +kernel : ∀ t : Fin grid0.N, _)

/-- Row `r` of block `t` in the flat array. -/
abbrev row (t : Fin cfg0.N) (r : Fin 1024) : Fin 32768 := ⟨t.val * 1024 + r.val, by have := (idx t).2.2.2.2.2.2.2.2.2.2.2.2.2; omega⟩

variable (c : Dev nD)

abbrev aX : FVec Ideal S4x8192x1024 .f32 := m ((c : Thread nD τ).loc main_arg0)
abbrev aN : FVec Ideal S1x1024 .f32 := m ((c : Thread nD τ).loc main_arg1)
abbrev aW : FVec Ideal S1x1024x4104 .f32 := m ((c : Thread nD τ).loc main_arg2)
abbrev aQ : FVec Ideal S1x64 .f32 := m ((c : Thread nD τ).loc main_arg3)
abbrev aK : FVec Ideal S1x64 .f32 := m ((c : Thread nD τ).loc main_arg4)

theorem V_v0 : (V m c main_v0 : FVec Ideal S32768x1024 .f32) = shapeCast _ (aX m c) shapeCasts_S4x8192x1024_S32768x1024 := by
  simp only [V, hostOps0, hostOps0_1, hostOps0_2, List.flatten_cons, List.flatten_nil, List.append_nil, List.cons_append, List.nil_append]
  entry_read
  rfl

theorem V_v3 : (V m c main_v3 : FVec Ideal S1024x4096 .bf16) = truncf .bf16 (extractStridedSlice S1024x4096 ![0, 0]
    (shapeCast S1024x4104 (aW m c) shapeCasts_S1x1024x4104_S1024x4104) slices_S1024x4104_S1024x4096_0_0) bitsLt_bf16_f32 := by
  simp only [V, hostOps0, hostOps0_1, hostOps0_2, List.flatten_cons, List.flatten_nil, List.append_nil, List.cons_append, List.nil_append]
  entry_read
  rfl

theorem V_v7 : (V m c main_v7 : FVec Ideal S1024x128 .bf16) = truncf .bf16 (pad S1024x128 ![0, 0] ![0, 120] ![0, 0]
    (extractStridedSlice S1024x8 ![0, 4096] (shapeCast S1024x4104 (aW m c) shapeCasts_S1x1024x4104_S1024x4104) slices_S1024x4104_S1024x8_0_4096)
    (sitofp (F := Ideal) .f32 (constantI S_ 32 0#32)) pads_S1024x8_S1024x128_000_01200 h_S_) bitsLt_bf16_f32 := by
  simp only [V, hostOps0, hostOps0_1, hostOps0_2, List.flatten_cons, List.flatten_nil, List.append_nil, List.cons_append, List.nil_append]
  entry_read
  rfl

theorem V_v12 : (V m c main_v12 : FVec Ideal S1x512 .f32) = broadcastInDim S1x512 ![1] bcast_S512_S1x512_1 (shapeCast S512
    (broadcastInDim S8x64 ![0, 1] bcast_S1x64_S8x64_0_1 (shapeCast S1x64 (shapeCast S64 (aQ m c) shapeCasts_S1x64_S64) shapeCasts_S64_S1x64))
    shapeCasts_S8x64_S512) := by
  simp only [V, hostOps0, hostOps0_1, hostOps0_2, List.flatten_cons, List.flatten_nil, List.append_nil, List.cons_append, List.nil_append]
  entry_read
  rfl

theorem V_v17 : (V m c main_v17 : FVec Ideal S1x512 .f32) = broadcastInDim S1x512 ![1] bcast_S512_S1x512_1 (shapeCast S512
    (broadcastInDim S8x64 ![0, 1] bcast_S1x64_S8x64_0_1 (shapeCast S1x64 (shapeCast S64 (aK m c) shapeCasts_S1x64_S64) shapeCasts_S64_S1x64))
    shapeCasts_S8x64_S512) := by
  simp only [V, hostOps0, hostOps0_1, hostOps0_2, List.flatten_cons, List.flatten_nil, List.append_nil, List.cons_append, List.nil_append]
  entry_read
  rfl

theorem blk0_at (t : Fin cfg0.N) (r k : Fin 1024) : (iblk m c 0 t : FVec Ideal S1024x1024 .f32) (ix2 r k)
    = aX m c (ix3 (Inproj.rb (row t r)) (Inproj.rs (row t r)) k) := by
  have e : (iblk m c 0 t : FVec Ideal S1024x1024 .f32) (ix2 r k) = (V m c main_v0 : FVec Ideal S32768x1024 .f32) (ix2 (row t r) k) := by
    blk_ext [iblk, idx t]
  rw [e, V_v0]
  pointwise

theorem blk1_at (t : Fin cfg0.N) (k : Fin 1024) : (iblk m c 1 t : FVec Ideal S1x1024 .f32) (ix2 0 k) = aN m c (ix2 0 k) := by
  have e : (iblk m c 1 t : FVec Ideal S1x1024 .f32) (ix2 0 k) = (V m c main_arg1 : FVec Ideal S1x1024 .f32) (ix2 0 k) := by
    blk_ext [iblk, idx t]
  rw [e, V_main_arg1]

theorem blk2_at (t : Fin cfg0.N) (k : Fin 1024) (n : Fin 4096) : (iblk m c 2 t : FVec Ideal S1024x4096 .bf16) (ix2 k n)
    = aW m c (ix3 0 k ⟨n.val, by omega⟩) := by
  have e : (iblk m c 2 t : FVec Ideal S1024x4096 .bf16) (ix2 k n) = (V m c main_v3 : FVec Ideal S1024x4096 .bf16) (ix2 k n) := by
    blk_ext [iblk, idx t]
  rw [e, V_v3]
  pointwise

theorem blk3_at (t : Fin cfg0.N) (k : Fin 1024) (n : Fin 128) : (iblk m c 3 t : FVec Ideal S1024x128 .bf16) (ix2 k n)
    = if h : n.val < 8 then aW m c (ix3 0 k ⟨4096 + n.val, by omega⟩) else 0 := by
  have e : (iblk m c 3 t : FVec Ideal S1024x128 .bf16) (ix2 k n) = (V m c main_v7 : FVec Ideal S1024x128 .bf16) (ix2 k n) := by
    blk_ext [iblk, idx t]
  rw [e, V_v7]
  pointwise
  exact Inproj.dite_same _ _ _ _ Iff.rfl (fun _ _ => rfl) Inproj.sitofp_zero

theorem blk4_at (t : Fin cfg0.N) (n : Fin 512) : (iblk m c 4 t : FVec Ideal S1x512 .f32) (ix2 0 n)
    = aQ m c (ix2 0 ⟨n.val % 64, by omega⟩) := by
  have e : (iblk m c 4 t : FVec Ideal S1x512 .f32) (ix2 0 n) = (V m c main_v12 : FVec Ideal S1x512 .f32) (ix2 0 n) := by
    blk_ext [iblk, idx t]
  rw [e, V_v12]
  pointwise

theorem blk5_at (t : Fin cfg0.N) (n : Fin 512) : (iblk m c 5 t : FVec Ideal S1x512 .f32) (ix2 0 n)
    = aK m c (ix2 0 ⟨n.val % 64, by omega⟩) := by
  have e : (iblk m c 5 t : FVec Ideal S1x512 .f32) (ix2 0 n) = (V m c main_v17 : FVec Ideal S1x512 .f32) (ix2 0 n) := by
    blk_ext [iblk, idx t]
  rw [e, V_v17]
  pointwise

/-- The block's normalised rows are the layer's. -/
theorem h_at (t : Fin cfg0.N) (r k : Fin 1024) :
    k0_pay6 (F := Ideal) (iblk m c 0 t : FVec Ideal S1024x1024 .f32) (iblk m c 1 t : FVec Ideal S1x1024 .f32) (ix2 r k)
      = Inproj.hrow (aX m c) (aN m c) (Inproj.rb (row t r)) (Inproj.rs (row t r)) k := by
  rw [pay6_at]
  unfold hb Inproj.hrow
  simp only [blk0_at, blk1_at]

/-- A product entry of the block, against the weight columns from `o`, is the layer's projection at `o + n`. -/
theorem pb_at (t : Fin cfg0.N) (r : Fin 1024) (wt : FVec Ideal S1024x512 .bf16) (o : ℕ) (ho : o + 512 ≤ 4096)
    (hw : ∀ (k : Fin 1024) (n : Fin 512), wt (ix2 k n) = (iblk m c 2 t : FVec Ideal S1024x4096 .bf16) (ix2 k ⟨o + n.val, by omega⟩))
    (n : ℕ) (hn : n < 512) :
    pb (k0_pay6 (F := Ideal) (iblk m c 0 t : FVec Ideal S1024x1024 .f32) (iblk m c 1 t : FVec Ideal S1x1024 .f32)) wt r n
      = Inproj.proj (aX m c) (aN m c) (aW m c) (Inproj.rb (row t r)) (Inproj.rs (row t r)) ⟨o + n, by omega⟩ := by
  unfold pb Inproj.proj
  rw [dif_pos hn]
  simp only [h_at, hw, blk2_at]

theorem pay18_eq (y0 : Vec Ideal S1024x1024 .f32) (y1 : Vec Ideal S1x1024 .f32) (y2 : Vec Ideal S1024x4096 .bf16)
    (y3 : Vec Ideal S1024x128 .bf16) (y4 y5 : Vec Ideal S1x512 .f32) :
    k0_pay18 (F := Ideal) y0 y1 y2 y3 y4 y5 = k0_pay6 y0 y1 := by
  have hz : (![0, 0] : Fin 2 → Nat) = fun _ => 0 := funext fun a => by fin_cases a <;> rfl
  unfold k0_pay18
  rw [View.ld_unit_zero hz, View.ld_unit_zero hz]

/-- The head norm of a column of the block's product is the layer's. -/
theorem nb_at (t : Fin cfg0.N) (r : Fin 1024) (wt : FVec Ideal S1024x512 .bf16) (o : ℕ) (ho : o + 512 ≤ 4096)
    (hw : ∀ (k : Fin 1024) (n : Fin 512), wt (ix2 k n) = (iblk m c 2 t : FVec Ideal S1024x4096 .bf16) (ix2 k ⟨o + n.val, by omega⟩))
    (w : FVec Ideal S1x512 .f32) (qw : FVec Ideal S1x64 .f32) (hq : ∀ n : Fin 512, w (ix2 0 n) = qw (ix2 0 ⟨n.val % 64, by omega⟩))
    (n : Fin 512) :
    nb (k0_pay6 (F := Ideal) (iblk m c 0 t : FVec Ideal S1024x1024 .f32) (iblk m c 1 t : FVec Ideal S1x1024 .f32)) wt w r n
      = Inproj.headNorm (aX m c) (aN m c) (aW m c) qw o (by omega) (Inproj.rb (row t r)) (Inproj.rs (row t r))
          ⟨n.val / 64, by omega⟩ ⟨n.val % 64, by omega⟩ := by
  unfold nb Inproj.headNorm
  rw [hq, pb_at m c t r wt o ho hw n.val n.isLt]
  have hs : ∀ d : Fin 64, pb (k0_pay6 (F := Ideal) (iblk m c 0 t : FVec Ideal S1024x1024 .f32) (iblk m c 1 t : FVec Ideal S1x1024 .f32)) wt r
      (n.val / 64 * 64 + d.val) = Inproj.proj (aX m c) (aN m c) (aW m c) (Inproj.rb (row t r)) (Inproj.rs (row t r))
        ⟨o + (n.val / 64 * 64 + d.val), by omega⟩ := fun d => pb_at m c t r wt o ho hw _ (by omega)
  simp only [hs]
  refine congrArg₂ (· * ·) (congrArg₂ (· * ·) (congrArg _ (Fin.ext ?_)) rfl) rfl
  show o + n.val = o + (n.val / 64 * 64 + n.val % 64)
  omega

theorem final9 : (dats m 0 c).arrAt 9 (cfgs 0).N = Inproj.Gz (aX m c) (aN m c) (aW m c) := by
  refine (dats m 0 c).arrAt_eq_of_covers 9 _ (by decide +kernel) fun t _ y => ?_
  blk_simp
  rw [after0_9]
  frame_out
  obtain ⟨r, n, rfl⟩ : ∃ (r : Fin 1024) (n : Fin 512), y = ix2 r n := ⟨y 0, y 1, eq_ix2 y⟩
  have e : ((cfg0.win 9).blk t).view.emb (ix2 r n) = (ix2 (row t r) n : S32768x512.Idx) := by
    blk_ext [idx t]
  refine Eq.trans ?_ (congrArg (Inproj.Gz (aX m c) (aN m c) (aW m c)) e.symm)
  refine (pay16_at _ _ r n).trans ?_
  rw [pay18_eq, pb_at m c t r _ 1536 (by omega) (fun k n => by pointwise) n.val n.isLt]
  rfl
theorem final6 : (dats m 0 c).arrAt 6 (cfgs 0).N = Inproj.Gq (aX m c) (aN m c) (aW m c) (aQ m c) := by
  refine (dats m 0 c).arrAt_eq_of_covers 6 _ (by decide +kernel) fun t _ y => ?_
  blk_simp
  rw [after0_6]
  frame_out
  obtain ⟨r, n, rfl⟩ : ∃ (r : Fin 1024) (n : Fin 512), y = ix2 r n := ⟨y 0, y 1, eq_ix2 y⟩
  have e : ((cfg0.win 6).blk t).view.emb (ix2 r n) = (ix2 (row t r) n : S32768x512.Idx) := by
    blk_ext [idx t]
  refine Eq.trans ?_ (congrArg (Inproj.Gq (aX m c) (aN m c) (aW m c) (aQ m c)) e.symm)
  refine (pay13_at _ _ _ r n).trans ?_
  rw [pay18_eq, nb_at m c t r _ 0 (by omega) (fun k n => by pointwise) _ _ (blk4_at m c t) n]
  rfl

theorem final7 : (dats m 0 c).arrAt 7 (cfgs 0).N = Inproj.Gk (aX m c) (aN m c) (aW m c) (aK m c) := by
  refine (dats m 0 c).arrAt_eq_of_covers 7 _ (by decide +kernel) fun t _ y => ?_
  blk_simp
  rw [after0_7]
  frame_out
  obtain ⟨r, n, rfl⟩ : ∃ (r : Fin 1024) (n : Fin 512), y = ix2 r n := ⟨y 0, y 1, eq_ix2 y⟩
  have e : ((cfg0.win 7).blk t).view.emb (ix2 r n) = (ix2 (row t r) n : S32768x512.Idx) := by
    blk_ext [idx t]
  refine Eq.trans ?_ (congrArg (Inproj.Gk (aX m c) (aN m c) (aW m c) (aK m c)) e.symm)
  refine (congrFun (pay14_eq _ _ _) _).trans ((pay13_at _ _ _ r n).trans ?_)
  rw [pay18_eq, nb_at m c t r _ 512 (by omega) (fun k n => by pointwise) _ _ (blk5_at m c t) n]
  rfl

theorem final8 : (dats m 0 c).arrAt 8 (cfgs 0).N = Inproj.Gv (aX m c) (aN m c) (aW m c) := by
  refine (dats m 0 c).arrAt_eq_of_covers 8 _ (by decide +kernel) fun t _ y => ?_
  blk_simp
  rw [after0_8]
  frame_out
  obtain ⟨r, n, rfl⟩ : ∃ (r : Fin 1024) (n : Fin 512), y = ix2 r n := ⟨y 0, y 1, eq_ix2 y⟩
  have e : ((cfg0.win 8).blk t).view.emb (ix2 r n) = (ix2 (row t r) n : S32768x512.Idx) := by
    blk_ext [idx t]
  refine Eq.trans ?_ (congrArg (Inproj.Gv (aX m c) (aN m c) (aW m c)) e.symm)
  refine (pay15_at _ _ r n).trans ?_
  rw [pay18_eq, pb_at m c t r _ 1024 (by omega) (fun k n => by pointwise) n.val n.isLt]
  rfl

theorem final11 : (dats m 0 c).arrAt 11 (cfgs 0).N = Inproj.Gzd (aX m c) (aN m c) (aW m c) := by
  refine (dats m 0 c).arrAt_eq_of_covers 11 _ (by decide +kernel) fun t _ y => ?_
  blk_simp
  rw [after0_11]
  frame_out
  obtain ⟨r, n, rfl⟩ : ∃ (r : Fin 1024) (n : Fin 512), y = ix2 r n := ⟨y 0, y 1, eq_ix2 y⟩
  have e : ((cfg0.win 11).blk t).view.emb (ix2 r n) = (ix2 (row t r) n : S32768x512.Idx) := by
    blk_ext [idx t]
  refine Eq.trans ?_ (congrArg (Inproj.Gzd (aX m c) (aN m c) (aW m c)) e.symm)
  refine (pay4_at _ _ r n).trans ?_
  rw [pay18_eq, pb_at m c t r _ 3584 (by omega) (fun k n => by pointwise) n.val n.isLt]
  rfl

theorem sum_guard (p : Prop) [Decidable p] (f : Fin 1024 → EReal) (g : p → Fin 1024 → EReal) :
    (∑ x, f x * (if h : p then g h x else 0)) = if h : p then ∑ x, f x * g h x else 0 := by
  by_cases h : p
  · simp [h]
  · simp [h]

theorem final12 : (dats m 0 c).arrAt 12 (cfgs 0).N = Inproj.Gg (aX m c) (aN m c) (aW m c) := by
  refine (dats m 0 c).arrAt_eq_of_covers 12 _ (by decide +kernel) fun t _ y => ?_
  blk_simp
  rw [after0_12]
  frame_out
  obtain ⟨r, n, rfl⟩ : ∃ (r : Fin 1024) (n : Fin 128), y = ix2 r n := ⟨y 0, y 1, eq_ix2 y⟩
  have e : ((cfg0.win 12).blk t).view.emb (ix2 r n) = (ix2 (row t r) n : S32768x128.Idx) := by
    blk_ext [idx t]
  refine Eq.trans ?_ (congrArg (Inproj.Gg (aX m c) (aN m c) (aW m c)) e.symm)
  refine (pay5_at _ _ r n).trans ?_
  rw [pay18_eq]
  simp only [h_at, blk3_at]
  exact sum_guard _ _ _

theorem final10 : (dats m 0 c).arrAt 10 (cfgs 0).N = Inproj.Gqkv (aX m c) (aN m c) (aW m c) := by
  refine (dats m 0 c).arrAt_eq_of_covers 10 _ (by decide +kernel) fun t _ y => ?_
  blk_simp
  rw [after0_10]
  frame_out
  obtain ⟨r, n, rfl⟩ : ∃ (r : Fin 1024) (n : Fin 1536), y = ix2 r n := ⟨y 0, y 1, eq_ix2 y⟩
  have e : ((cfg0.win 10).blk t).view.emb (ix2 r n) = (ix2 (row t r) n : S32768x1536.Idx) := by
    blk_ext [idx t]
  refine Eq.trans ?_ (congrArg (Inproj.Gqkv (aX m c) (aN m c) (aW m c)) e.symm)
  canon_tiles x h
  case piece0 =>
    obtain ⟨r', n', rfl⟩ : ∃ (r' : Fin 1024) (n' : Fin 512), x = ix2 r' n' := ⟨x 0, x 1, eq_ix2 x⟩
    obtain rfl : r = r' := Fin.ext h0
    have hn : n.val = 1024 + n'.val := h1
    refine (pay3_at _ _ r n').trans ?_
    rw [pay18_eq, pb_at m c t r _ 3072 (by omega) (fun k n => by pointwise) n'.val n'.isLt]
    refine congrArg (Inproj.proj (aX m c) (aN m c) (aW m c) (Inproj.rb (row t r)) (Inproj.rs (row t r))) (Fin.ext ?_)
    show 3072 + n'.val = 2048 + n.val
    omega
  case piece1 =>
    obtain ⟨r', n', rfl⟩ : ∃ (r' : Fin 1024) (n' : Fin 512), x = ix2 r' n' := ⟨x 0, x 1, eq_ix2 x⟩
    obtain rfl : r = r' := Fin.ext h0
    have hn : n.val = 512 + n'.val := h1
    refine (pay2_at _ _ r n').trans ?_
    rw [pay18_eq, pb_at m c t r _ 2560 (by omega) (fun k n => by pointwise) n'.val n'.isLt]
    refine congrArg (Inproj.proj (aX m c) (aN m c) (aW m c) (Inproj.rb (row t r)) (Inproj.rs (row t r))) (Fin.ext ?_)
    show 2560 + n'.val = 2048 + n.val
    omega
  case piece2 =>
    obtain ⟨r', n', rfl⟩ : ∃ (r' : Fin 1024) (n' : Fin 512), x = ix2 r' n' := ⟨x 0, x 1, eq_ix2 x⟩
    obtain rfl : r = r' := Fin.ext h0
    have hn : n.val = n'.val := h1
    refine (pay1_at _ _ r n').trans ?_
    rw [pay18_eq, pb_at m c t r _ 2048 (by omega) (fun k n => by pointwise) n'.val n'.isLt]
    refine congrArg (Inproj.proj (aX m c) (aN m c) (aW m c) (Inproj.rb (row t r)) (Inproj.rs (row t r))) (Fin.ext ?_)
    show 2048 + n'.val = 2048 + n.val
    omega

end Cert.Kernel2Ideal.Arr
-- ==== Proof.InprojClaim.lean ====
module

public import proofs.«01_k».proof.Defs
public import proofs.«01_k».proof.Proof.InprojArr
public import proofs.«01_k».proof.Proof.Gen.Kernel2Ideal.Value
public import proofs.«01_k».proof.Proof.Gen.Reference2Ideal.Run
public import Idealize.ShloMosaic.Lib.Claim
public import Idealize.ShloMosaic.Lib.Quiescent

@[expose] public section

noncomputable section

open Idealize.ShloMosaic Idealize.ShloMosaic.TcCoe Idealize.SL.Sem

namespace Cert.InprojClaim

theorem frame_r : Cert.quiescent_Reference2Ideal := fun m ρ _ =>
  (θ_run Cert.Reference2Ideal.defs _ _).mono
    (fun r h => ⟨fun c => (h c).2.2.2.2.2.2.2, sem_eq_zero_of_no_sems (by decide) r.2⟩) (Cert.Reference2Ideal.Value.run m ρ)

/-- The reference's run, each result at the layer's own function of the arguments. -/
theorem run_r (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ fun r => ∀ c : Dev Cert.Reference2Ideal.nD,
      r.2.mem ((c.tc : Thread Cert.Reference2Ideal.nD Cert.Reference2Ideal.τ).loc Cert.Reference2Ideal.main_v54) = Inproj.Gq (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))
      ∧ r.2.mem ((c.tc : Thread Cert.Reference2Ideal.nD Cert.Reference2Ideal.τ).loc Cert.Reference2Ideal.main_v55) = Inproj.Gk (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg4))
      ∧ r.2.mem ((c.tc : Thread Cert.Reference2Ideal.nD Cert.Reference2Ideal.τ).loc Cert.Reference2Ideal.main_v57) = Inproj.Gv (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v58) = Inproj.Gz (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v59) = Inproj.Gqkv (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v60) = Inproj.Gzd (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v61) = Inproj.Gg (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4) :=
  (θ_run Cert.Reference2Ideal.defs _ _).mono (fun r h c => ⟨((h c).1.trans (Reference2Ideal.Read.val_main_v54_eq _ _ _ _)).trans (Inproj.ref_q _ _ _ _),
      ((h c).2.1.trans (Reference2Ideal.Read.val_main_v55_eq _ _ _ _)).trans (Inproj.ref_k _ _ _ _),
      ((h c).2.2.1.trans (Reference2Ideal.Read.val_main_v57_eq _ _ _)).trans (Inproj.ref_v _ _ _),
      ((h c).2.2.2.1.trans (Reference2Ideal.Read.val_main_v58_eq _ _ _)).trans (Inproj.ref_z _ _ _),
      ((h c).2.2.2.2.1.trans (Reference2Ideal.Read.val_main_v59_eq _ _ _)).trans (Inproj.ref_qkv _ _ _),
      ((h c).2.2.2.2.2.1.trans (Reference2Ideal.Read.val_main_v60_eq _ _ _)).trans (Inproj.ref_zd _ _ _),
      ((h c).2.2.2.2.2.2.1.trans (Reference2Ideal.Read.val_main_v61_eq _ _ _)).trans (Inproj.ref_g _ _ _),
      (h c).2.2.2.2.2.2.2⟩) (Cert.Reference2Ideal.Value.run m ρ)

/-- The kernel's run, each result at the layer's own function of the arguments. -/
theorem run_k (m : (ℓ : Loc Cert.Kernel2Ideal.nD Cert.Kernel2Ideal.τ Cert.Kernel2Ideal.sig) → Buf (Elt Ideal) ℓ) (ρ : Dev Cert.Kernel2Ideal.nD → PrngReg) :
    θ_run (Cert.Kernel2Ideal.defs (F := Ideal)) (onTc (τ := Cert.Kernel2Ideal.τ) (Cert.Kernel2Ideal.main (F := Ideal))) ⟨m, fun _ => 0, ρ⟩ fun r => ∀ c : Dev Cert.Kernel2Ideal.nD,
      r.2.mem ((c.tc : Thread Cert.Kernel2Ideal.nD Cert.Kernel2Ideal.τ).loc Cert.Kernel2Ideal.main_v18_0) = Inproj.Gq (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
      ∧ r.2.mem ((c.tc : Thread Cert.Kernel2Ideal.nD Cert.Kernel2Ideal.τ).loc Cert.Kernel2Ideal.main_v18_1) = Inproj.Gk (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg4))
      ∧ r.2.mem ((c.tc : Thread Cert.Kernel2Ideal.nD Cert.Kernel2Ideal.τ).loc Cert.Kernel2Ideal.main_v18_2) = Inproj.Gv (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
      ∧ r.2.mem ((c.tc : Thread Cert.Kernel2Ideal.nD Cert.Kernel2Ideal.τ).loc Cert.Kernel2Ideal.main_v18_3) = Inproj.Gz (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
      ∧ r.2.mem ((c.tc : Thread Cert.Kernel2Ideal.nD Cert.Kernel2Ideal.τ).loc Cert.Kernel2Ideal.main_v18_4) = Inproj.Gqkv (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
      ∧ r.2.mem ((c.tc : Thread Cert.Kernel2Ideal.nD Cert.Kernel2Ideal.τ).loc Cert.Kernel2Ideal.main_v18_5) = Inproj.Gzd (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
      ∧ r.2.mem ((c.tc : Thread Cert.Kernel2Ideal.nD Cert.Kernel2Ideal.τ).loc Cert.Kernel2Ideal.main_v18_6) = Inproj.Gg (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4) :=
  (θ_run Cert.Kernel2Ideal.defs _ _).mono (fun r h c => ⟨(h c).1.trans (Kernel2Ideal.Arr.final6 m c),
      (h c).2.1.trans (Kernel2Ideal.Arr.final7 m c),
      (h c).2.2.1.trans (Kernel2Ideal.Arr.final8 m c),
      (h c).2.2.2.1.trans (Kernel2Ideal.Arr.final9 m c),
      (h c).2.2.2.2.1.trans (Kernel2Ideal.Arr.final10 m c),
      (h c).2.2.2.2.2.1.trans (Kernel2Ideal.Arr.final11 m c),
      (h c).2.2.2.2.2.2.1.trans (Kernel2Ideal.Arr.final12 m c),
      (h c).2.2.2.2.2.2.2⟩) (Cert.Kernel2Ideal.Value.run_blocks m ρ)

/-- The kernel's seven arrays are the reference's seven. -/
theorem same_results : Cert.algebraic_Kernel2Ideal_Reference2Ideal := by
  intro m g m' g' _ hagree
  refine ⟨fun c => Inproj.Gq (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)), fun c => Inproj.Gk (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg4)), fun c => Inproj.Gv (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Inproj.Gz (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Inproj.Gqkv (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Inproj.Gzd (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Inproj.Gg (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), run_k m g,
    (θ_run Cert.Reference2Ideal.defs _ _).mono (fun r h c => ?_) (run_r m' g')⟩
  obtain ⟨e0, e1, e2, e3, e4⟩ := hagree c
  have hc := h c
  simp only [e0, e1, e2, e3, e4] at hc ⊢
  exact hc

end Cert.InprojClaim
-- ==== Proof.DnTwin.lean ====
/-
  Arrays of reals inside the ideal arrays: every vector operation of the kernel's body, at arrays of reals, is the same
  operation on the reals.
-/
module

public import proofs.«01_k».proof.Proof.Gen.KernelIdeal.Value
public import Idealize.ShloMosaic.Lib.Pointwise
public import Mathlib.Analysis.SpecialFunctions.Exp
public import Mathlib.Analysis.SpecialFunctions.Log.Basic
public import Mathlib.Analysis.Complex.Trigonometric
public import Mathlib.Tactic.FieldSimp

@[expose] public section

set_option maxRecDepth 16384

noncomputable section

open Idealize.ShloMosaic Idealize.ShloMosaic.TcCoe Idealize.SL.Sem

namespace Dn

/-- An array of reals as an ideal array. -/
def cm {s : Shape} {φ : FTy} (A : s.Idx → ℝ) : FVec Ideal s φ := fun i => ((A i : ℝ) : EReal)

theorem coe_sum {ι : Type} (t : Finset ι) (f : ι → ℝ) : ∑ i ∈ t, ((f i : ℝ) : EReal) = ((∑ i ∈ t, f i : ℝ) : EReal) := by
  classical
  induction t using Finset.induction_on with
  | empty => simp
  | insert a t h ih => rw [Finset.sum_insert h, Finset.sum_insert h, ih, EReal.coe_add]

variable {s t : Shape} {φ ψ : FTy}

theorem cm_apply (A : s.Idx → ℝ) (i : s.Idx) : (cm A : FVec Ideal s φ) i = ((A i : ℝ) : EReal) := rfl

theorem cm_inj {A B : s.Idx → ℝ} (h : (cm A : FVec Ideal s φ) = cm B) : A = B := by
  funext i
  exact EReal.coe_injective (congrFun h i)

theorem ext_cm (X : FVec Ideal s φ) (A : s.Idx → ℝ) (h : ∀ i, X i = ((A i : ℝ) : EReal)) : X = cm A := funext h

theorem addf_cm (A B : s.Idx → ℝ) : addf (cm A : FVec Ideal s φ) (cm B) = cm fun i => A i + B i :=
  funext fun i => (EReal.coe_add (A i) (B i)).symm

theorem subf_cm (A B : s.Idx → ℝ) : subf (cm A : FVec Ideal s φ) (cm B) = cm fun i => A i - B i :=
  funext fun i => (EReal.coe_sub (A i) (B i)).symm

theorem mulf_cm (A B : s.Idx → ℝ) : mulf (cm A : FVec Ideal s φ) (cm B) = cm fun i => A i * B i :=
  funext fun i => (EReal.coe_mul (A i) (B i)).symm

theorem exp_cm (A : s.Idx → ℝ) : exp (cm A : FVec Ideal s φ) = cm fun i => Real.exp (A i) := rfl

theorem truncf_cm (A : s.Idx → ℝ) (h : ψ.bits < φ.bits) : truncf ψ (cm A : FVec Ideal s φ) h = cm A := rfl

theorem extf_cm (A : s.Idx → ℝ) (h : φ.bits < ψ.bits) : extf ψ (cm A : FVec Ideal s φ) h = cm A := rfl

theorem select_cm (M : IVec s 1) (A B : s.Idx → ℝ) :
    select M (cm A : FVec Ideal s φ) (cm B) = cm (select M A B) := by
  funext i
  show Scalar.select (M i) ((A i : ℝ) : EReal) ((B i : ℝ) : EReal) = ((Scalar.select (M i) (A i) (B i) : ℝ) : EReal)
  unfold Scalar.select
  split <;> rfl

theorem ofBits_zero : Ideal.ofBits .f32 0x00000000#32 = ((0 : ℝ) : EReal) := by
  simp [Ideal.ofBits, Ideal.ieee, -EReal.coe_mul]

theorem ofBits_one : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem zero_cm : (broadcast s (Scalar.ofBits (F := Ideal) .f32 0x00000000#32) : FVec Ideal s .f32) = cm fun _ => 0 :=
  funext fun _ => ofBits_zero

theorem zero_cm' : (broadcast s (FloatOps.ofBits (F := Ideal) FTy.f32 0x00000000#32) : FVec Ideal s .f32) = cm fun _ => 0 :=
  funext fun _ => ofBits_zero

theorem one_cm : (broadcast s (Scalar.ofBits (F := Ideal) .f32 0x3F800000#32) : FVec Ideal s .f32) = cm fun _ => 1 :=
  funext fun _ => ofBits_one

theorem half_cm : (broadcast s (Scalar.ofBits (F := Ideal) .f32 0x3F000000#32) : FVec Ideal s .f32) = cm fun _ => 1 / 2 :=
  funext fun _ => ofBits_half

theorem const_cm : constant (F := Ideal) s .f32 0x00000000#32 = cm fun _ => 0 :=
  funext fun _ => ofBits_zero

theorem slice_cm (off : Fin s.rank → Nat) (A : s.Idx → ℝ) (h : s.Slices off t) :
    extractStridedSlice t off (cm A : FVec Ideal s φ) h = (cm (extractStridedSlice t off A h) : FVec Ideal t φ) := rfl

theorem bto_cm (A : s.Idx → ℝ) (h : s.Broadcasts t) :
    broadcastTo t (cm A : FVec Ideal s φ) h = (cm (broadcastTo t A h) : FVec Ideal t φ) := rfl

theorem cast_cm (A : s.Idx → ℝ) (h : s.ShapeCasts t) :
    shapeCast t (cm A : FVec Ideal s φ) h = (cm (shapeCast t A h) : FVec Ideal t φ) := rfl

theorem rot_cm (a : Fin s.rank) (n : BitVec 32) (st : Option (Nat × Fin s.rank)) (A : s.Idx → ℝ) (h : s.Rotates a st) :
    dynamicRotate a n st (cm A : FVec Ideal s φ) h = (cm (dynamicRotate a n st A h) : FVec Ideal s φ) := rfl

/-- The contraction of two arrays of reals. -/
def rmm {sl sr so : Shape} (d : DotDims sl sr so) (A : sl.Idx → ℝ) (B : sr.Idx → ℝ) : so.Idx → ℝ :=
  fun j => ∑ k : d.contr.Idx, A (d.lhsIdx j k) * B (d.rhsIdx j k)

theorem matmul_cm {sl sr so : Shape} {φ₁ φ₂ : FTy} (d : DotDims sl sr so) (A : sl.Idx → ℝ) (B : sr.Idx → ℝ) :
    matmul (F := Ideal) d none (cm A : FVec Ideal sl φ₁) (cm B : FVec Ideal sr φ₂) (cm fun _ => 0) = cm (rmm d A B) := by
  funext j
  show ((0 : ℝ) : EReal) + ∑ k : d.contr.Idx, ((A (d.lhsIdx j k) : ℝ) : EReal) * ((B (d.rhsIdx j k) : ℝ) : EReal) = _
  rw [EReal.coe_zero, zero_add]
  simp only [← EReal.coe_mul]
  exact coe_sum _ _

open Cert.KernelIdeal Cert.KernelIdeal.Gen

theorem cat2a_cm (A B : S256x128.Idx → ℝ) :
    concatenate S256x256 1 [⟨S256x128, (cm A : FVec Ideal S256x128 φ)⟩, ⟨S256x128, (cm B : FVec Ideal S256x128 φ)⟩] concatenates_S256x128_S256x128_S256x256_d1
      = (cm (concatenate S256x256 1 [⟨S256x128, A⟩, ⟨S256x128, B⟩] concatenates_S256x128_S256x128_S256x256_d1) : FVec Ideal S256x256 φ) := by
  funext i
  idx_vars i
  pointwise [cm_apply]
  split <;> rfl

theorem cat2b_cm (A B : S64x128.Idx → ℝ) :
    concatenate S128x128 0 [⟨S64x128, (cm A : FVec Ideal S64x128 φ)⟩, ⟨S64x128, (cm B : FVec Ideal S64x128 φ)⟩] concatenates_S64x128_S64x128_S128x128_d0
      = (cm (concatenate S128x128 0 [⟨S64x128, A⟩, ⟨S64x128, B⟩] concatenates_S64x128_S64x128_S128x128_d0) : FVec Ideal S128x128 φ) := by
  funext i
  idx_vars i
  pointwise [cm_apply]
  split <;> rfl

theorem cat4_cm (A B C D : S64x128.Idx → ℝ) :
    concatenate S256x128 0 [⟨S64x128, (cm A : FVec Ideal S64x128 φ)⟩, ⟨S64x128, (cm B : FVec Ideal S64x128 φ)⟩, ⟨S64x128, (cm C : FVec Ideal S64x128 φ)⟩, ⟨S64x128, (cm D : FVec Ideal S64x128 φ)⟩] concatenates_S64x128_S64x128_S64x128_S64x128_S256x128_d0
      = (cm (concatenate S256x128 0 [⟨S64x128, A⟩, ⟨S64x128, B⟩, ⟨S64x128, C⟩, ⟨S64x128, D⟩] concatenates_S64x128_S64x128_S64x128_S64x128_S256x128_d0) : FVec Ideal S256x128 φ) := by
  funext i
  idx_vars i
  pointwise [cm_apply]
  split
  · rfl
  · split
    · rfl
    · split <;> rfl

theorem cat2a_cm' {X Y : FVec Ideal S256x128 φ} {A B : S256x128.Idx → ℝ} (hX : X = cm A) (hY : Y = cm B) :
    concatenate S256x256 1 [⟨S256x128, X⟩, ⟨S256x128, Y⟩] concatenates_S256x128_S256x128_S256x256_d1
      = (cm (concatenate S256x256 1 [⟨S256x128, A⟩, ⟨S256x128, B⟩] concatenates_S256x128_S256x128_S256x256_d1) : FVec Ideal S256x256 φ) := by
  subst hX hY
  exact cat2a_cm A B

theorem cat2b_cm' {X Y : FVec Ideal S64x128 φ} {A B : S64x128.Idx → ℝ} (hX : X = cm A) (hY : Y = cm B) :
    concatenate S128x128 0 [⟨S64x128, X⟩, ⟨S64x128, Y⟩] concatenates_S64x128_S64x128_S128x128_d0
      = (cm (concatenate S128x128 0 [⟨S64x128, A⟩, ⟨S64x128, B⟩] concatenates_S64x128_S64x128_S128x128_d0) : FVec Ideal S128x128 φ) := by
  subst hX hY
  exact cat2b_cm A B

theorem cat4_cm' {X Y Z W : FVec Ideal S64x128 φ} {A B C D : S64x128.Idx → ℝ} (hX : X = cm A) (hY : Y = cm B) (hZ : Z = cm C) (hW : W = cm D) :
    concatenate S256x128 0 [⟨S64x128, X⟩, ⟨S64x128, Y⟩, ⟨S64x128, Z⟩, ⟨S64x128, W⟩] concatenates_S64x128_S64x128_S64x128_S64x128_S256x128_d0
      = (cm (concatenate S256x128 0 [⟨S64x128, A⟩, ⟨S64x128, B⟩, ⟨S64x128, C⟩, ⟨S64x128, D⟩] concatenates_S64x128_S64x128_S64x128_S64x128_S256x128_d0) : FVec Ideal S256x128 φ) := by
  subst hX hY hZ hW
  exact cat4_cm A B C D

theorem rmm0 (A : S256x256.Idx → ℝ) (B : S256x256.Idx → ℝ) (i : Fin 256) (j : Fin 256) :
    rmm dot_S256x256_S256x256_S256x256_1_0_0_1_n_n A B (ix2 i j) = ∑ k : Fin 256, A (ix2 i k) * B (ix2 k j) := by
  have e := congrFun (matmul_cm (φ₁ := .f32) (φ₂ := .f32) dot_S256x256_S256x256_S256x256_1_0_0_1_n_n A B) (ix2 i j)
  apply EReal.coe_injective
  refine Eq.trans e.symm ?_
  pointwise [cm_apply]
  simp only [← EReal.coe_mul, coe_sum, ← EReal.coe_add, zero_add]

theorem rmm1 (A : S256x128.Idx → ℝ) (B : S256x128.Idx → ℝ) (i : Fin 256) (j : Fin 256) :
    rmm dot_S256x128_S256x128_S256x256_1_1_0_0_n_n A B (ix2 i j) = ∑ k : Fin 128, A (ix2 i k) * B (ix2 j k) := by
  have e := congrFun (matmul_cm (φ₁ := .f32) (φ₂ := .f32) dot_S256x128_S256x128_S256x256_1_1_0_0_n_n A B) (ix2 i j)
  apply EReal.coe_injective
  refine Eq.trans e.symm ?_
  pointwise [cm_apply]
  simp only [← EReal.coe_mul, coe_sum, ← EReal.coe_add, zero_add]

theorem rmm2 (A : S16x128.Idx → ℝ) (B : S256x128.Idx → ℝ) (i : Fin 16) (j : Fin 256) :
    rmm dot_S16x128_S256x128_S16x256_1_1_0_0_n_n A B (ix2 i j) = ∑ k : Fin 128, A (ix2 i k) * B (ix2 j k) := by
  have e := congrFun (matmul_cm (φ₁ := .f32) (φ₂ := .f32) dot_S16x128_S256x128_S16x256_1_1_0_0_n_n A B) (ix2 i j)
  apply EReal.coe_injective
  refine Eq.trans e.symm ?_
  pointwise [cm_apply]
  simp only [← EReal.coe_mul, coe_sum, ← EReal.coe_add, zero_add]

theorem rmm3 (A : S128x128.Idx → ℝ) (B : S128x128.Idx → ℝ) (i : Fin 128) (j : Fin 128) :
    rmm dot_S128x128_S128x128_S128x128_1_0_0_1_n_n A B (ix2 i j) = ∑ k : Fin 128, A (ix2 i k) * B (ix2 k j) := by
  have e := congrFun (matmul_cm (φ₁ := .f32) (φ₂ := .f32) dot_S128x128_S128x128_S128x128_1_0_0_1_n_n A B) (ix2 i j)
  apply EReal.coe_injective
  refine Eq.trans e.symm ?_
  pointwise [cm_apply]
  simp only [← EReal.coe_mul, coe_sum, ← EReal.coe_add, zero_add]

theorem rmm4 (A : S64x128.Idx → ℝ) (B : S64x128.Idx → ℝ) (i : Fin 128) (j : Fin 128) :
    rmm dot_S64x128_S64x128_S128x128_0_0_1_1_n_n A B (ix2 i j) = ∑ k : Fin 64, A (ix2 k i) * B (ix2 k j) := by
  have e := congrFun (matmul_cm (φ₁ := .f32) (φ₂ := .f32) dot_S64x128_S64x128_S128x128_0_0_1_1_n_n A B) (ix2 i j)
  apply EReal.coe_injective
  refine Eq.trans e.symm ?_
  pointwise [cm_apply]
  simp only [← EReal.coe_mul, coe_sum, ← EReal.coe_add, zero_add]

theorem rmm5 (A : S256x256.Idx → ℝ) (B : S256x128.Idx → ℝ) (i : Fin 256) (j : Fin 128) :
    rmm dot_S256x256_S256x128_S256x128_1_0_0_1_n_n A B (ix2 i j) = ∑ k : Fin 256, A (ix2 i k) * B (ix2 k j) := by
  have e := congrFun (matmul_cm (φ₁ := .f32) (φ₂ := .f32) dot_S256x256_S256x128_S256x128_1_0_0_1_n_n A B) (ix2 i j)
  apply EReal.coe_injective
  refine Eq.trans e.symm ?_
  pointwise [cm_apply]
  simp only [← EReal.coe_mul, coe_sum, ← EReal.coe_add, zero_add]

theorem rmm6 (A : S256x128.Idx → ℝ) (B : S128x1024.Idx → ℝ) (i : Fin 256) (j : Fin 1024) :
    rmm dot_S256x128_S128x1024_S256x1024_1_0_0_1_n_n A B (ix2 i j) = ∑ k : Fin 128, A (ix2 i k) * B (ix2 k j) := by
  have e := congrFun (matmul_cm (φ₁ := .f32) (φ₂ := .f32) dot_S256x128_S128x1024_S256x1024_1_0_0_1_n_n A B) (ix2 i j)
  apply EReal.coe_injective
  refine Eq.trans e.symm ?_
  pointwise [cm_apply]
  simp only [← EReal.coe_mul, coe_sum, ← EReal.coe_add, zero_add]

/-- A matrix by rows and columns as an array. -/
def c2 {m n : ℕ} (f : Fin m → Fin n → ℝ) : (⟨2, ![m, n]⟩ : Shape).Idx → ℝ := fun i => f (i 0) (i 1)

theorem c2_ix {m n : ℕ} (f : Fin m → Fin n → ℝ) (i : Fin m) (j : Fin n) : c2 f (ix2 i j) = f i j := rfl

theorem ext_c2 {m n : ℕ} (A : (⟨2, ![m, n]⟩ : Shape).Idx → ℝ) (f : Fin m → Fin n → ℝ) (h : ∀ i j, A (ix2 i j) = f i j) : A = c2 f := by
  funext i
  obtain ⟨a, b, rfl⟩ : ∃ (a : Fin m) (b : Fin n), i = ix2 a b := ⟨i 0, i 1, eq_ix2 i⟩
  exact h a b

theorem slice_c2 {m n m' n' : ℕ} (f : Fin m → Fin n → ℝ) (a b : ℕ)
    (h : (⟨2, ![m, n]⟩ : Shape).Slices ![a, b] ⟨2, ![m', n']⟩) :
    extractStridedSlice ⟨2, ![m', n']⟩ ![a, b] (c2 f) h
      = c2 fun (i : Fin m') (j : Fin n') => f ⟨a + i.val, Nat.lt_of_lt_of_le (Nat.add_lt_add_left i.isLt _) (h.2 0)⟩
          ⟨b + j.val, Nat.lt_of_lt_of_le (Nat.add_lt_add_left j.isLt _) (h.2 1)⟩ := rfl

theorem bto_c2a (f : Fin 1 → Fin 128 → ℝ) : broadcastTo S64x128 (c2 f) broadcasts_S1x128_S64x128 = c2 fun _ j => f 0 j := rfl
theorem bto_c2b (f : Fin 1 → Fin 128 → ℝ) : broadcastTo S128x128 (c2 f) broadcasts_S1x128_S128x128 = c2 fun _ j => f 0 j := rfl
theorem bto_c2c (f : Fin 1 → Fin 256 → ℝ) : broadcastTo S256x256 (c2 f) broadcasts_S1x256_S256x256 = c2 fun _ j => f 0 j := rfl
theorem bto_c2d (f : Fin 1 → Fin 128 → ℝ) : broadcastTo S256x128 (c2 f) broadcasts_S1x128_S256x128 = c2 fun _ j => f 0 j := rfl
theorem bto_c2e (f : Fin 256 → Fin 1 → ℝ) : broadcastTo S256x128 (c2 f) broadcasts_S256x1_S256x128 = c2 fun i _ => f i 0 := rfl
theorem bto_c2f (f : Fin 1 → Fin 128 → ℝ) : broadcastTo S264x128 (c2 f) broadcasts_S1x128_S264x128 = c2 fun _ j => f 0 j := rfl

/-- A matrix as the block of one leading row. -/
def c3 {m n : ℕ} (S : Fin m → Fin n → ℝ) : (⟨3, ![1, m, n]⟩ : Shape).Idx → ℝ := fun i => S (i 1) (i 2)

theorem c3_ix {m n : ℕ} (S : Fin m → Fin n → ℝ) (u : Fin 1) (i : Fin m) (j : Fin n) : c3 S (ix3 u i j) = S i j := rfl

theorem cast_c32 (S : Fin 128 → Fin 128 → ℝ) : shapeCast S128x128 (c3 S) shapeCasts_S1x128x128_S128x128 = c2 S := by
  apply ext_c2
  intro i j
  pointwise [c3_ix]

theorem cast_c23 (S : Fin 128 → Fin 128 → ℝ) : shapeCast S1x128x128 (c2 S) shapeCasts_S128x128_S1x128x128 = c3 S := by
  funext i
  idx_vars i
  pointwise [c3_ix, c2_ix]

theorem cast_c3z (S : Fin 64 → Fin 128 → ℝ) : shapeCast S64x128 (c3 S) shapeCasts_S1x64x128_S64x128 = c2 S := by
  apply ext_c2
  intro i j
  pointwise [c3_ix]

theorem cast_11 (A : S1x128.Idx → ℝ) : shapeCast S1x128 A shapeCasts_S1x128_S1x128 = A := by
  funext i
  idx_vars i
  pointwise

theorem cat2b_c2 (f g : Fin 64 → Fin 128 → ℝ) :
    concatenate S128x128 0 [⟨S64x128, c2 f⟩, ⟨S64x128, c2 g⟩] concatenates_S64x128_S64x128_S128x128_d0
      = c2 fun i j => if h : i.val < 64 then f ⟨i.val, h⟩ j else g ⟨i.val - 64, by omega⟩ j := by
  apply ext_c2
  intro i j
  pointwise [c2_ix]

/-- Four blocks of 64 rows on top of each other. -/
def st4 (f : Fin 4 → Fin 64 → Fin 128 → ℝ) (i : Fin 256) (j : Fin 128) : ℝ := f ⟨i.val / 64, by omega⟩ ⟨i.val % 64, by omega⟩ j

theorem cat4_c2 (f : Fin 4 → Fin 64 → Fin 128 → ℝ) :
    concatenate S256x128 0 [⟨S64x128, c2 (f 0)⟩, ⟨S64x128, c2 (f 1)⟩, ⟨S64x128, c2 (f 2)⟩, ⟨S64x128, c2 (f 3)⟩] concatenates_S64x128_S64x128_S64x128_S64x128_S256x128_d0
      = c2 (st4 f) := by
  apply ext_c2
  intro i j
  have key : ∀ (h : Fin 4) (r : Fin 64) (w : Fin 256), w.val = 64 * h.val + r.val → st4 f w j = f h r j := by
    intro h r w hw
    have e1 : (⟨w.val / 64, by omega⟩ : Fin 4) = h := Fin.ext (by show w.val / 64 = h.val; omega)
    have e2 : (⟨w.val % 64, by omega⟩ : Fin 64) = r := Fin.ext (by show w.val % 64 = r.val; omega)
    unfold st4
    rw [e1, e2]
  pointwise [c2_ix]
  split
  · exact (key 0 _ i (by simp only [Fin.val_zero]; omega)).symm
  · split
    · exact (key 1 _ i (by simp only [Fin.val_one]; omega)).symm
    · split
      · exact (key 2 _ i (by simp only [Fin.val_two]; omega)).symm
      · exact (key 3 _ i (by show i.val = 64 * 3 + _; simp only; omega)).symm

theorem rmmc1 (A : Fin 256 → Fin 128 → ℝ) (B : Fin 256 → Fin 128 → ℝ) :
    rmm dot_S256x128_S256x128_S256x256_1_1_0_0_n_n (c2 A) (c2 B) = c2 fun i j => ∑ k, A i k * B j k :=
  ext_c2 _ _ fun i j => rmm1 _ _ i j
theorem rmmc3 (A : Fin 128 → Fin 128 → ℝ) (B : Fin 128 → Fin 128 → ℝ) :
    rmm dot_S128x128_S128x128_S128x128_1_0_0_1_n_n (c2 A) (c2 B) = c2 fun i j => ∑ k, A i k * B k j :=
  ext_c2 _ _ fun i j => rmm3 _ _ i j
theorem rmmc4 (A : Fin 64 → Fin 128 → ℝ) (B : Fin 64 → Fin 128 → ℝ) :
    rmm dot_S64x128_S64x128_S128x128_0_0_1_1_n_n (c2 A) (c2 B) = c2 fun i j => ∑ k, A k i * B k j :=
  ext_c2 _ _ fun i j => rmm4 _ _ i j
theorem rmmc5 (A : Fin 256 → Fin 256 → ℝ) (B : Fin 256 → Fin 128 → ℝ) :
    rmm dot_S256x256_S256x128_S256x128_1_0_0_1_n_n (c2 A) (c2 B) = c2 fun i j => ∑ k, A i k * B k j :=
  ext_c2 _ _ fun i j => rmm5 _ _ i j
theorem rmmc6 (A : Fin 256 → Fin 128 → ℝ) (B : Fin 128 → Fin 1024 → ℝ) :
    rmm dot_S256x128_S128x1024_S256x1024_1_0_0_1_n_n (c2 A) (c2 B) = c2 fun i j => ∑ k, A i k * B k j :=
  ext_c2 _ _ fun i j => rmm6 _ _ i j

theorem addf_c2 {m n : ℕ} (A B : Fin m → Fin n → ℝ) :
    addf (cm (c2 A) : FVec Ideal ⟨2, ![m, n]⟩ φ) (cm (c2 B)) = cm (c2 fun i j => A i j + B i j) := addf_cm _ _
theorem subf_c2 {m n : ℕ} (A B : Fin m → Fin n → ℝ) :
    subf (cm (c2 A) : FVec Ideal ⟨2, ![m, n]⟩ φ) (cm (c2 B)) = cm (c2 fun i j => A i j - B i j) := subf_cm _ _
theorem mulf_c2 {m n : ℕ} (A B : Fin m → Fin n → ℝ) :
    mulf (cm (c2 A) : FVec Ideal ⟨2, ![m, n]⟩ φ) (cm (c2 B)) = cm (c2 fun i j => A i j * B i j) := mulf_cm _ _
theorem exp_c2 {m n : ℕ} (A : Fin m → Fin n → ℝ) :
    exp (cm (c2 A) : FVec Ideal ⟨2, ![m, n]⟩ φ) = cm (c2 fun i j => Real.exp (A i j)) := rfl

/-- The value of the word `1e-6`. -/
def epsR : ℝ := (Ideal.ofBits .f32 0x358637BD#32).toReal

theorem eps_pos_coe : Ideal.ofBits .f32 0x358637BD#32 = ((epsR : ℝ) : EReal) ∧ 0 < epsR := by
  have h : ∃ r : ℝ, Ideal.ofBits .f32 0x358637BD#32 = ((r : ℝ) : EReal) ∧ 0 < r := by
    refine ⟨_, by simp [Ideal.ofBits, Ideal.ieee, -EReal.coe_mul]; rfl, by norm_num⟩
  obtain ⟨r, hr, hp⟩ := h
  have : epsR = r := by rw [epsR, hr, EReal.toReal_coe]
  rw [this]
  exact ⟨hr, hp⟩

theorem eps_coe : Ideal.ofBits .f32 0x358637BD#32 = ((epsR : ℝ) : EReal) := eps_pos_coe.1
theorem eps_pos : 0 < epsR := eps_pos_coe.2

theorem rsqrt_pos {x : ℝ} (h : 0 < x) : Ideal.rsqrt ((x : ℝ) : EReal) = (((Real.sqrt x)⁻¹ : ℝ) : EReal) := by
  rw [Ideal.rsqrt_coe, if_neg (not_lt.mpr h.le), if_neg h.ne']

/-- The logistic gate of a real. -/
def siluR (x : ℝ) : ℝ := x * (1 / (1 + Real.exp (-x)))

theorem silu_half (x : ℝ) : 1 / 2 * x + 1 / 2 * x * Real.tanh (1 / 2 * x) = siluR x := by
  unfold siluR
  have e1 : Real.exp (-x) = Real.exp (-(1 / 2 * x)) * Real.exp (-(1 / 2 * x)) := by rw [← Real.exp_add]; ring_nf
  have e2 : Real.exp (1 / 2 * x) * Real.exp (-(1 / 2 * x)) = 1 := by rw [← Real.exp_add]; simp
  have p1 := Real.exp_pos (1 / 2 * x)
  have p2 := Real.exp_pos (-(1 / 2 * x))
  rw [Real.tanh_eq_sinh_div_cosh, Real.sinh_eq, Real.cosh_eq, e1]
  generalize Real.exp (1 / 2 * x) = a at *
  generalize Real.exp (-(1 / 2 * x)) = b at *
  have h1 : (a + b) / 2 ≠ 0 := by positivity
  have h2 : 1 + b * b ≠ 0 := by positivity
  have h3 : a + b ≠ 0 := by positivity
  field_simp
  linear_combination (2 * x * b) * e2

theorem tanh_c2 {m n : ℕ} (A : Fin m → Fin n → ℝ) :
    tanh (cm (c2 A) : FVec Ideal ⟨2, ![m, n]⟩ φ) = cm (c2 fun i j => Real.tanh (A i j)) := rfl

theorem half_cm' {m n : ℕ} : (broadcast ⟨2, ![m, n]⟩ (Scalar.ofBits (F := Ideal) .f32 0x3F000000#32) : FVec Ideal ⟨2, ![m, n]⟩ .f32) = cm (c2 fun _ _ => 1 / 2) :=
  half_cm

theorem sumrow_c2 (A : Fin 256 → Fin 128 → ℝ) :
    shapeCast S256x1 (multiReduction .add [1] S256 (cm (c2 A) : FVec Ideal S256x128 .f32) 0x00000000#32 reduces_S256x128_S256 (.inl rfl) rfl) shapeCasts_S256_S256x1
      = cm (c2 fun i _ => ∑ k, A i k) := by
  funext i
  idx_vars i
  pointwise [cm_apply, c2_ix]
  simp only [coe_sum]

theorem sum_sq_pos (f : Fin 128 → ℝ) (c : ℝ) (hc : 0 ≤ c) : 0 < (∑ k, f k * f k) * c + epsR :=
  add_pos_of_nonneg_of_pos (mul_nonneg (Finset.sum_nonneg fun k _ => mul_self_nonneg _) hc) eps_pos

theorem nrm_c2 (o : Fin 256 → Fin 128 → ℝ) :
    mulf (cm (c2 o) : FVec Ideal S256x128 .f32) (broadcastTo S256x128 (rsqrt (addf (divf (cm (c2 fun i _ => ∑ k, o i k * o i k))
      (broadcast S256x1 (Scalar.ofBits .f32 0x43000000#32))) (broadcast S256x1 (Scalar.ofBits .f32 0x358637BD#32)))) broadcasts_S256x1_S256x128)
      = cm (c2 fun i e => o i e * (Real.sqrt ((∑ k, o i k * o i k) * (1 / 128) + epsR))⁻¹) := by
  have e128 : Ideal.ofBits .f32 0x43000000#32 = ((128 : ℝ) : EReal) := by
    simp [Ideal.ofBits, Ideal.ieee, -EReal.coe_mul]; norm_num
  funext i
  idx_vars i
  pointwise [cm_apply, c2_ix, eps_coe, e128]
  rw [Ideal.div_coe (by norm_num), ← EReal.coe_mul, ← EReal.coe_add, rsqrt_pos (sum_sq_pos _ _ (by norm_num)), ← EReal.coe_mul]

theorem l2_c2 (o : Fin 256 → Fin 128 → ℝ) :
    mulf (cm (c2 o) : FVec Ideal S256x128 .f32) (broadcastTo S256x128 (rsqrt (addf (cm (c2 fun i _ => ∑ k, o i k * o i k))
      (broadcast S256x1 (Scalar.ofBits .f32 0x358637BD#32)))) broadcasts_S256x1_S256x128)
      = cm (c2 fun i e => o i e * (Real.sqrt ((∑ k, o i k * o i k) + epsR))⁻¹) := by
  funext i
  idx_vars i
  pointwise [cm_apply, c2_ix, eps_coe]
  have h := sum_sq_pos (o i0) 1 zero_le_one
  rw [mul_one] at h
  rw [← EReal.coe_add, rsqrt_pos h, ← EReal.coe_mul]

end Dn

end
-- ==== Proof.DnMath.lean ====
/-
  One head of the gated delta rule over the reals: the token recurrence, its closed form, and the chunk of 64 tokens that
  the kernel computes by solving a unit lower triangular system.
-/
module

public import Mathlib.Data.Matrix.Mul
public import Mathlib.Analysis.SpecialFunctions.Exp
public import Mathlib.Algebra.BigOperators.Fin
public import Mathlib.Tactic.Ring
public import Mathlib.Tactic.NoncommRing
public import Mathlib.Tactic.Abel
public import Mathlib.Tactic.Linarith

@[expose] public section

noncomputable section

namespace Dn

/-- A state of one head: key coordinate, value coordinate. -/
abbrev St := Fin 128 → Fin 128 → ℝ

/-- One token: decay, the delta correction and the write. -/
def tok (a b : ℝ) (k v : Fin 128 → ℝ) (S : St) : St :=
  fun d e => a * (S d e - b * k d * ∑ x, k x * S x e) + b * k d * v e

/-- The state after `n` tokens. -/
def run (g b : ℕ → ℝ) (k v : ℕ → Fin 128 → ℝ) (S : St) : ℕ → St
  | 0 => S
  | n + 1 => tok (Real.exp (g n)) (b n) (k n) (v n) (run g b k v S n)

theorem run_add (g b : ℕ → ℝ) (k v : ℕ → Fin 128 → ℝ) (S : St) (m n : ℕ) :
    run g b k v S (m + n)
      = run (fun i => g (m + i)) (fun i => b (m + i)) (fun i => k (m + i)) (fun i => v (m + i)) (run g b k v S m) n := by
  induction n with
  | zero => rfl
  | succ n ih => rw [← Nat.add_assoc, run, ih, run]

theorem run_congr (g b g' b' : ℕ → ℝ) (k v k' v' : ℕ → Fin 128 → ℝ) (S : St) (n : ℕ)
    (hg : ∀ i < n, g i = g' i) (hb : ∀ i < n, b i = b' i) (hk : ∀ i < n, k i = k' i) (hv : ∀ i < n, v i = v' i) :
    run g b k v S n = run g' b' k' v' S n := by
  induction n with
  | zero => rfl
  | succ n ih =>
    rw [run, run, ih (fun i h => hg i (by omega)) (fun i h => hb i (by omega)) (fun i h => hk i (by omega))
      (fun i h => hv i (by omega)), hg n (by omega), hb n (by omega), hk n (by omega), hv n (by omega)]

section Closed

variable (g b : ℕ → ℝ) (k v : ℕ → Fin 128 → ℝ) (S : St)

/-- The sum of the log decays of the first `n` tokens. -/
def cum (n : ℕ) : ℝ := ∑ i ∈ Finset.range n, g i

/-- What token `n` writes along its key. -/
def delta (n : ℕ) : Fin 128 → ℝ :=
  fun e => b n * (v n e - Real.exp (g n) * ∑ x, k n x * run g b k v S n x e)

theorem run_succ (n : ℕ) (d e : Fin 128) :
    run g b k v S (n + 1) d e = Real.exp (g n) * run g b k v S n d e + k n d * delta g b k v S n e := by
  simp only [run, tok, delta]
  ring

theorem run_closed (n : ℕ) (d e : Fin 128) :
    run g b k v S n d e = Real.exp (cum g n) * S d e
      + ∑ j ∈ Finset.range n, k j d * Real.exp (cum g n - cum g (j + 1)) * delta g b k v S j e := by
  induction n with
  | zero => simp [run, cum]
  | succ n ih =>
    rw [run_succ, ih, Finset.sum_range_succ, sub_self, Real.exp_zero]
    have h1 : cum g (n + 1) = g n + cum g n := by rw [cum, Finset.sum_range_succ, ← cum]; ring
    rw [mul_add, Finset.mul_sum]
    have h2 : ∀ j ∈ Finset.range n, Real.exp (g n) * (k j d * Real.exp (cum g n - cum g (j + 1)) * delta g b k v S j e)
        = k j d * Real.exp (cum g (n + 1) - cum g (j + 1)) * delta g b k v S j e := by
      intro j _
      rw [h1, add_sub_assoc, Real.exp_add]
      ring
    rw [Finset.sum_congr rfl h2, h1, Real.exp_add]
    ring

/-- The corrections solve the unit lower triangular system. -/
theorem delta_eq (n : ℕ) (e : Fin 128) :
    delta g b k v S n e = b n * v n e - ∑ d, k n d * b n * Real.exp (cum g (n + 1)) * S d e
      - ∑ j ∈ Finset.range n, (∑ d, k n d * b n * k j d) * Real.exp (cum g (n + 1) - cum g (j + 1)) * delta g b k v S j e := by
  have h1 : cum g (n + 1) = g n + cum g n := by rw [cum, Finset.sum_range_succ, ← cum]; ring
  conv_lhs => rw [delta]
  have h2 : ∀ x, k n x * run g b k v S n x e = k n x * Real.exp (cum g n) * S x e
      + ∑ j ∈ Finset.range n, k n x * k j x * Real.exp (cum g n - cum g (j + 1)) * delta g b k v S j e := by
    intro x
    rw [run_closed, mul_add, Finset.mul_sum]
    congr 1
    · ring
    · exact Finset.sum_congr rfl fun j _ => by ring
  rw [Finset.sum_congr rfl fun x _ => h2 x, Finset.sum_add_distrib, Finset.sum_comm]
  rw [mul_sub, mul_add, mul_add, sub_sub, Finset.mul_sum, Finset.mul_sum, Finset.mul_sum, Finset.mul_sum]
  congr 2
  · exact Finset.sum_congr rfl fun x _ => by rw [h1, Real.exp_add]; ring
  · refine Finset.sum_congr rfl fun j _ => ?_
    rw [Finset.mul_sum, Finset.mul_sum, Finset.sum_mul, Finset.sum_mul]
    refine Finset.sum_congr rfl fun x _ => ?_
    rw [h1, add_sub_assoc, Real.exp_add]
    ring

/-- Whatever solves the system is the corrections. -/
theorem eq_delta (N : ℕ) (w : ℕ → Fin 128 → ℝ)
    (h : ∀ n < N, ∀ e, w n e = b n * v n e - ∑ d, k n d * b n * Real.exp (cum g (n + 1)) * S d e
      - ∑ j ∈ Finset.range n, (∑ d, k n d * b n * k j d) * Real.exp (cum g (n + 1) - cum g (j + 1)) * w j e) :
    ∀ n < N, ∀ e, w n e = delta g b k v S n e := by
  intro n
  induction n using Nat.strong_induction_on with
  | _ n ih =>
    intro hn e
    rw [h n hn e, delta_eq]
    congr 1
    refine Finset.sum_congr rfl fun j hj => ?_
    have hj' := Finset.mem_range.mp hj
    rw [ih j hj' (by omega) e]

/-- The state read by a query after token `n`. -/
theorem out_closed (n : ℕ) (q : Fin 128 → ℝ) (e : Fin 128) :
    ∑ d, q d * run g b k v S (n + 1) d e = ∑ d, q d * Real.exp (cum g (n + 1)) * S d e
      + ∑ j ∈ Finset.range (n + 1), (∑ d, q d * k j d) * Real.exp (cum g (n + 1) - cum g (j + 1)) * delta g b k v S j e := by
  have h2 : ∀ x, q x * run g b k v S (n + 1) x e = q x * Real.exp (cum g (n + 1)) * S x e
      + ∑ j ∈ Finset.range (n + 1), q x * k j x * Real.exp (cum g (n + 1) - cum g (j + 1)) * delta g b k v S j e := by
    intro x
    rw [run_closed, mul_add, Finset.mul_sum]
    congr 1
    · ring
    · exact Finset.sum_congr rfl fun j _ => by ring
  rw [Finset.sum_congr rfl fun x _ => h2 x, Finset.sum_add_distrib, Finset.sum_comm]
  congr 1
  refine Finset.sum_congr rfl fun j _ => ?_
  rw [Finset.sum_mul, Finset.sum_mul]

end Closed

section Neumann

/-- The first half of the product of doubled factors. -/
def neu1 {n : Type} [Fintype n] [DecidableEq n] (X : Matrix n n ℝ) : Matrix n n ℝ :=
  ((1 + X) + (1 + X) * (X * X))
    * ((1 + (X * X) * (X * X)) + (1 + (X * X) * (X * X)) * (((X * X) * (X * X)) * ((X * X) * (X * X))))

/-- The second half of the product of doubled factors. -/
def neu2 {n : Type} [Fintype n] [DecidableEq n] (X : Matrix n n ℝ) : Matrix n n ℝ :=
  (1 + (((X * X) * (X * X)) * ((X * X) * (X * X))) * (((X * X) * (X * X)) * ((X * X) * (X * X))))
    + (1 + (((X * X) * (X * X)) * ((X * X) * (X * X))) * (((X * X) * (X * X)) * ((X * X) * (X * X))))
      * (((((X * X) * (X * X)) * ((X * X) * (X * X))) * (((X * X) * (X * X)) * ((X * X) * (X * X))))
        * ((((X * X) * (X * X)) * ((X * X) * (X * X))) * (((X * X) * (X * X)) * ((X * X) * (X * X)))))

/-- The product of the doubled factors inverts `1 - X`. -/
theorem neumann {n : Type} [Fintype n] [DecidableEq n] (X : Matrix n n ℝ) (h : X ^ 64 = 0) :
    (1 - X) * (neu1 X * neu2 X) = 1 := by
  unfold neu1 neu2
  have e2 : X * X = X ^ 2 := (sq X).symm
  have e4 : X ^ 2 * X ^ 2 = X ^ 4 := by rw [← pow_add]
  have e8 : X ^ 4 * X ^ 4 = X ^ 8 := by rw [← pow_add]
  have e16 : X ^ 8 * X ^ 8 = X ^ 16 := by rw [← pow_add]
  have e32 : X ^ 16 * X ^ 16 = X ^ 32 := by rw [← pow_add]
  have e64 : X ^ 32 * X ^ 32 = 0 := by rw [← pow_add, h]
  have t (Y : Matrix n n ℝ) (p q : ℕ) (hq : q = p + p) : (1 - X ^ p) * (1 + X ^ p) = 1 - X ^ q := by
    rw [mul_add, sub_mul, sub_mul, ← pow_add, hq]; simp
  rw [e2, e4, e8, e16, e32]
  have a1 : (1 - X) * ((1 + X) + (1 + X) * X ^ 2) = 1 - X ^ 4 := by
    have : (1 + X) + (1 + X) * X ^ 2 = (1 + X) * (1 + X ^ 2) := by rw [mul_add (1 + X), mul_one]
    rw [this, ← mul_assoc, show (1 - X) * (1 + X) = 1 - X ^ 2 by simpa using t X 1 2 rfl, t X 2 4 rfl]
  have a2 : (1 - X ^ 4) * ((1 + X ^ 4) + (1 + X ^ 4) * X ^ 8) = 1 - X ^ 16 := by
    have : (1 + X ^ 4) + (1 + X ^ 4) * X ^ 8 = (1 + X ^ 4) * (1 + X ^ 8) := by rw [mul_add (1 + X ^ 4), mul_one]
    rw [this, ← mul_assoc, t X 4 8 rfl, t X 8 16 rfl]
  have a3 : (1 - X ^ 16) * ((1 + X ^ 16) + (1 + X ^ 16) * X ^ 32) = 1 := by
    have : (1 + X ^ 16) + (1 + X ^ 16) * X ^ 32 = (1 + X ^ 16) * (1 + X ^ 32) := by rw [mul_add (1 + X ^ 16), mul_one]
    rw [this, ← mul_assoc, t X 16 32 rfl, t X 32 64 rfl, h, sub_zero]
  rw [← mul_assoc, ← mul_assoc, a1, a2, a3]

/-- A strictly lower matrix in diagonal blocks of 64 has a vanishing 64th power. -/
theorem pow64 (X : Matrix (Fin 256) (Fin 256) ℝ)
    (hX : ∀ i j : Fin 256, ¬(i.val / 64 = j.val / 64 ∧ j.val < i.val) → X i j = 0) : X ^ 64 = 0 := by
  have key : ∀ p : ℕ, ∀ i j : Fin 256, ¬(i.val / 64 = j.val / 64 ∧ j.val + p ≤ i.val) → (X ^ p) i j = 0 := by
    intro p
    induction p with
    | zero =>
      intro i j h
      rw [pow_zero, Matrix.one_apply, if_neg]
      rintro rfl
      exact h ⟨rfl, by omega⟩
    | succ p ih =>
      intro i j h
      rw [pow_succ, Matrix.mul_apply]
      refine Finset.sum_eq_zero fun l _ => ?_
      by_cases h1 : i.val / 64 = l.val / 64 ∧ l.val + p ≤ i.val
      · rw [hX l j (by rintro ⟨h2, h3⟩; exact h ⟨h1.1.trans h2, by omega⟩), mul_zero]
      · rw [ih i l h1, zero_mul]
  ext i j
  rw [key 64 i j (by omega)]
  rfl

end Neumann

end Dn

end
-- ==== Proof.DnStage.lean ====
/-
  The body of the delta-rule kernel by stages, at arrays of reals: the chunk's decay matrix, its triangular system, and
  the entries of each.
-/
module

public import proofs.«01_k».proof.Proof.DnTwin
public import proofs.«01_k».proof.Proof.DnMath

@[expose] public section

set_option maxRecDepth 16384

noncomputable section

open Idealize.ShloMosaic Idealize.ShloMosaic.TcCoe Idealize.SL.Sem

namespace Dn

open Cert.KernelIdeal Cert.KernelIdeal.Gen

abbrev mIncl : IVec S256x256 1 := kernelRun0_B.sl.r_31
abbrev mStrict : IVec S256x256 1 := kernelRun0_B.sl.r_32
abbrev eyeK : FVec Ideal S256x256 .f32 := k0_pay57 (iota .tc S256x256 32 [0] iota_S256x256_d0_w32) (iota .tc S256x256 32 [1] iota_S256x256_d1_w32)

/-- The floor quotient by 64 that the body computes on words. -/
theorem quot64 : ∀ b : Fin 256, Scalar.select
    (IntOp.andi
      (IntOp.cmpi CmpIPredicate.ne
        (IntOp.subi (BitVec.setWidth 32 (IntOp.cmpi CmpIPredicate.sgt (BitVec.ofNat 32 b.val) 0#32))
          (BitVec.setWidth 32 (IntOp.cmpi CmpIPredicate.slt (BitVec.ofNat 32 b.val) 0#32)))
        1#32)
      (IntOp.cmpi CmpIPredicate.ne (IntOp.remsi ArithUnit.vector (BitVec.ofNat 32 b.val) 64#32) 0#32))
    (IntOp.subi (IntOp.divsi ArithUnit.vector (BitVec.ofNat 32 b.val) 64#32) 1#32)
    (IntOp.divsi ArithUnit.vector (BitVec.ofNat 32 b.val) 64#32) = BitVec.ofNat 32 (b.val / 64) := by decide +kernel

theorem eq4 : ∀ p q : Fin 4, IntOp.cmpi CmpIPredicate.eq (BitVec.ofNat 32 p.val) (BitVec.ofNat 32 q.val)
    = if p = q then 1#1 else 0#1 := by decide +kernel

theorem sge256 (i j : Fin 256) : IntOp.cmpi CmpIPredicate.sge (BitVec.ofNat 32 i.val) (BitVec.ofNat 32 j.val)
    = if j.val ≤ i.val then 1#1 else 0#1 := by
  have h1 : (BitVec.ofNat 32 j.val).toInt = j.val := by revert j; decide +kernel
  have h2 : (BitVec.ofNat 32 i.val).toInt = i.val := by revert i; decide +kernel
  simp only [IntOp.cmpi, BitVec.sle, h1, h2]
  by_cases h : j.val ≤ i.val <;> simp [h]

theorem sgt256 (i j : Fin 256) : IntOp.cmpi CmpIPredicate.sgt (BitVec.ofNat 32 i.val) (BitVec.ofNat 32 j.val)
    = if j.val < i.val then 1#1 else 0#1 := by
  have h1 : (BitVec.ofNat 32 j.val).toInt = j.val := by revert j; decide +kernel
  have h2 : (BitVec.ofNat 32 i.val).toInt = i.val := by revert i; decide +kernel
  simp only [IntOp.cmpi, BitVec.slt, h1, h2]
  by_cases h : j.val < i.val <;> simp [h]

theorem eq256 (i j : Fin 256) : IntOp.cmpi CmpIPredicate.eq (BitVec.ofNat 32 i.val) (BitVec.ofNat 32 j.val)
    = if i = j then 1#1 else 0#1 := by
  have h1 : (BitVec.ofNat 32 j.val).toNat = j.val := by revert j; decide +kernel
  have h2 : (BitVec.ofNat 32 i.val).toNat = i.val := by revert i; decide +kernel
  have h3 : (BitVec.ofNat 32 i.val = BitVec.ofNat 32 j.val) ↔ i = j := by
    constructor
    · intro h
      have := congrArg BitVec.toNat h
      rw [h1, h2] at this
      exact Fin.ext this
    · rintro rfl; rfl
  simp only [IntOp.cmpi]
  by_cases h : i = j
  · simp [h]
  · rw [if_neg h, beq_eq_false_iff_ne.mpr (fun hc => h (h3.mp hc))]
    rfl

theorem and1 (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem same64 (i j : Fin 256) : IntOp.cmpi CmpIPredicate.eq (BitVec.ofNat 32 (i.val / 64)) (BitVec.ofNat 32 (j.val / 64))
    = if i.val / 64 = j.val / 64 then 1#1 else 0#1 := by
  have e := eq4 ⟨i.val / 64, by omega⟩ ⟨j.val / 64, by omega⟩
  simpa only [Fin.mk.injEq] using e

theorem mIncl_at (i j : Fin 256) : mIncl (ix2 i j) = if i.val / 64 = j.val / 64 ∧ j.val ≤ i.val then 1#1 else 0#1 := by
  unfold mIncl kernelRun0_B.sl.r_31
  pointwise [k0_pay55, k0_pay54, kernelRun0_B.sl.v682, kernelRun0_B.sl.v698, kernelRun0_B.sl.v661, kernelRun0_B.sl.v674,
    kernelRun0_B.sl.v678, kernelRun0_B.sl.v681, kernelRun0_B.sl.v657, kernelRun0_B.sl.v658, kernelRun0_B.sl.v659,
    kernelRun0_B.sl.v663, kernelRun0_B.sl.v666, kernelRun0_B.sl.v673, kernelRun0_B.sl.v687, kernelRun0_B.sl.v690]
  refine Eq.trans ?_ (and1 _ _)
  rw [← same64, ← sge256, ← quot64 i, ← quot64 j]

theorem mStrict_at (i j : Fin 256) : mStrict (ix2 i j) = if i.val / 64 = j.val / 64 ∧ j.val < i.val then 1#1 else 0#1 := by
  unfold mStrict kernelRun0_B.sl.r_32
  pointwise [k0_pay56, k0_pay54, kernelRun0_B.sl.v682, kernelRun0_B.sl.v698, kernelRun0_B.sl.v661, kernelRun0_B.sl.v674,
    kernelRun0_B.sl.v678, kernelRun0_B.sl.v681, kernelRun0_B.sl.v657, kernelRun0_B.sl.v658, kernelRun0_B.sl.v659,
    kernelRun0_B.sl.v663, kernelRun0_B.sl.v666, kernelRun0_B.sl.v673, kernelRun0_B.sl.v687, kernelRun0_B.sl.v690]
  refine Eq.trans ?_ (and1 _ _)
  rw [← same64, ← sgt256, ← quot64 i, ← quot64 j]

theorem sel1 {α : Type} (p : Prop) [Decidable p] (a b : α) : Scalar.select (if p then 1#1 else 0#1) a b = if p then a else b := by
  by_cases h : p <;> simp [h, Scalar.select]

theorem eyeK_cm : eyeK = cm (c2 fun i j => if i = j then 1 else 0) := by
  unfold eyeK
  simp only [k0_pay57, one_cm, zero_cm, select_cm]
  apply congrArg cm
  apply ext_c2
  intro i j
  pointwise
  rw [eq256, sel1]

/-- The chunk's decay matrix, from the cumulated log decays. -/
def sDecay (g : FVec Ideal S256x128 .f32) : FVec Ideal S256x256 .f32 :=
  k0_pay83 (F := Ideal) mIncl (iota .tc S256x128 32 [1] iota_S256x128_d1_w32) g (k0_pay78) (k0_pay79 g) (k0_pay81 g) (k0_pay82 g)

def rDecay (γ : Fin 256 → ℝ) (i j : Fin 256) : ℝ := if i.val / 64 = j.val / 64 ∧ j.val ≤ i.val then Real.exp (γ i - γ j) else 0

theorem pick_cm : k0_pay78 (F := Ideal) = cm (c2 fun i j => if i.val = 0 ∧ j.val < 3 then 1 else 0) := by
  have e1 : ∀ i : Fin 16, IntOp.cmpi CmpIPredicate.eq (BitVec.ofNat 32 i.val) 0#32 = if i.val = 0 then 1#1 else 0#1 := by decide +kernel
  have e2 : ∀ i : Fin 128, IntOp.cmpi CmpIPredicate.slt (BitVec.ofNat 32 i.val) 3#32 = if i.val < 3 then 1#1 else 0#1 := by decide +kernel
  simp only [k0_pay78, one_cm, zero_cm, select_cm, truncf_cm]
  apply congrArg cm
  apply ext_c2
  intro i j
  pointwise
  rw [e1, e2, and1, sel1]

theorem sDecay_cm (γ : Fin 256 → ℝ) : sDecay (cm (c2 fun i _ => γ i)) = cm (c2 (rDecay γ)) := by
  have e1 : ∀ i : Fin 128, IntOp.cmpi CmpIPredicate.eq (BitVec.ofNat 32 i.val) 0#32 = if i.val = 0 then 1#1 else 0#1 := by decide +kernel
  unfold sDecay
  simp only [k0_pay83, k0_pay82, k0_pay81, k0_pay80, k0_pay79, pick_cm, one_cm, zero_cm, select_cm, truncf_cm, extf_cm,
    subf_cm, const_cm, matmul_cm, slice_cm, cat2a_cm, bto_cm, exp_cm]
  apply congrArg cm
  apply ext_c2
  intro i j
  pointwise [rmm2, c2_ix, sub_self]
  simp only [mIncl_at, sel1, e1]
  unfold rDecay
  by_cases h : i.val / 64 = j.val / 64 ∧ j.val ≤ i.val
  · simp only [if_pos h]
    have e2 : ∑ x : Fin 3, Scalar.select (IntOp.cmpi CmpIPredicate.eq (BitVec.ofNat 32 x.val) 0#32) (γ j) 0 = γ j := by
      rw [Fin.sum_univ_three]
      simp [IntOp.cmpi, Scalar.select]
    have e3 : ∀ c : BitVec 1, Scalar.select c (0 * γ j) 0 = 0 := fun c => by unfold Scalar.select; split <;> simp
    simp only [e2, e3, Finset.sum_const_zero, add_zero, dite_eq_ite, ite_self]
  · simp only [if_neg h]

/-- The negated strictly lower part. -/
def sX (k b g : FVec Ideal S256x128 .f32) : FVec Ideal S256x256 .f32 := k0_pay100 mStrict k b (sDecay g)

def rX (k : Fin 256 → Fin 128 → ℝ) (b γ : Fin 256 → ℝ) (i j : Fin 256) : ℝ :=
  if i.val / 64 = j.val / 64 ∧ j.val < i.val then -((∑ d, k i d * b i * k j d) * Real.exp (γ i - γ j)) else 0

theorem sX_cm (k : Fin 256 → Fin 128 → ℝ) (b γ : Fin 256 → ℝ) :
    sX (cm (c2 k)) (cm (c2 fun i _ => b i)) (cm (c2 fun i _ => γ i)) = cm (c2 (rX k b γ)) := by
  unfold sX
  simp only [sDecay_cm, k0_pay100, k0_pay96, zero_cm, select_cm, truncf_cm, extf_cm,
    subf_cm, mulf_cm, const_cm, matmul_cm]
  apply congrArg cm
  apply ext_c2
  intro i j
  pointwise [rmm1, c2_ix]
  simp only [mStrict_at, sel1, rX, rDecay]
  by_cases h : i.val / 64 = j.val / 64 ∧ j.val < i.val
  · simp only [if_pos h]
    rw [if_pos ⟨h.1, h.2.le⟩, zero_sub]
  · simp only [if_neg h, sub_zero]

def sT1 (X : FVec Ideal S256x256 .f32) : FVec Ideal S256x256 .f32 := k0_pay138 (k0_pay121 (k0_pay113 eyeK X) (k0_pay117 eyeK X)) (k0_pay129 eyeK (k0_pay109 X))
def sT2 (X : FVec Ideal S256x256 .f32) : FVec Ideal S256x256 .f32 := k0_pay144 eyeK (k0_pay133 (k0_pay109 X))

/-- The solved right-hand sides, side by side. -/
def sUW (k v b g : FVec Ideal S256x128 .f32) : FVec Ideal S256x256 .f32 :=
  k0_pay151 v b g (k0_pay96 k b) (sT1 (sX k b g)) (sT2 (sX k b g))

theorem rmm_mul (A B : Matrix (Fin 256) (Fin 256) ℝ) :
    rmm dot_S256x256_S256x256_S256x256_1_0_0_1_n_n (c2 A) (c2 B) = c2 (A * B : Matrix (Fin 256) (Fin 256) ℝ) := by
  apply ext_c2
  intro i j
  rw [rmm0, Matrix.mul_apply]
  rfl

theorem c2_add {m n : ℕ} (A B : Matrix (Fin m) (Fin n) ℝ) : (fun i => c2 A i + c2 B i) = c2 (A + B : Matrix (Fin m) (Fin n) ℝ) := rfl

theorem eye_c2 : (c2 fun i j : Fin 256 => if i = j then (1 : ℝ) else 0) = c2 (1 : Matrix (Fin 256) (Fin 256) ℝ) := by
  apply ext_c2
  intro i j
  rw [c2_ix, Matrix.one_apply]

/-- The right-hand sides. -/
def rRhs (k v : Fin 256 → Fin 128 → ℝ) (b γ : Fin 256 → ℝ) (i j : Fin 256) : ℝ :=
  if h : j.val < 128 then v i ⟨j.val, h⟩ * b i else k i ⟨j.val - 128, by omega⟩ * b i * Real.exp (γ i)

theorem sT1_cm (X : Matrix (Fin 256) (Fin 256) ℝ) : sT1 (cm (c2 X)) = cm (c2 (neu1 X)) := by
  unfold sT1
  simp only [eyeK_cm, k0_pay138, k0_pay121, k0_pay113, k0_pay117, k0_pay129, k0_pay109, k0_pay125, k0_pay105,
    truncf_cm, addf_cm, const_cm, matmul_cm, eye_c2, rmm_mul, c2_add]
  rfl

theorem sT2_cm (X : Matrix (Fin 256) (Fin 256) ℝ) : sT2 (cm (c2 X)) = cm (c2 (neu2 X)) := by
  unfold sT2
  simp only [eyeK_cm, k0_pay144, k0_pay133, k0_pay109, k0_pay125, k0_pay105,
    truncf_cm, addf_cm, const_cm, matmul_cm, eye_c2, rmm_mul, c2_add]
  rfl

theorem sUW_cm (k v : Fin 256 → Fin 128 → ℝ) (b γ : Fin 256 → ℝ) :
    ∃ Y : Matrix (Fin 256) (Fin 256) ℝ,
      sUW (cm (c2 k)) (cm (c2 v)) (cm (c2 fun i _ => b i)) (cm (c2 fun i _ => γ i)) = cm (c2 Y)
      ∧ ∀ i j, Y i j = rRhs k v b γ i j + ∑ l, rX k b γ i l * Y l j := by
  have hr : concatenate S256x256 1 [⟨S256x128, fun i => c2 v i * c2 (fun i _ => b i) i⟩,
      ⟨S256x128, fun i => c2 k i * c2 (fun i _ => b i) i * Real.exp (c2 (fun i _ => γ i) i)⟩] concatenates_S256x128_S256x128_S256x256_d1
      = c2 (rRhs k v b γ) := by
    apply ext_c2
    intro i j
    pointwise [c2_ix, rRhs]
  have hY := neumann (Matrix.of (rX k b γ)) (pow64 _ fun i j h => if_neg (fun hc => h ⟨hc.1, hc.2⟩))
  set X : Matrix (Fin 256) (Fin 256) ℝ := Matrix.of (rX k b γ) with hXd
  set R : Matrix (Fin 256) (Fin 256) ℝ := Matrix.of (rRhs k v b γ) with hRd
  refine ⟨(neu1 X * neu2 X) * R, ?_, ?_⟩
  · unfold sUW
    simp only [sX_cm]
    have h1 : sT1 (cm (c2 (rX k b γ))) = _ := sT1_cm X
    have h2 : sT2 (cm (c2 (rX k b γ))) = _ := sT2_cm X
    rw [h1, h2]
    have h3 : concatenate S256x256 1 [⟨S256x128, mulf (φ := .f32) (cm (c2 v)) (cm (c2 fun i _ => b i))⟩,
        ⟨S256x128, mulf (φ := .f32) (mulf (cm (c2 k)) (cm (c2 fun i _ => b i))) (exp (cm (c2 fun i _ => γ i)))⟩] concatenates_S256x128_S256x128_S256x256_d1
        = (cm (c2 R) : FVec Ideal S256x256 .f32) :=
      (cat2a_cm' (mulf_cm _ _) (by rw [mulf_cm, exp_cm, mulf_cm])).trans (congrArg cm hr)
    unfold k0_pay151 k0_pay147 k0_pay96
    dsimp only
    rw [h3]
    simp only [truncf_cm, const_cm, matmul_cm, rmm_mul]
  · intro i j
    have h3 : (neu1 X * neu2 X) * R = R + X * ((neu1 X * neu2 X) * R) := by
      have h4 : (1 - X) * (neu1 X * neu2 X) * R = R := by rw [hY, Matrix.one_mul]
      rw [Matrix.mul_assoc, Matrix.sub_mul, Matrix.one_mul] at h4
      exact sub_eq_iff_eq_add.mp h4
    have h5 := congrFun (congrFun h3 i) j
    rw [Matrix.add_apply, Matrix.mul_apply] at h5
    exact h5

end Dn

end
-- ==== Proof.DnChunk.lean ====
/-
  The delta-rule kernel's chunk at arrays of reals: the corrections, the new states and the read outputs of its four heads.
-/
module

public import proofs.«01_k».proof.Proof.DnStage

@[expose] public section

set_option maxRecDepth 16384

noncomputable section

open Idealize.ShloMosaic Idealize.ShloMosaic.TcCoe Idealize.SL.Sem

namespace Dn

open Cert.KernelIdeal Cert.KernelIdeal.Gen

/-- Row `i` of head `h` in the stacked rows. -/
def rw64 (h : Fin 4) (i : Fin 64) : Fin 256 := ⟨64 * h.val + i.val, by omega⟩

def sAI (q k g : FVec Ideal S256x128 .f32) : FVec Ideal S256x256 .f32 := k0_pay155 mIncl q k (sDecay g)

def rAI (q k : Fin 256 → Fin 128 → ℝ) (γ : Fin 256 → ℝ) (i j : Fin 256) : ℝ :=
  if i.val / 64 = j.val / 64 ∧ j.val ≤ i.val then (∑ d, q i d * k j d) * Real.exp (γ i - γ j) else 0

theorem sAI_cm (q k : Fin 256 → Fin 128 → ℝ) (γ : Fin 256 → ℝ) :
    sAI (cm (c2 q)) (cm (c2 k)) (cm (c2 fun i _ => γ i)) = cm (c2 (rAI q k γ)) := by
  unfold sAI
  simp only [sDecay_cm, k0_pay155, zero_cm, select_cm, truncf_cm, mulf_cm, const_cm, matmul_cm]
  apply congrArg cm
  apply ext_c2
  intro i j
  pointwise [rmm1, c2_ix]
  simp only [mIncl_at, sel1, rAI, rDecay]
  by_cases h : i.val / 64 = j.val / 64 ∧ j.val ≤ i.val
  · simp only [if_pos h]
  · simp only [if_neg h]

def sQD (q g : FVec Ideal S256x128 .f32) : FVec Ideal S256x128 .f32 := k0_pay177 q (k0_pay147 g)

def rQD (q : Fin 256 → Fin 128 → ℝ) (γ : Fin 256 → ℝ) (i : Fin 256) (d : Fin 128) : ℝ := q i d * Real.exp (γ i)

theorem sQD_cm (q : Fin 256 → Fin 128 → ℝ) (γ : Fin 256 → ℝ) :
    sQD (cm (c2 q)) (cm (c2 fun i _ => γ i)) = cm (c2 (rQD q γ)) := by
  unfold sQD
  simp only [k0_pay177, k0_pay147, mulf_cm, exp_cm]
  rfl

def sKD (k g : FVec Ideal S256x128 .f32) : FVec Ideal S256x128 .f32 := k0_pay181 k g

def rKD (k : Fin 256 → Fin 128 → ℝ) (γ : Fin 256 → ℝ) (i : Fin 256) (d : Fin 128) : ℝ :=
  k i d * Real.exp (γ ⟨64 * (i.val / 64) + 63, by omega⟩ - γ i)

theorem sKD_cm (k : Fin 256 → Fin 128 → ℝ) (γ : Fin 256 → ℝ) :
    sKD (cm (c2 k)) (cm (c2 fun i _ => γ i)) = cm (c2 (rKD k γ)) := by
  unfold sKD k0_pay181 k0_pay161 k0_pay162 k0_pay163 k0_pay164
  dsimp only
  have h (o : ℕ) (ho : S256x128.Slices ![o, 0] S1x128) :
      broadcastTo S64x128 (shapeCast S1x128 (extractStridedSlice S1x128 ![o, 0] (cm (c2 fun i (_ : Fin 128) => γ i) : FVec Ideal S256x128 .f32) ho)
        shapeCasts_S1x128_S1x128) broadcasts_S1x128_S64x128 = cm (c2 fun _ _ => γ ⟨o, ho.2 0⟩) := by
    rw [slice_cm, cast_cm, cast_11, bto_cm]
    rfl
  rw [h, h, h, h]
  rw [cat4_cm]
  refine (congrArg (fun z => mulf (cm (c2 k)) (exp (subf (cm z) (cm (c2 fun i _ => γ i)))))
    (cat4_c2 fun h _ _ => γ (rw64 h 63))).trans ?_
  simp only [subf_c2, exp_c2, mulf_c2]
  rfl

/-- The rows of `W` and the decayed queries of head `h`, times its state. -/
def rWQ (h : Fin 4) (Y : Fin 256 → Fin 256 → ℝ) (Q : Fin 256 → Fin 128 → ℝ) (S : St) (i j : Fin 128) : ℝ :=
  if hi : i.val < 64 then ∑ d : Fin 128, Y (rw64 h ⟨i.val, hi⟩) ⟨128 + d.val, by omega⟩ * S d j
  else ∑ d, Q (rw64 h ⟨i.val - 64, by omega⟩) d * S d j

/-- The corrections of head `h`. -/
def rVN (h : Fin 4) (Y : Fin 256 → Fin 256 → ℝ) (S : St) (i : Fin 64) (e : Fin 128) : ℝ :=
  Y (rw64 h i) ⟨e.val, by omega⟩ - ∑ d : Fin 128, Y (rw64 h i) ⟨128 + d.val, by omega⟩ * S d e

/-- The new state of head `h`. -/
def rNS (h : Fin 4) (Y : Fin 256 → Fin 256 → ℝ) (γ : Fin 256 → ℝ) (K : Fin 256 → Fin 128 → ℝ) (S : St) : St := fun d e =>
  S d e * Real.exp (γ (rw64 h 63)) + ∑ i : Fin 64, K (rw64 h i) d * rVN h Y S i e

def sWQ0 (uw : FVec Ideal S256x256 .f32) (qd : FVec Ideal S256x128 .f32) (S : FVec Ideal S1x128x128 .f32) : FVec Ideal S128x128 .f32 :=
  k0_pay193 uw qd S

theorem sWQ0_cm (Y : Fin 256 → Fin 256 → ℝ) (Q : Fin 256 → Fin 128 → ℝ) (S : St) :
    sWQ0 (cm (c2 Y)) (cm (c2 Q)) (cm (c3 S)) = cm (c2 (rWQ 0 Y Q S)) := by
  unfold sWQ0
  simp only [k0_pay193, k0_pay194, k0_pay195, k0_pay196, k0_pay197, k0_pay189, k0_pay190, k0_pay191, k0_pay192, slice_cm, slice_c2, cast_cm, cast_c32,
    cat2b_cm, cat2b_c2, truncf_cm, const_cm, matmul_cm, rmmc3]
  apply congrArg cm
  apply ext_c2
  intro i j
  simp only [c2_ix]
  unfold rWQ rw64
  split <;> simp only [Nat.zero_add, Fin.val_zero, Nat.mul_zero] <;> rfl

def sVN0 (uw : FVec Ideal S256x256 .f32) (qd : FVec Ideal S256x128 .f32) (S : FVec Ideal S1x128x128 .f32) : FVec Ideal S64x128 .f32 :=
  k0_pay198 uw (k0_pay193 uw qd S)

theorem sVN0_cm (Y : Fin 256 → Fin 256 → ℝ) (Q : Fin 256 → Fin 128 → ℝ) (S : St) :
    sVN0 (cm (c2 Y)) (cm (c2 Q)) (cm (c3 S)) = cm (c2 (rVN 0 Y S)) := by
  have e := sWQ0_cm Y Q S
  unfold sWQ0 at e
  unfold sVN0
  simp only [k0_pay198, k0_pay199, k0_pay200, k0_pay201, e]
  simp only [slice_cm, slice_c2, subf_c2]
  apply congrArg cm
  apply ext_c2
  intro i j
  simp only [c2_ix, rVN, rWQ, rw64, Nat.zero_add, Fin.val_zero, Nat.mul_zero, i.isLt, dite_true]
  try rfl

def sNS0 (uw : FVec Ideal S256x256 .f32) (g kd qd : FVec Ideal S256x128 .f32) (S : FVec Ideal S1x128x128 .f32) : FVec Ideal S1x128x128 .f32 :=
  k0_pay202 uw (k0_pay161 g) kd (k0_pay189 S) (k0_pay193 uw qd S)

theorem sNS0_cm (Y : Fin 256 → Fin 256 → ℝ) (γ : Fin 256 → ℝ) (K Q : Fin 256 → Fin 128 → ℝ) (S : St) :
    sNS0 (cm (c2 Y)) (cm (c2 fun i _ => γ i)) (cm (c2 K)) (cm (c2 Q)) (cm (c3 S)) = cm (c3 (rNS 0 Y γ K S)) := by
  have e := sVN0_cm Y Q S
  unfold sVN0 at e
  unfold sNS0
  simp only [k0_pay202, k0_pay203, k0_pay204, k0_pay205, k0_pay161, k0_pay162, k0_pay163, k0_pay164, k0_pay189, k0_pay190, k0_pay191, k0_pay192] at e ⊢
  simp only [e]
  simp only [exp_c2, bto_cm, bto_c2b, mulf_c2, addf_c2, cast_cm, cast_c32, cast_c23, slice_cm, slice_c2, truncf_cm, const_cm, matmul_cm, rmmc4]
  apply congrArg cm
  apply congrArg c3
  funext i j
  simp only [rNS, rw64, Nat.zero_add, Fin.val_zero, Nat.mul_zero]
  rfl

def sWQ1 (uw : FVec Ideal S256x256 .f32) (qd : FVec Ideal S256x128 .f32) (S : FVec Ideal S1x128x128 .f32) : FVec Ideal S128x128 .f32 :=
  k0_pay195 (k0_pay190 S) (k0_pay194 uw qd)

theorem sWQ1_cm (Y : Fin 256 → Fin 256 → ℝ) (Q : Fin 256 → Fin 128 → ℝ) (S : St) :
    sWQ1 (cm (c2 Y)) (cm (c2 Q)) (cm (c3 S)) = cm (c2 (rWQ 1 Y Q S)) := by
  unfold sWQ1
  simp only [k0_pay193, k0_pay194, k0_pay195, k0_pay196, k0_pay197, k0_pay189, k0_pay190, k0_pay191, k0_pay192, slice_cm, slice_c2, cast_cm, cast_c32,
    cat2b_cm, cat2b_c2, truncf_cm, const_cm, matmul_cm, rmmc3]
  apply congrArg cm
  apply ext_c2
  intro i j
  simp only [c2_ix]
  unfold rWQ rw64
  split <;> simp only [Nat.zero_add, Fin.val_zero, Nat.mul_zero] <;> rfl

def sVN1 (uw : FVec Ideal S256x256 .f32) (qd : FVec Ideal S256x128 .f32) (S : FVec Ideal S1x128x128 .f32) : FVec Ideal S64x128 .f32 :=
  k0_pay199 uw (k0_pay190 S) (k0_pay194 uw qd)

theorem sVN1_cm (Y : Fin 256 → Fin 256 → ℝ) (Q : Fin 256 → Fin 128 → ℝ) (S : St) :
    sVN1 (cm (c2 Y)) (cm (c2 Q)) (cm (c3 S)) = cm (c2 (rVN 1 Y S)) := by
  have e := sWQ1_cm Y Q S
  unfold sWQ1 at e
  unfold sVN1
  simp only [k0_pay198, k0_pay199, k0_pay200, k0_pay201, e]
  simp only [slice_cm, slice_c2, subf_c2]
  apply congrArg cm
  apply ext_c2
  intro i j
  simp only [c2_ix, rVN, rWQ, rw64, Nat.zero_add, Fin.val_zero, Nat.mul_zero, i.isLt, dite_true]
  try rfl

def sNS1 (uw : FVec Ideal S256x256 .f32) (g kd qd : FVec Ideal S256x128 .f32) (S : FVec Ideal S1x128x128 .f32) : FVec Ideal S1x128x128 .f32 :=
  k0_pay203 uw (k0_pay162 g) kd (k0_pay190 S) (k0_pay194 uw qd)

theorem sNS1_cm (Y : Fin 256 → Fin 256 → ℝ) (γ : Fin 256 → ℝ) (K Q : Fin 256 → Fin 128 → ℝ) (S : St) :
    sNS1 (cm (c2 Y)) (cm (c2 fun i _ => γ i)) (cm (c2 K)) (cm (c2 Q)) (cm (c3 S)) = cm (c3 (rNS 1 Y γ K S)) := by
  have e := sVN1_cm Y Q S
  unfold sVN1 at e
  unfold sNS1
  simp only [k0_pay202, k0_pay203, k0_pay204, k0_pay205, k0_pay161, k0_pay162, k0_pay163, k0_pay164, k0_pay189, k0_pay190, k0_pay191, k0_pay192] at e ⊢
  simp only [e]
  simp only [exp_c2, bto_cm, bto_c2b, mulf_c2, addf_c2, cast_cm, cast_c32, cast_c23, slice_cm, slice_c2, truncf_cm, const_cm, matmul_cm, rmmc4]
  apply congrArg cm
  apply congrArg c3
  funext i j
  simp only [rNS, rw64, Nat.zero_add, Fin.val_zero, Nat.mul_zero]
  rfl

def sWQ2 (uw : FVec Ideal S256x256 .f32) (qd : FVec Ideal S256x128 .f32) (S : FVec Ideal S1x128x128 .f32) : FVec Ideal S128x128 .f32 :=
  k0_pay196 uw qd (k0_pay191 S)

theorem sWQ2_cm (Y : Fin 256 → Fin 256 → ℝ) (Q : Fin 256 → Fin 128 → ℝ) (S : St) :
    sWQ2 (cm (c2 Y)) (cm (c2 Q)) (cm (c3 S)) = cm (c2 (rWQ 2 Y Q S)) := by
  unfold sWQ2
  simp only [k0_pay193, k0_pay194, k0_pay195, k0_pay196, k0_pay197, k0_pay189, k0_pay190, k0_pay191, k0_pay192, slice_cm, slice_c2, cast_cm, cast_c32,
    cat2b_cm, cat2b_c2, truncf_cm, const_cm, matmul_cm, rmmc3]
  apply congrArg cm
  apply ext_c2
  intro i j
  simp only [c2_ix]
  unfold rWQ rw64
  split <;> simp only [Nat.zero_add, Fin.val_zero, Nat.mul_zero] <;> rfl

def sVN2 (uw : FVec Ideal S256x256 .f32) (qd : FVec Ideal S256x128 .f32) (S : FVec Ideal S1x128x128 .f32) : FVec Ideal S64x128 .f32 :=
  k0_pay200 uw qd (k0_pay191 S)

theorem sVN2_cm (Y : Fin 256 → Fin 256 → ℝ) (Q : Fin 256 → Fin 128 → ℝ) (S : St) :
    sVN2 (cm (c2 Y)) (cm (c2 Q)) (cm (c3 S)) = cm (c2 (rVN 2 Y S)) := by
  have e := sWQ2_cm Y Q S
  unfold sWQ2 at e
  unfold sVN2
  simp only [k0_pay198, k0_pay199, k0_pay200, k0_pay201, e]
  simp only [slice_cm, slice_c2, subf_c2]
  apply congrArg cm
  apply ext_c2
  intro i j
  simp only [c2_ix, rVN, rWQ, rw64, Nat.zero_add, Fin.val_zero, Nat.mul_zero, i.isLt, dite_true]
  try rfl

def sNS2 (uw : FVec Ideal S256x256 .f32) (g kd qd : FVec Ideal S256x128 .f32) (S : FVec Ideal S1x128x128 .f32) : FVec Ideal S1x128x128 .f32 :=
  k0_pay204 (k0_pay163 g) kd (k0_pay191 S) (k0_pay200 uw qd (k0_pay191 S))

theorem sNS2_cm (Y : Fin 256 → Fin 256 → ℝ) (γ : Fin 256 → ℝ) (K Q : Fin 256 → Fin 128 → ℝ) (S : St) :
    sNS2 (cm (c2 Y)) (cm (c2 fun i _ => γ i)) (cm (c2 K)) (cm (c2 Q)) (cm (c3 S)) = cm (c3 (rNS 2 Y γ K S)) := by
  have e := sVN2_cm Y Q S
  unfold sVN2 at e
  unfold sNS2
  simp only [k0_pay202, k0_pay203, k0_pay204, k0_pay205, k0_pay161, k0_pay162, k0_pay163, k0_pay164, k0_pay189, k0_pay190, k0_pay191, k0_pay192] at e ⊢
  simp only [e]
  simp only [exp_c2, bto_cm, bto_c2b, mulf_c2, addf_c2, cast_cm, cast_c32, cast_c23, slice_cm, slice_c2, truncf_cm, const_cm, matmul_cm, rmmc4]
  apply congrArg cm
  apply congrArg c3
  funext i j
  simp only [rNS, rw64, Nat.zero_add, Fin.val_zero, Nat.mul_zero]
  rfl

def sWQ3 (uw : FVec Ideal S256x256 .f32) (qd : FVec Ideal S256x128 .f32) (S : FVec Ideal S1x128x128 .f32) : FVec Ideal S128x128 .f32 :=
  k0_pay197 uw qd (k0_pay192 S)

theorem sWQ3_cm (Y : Fin 256 → Fin 256 → ℝ) (Q : Fin 256 → Fin 128 → ℝ) (S : St) :
    sWQ3 (cm (c2 Y)) (cm (c2 Q)) (cm (c3 S)) = cm (c2 (rWQ 3 Y Q S)) := by
  unfold sWQ3
  simp only [k0_pay193, k0_pay194, k0_pay195, k0_pay196, k0_pay197, k0_pay189, k0_pay190, k0_pay191, k0_pay192, slice_cm, slice_c2, cast_cm, cast_c32,
    cat2b_cm, cat2b_c2, truncf_cm, const_cm, matmul_cm, rmmc3]
  apply congrArg cm
  apply ext_c2
  intro i j
  simp only [c2_ix]
  unfold rWQ rw64
  split <;> simp only [Nat.zero_add, Fin.val_zero, Nat.mul_zero] <;> rfl

def sVN3 (uw : FVec Ideal S256x256 .f32) (qd : FVec Ideal S256x128 .f32) (S : FVec Ideal S1x128x128 .f32) : FVec Ideal S64x128 .f32 :=
  k0_pay201 uw qd (k0_pay192 S)

theorem sVN3_cm (Y : Fin 256 → Fin 256 → ℝ) (Q : Fin 256 → Fin 128 → ℝ) (S : St) :
    sVN3 (cm (c2 Y)) (cm (c2 Q)) (cm (c3 S)) = cm (c2 (rVN 3 Y S)) := by
  have e := sWQ3_cm Y Q S
  unfold sWQ3 at e
  unfold sVN3
  simp only [k0_pay198, k0_pay199, k0_pay200, k0_pay201, e]
  simp only [slice_cm, slice_c2, subf_c2]
  apply congrArg cm
  apply ext_c2
  intro i j
  simp only [c2_ix, rVN, rWQ, rw64, Nat.zero_add, Fin.val_zero, Nat.mul_zero, i.isLt, dite_true]
  try rfl

def sNS3 (uw : FVec Ideal S256x256 .f32) (g kd qd : FVec Ideal S256x128 .f32) (S : FVec Ideal S1x128x128 .f32) : FVec Ideal S1x128x128 .f32 :=
  k0_pay205 (k0_pay164 g) kd (k0_pay192 S) (k0_pay201 uw qd (k0_pay192 S))

theorem sNS3_cm (Y : Fin 256 → Fin 256 → ℝ) (γ : Fin 256 → ℝ) (K Q : Fin 256 → Fin 128 → ℝ) (S : St) :
    sNS3 (cm (c2 Y)) (cm (c2 fun i _ => γ i)) (cm (c2 K)) (cm (c2 Q)) (cm (c3 S)) = cm (c3 (rNS 3 Y γ K S)) := by
  have e := sVN3_cm Y Q S
  unfold sVN3 at e
  unfold sNS3
  simp only [k0_pay202, k0_pay203, k0_pay204, k0_pay205, k0_pay161, k0_pay162, k0_pay163, k0_pay164, k0_pay189, k0_pay190, k0_pay191, k0_pay192] at e ⊢
  simp only [e]
  simp only [exp_c2, bto_cm, bto_c2b, mulf_c2, addf_c2, cast_cm, cast_c32, cast_c23, slice_cm, slice_c2, truncf_cm, const_cm, matmul_cm, rmmc4]
  apply congrArg cm
  apply congrArg c3
  funext i j
  simp only [rNS, rw64, Nat.zero_add, Fin.val_zero, Nat.mul_zero]
  rfl

/-- The outputs of a chunk's four heads before their norm. -/
def rO (AI Y : Fin 256 → Fin 256 → ℝ) (Q : Fin 256 → Fin 128 → ℝ) (Sf : Fin 4 → St) (i : Fin 256) (e : Fin 128) : ℝ :=
  st4 (fun h i e => rWQ h Y Q (Sf h) ⟨64 + i.val, by omega⟩ e) i e + ∑ j, AI i j * st4 (fun h => rVN h Y (Sf h)) j e

/-- A row over the root of its mean square. -/
def rN (o : Fin 256 → Fin 128 → ℝ) (i : Fin 256) (e : Fin 128) : ℝ :=
  o i e * (Real.sqrt ((∑ k, o i k * o i k) * (1 / 128) + epsR))⁻¹

def sON (ai uw : FVec Ideal S256x256 .f32) (qd : FVec Ideal S256x128 .f32) (S0 S1 S2 S3 : FVec Ideal S1x128x128 .f32) : FVec Ideal S256x128 .f32 :=
  k0_pay206 ai (sWQ0 uw qd S0) (sWQ1 uw qd S1) (sWQ2 uw qd S2) (sWQ3 uw qd S3) (sVN0 uw qd S0) (sVN1 uw qd S1) (sVN2 uw qd S2) (sVN3 uw qd S3)

theorem sON_cm (AI Y : Fin 256 → Fin 256 → ℝ) (Q : Fin 256 → Fin 128 → ℝ) (Sf : Fin 4 → St) :
    sON (cm (c2 AI)) (cm (c2 Y)) (cm (c2 Q)) (cm (c3 (Sf 0))) (cm (c3 (Sf 1))) (cm (c3 (Sf 2))) (cm (c3 (Sf 3)))
      = cm (c2 (rN (rO AI Y Q Sf))) := by
  unfold sON
  rw [sWQ0_cm, sWQ1_cm, sWQ2_cm, sWQ3_cm, sVN0_cm, sVN1_cm, sVN2_cm, sVN3_cm]
  unfold k0_pay206
  dsimp only
  have e1 : ∀ (h : Fin 4), extractStridedSlice S64x128 ![64, 0] (cm (c2 (rWQ h Y Q (Sf h))) : FVec Ideal S128x128 .f32) slices_S128x128_o64_0_S64x128
      = cm (c2 fun i e => rWQ h Y Q (Sf h) ⟨64 + i.val, by omega⟩ e) := by
    intro h
    rw [slice_cm, slice_c2]
    simp only [Nat.zero_add]
  rw [e1, e1, e1, e1, cat4_cm, cat4_cm]
  have e2 := cat4_c2 fun h i e => rWQ h Y Q (Sf h) ⟨64 + i.val, by omega⟩ e
  have e3 := cat4_c2 fun h => rVN h Y (Sf h)
  rw [e2, e3]
  simp only [truncf_cm, const_cm, matmul_cm, rmmc5, addf_c2, mulf_c2]
  refine Eq.trans ?_ (nrm_c2 (rO AI Y Q Sf))
  exact congrArg (fun z => mulf (cm (c2 (rO AI Y Q Sf)) : FVec Ideal S256x128 .f32) (broadcastTo S256x128 (rsqrt (addf (divf z
    (broadcast S256x1 (Scalar.ofBits .f32 0x43000000#32))) (broadcast S256x1 (Scalar.ofBits .f32 0x358637BD#32)))) broadcasts_S256x1_S256x128))
    (sumrow_c2 fun i k => rO AI Y Q Sf i k * rO AI Y Q Sf i k)

/-- The gated rows of one head, from the normed rows and the gate's block. -/
def sYD (o : ℕ) (h : S256x128.Slices ![o, 0] S64x128) (on : FVec Ideal S256x128 .f32) (z : FVec Ideal S1x64x128 .f32) : FVec Ideal S64x128 .bf16 :=
  shapeCast S64x128 (truncf .bf16 (mulf (extractStridedSlice S64x128 ![o, 0] on h)
    (addf (mulf (broadcast S64x128 (Scalar.ofBits .f32 0x3F000000#32)) (shapeCast S64x128 z shapeCasts_S1x64x128_S64x128))
      (mulf (mulf (broadcast S64x128 (Scalar.ofBits .f32 0x3F000000#32)) (shapeCast S64x128 z shapeCasts_S1x64x128_S64x128))
        (tanh (mulf (broadcast S64x128 (Scalar.ofBits .f32 0x3F000000#32)) (shapeCast S64x128 z shapeCasts_S1x64x128_S64x128)))))) bitsLt_bf16_f32) shapeCasts_S64x128_S64x128

theorem sYD_at (o : ℕ) (h : S256x128.Slices ![o, 0] S64x128) (N : Fin 256 → Fin 128 → ℝ) (nw : FVec Ideal S1x128 .f32) (Z : Fin 64 → Fin 128 → ℝ)
    (i : Fin 64) (e : Fin 128) :
    sYD o h (k0_pay207 (cm (c2 N)) nw) (cm (c3 Z)) (ix2 i e)
      = ((N ⟨o + i.val, Nat.lt_of_lt_of_le (Nat.add_lt_add_left i.isLt _) (h.2 0)⟩ e : ℝ) : EReal) * nw (ix2 0 e) * ((siluR (Z i e) : ℝ) : EReal) := by
  unfold sYD k0_pay207
  simp only [half_cm', cast_cm, cast_c3z, mulf_c2, addf_c2, tanh_c2, silu_half]
  pointwise [cm_apply, c2_ix]

/-- A sum over the stacked rows of one head, when the others vanish. -/
theorem sum_head (h : Fin 4) (f : Fin 256 → ℝ) (hf : ∀ j : Fin 256, j.val / 64 ≠ h.val → f j = 0) :
    ∑ j, f j = ∑ j : Fin 64, f (rw64 h j) := by
  classical
  symm
  refine Finset.sum_of_injOn (rw64 h) ?_ ?_ ?_ ?_
  · intro a _ b _ hab
    have := congrArg Fin.val hab
    simp only [rw64] at this
    exact Fin.ext (by omega)
  · intro a _; exact Finset.mem_coe.mpr (Finset.mem_univ _)
  · intro j _ hj
    refine hf j fun hc => hj ?_
    refine ⟨⟨j.val % 64, Nat.mod_lt _ (by norm_num)⟩, Finset.mem_coe.mpr (Finset.mem_univ _), Fin.ext ?_⟩
    simp only [rw64]
    omega
  · intro a _; rfl

/-- A sum over the first tokens of 64, as a sum over all of them. -/
theorem sum_lt (n : ℕ) (hn : n ≤ 64) (f : ℕ → ℝ) : ∑ j ∈ Finset.range n, f j = ∑ j : Fin 64, if j.val < n then f j.val else 0 := by
  rw [Fin.sum_univ_eq_sum_range (fun j => if j < n then f j else 0) 64, ← Finset.sum_filter]
  refine Finset.sum_congr ?_ fun _ _ => rfl
  ext j
  simp only [Finset.mem_range, Finset.mem_filter]
  omega

/-- One head's chunk is 64 tokens of the recurrence. -/
theorem chunk_head (h : Fin 4) (g b : ℕ → ℝ) (kk vv qq : ℕ → Fin 128 → ℝ) (S : St)
    (q k v : Fin 256 → Fin 128 → ℝ) (β γ : Fin 256 → ℝ) (Y : Fin 256 → Fin 256 → ℝ)
    (hY : ∀ i j, Y i j = rRhs k v β γ i j + ∑ l, rX k β γ i l * Y l j)
    (hk : ∀ i : Fin 64, k (rw64 h i) = kk i.val) (hv : ∀ i : Fin 64, v (rw64 h i) = vv i.val) (hq : ∀ i : Fin 64, q (rw64 h i) = qq i.val)
    (hb : ∀ i : Fin 64, β (rw64 h i) = b i.val) (hg : ∀ i : Fin 64, γ (rw64 h i) = cum g (i.val + 1)) :
    (∀ (i : Fin 64) e, rVN h Y S i e = delta g b kk vv S i.val e)
    ∧ rNS h Y γ (rKD k γ) S = run g b kk vv S 64
    ∧ ∀ (Sf : Fin 4 → St), Sf h = S → ∀ (i : Fin 64) e,
        rO (rAI q k γ) Y (rQD q γ) Sf (rw64 h i) e = ∑ d, qq i.val d * run g b kk vv S (i.val + 1) d e := by
  have hdiv : ∀ i : Fin 64, (rw64 h i).val / 64 = h.val := fun i => by simp only [rw64]; omega
  have hYh : ∀ (i : Fin 64) (j : Fin 256), Y (rw64 h i) j = rRhs k v β γ (rw64 h i) j
      - ∑ l ∈ Finset.range i.val, (∑ d, kk i.val d * b i.val * kk l d) * Real.exp (cum g (i.val + 1) - cum g (l + 1))
          * (if hl : l < 64 then Y (rw64 h ⟨l, hl⟩) j else 0) := by
    intro i j
    rw [hY, sum_head h, sum_lt i.val i.isLt.le, sub_eq_add_neg, ← Finset.sum_neg_distrib]
    · congr 1
      refine Finset.sum_congr rfl fun l _ => ?_
      have e1 : (rw64 h l).val < (rw64 h i).val ↔ l.val < i.val := by simp only [rw64]; omega
      simp only [rX, hdiv, e1, true_and, hk, hb, hg, l.isLt, dite_true]
      split
      · ring
      · ring
    · intro l hl
      rw [rX, if_neg, zero_mul]
      rintro ⟨h1, _⟩
      rw [hdiv] at h1
      exact hl h1.symm
  have hV : ∀ n < 64, ∀ e, (fun n e => if hn : n < 64 then rVN h Y S ⟨n, hn⟩ e else 0) n e = delta g b kk vv S n e := by
    refine eq_delta g b kk vv S 64 _ ?_
    intro n hn e
    obtain ⟨L, hL⟩ : ∃ L : ℕ → ℕ → ℝ, ∀ i l, (∑ d, kk i d * b i * kk l d) * Real.exp (cum g (i + 1) - cum g (l + 1)) = L i l :=
      ⟨_, fun _ _ => rfl⟩
    simp only [hL] at hYh
    simp only [hn, dite_true, hL]
    have h1 := hYh ⟨n, hn⟩ ⟨e.val, by omega⟩
    have h2 : ∀ d : Fin 128, Y (rw64 h ⟨n, hn⟩) ⟨128 + d.val, by omega⟩ * S d e = _ := fun d =>
      congrArg (· * S d e) (hYh ⟨n, hn⟩ ⟨128 + d.val, by omega⟩)
    simp only [rRhs, e.isLt, dite_true, hv, hb, Fin.eta] at h1
    rw [rVN, h1, Finset.sum_congr rfl fun d _ => h2 d]
    have h3 : ∀ d : Fin 128, ¬ (128 + d.val < 128) := fun d => by omega
    simp only [rRhs, h3, dite_false, hk, hb, hg, Nat.add_sub_cancel_left, Fin.eta, sub_mul, Finset.sum_sub_distrib, Finset.sum_mul]
    rw [show (∑ x : Fin 128, ∑ i ∈ Finset.range n, (L n i * (if hl : i < 64 then Y (rw64 h ⟨i, hl⟩) ⟨128 + x.val, by omega⟩ else 0)) * S x e)
      = ∑ i ∈ Finset.range n, ∑ x : Fin 128, (L n i * (if hl : i < 64 then Y (rw64 h ⟨i, hl⟩) ⟨128 + x.val, by omega⟩ else 0)) * S x e from Finset.sum_comm]
    have h4 : ∀ j ∈ Finset.range n, L n j * (if hj : j < 64 then rVN h Y S ⟨j, hj⟩ e else 0)
        = L n j * (if hj : j < 64 then Y (rw64 h ⟨j, hj⟩) ⟨e.val, by omega⟩ else 0)
          - ∑ x : Fin 128, L n j * (if hj : j < 64 then Y (rw64 h ⟨j, hj⟩) ⟨128 + x.val, by omega⟩ else 0) * S x e := by
      intro j hj
      have hj' : j < 64 := by have := Finset.mem_range.mp hj; omega
      simp only [hj', dite_true, rVN]
      rw [mul_sub, Finset.mul_sum]
      congr 1
      exact Finset.sum_congr rfl fun x _ => by ring
    rw [Finset.sum_congr rfl h4, Finset.sum_sub_distrib]
    ring
  have hV' : ∀ (i : Fin 64) e, rVN h Y S i e = delta g b kk vv S i.val e := by
    intro i e
    have := hV i.val i.isLt e
    simpa only [i.isLt, dite_true, Fin.eta] using this
  refine ⟨hV', ?_, ?_⟩
  · funext d e
    rw [run_closed, sum_lt 64 le_rfl, rNS]
    congr 1
    · rw [hg, mul_comm]; rfl
    · refine Finset.sum_congr rfl fun i _ => ?_
      rw [if_pos i.isLt, hV', rKD, hk, hg]
      have e1 : (⟨64 * ((rw64 h i).val / 64) + 63, by omega⟩ : Fin 256) = rw64 h 63 := by
        apply Fin.ext
        show 64 * ((rw64 h i).val / 64) + 63 = 64 * h.val + 63
        rw [hdiv]
      rw [e1, hg]
      rfl
  · intro Sf hS i e
    rw [out_closed, sum_lt _ (by omega : i.val + 1 ≤ 64), rO]
    have e1 : ∀ (f : Fin 4 → Fin 64 → Fin 128 → ℝ) (j : Fin 64), st4 f (rw64 h j) e = f h j e := by
      intro f j
      have e2 : (⟨(rw64 h j).val / 64, by omega⟩ : Fin 4) = h := Fin.ext (hdiv j)
      have e3 : (⟨(rw64 h j).val % 64, by omega⟩ : Fin 64) = j := Fin.ext (by show (64 * h.val + j.val) % 64 = j.val; omega)
      unfold st4
      rw [e2, e3]
    rw [e1, sum_head h]
    · congr 1
      · have e2 : ¬ (64 + i.val < 64) := by omega
        simp only [rWQ, e2, dite_false, Nat.add_sub_cancel_left, Fin.eta, rQD, hq, hg, hS]
      · refine Finset.sum_congr rfl fun j _ => ?_
        rw [e1, hS, hV']
        have e2 : (rw64 h j).val ≤ (rw64 h i).val ↔ j.val < i.val + 1 := by simp only [rw64]; omega
        simp only [rAI, hdiv, e2, true_and, hq, hk, hg]
        split
        · rfl
        · rw [zero_mul]
    · intro j hj
      rw [rAI, if_neg, zero_mul]
      rintro ⟨h1, _⟩
      rw [hdiv] at h1
      exact hj h1.symm

end Dn

end
-- ==== Proof.DnBlock.lean ====
/-
  One block of tokens of the delta-rule kernel at arrays of reals: four chunks in turn, and the loads between them.
-/
module

public import Idealize.ShloMosaic.Lib.Pipeline.ValueKit
public import proofs.«01_k».proof.Proof.DnChunk

@[expose] public section

set_option maxRecDepth 16384
noncomputable section

open Idealize.ShloMosaic Idealize.ShloMosaic.TcCoe Idealize.SL.Sem

namespace Dn

open Cert.KernelIdeal Cert.KernelIdeal.Gen

/-- What a block's tokens bring: log-decay, write strength, key, value and query of each head. -/
structure Toks where
  g : Fin 4 → ℕ → ℝ
  b : Fin 4 → ℕ → ℝ
  k : Fin 4 → ℕ → Fin 128 → ℝ
  v : Fin 4 → ℕ → Fin 128 → ℝ
  q : Fin 4 → ℕ → Fin 128 → ℝ

variable (T : Toks) (S0 : Fin 4 → St)

/-- The state of a head after `n` tokens of the block. -/
def Toks.R (h : Fin 4) (n : ℕ) : St := run (T.g h) (T.b h) (T.k h) (T.v h) (S0 h) n

/-- What a head reads at token `n`. -/
def Toks.o (h : Fin 4) (n : ℕ) (e : Fin 128) : ℝ := ∑ d, T.q h n d * T.R S0 h (n + 1) d e

def Toks.rs (h : Fin 4) (n : ℕ) (e : Fin 128) : ℝ :=
  T.o S0 h n e * (Real.sqrt ((∑ k, T.o S0 h n k * T.o S0 h n k) * (1 / 128) + epsR))⁻¹

def stkQ (o : ℕ) : Fin 256 → Fin 128 → ℝ := st4 fun h i => T.q h (o + i.val)
def stkK (o : ℕ) : Fin 256 → Fin 128 → ℝ := st4 fun h i => T.k h (o + i.val)
def stkV (o : ℕ) : Fin 256 → Fin 128 → ℝ := st4 fun h i => T.v h (o + i.val)
def stkB (o : ℕ) (i : Fin 256) : ℝ := T.b ⟨i.val / 64, by omega⟩ (o + i.val % 64)
def stkG (o : ℕ) (i : Fin 256) : ℝ := cum (fun n => T.g ⟨i.val / 64, by omega⟩ (o + n)) (i.val % 64 + 1)
def stkN (o : ℕ) : Fin 256 → Fin 128 → ℝ := st4 fun h i => T.rs S0 h (o + i.val)

theorem st4_rw (f : Fin 4 → Fin 64 → Fin 128 → ℝ) (h : Fin 4) (i : Fin 64) : st4 f (rw64 h i) = f h i := by
  funext e
  have e1 : (⟨(rw64 h i).val / 64, by omega⟩ : Fin 4) = h := Fin.ext (by show (64 * h.val + i.val) / 64 = h.val; omega)
  have e2 : (⟨(rw64 h i).val % 64, by omega⟩ : Fin 64) = i := Fin.ext (by show (64 * h.val + i.val) % 64 = i.val; omega)
  unfold st4
  rw [e1, e2]

theorem rw64_surj (i : Fin 256) : ∃ (h : Fin 4) (r : Fin 64), i = rw64 h r :=
  ⟨⟨i.val / 64, by omega⟩, ⟨i.val % 64, by omega⟩, Fin.ext (by show i.val = 64 * (i.val / 64) + i.val % 64; omega)⟩

theorem chunk_real (o : ℕ) (Y : Fin 256 → Fin 256 → ℝ)
    (hY : ∀ i j, Y i j = rRhs (stkK T o) (stkV T o) (stkB T o) (stkG T o) i j + ∑ l, rX (stkK T o) (stkB T o) (stkG T o) i l * Y l j) :
    (∀ h, rNS h Y (stkG T o) (rKD (stkK T o) (stkG T o)) (T.R S0 h o) = T.R S0 h (o + 64))
    ∧ rN (rO (rAI (stkQ T o) (stkK T o) (stkG T o)) Y (rQD (stkQ T o) (stkG T o)) (fun h => T.R S0 h o)) = stkN T S0 o := by
  have key := fun h : Fin 4 => chunk_head h (fun n => T.g h (o + n)) (fun n => T.b h (o + n)) (fun n => T.k h (o + n))
    (fun n => T.v h (o + n)) (fun n => T.q h (o + n)) (T.R S0 h o) (stkQ T o) (stkK T o) (stkV T o) (stkB T o) (stkG T o) Y hY
    (fun i => st4_rw _ h i) (fun i => st4_rw _ h i) (fun i => st4_rw _ h i)
    (fun i => by
      have e1 : (⟨(rw64 h i).val / 64, by omega⟩ : Fin 4) = h := Fin.ext (by show (64 * h.val + i.val) / 64 = h.val; omega)
      have e2 : (rw64 h i).val % 64 = i.val := by show (64 * h.val + i.val) % 64 = i.val; omega
      unfold stkB
      rw [e1, e2])
    (fun i => by
      have e1 : (⟨(rw64 h i).val / 64, by omega⟩ : Fin 4) = h := Fin.ext (by show (64 * h.val + i.val) / 64 = h.val; omega)
      have e2 : (rw64 h i).val % 64 = i.val := by show (64 * h.val + i.val) % 64 = i.val; omega
      unfold stkG
      rw [e1, e2])
  refine ⟨fun h => ((key h).2.1).trans (run_add _ _ _ _ _ _ _).symm, ?_⟩
  have ho : ∀ (h : Fin 4) (i : Fin 64) e, rO (rAI (stkQ T o) (stkK T o) (stkG T o)) Y (rQD (stkQ T o) (stkG T o)) (fun h => T.R S0 h o) (rw64 h i) e
      = T.o S0 h (o + i.val) e := by
    intro h i e
    refine ((key h).2.2 _ rfl i e).trans ?_
    unfold Toks.o Toks.R
    rw [show o + i.val + 1 = o + (i.val + 1) from rfl, run_add (T.g h)]
  funext r e
  obtain ⟨h, i, rfl⟩ := rw64_surj r
  unfold rN stkN
  rw [st4_rw]
  simp only [ho]
  rfl

/-- A chunk's stages at arrays of reals. -/
theorem chunk_stage (o : ℕ) (q k v b g : FVec Ideal S256x128 .f32) (s0 s1 s2 s3 : FVec Ideal S1x128x128 .f32)
    (hq : q = cm (c2 (stkQ T o))) (hk : k = cm (c2 (stkK T o))) (hv : v = cm (c2 (stkV T o)))
    (hb : b = cm (c2 fun i _ => stkB T o i)) (hg : g = cm (c2 fun i _ => stkG T o i))
    (h0 : s0 = cm (c3 (T.R S0 0 o))) (h1 : s1 = cm (c3 (T.R S0 1 o))) (h2 : s2 = cm (c3 (T.R S0 2 o))) (h3 : s3 = cm (c3 (T.R S0 3 o))) :
    sNS0 (sUW k v b g) g (sKD k g) (sQD q g) s0 = cm (c3 (T.R S0 0 (o + 64)))
    ∧ sNS1 (sUW k v b g) g (sKD k g) (sQD q g) s1 = cm (c3 (T.R S0 1 (o + 64)))
    ∧ sNS2 (sUW k v b g) g (sKD k g) (sQD q g) s2 = cm (c3 (T.R S0 2 (o + 64)))
    ∧ sNS3 (sUW k v b g) g (sKD k g) (sQD q g) s3 = cm (c3 (T.R S0 3 (o + 64)))
    ∧ sON (sAI q k g) (sUW k v b g) (sQD q g) s0 s1 s2 s3 = cm (c2 (stkN T S0 o)) := by
  subst hq hk hv hb hg h0 h1 h2 h3
  have hx : ∃ Y : Fin 256 → Fin 256 → ℝ,
      sUW (cm (c2 (stkK T o))) (cm (c2 (stkV T o))) (cm (c2 fun i _ => stkB T o i)) (cm (c2 fun i _ => stkG T o i)) = cm (c2 Y)
      ∧ ∀ i j, Y i j = rRhs (stkK T o) (stkV T o) (stkB T o) (stkG T o) i j + ∑ l, rX (stkK T o) (stkB T o) (stkG T o) i l * Y l j :=
    sUW_cm (stkK T o) (stkV T o) (stkB T o) (stkG T o)
  obtain ⟨Y, hu, hY⟩ := hx
  obtain ⟨r1, r2⟩ := chunk_real T S0 o Y hY
  rw [hu, sKD_cm, sQD_cm, sAI_cm]
  refine ⟨?_, ?_, ?_, ?_, ?_⟩
  · rw [sNS0_cm, r1]
  · rw [sNS1_cm, r1]
  · rw [sNS2_cm, r1]
  · rw [sNS3_cm, r1]
  · exact (sON_cm _ Y _ fun h => T.R S0 h o).trans (by rw [r2])

/-! ## Loads out of what was stored -/

theorem ld_act {sig : RefSig} {κ : Kind} {sp : Space} {n : ℕ} (v : View sig κ sp (⟨2, ![256, n]⟩ : Shape) .f32)
    (L : List (View.Piece (Elt Ideal) (⟨2, ![256, n]⟩ : Shape) .f32)) (act : Fin 256 → Fin n → ℝ)
    (h : ∀ r c, View.canon L (ix2 r c) = ((act r c : ℝ) : EReal)) (o o' : ℕ)
    (inb : ∀ a, (![o, o'] : Fin 2 → ℕ) a + (S64x128).size a ≤ (⟨2, ![256, n]⟩ : Shape).size a)
    (f : Fin 64 → Fin 128 → ℝ)
    (hf : ∀ (i : Fin 64) (d : Fin 128) (r : Fin 256) (c : Fin n), r.val = o + i.val → c.val = o' + d.val → act r c = f i d) :
    v.readCov L (Rect.unit (s := (⟨2, ![256, n]⟩ : Shape)) ![o, o'] (S64x128).size inb).toLoadRect = (cm (c2 f) : FVec Ideal S64x128 .f32) := by
  refine (View.readCov_eq_canon' v L _).trans (funext fun y => ?_)
  obtain ⟨i, d, rfl⟩ : ∃ (i : Fin 64) (d : Fin 128), y = ix2 i d := ⟨y 0, y 1, eq_ix2 y⟩
  have i0 : o + 64 ≤ 256 := inb 0
  have i1 : o' + 128 ≤ n := inb 1
  have e : (Rect.unit (s := (⟨2, ![256, n]⟩ : Shape)) ![o, o'] (S64x128).size inb).toLoadRect.idx (ix2 i d)
      = (ix2 ⟨o + i.val, by omega⟩ ⟨o' + d.val, by omega⟩ : (⟨2, ![256, n]⟩ : Shape).Idx) := by
    funext a
    refine Fin.cases ?_ (fun a => Fin.cases ?_ (fun a => a.elim0) a) a
    · exact Fin.ext (by show o + 1 * i.val = o + i.val; omega)
    · exact Fin.ext (by show o' + 1 * d.val = o' + d.val; omega)
  refine (congrArg (View.canon L) e).trans ((h _ _).trans ?_)
  exact congrArg _ (hf i d _ _ rfl rfl)

theorem stk (A B C D : FVec Ideal S64x128 .f32) (f : Fin 4 → Fin 64 → Fin 128 → ℝ)
    (hA : A = cm (c2 (f 0))) (hB : B = cm (c2 (f 1))) (hC : C = cm (c2 (f 2))) (hD : D = cm (c2 (f 3))) :
    concatenate S256x128 0 [⟨S64x128, A⟩, ⟨S64x128, B⟩, ⟨S64x128, C⟩, ⟨S64x128, D⟩] concatenates_S64x128_S64x128_S64x128_S64x128_S256x128_d0
      = (cm (c2 (st4 f)) : FVec Ideal S256x128 .f32) := by
  rw [cat4_cm' hA hB hC hD, cat4_c2]

theorem inb1 (h : ℕ) (hh : h < 4) : ∀ a, (![h, 0, 0] : Fin 3 → ℕ) a + (S1x128x128).size a ≤ (S4x128x128).size a := by
  intro a
  refine Fin.cases ?_ (fun a => Fin.cases ?_ (fun a => Fin.cases ?_ (fun a => a.elim0) a) a) a
  · show h + 1 ≤ 4; omega
  · show 0 + 128 ≤ 128; omega
  · show 0 + 128 ≤ 128; omega

abbrev stR (h : ℕ) (hh : h < 4) : Rect S4x128x128 := Rect.unit ![h, 0, 0] (S1x128x128).size (inb1 h hh)

theorem st_dis (h h' : ℕ) (hh : h < 4) (hh' : h' < 4) (ne : h ≠ h') : Disjoint (stR h hh).set (stR h' hh').toLoadRect.set :=
  Rect.unit_disjoint (inb := inb1 h hh) (inb' := inb1 h' hh') 0 (by
    show h + 1 ≤ h' ∨ h' + 1 ≤ h
    omega)

variable {sig : RefSig} {κ : Kind} {sp : Space} (w : View sig κ sp S4x128x128 .f32)
  (a0 a1 a2 a3 : Vec Ideal S1x128x128 .f32) (L : List (View.Piece (Elt Ideal) S4x128x128 .f32))

theorem st_skip (h h' : ℕ) (hh : h < 4) (hh' : h' < 4) (ne : h ≠ h') (a : Vec Ideal S1x128x128 .f32) :
    w.readCov (⟨stR h hh, a⟩ :: L) (stR h' hh').toLoadRect = w.readCov L (stR h' hh').toLoadRect :=
  View.readCov_cons_of_disjoint w ⟨stR h hh, a⟩ L _ (st_dis h h' hh hh' ne)

theorem st_hit (h : ℕ) (hh : h < 4) (a : Vec Ideal S1x128x128 .f32) : w.readCov (⟨stR h hh, a⟩ :: L) (stR h hh).toLoadRect = a :=
  View.readCov_cons_toLoadRect w (stR h hh) a L

/-- The four heads' pieces of the state, last first. -/
def stL : List (View.Piece (Elt Ideal) S4x128x128 .f32) :=
  ⟨stR 3 (by omega), a3⟩ :: ⟨stR 2 (by omega), a2⟩ :: ⟨stR 1 (by omega), a1⟩ :: ⟨stR 0 (by omega), a0⟩ :: L

theorem st_read3 : w.readCov (stL a0 a1 a2 a3 L) (stR 3 (by omega)).toLoadRect = a3 := st_hit w _ 3 (by omega) a3

theorem st_read2 : w.readCov (stL a0 a1 a2 a3 L) (stR 2 (by omega)).toLoadRect = a2 := by
  unfold stL
  rw [st_skip w _ 3 2 (by omega) (by omega) (by omega)]
  exact st_hit w _ 2 (by omega) a2

theorem st_read1 : w.readCov (stL a0 a1 a2 a3 L) (stR 1 (by omega)).toLoadRect = a1 := by
  unfold stL
  rw [st_skip w _ 3 1 (by omega) (by omega) (by omega), st_skip w _ 2 1 (by omega) (by omega) (by omega)]
  exact st_hit w _ 1 (by omega) a1

theorem st_read0 : w.readCov (stL a0 a1 a2 a3 L) (stR 0 (by omega)).toLoadRect = a0 := by
  unfold stL
  rw [st_skip w _ 3 0 (by omega) (by omega) (by omega), st_skip w _ 2 0 (by omega) (by omega) (by omega), st_skip w _ 1 0 (by omega) (by omega) (by omega)]
  exact st_hit w _ 0 (by omega) a0

theorem stL_congr {a0 a1 a2 a3 b0 b1 b2 b3 : Vec Ideal S1x128x128 .f32} {L : List (View.Piece (Elt Ideal) S4x128x128 .f32)}
    (h0 : a0 = b0) (h1 : a1 = b1) (h2 : a2 = b2) (h3 : a3 = b3) : stL a0 a1 a2 a3 L = stL b0 b1 b2 b3 L := by
  subst h0 h1 h2 h3
  rfl

abbrev sc (S : St) : FVec Ideal S1x128x128 .f32 := cm (c3 S)

/-- What the four pieces leave. -/
theorem st_canon (S : Fin 4 → St) (h : Fin 4) (d e : Fin 128) :
    View.canon (stL (sc (S 0)) (sc (S 1)) (sc (S 2)) (sc (S 3)) L) (ix3 h d e) = ((S h d e : ℝ) : EReal) := by
  have key : ∀ (L' : List (View.Piece (Elt Ideal) S4x128x128 .f32)) (n : ℕ) (hn : n < 4) (a : Vec Ideal S1x128x128 .f32),
      VS0_0.readCov L' (stR n hn).toLoadRect = a → View.canon L' (ix3 (⟨n, hn⟩ : Fin 4) d e) = a (ix3 0 d e) := by
    intro L' n hn a ha
    have e1 : (stR n hn).toLoadRect.idx (ix3 0 d e) = (ix3 (⟨n, hn⟩ : Fin 4) d e : S4x128x128.Idx) := by
      funext a
      refine Fin.cases ?_ (fun a => Fin.cases ?_ (fun a => Fin.cases ?_ (fun a => a.elim0) a) a) a
      · exact Fin.ext (by show n + 1 * 0 = n; omega)
      · exact Fin.ext (by show 0 + 1 * d.val = d.val; omega)
      · exact Fin.ext (by show 0 + 1 * e.val = e.val; omega)
    have e2 := congrFun ((View.readCov_eq_canon' VS0_0 L' (stR n hn).toLoadRect).symm.trans ha) (ix3 0 d e)
    exact (congrArg (View.canon L') e1.symm).trans e2
  have k0 := key _ 0 (by omega) _ (st_read0 VS0_0 (sc (S 0)) (sc (S 1)) (sc (S 2)) (sc (S 3)) L)
  have k1 := key _ 1 (by omega) _ (st_read1 VS0_0 (sc (S 0)) (sc (S 1)) (sc (S 2)) (sc (S 3)) L)
  have k2 := key _ 2 (by omega) _ (st_read2 VS0_0 (sc (S 0)) (sc (S 1)) (sc (S 2)) (sc (S 3)) L)
  have k3 := key _ 3 (by omega) _ (st_read3 VS0_0 (sc (S 0)) (sc (S 1)) (sc (S 2)) (sc (S 3)) L)
  revert k0 k1 k2 k3
  generalize View.canon (stL (sc (S 0)) (sc (S 1)) (sc (S 2)) (sc (S 3)) L) = C
  intro k0 k1 k2 k3
  match h with
  | ⟨0, _⟩ => exact k0
  | ⟨1, _⟩ => exact k1
  | ⟨2, _⟩ => exact k2
  | ⟨3, _⟩ => exact k3

/-! ## The block's arrays -/

/-- The activations a block's tokens bring, as the kernel lays them out. -/
def actOf (r : Fin 256) (c : Fin 1536) : ℝ :=
  if c.val < 512 then T.q ⟨c.val / 128 % 4, by omega⟩ r.val ⟨c.val % 128, by omega⟩
  else if c.val < 1024 then T.k ⟨c.val / 128 % 4, by omega⟩ r.val ⟨c.val % 128, by omega⟩
  else T.v ⟨c.val / 128 % 4, by omega⟩ r.val ⟨c.val % 128, by omega⟩

/-- Its gates: the write strengths and the log-decays summed from the chunk's first token on. -/
def repOf (r : Fin 256) (c : Fin 1024) : ℝ :=
  if c.val < 512 then T.b ⟨c.val / 128 % 4, by omega⟩ r.val
  else cum (fun n => T.g ⟨c.val / 128 % 4, by omega⟩ (64 * (r.val / 64) + n)) (r.val % 64 + 1)

theorem fin4 (h : Fin 4) (n : ℕ) (hn : n = h.val) (hl : n < 4) : (⟨n, hl⟩ : Fin 4) = h := Fin.ext hn

section
variable (v : View sig κ sp S256x1536 .f32) (M : List (View.Piece (Elt Ideal) S256x1536 .f32))
  (hM : ∀ r c, View.canon M (ix2 r c) = ((actOf T r c : ℝ) : EReal))
include hM

theorem ld_q (h : Fin 4) (o o' : ℕ) (ho : o' = 128 * h.val)
    (inb : ∀ a, (![o, o'] : Fin 2 → ℕ) a + (S64x128).size a ≤ (S256x1536).size a) :
    v.readCov M (Rect.unit (s := S256x1536) ![o, o'] (S64x128).size inb).toLoadRect = (cm (c2 fun i => T.q h (o + i.val)) : FVec Ideal S64x128 .f32) := by
  refine ld_act v M (actOf T) hM o o' inb _ fun i d r c hr hc => ?_
  have hh := h.isLt
  have hd := d.isLt
  unfold actOf
  rw [if_pos (by omega), fin4 h _ (by omega) _, hr, show (⟨c.val % 128, by omega⟩ : Fin 128) = d from Fin.ext (by show c.val % 128 = d.val; omega)]

theorem ld_k (h : Fin 4) (o o' : ℕ) (ho : o' = 512 + 128 * h.val)
    (inb : ∀ a, (![o, o'] : Fin 2 → ℕ) a + (S64x128).size a ≤ (S256x1536).size a) :
    v.readCov M (Rect.unit (s := S256x1536) ![o, o'] (S64x128).size inb).toLoadRect = (cm (c2 fun i => T.k h (o + i.val)) : FVec Ideal S64x128 .f32) := by
  refine ld_act v M (actOf T) hM o o' inb _ fun i d r c hr hc => ?_
  have hh := h.isLt
  have hd := d.isLt
  unfold actOf
  rw [if_neg (by omega), if_pos (by omega), fin4 h _ (by omega) _, hr, show (⟨c.val % 128, by omega⟩ : Fin 128) = d from Fin.ext (by show c.val % 128 = d.val; omega)]

theorem ld_v (h : Fin 4) (o o' : ℕ) (ho : o' = 1024 + 128 * h.val)
    (inb : ∀ a, (![o, o'] : Fin 2 → ℕ) a + (S64x128).size a ≤ (S256x1536).size a) :
    v.readCov M (Rect.unit (s := S256x1536) ![o, o'] (S64x128).size inb).toLoadRect = (cm (c2 fun i => T.v h (o + i.val)) : FVec Ideal S64x128 .f32) := by
  refine ld_act v M (actOf T) hM o o' inb _ fun i d r c hr hc => ?_
  have hh := h.isLt
  have hd := d.isLt
  unfold actOf
  rw [if_neg (by omega), if_neg (by omega), fin4 h _ (by omega) _, hr, show (⟨c.val % 128, by omega⟩ : Fin 128) = d from Fin.ext (by show c.val % 128 = d.val; omega)]

end

section
variable (v : View sig κ sp S256x1024 .f32) (M : List (View.Piece (Elt Ideal) S256x1024 .f32))
  (hM : ∀ r c, View.canon M (ix2 r c) = ((repOf T r c : ℝ) : EReal))
include hM

theorem ld_b (h : Fin 4) (o o' : ℕ) (ho : o' = 128 * h.val)
    (inb : ∀ a, (![o, o'] : Fin 2 → ℕ) a + (S64x128).size a ≤ (S256x1024).size a) :
    v.readCov M (Rect.unit (s := S256x1024) ![o, o'] (S64x128).size inb).toLoadRect = (cm (c2 fun i _ => T.b h (o + i.val)) : FVec Ideal S64x128 .f32) := by
  refine ld_act v M (repOf T) hM o o' inb _ fun i d r c hr hc => ?_
  have hh := h.isLt
  have hd := d.isLt
  unfold repOf
  rw [if_pos (by omega), fin4 h _ (by omega) _, hr]

theorem ld_g (h : Fin 4) (o o' : ℕ) (h64 : o % 64 = 0) (ho : o' = 512 + 128 * h.val)
    (inb : ∀ a, (![o, o'] : Fin 2 → ℕ) a + (S64x128).size a ≤ (S256x1024).size a) :
    v.readCov M (Rect.unit (s := S256x1024) ![o, o'] (S64x128).size inb).toLoadRect
      = (cm (c2 fun i _ => cum (fun n => T.g h (o + n)) (i.val + 1)) : FVec Ideal S64x128 .f32) := by
  refine ld_act v M (repOf T) hM o o' inb _ fun i d r c hr hc => ?_
  have hh := h.isLt
  have hd := d.isLt
  have hi := i.isLt
  unfold repOf
  rw [if_neg (by omega), fin4 h _ (by omega) _, show 64 * (r.val / 64) = o by omega, show r.val % 64 = i.val by omega]

end

/-- The state's scratch at reals. -/
def stA (S : Fin 4 → St) : FVec Ideal S4x128x128 .f32 := fun y => ((S (y 0) (y 1) (y 2) : ℝ) : EReal)

theorem ld_st (m : Memref sig .tc .vmem S4x128x128 .f32) (hm : m.IsWhole) (S : Fin 4 → St) (h : ℕ) (hh : h < 4) :
    View.readAt (Elt Ideal) m.view (stR h hh).toLoadRect (hm.unread (stA S)) = sc (S ⟨h, hh⟩) := by
  funext y
  obtain ⟨u, d, e, rfl⟩ : ∃ (u : Fin 1) (d e : Fin 128), y = ix3 u d e := ⟨y 0, y 1, y 2, eq_ix3 y⟩
  have e1 : (stR h hh).toLoadRect.idx (ix3 u d e) = (ix3 (⟨h, hh⟩ : Fin 4) d e : S4x128x128.Idx) := by
    have hu : u.val = 0 := by omega
    funext a
    refine Fin.cases ?_ (fun a => Fin.cases ?_ (fun a => Fin.cases ?_ (fun a => a.elim0) a) a) a
    · exact Fin.ext (by show h + 1 * u.val = h; omega)
    · exact Fin.ext (by show 0 + 1 * d.val = d.val; omega)
    · exact Fin.ext (by show 0 + 1 * e.val = e.val; omega)
  exact (congrFun (hm.read_unread (Val := Elt Ideal) (stA S)) ((stR h hh).toLoadRect.idx (ix3 u d e))).trans (congrArg (stA S) e1)

theorem ld_z (m : Memref sig .tc .vmem S1x256x512 .f32) (hm : m.IsWhole) (Z : Fin 256 → Fin 512 → ℝ)
    (o o' : ℕ) (inb : ∀ a, (![0, o, o'] : Fin 3 → ℕ) a + (S1x64x128).size a ≤ (S1x256x512).size a) (h1 : o + 64 ≤ 256) (h2 : o' + 128 ≤ 512) :
    View.readAt (Elt Ideal) m.view (Rect.unit (s := S1x256x512) ![0, o, o'] (S1x64x128).size inb).toLoadRect (hm.unread (cm (c3 Z) : FVec Ideal S1x256x512 .f32))
      = (cm (c3 fun (i : Fin 64) (d : Fin 128) => Z ⟨o + i.val, by omega⟩ ⟨o' + d.val, by omega⟩) : FVec Ideal S1x64x128 .f32) := by
  funext y
  obtain ⟨u, d, e, rfl⟩ : ∃ (u : Fin 1) (d : Fin 64) (e : Fin 128), y = ix3 u d e := ⟨y 0, y 1, y 2, eq_ix3 y⟩
  have e1 : (Rect.unit (s := S1x256x512) ![0, o, o'] (S1x64x128).size inb).toLoadRect.idx (ix3 u d e)
      = (ix3 0 ⟨o + d.val, by omega⟩ ⟨o' + e.val, by omega⟩ : S1x256x512.Idx) := by
    have hu : u.val = 0 := by omega
    funext a
    refine Fin.cases ?_ (fun a => Fin.cases ?_ (fun a => Fin.cases ?_ (fun a => a.elim0) a) a) a
    · exact Fin.ext (by show 0 + 1 * u.val = 0; omega)
    · exact Fin.ext (by show o + 1 * d.val = o + d.val; omega)
    · exact Fin.ext (by show o' + 1 * e.val = o' + e.val; omega)
  exact (congrFun (hm.read_unread (Val := Elt Ideal) (cm (c3 Z) : FVec Ideal S1x256x512 .f32))
    ((Rect.unit (s := S1x256x512) ![0, o, o'] (S1x64x128).size inb).toLoadRect.idx (ix3 u d e))).trans (congrArg (cm (c3 Z) : FVec Ideal S1x256x512 .f32) e1)

theorem ld0 (v : View sig κ sp S4x128x128 .f32) (inb : ∀ a, (![0, 0, 0] : Fin 3 → ℕ) a + (S4x128x128).size a ≤ (S4x128x128).size a)
    (hS : ∀ h d e, S0 h d e = 0) (h : ℕ) (hh : h < 4) :
    v.readCov [(⟨Rect.unit (s := S4x128x128) ![0, 0, 0] (S4x128x128).size inb, (k0_pay2 (F := Ideal) : S4x128x128.Idx → Elt Ideal .f32)⟩ : View.Piece (Elt Ideal) S4x128x128 .f32)] (stR h hh).toLoadRect = sc (S0 ⟨h, hh⟩) := by
  refine (View.readCov_eq_canon' v _ _).trans (funext fun y => ?_)
  have e := View.canon_cons_unit_lit (Val := Elt Ideal) (S := S4x128x128) (e := .f32) inb (k0_pay2 (F := Ideal)) [] (by decide)
  refine (congrFun e _).trans ?_
  have hz : k0_pay2 (F := Ideal) = cm fun _ => 0 := by
    unfold k0_pay2
    dsimp only
    rw [zero_cm, cast_cm]
    rfl
  refine (congrFun hz _).trans ?_
  show ((0 : ℝ) : EReal) = ((S0 ⟨h, hh⟩ (y 1) (y 2) : ℝ) : EReal)
  exact congrArg (fun x : ℝ => (x : EReal)) (hS ⟨h, hh⟩ (y 1) (y 2)).symm

/-! ## The gated rows -/

def ydA (nw : FVec Ideal S1x128 .f32) (Z : Fin 256 → Fin 512 → ℝ) (r : Fin 256) (n : Fin 512) : EReal :=
  ((T.rs S0 ⟨n.val / 128, by omega⟩ r.val ⟨n.val % 128, by omega⟩ : ℝ) : EReal) * nw (ix2 0 ⟨n.val % 128, by omega⟩) * ((siluR (Z r n) : ℝ) : EReal)

theorem tile_at (o h s o' : ℕ) (ho : o + 64 ≤ 256) (hh : h < 4) (es : s = 64 * h) (eo : o' = 128 * h) (hs : S256x128.Slices ![s, 0] S64x128)
    (on : FVec Ideal S256x128 .f32) (hon : on = cm (c2 (stkN T S0 o))) (nw : FVec Ideal S1x128 .f32) (z : FVec Ideal S1x64x128 .f32)
    (Z : Fin 256 → Fin 512 → ℝ)
    (hz : z = cm (c3 fun (i : Fin 64) (d : Fin 128) => Z ⟨o + i.val, by omega⟩ ⟨o' + d.val, by omega⟩))
    (x : S64x128.Idx) (r : Fin 256) (n : Fin 512) (h0 : r.val = o + (x 0).val) (h1 : n.val = o' + (x 1).val) :
    sYD s hs (k0_pay207 on nw) z x = ydA T S0 nw Z r n := by
  subst es eo hon hz
  obtain ⟨i, e, rfl⟩ : ∃ (i : Fin 64) (e : Fin 128), x = ix2 i e := ⟨x 0, x 1, eq_ix2 x⟩
  have hr : (⟨o + i.val, by omega⟩ : Fin 256) = r := Fin.ext h0.symm
  have hn : (⟨128 * h + e.val, by omega⟩ : Fin 512) = n := Fin.ext h1.symm
  have he : (⟨n.val % 128, by omega⟩ : Fin 128) = e := Fin.ext (by
    show n.val % 128 = e.val
    have : n.val = 128 * h + e.val := h1
    omega)
  have hd : (⟨n.val / 128, by omega⟩ : Fin 4) = ⟨h, hh⟩ := Fin.ext (by
    show n.val / 128 = h
    have : n.val = 128 * h + e.val := h1
    omega)
  refine (sYD_at (64 * h) hs (stkN T S0 o) nw _ i e).trans ?_
  have hw : (⟨64 * h + i.val, by omega⟩ : Fin 256) = rw64 ⟨h, hh⟩ i := rfl
  unfold ydA
  rw [he, hd, hr, hn]
  unfold stkN
  rw [hw, st4_rw, show o + i.val = r.val from h0.symm]

end Dn
-- ==== Proof.DnConv.lean ====
/-
  The convolution of the delta-rule kernel at arrays of reals: four taps along the rows, SiLU, and the
  normalisation of the queries' and the keys' rows.
-/
module

public import proofs.«01_k».proof.Proof.DnBlock
public import Idealize.ShloMosaic.Lib.KernelVsHost

@[expose] public section

set_option maxRecDepth 16384

noncomputable section

open Idealize.ShloMosaic Idealize.ShloMosaic.TcCoe Idealize.SL.Sem

namespace Dn

open Cert.KernelIdeal Cert.KernelIdeal.Gen

/-- Moving every row of a block of 264 rows down by one, the last to the front. -/
theorem rot_c2 (f : Fin 264 → Fin 128 → ℝ) :
    dynamicRotate 0 1#32 none (c2 f) rotates_S264x128_d0 = c2 fun i j => f ⟨(i.val + 263) % 264, Nat.mod_lt _ (by decide)⟩ j := by
  funext i
  obtain ⟨r, j, rfl⟩ : ∃ r j, i = ix2 r j := ⟨i 0, i 1, eq_ix2 i⟩
  exact dynamicRotate_apply (s := S264x128) 0 1#32 (c2 f) rotates_S264x128_d0 (ix2 r j) (ix2 ⟨(r.val + 263) % 264, Nat.mod_lt _ (by decide)⟩ j) (by
    intro b
    refine Fin.cases ?_ (fun b => Fin.cases ?_ (fun b => b.elim0) b) b
    · rfl
    · rfl)

/-- A tap: the rows times one row of weights. -/
theorem tap_c2 (P : Fin 264 → Fin 128 → ℝ) (w : Fin 1 → Fin 128 → ℝ) :
    mulf (cm (c2 P) : FVec Ideal S264x128 .f32) (broadcastTo S264x128 (shapeCast S1x128 (cm (c2 w) : FVec Ideal S1x128 .f32) shapeCasts_S1x128_S1x128) broadcasts_S1x128_S264x128)
      = cm (c2 fun i j => P i j * w 0 j) := by
  rw [cast_cm, cast_11, bto_cm, bto_c2f, mulf_c2]

/-- One more tap. -/
theorem step_c2 (A P : Fin 264 → Fin 128 → ℝ) (w : Fin 1 → Fin 128 → ℝ) :
    addf (mulf (cm (c2 P) : FVec Ideal S264x128 .f32) (broadcastTo S264x128 (shapeCast S1x128 (cm (c2 w) : FVec Ideal S1x128 .f32) shapeCasts_S1x128_S1x128) broadcasts_S1x128_S264x128))
      (dynamicRotate 0 1#32 none (cm (c2 A) : FVec Ideal S264x128 .f32) rotates_S264x128_d0)
      = cm (c2 fun i j => P i j * w 0 j + A ⟨(i.val + 263) % 264, Nat.mod_lt _ (by decide)⟩ j) := by
  rw [tap_c2, rot_cm, rot_c2]
  exact addf_c2 _ _

/-- The four taps of row `r` of a block of 256 rows that follow eight earlier ones. -/
def taps (P : Fin 264 → Fin 128 → ℝ) (w0 w1 w2 w3 : Fin 1 → Fin 128 → ℝ) (r : Fin 256) (j : Fin 128) : ℝ :=
  P ⟨8 + r.val, by omega⟩ j * w3 0 j + (P ⟨7 + r.val, by omega⟩ j * w2 0 j + (P ⟨6 + r.val, by omega⟩ j * w1 0 j + P ⟨5 + r.val, by omega⟩ j * w0 0 j))

theorem pay27_at (P : Fin 264 → Fin 128 → ℝ) (w0 w1 w2 w3 : Fin 1 → Fin 128 → ℝ) :
    k0_pay27 (F := Ideal) (cm (c2 P) : FVec Ideal S264x128 .f32) (cm (c2 w0) : FVec Ideal S1x128 .f32) (cm (c2 w1) : FVec Ideal S1x128 .f32) (cm (c2 w2) : FVec Ideal S1x128 .f32) (cm (c2 w3) : FVec Ideal S1x128 .f32)
      = cm (c2 (taps P w0 w1 w2 w3)) := by
  unfold k0_pay27
  dsimp only
  rw [tap_c2 P w0, step_c2 _ P w1, step_c2 _ P w2, step_c2 _ P w3, slice_cm, slice_c2]
  refine congrArg cm (funext fun i => ?_)
  obtain ⟨r, j, rfl⟩ : ∃ r j, i = ix2 r j := ⟨i 0, i 1, eq_ix2 i⟩
  rw [c2_ix, c2_ix]
  unfold taps
  have a7 : (8 + r.val + 263) % 264 = 7 + r.val := by omega
  have a6 : (7 + r.val + 263) % 264 = 6 + r.val := by omega
  have a5 : (6 + r.val + 263) % 264 = 5 + r.val := by omega
  have z : (⟨0 + j.val, by omega⟩ : Fin 128) = j := Fin.ext (Nat.zero_add _)
  simp only [a7, a6, a5, z]

/-- SiLU by way of the hyperbolic tangent. -/
theorem silu_c2 (A : Fin 256 → Fin 128 → ℝ) :
    k0_pay28 (F := Ideal) (cm (c2 A) : FVec Ideal S256x128 .f32) = cm (c2 fun r j => siluR (A r j)) := by
  unfold k0_pay28
  simp only [half_cm', mulf_c2, tanh_c2, addf_c2, silu_half, cast_cm]
  refine congrArg cm (funext fun i => ?_)
  idx_vars i
  pointwise [c2_ix]

/-- Rows divided by their length, as the keys are. -/
def unitR (A : Fin 256 → Fin 128 → ℝ) (r : Fin 256) (j : Fin 128) : ℝ := A r j * (Real.sqrt ((∑ k, A r k * A r k) + epsR))⁻¹

/-- The word by which the queries are scaled, as a real. -/
def scaleR : ℝ := (Ideal.ofBits .f32 0x3DB504F3#32).toReal

theorem scale_coe : Ideal.ofBits .f32 0x3DB504F3#32 = (scaleR : EReal) := by
  unfold scaleR
  have : Ideal.ofBits .f32 0x3DB504F3#32 = ((11863283 / 134217728 : ℝ) : EReal) := by
    simp [Ideal.ofBits, Ideal.ieee, -EReal.coe_mul]; norm_num
  rw [this]; rfl

/-- A group of values: four taps, then SiLU. -/
def gV (xp : FVec Ideal S264x128 .f32) (a b c d : FVec Ideal S1x128 .f32) : FVec Ideal S256x128 .f32 := k0_pay28 (k0_pay27 xp a b c d)
/-- A group of keys: the same, normalised. -/
def gK (xp : FVec Ideal S264x128 .f32) (a b c d : FVec Ideal S1x128 .f32) : FVec Ideal S256x128 .f32 := k0_pay18 (k0_pay16 xp a b c) (k0_pay17 xp d)
/-- A group of queries: the same, scaled. -/
def gQ (xp : FVec Ideal S264x128 .f32) (a b c d : FVec Ideal S1x128 .f32) : FVec Ideal S256x128 .f32 := k0_pay7 (k0_pay5 xp a b c d) (k0_pay6 xp a b c d)

section
variable (P : Fin 264 → Fin 128 → ℝ) (w0 w1 w2 w3 : Fin 1 → Fin 128 → ℝ)

/-- The values at the reals. -/
def actP (r : Fin 256) (j : Fin 128) : ℝ := siluR (taps P w0 w1 w2 w3 r j)

theorem gV_at : gV (cm (c2 P) : FVec Ideal S264x128 .f32) (cm (c2 w0) : FVec Ideal S1x128 .f32) (cm (c2 w1) : FVec Ideal S1x128 .f32) (cm (c2 w2) : FVec Ideal S1x128 .f32) (cm (c2 w3) : FVec Ideal S1x128 .f32)
    = cm (c2 (actP P w0 w1 w2 w3)) := by
  unfold gV
  rw [pay27_at, silu_c2]
  rfl

theorem half_silu (A : Fin 256 → Fin 128 → ℝ) :
    addf (mulf (broadcast S256x128 (Scalar.ofBits (F := Ideal) .f32 0x3F000000#32)) (cm (c2 A) : FVec Ideal S256x128 .f32))
      (mulf (mulf (broadcast S256x128 (Scalar.ofBits (F := Ideal) .f32 0x3F000000#32)) (cm (c2 A) : FVec Ideal S256x128 .f32))
        (tanh (mulf (broadcast S256x128 (Scalar.ofBits (F := Ideal) .f32 0x3F000000#32)) (cm (c2 A) : FVec Ideal S256x128 .f32))))
      = cm (c2 fun r j => siluR (A r j)) := by
  rw [half_cm', mulf_c2, tanh_c2, mulf_c2, addf_c2]
  simp only [silu_half]

theorem same_cast (A : Fin 256 → Fin 128 → ℝ) : shapeCast S256x128 (cm (c2 A) : FVec Ideal S256x128 .f32) shapeCasts_S256x128_S256x128 = cm (c2 A) := by
  rw [cast_cm]
  refine congrArg cm (funext fun i => ?_)
  idx_vars i
  pointwise [c2_ix]

/-- Rows divided by their length. -/
theorem unit_c2 (A : Fin 256 → Fin 128 → ℝ) :
    mulf (cm (c2 A) : FVec Ideal S256x128 .f32) (broadcastTo S256x128 (rsqrt (addf (shapeCast S256x1
      (multiReduction .add [1] S256 (mulf (cm (c2 A) : FVec Ideal S256x128 .f32) (cm (c2 A))) 0x00000000#32 reduces_S256x128_S256 (.inl rfl) rfl) shapeCasts_S256_S256x1)
      (broadcast S256x1 (Scalar.ofBits .f32 0x358637BD#32)))) broadcasts_S256x1_S256x128) = cm (c2 (unitR A)) := by
  rw [mulf_c2, sumrow_c2, l2_c2]
  rfl

theorem gK_at : gK (cm (c2 P) : FVec Ideal S264x128 .f32) (cm (c2 w0) : FVec Ideal S1x128 .f32) (cm (c2 w1) : FVec Ideal S1x128 .f32) (cm (c2 w2) : FVec Ideal S1x128 .f32) (cm (c2 w3) : FVec Ideal S1x128 .f32)
    = cm (c2 (unitR (actP P w0 w1 w2 w3))) := by
  have e := pay27_at P w0 w1 w2 w3
  unfold k0_pay27 at e
  dsimp only at e
  unfold gK k0_pay18 k0_pay16 k0_pay17
  dsimp only
  rw [e, half_silu, unit_c2, same_cast]
  rfl

theorem gQ_at : gQ (cm (c2 P) : FVec Ideal S264x128 .f32) (cm (c2 w0) : FVec Ideal S1x128 .f32) (cm (c2 w1) : FVec Ideal S1x128 .f32) (cm (c2 w2) : FVec Ideal S1x128 .f32) (cm (c2 w3) : FVec Ideal S1x128 .f32)
    = cm (c2 fun r j => unitR (actP P w0 w1 w2 w3) r j * scaleR) := by
  have e := pay27_at P w0 w1 w2 w3
  unfold k0_pay27 at e
  dsimp only at e
  unfold gQ k0_pay7 k0_pay6 k0_pay5
  dsimp only
  have es : (broadcast S256x128 (Scalar.ofBits (F := Ideal) .f32 0x3DB504F3#32) : FVec Ideal S256x128 .f32) = cm (c2 fun _ _ => scaleR) :=
    funext fun _ => scale_coe
  rw [e, half_silu, unit_c2, es, mulf_c2, same_cast]
  rfl

end

/-! ## The tokens of a sequence, from its rows -/

section
variable (Y cw : ℕ → ℕ → ℝ) (G B : Fin 4 → ℕ → ℝ)

/-- The activation at token `n`, column `c`; row `n + 8` of `Y` is the token's own. -/
def actY (n c : ℕ) : ℝ := siluR (Y (8 + n) c * cw 3 c + (Y (7 + n) c * cw 2 c + (Y (6 + n) c * cw 1 c + Y (5 + n) c * cw 0 c)))

/-- The same divided by the length of its group of 128 columns. -/
def unitY (n g d : ℕ) : ℝ := actY Y cw n (128 * g + d) * (Real.sqrt ((∑ k : Fin 128, actY Y cw n (128 * g + k.val) * actY Y cw n (128 * g + k.val)) + epsR))⁻¹

/-- The tokens from `o` on. -/
def mkT (o : ℕ) : Toks where
  g h n := G h (o + n)
  b h n := B h (o + n)
  k h n d := unitY Y cw (o + n) (4 + h.val) d.val
  v h n d := actY Y cw (o + n) (128 * (8 + h.val) + d.val)
  q h n d := unitY Y cw (o + n) h.val d.val * scaleR

/-- The rows of one group of columns, and its weights. -/
def rowsY (o g : ℕ) (i : Fin 264) (j : Fin 128) : ℝ := Y (o + i.val) (128 * g + j.val)
def colW (w g : ℕ) (_ : Fin 1) (j : Fin 128) : ℝ := cw w (128 * g + j.val)

theorem actP_Y (o g : ℕ) (r : Fin 256) (j : Fin 128) :
    actP (rowsY Y o g) (colW cw 0 g) (colW cw 1 g) (colW cw 2 g) (colW cw 3 g) r j = actY Y cw (o + r.val) (128 * g + j.val) := by
  unfold actP taps actY rowsY colW
  simp only [show 8 + (o + r.val) = o + (8 + r.val) by omega, show 7 + (o + r.val) = o + (7 + r.val) by omega,
    show 6 + (o + r.val) = o + (6 + r.val) by omega, show 5 + (o + r.val) = o + (5 + r.val) by omega]

theorem unitP_Y (o g : ℕ) (r : Fin 256) (j : Fin 128) :
    unitR (actP (rowsY Y o g) (colW cw 0 g) (colW cw 1 g) (colW cw 2 g) (colW cw 3 g)) r j = unitY Y cw (o + r.val) g j.val := by
  unfold unitR unitY
  simp only [actP_Y]

section
variable (o g : ℕ) (xp : FVec Ideal S264x128 .f32) (hp : xp = cm (c2 (rowsY Y o g))) (a b c d : FVec Ideal S1x128 .f32)
  (ha : a = cm (c2 (colW cw 0 g))) (hb : b = cm (c2 (colW cw 1 g))) (hc : c = cm (c2 (colW cw 2 g))) (hd : d = cm (c2 (colW cw 3 g)))
  (x : S256x128.Idx) (r : Fin 256) (q : Fin 1536) (h0 : r.val = 0 + (x 0).val) (h1 : q.val = 128 * g + (x 1).val)
include hp ha hb hc hd h0 h1

theorem tileQ (hg : g < 4) : gQ xp a b c d x = ((actOf (mkT Y cw G B o) r q : ℝ) : EReal) := by
  subst hp ha hb hc hd
  obtain ⟨i, e, rfl⟩ : ∃ (i : Fin 256) (e : Fin 128), x = ix2 i e := ⟨x 0, x 1, eq_ix2 x⟩
  have hr : r = i := Fin.ext (h0.trans (Nat.zero_add _))
  subst hr
  have h1' : q.val = 128 * g + e.val := h1
  rw [gQ_at, cm_apply, c2_ix, unitP_Y]
  unfold actOf
  rw [if_pos (by omega)]
  show _ = ((unitY Y cw (o + r.val) (q.val / 128 % 4) (q.val % 128) * scaleR : ℝ) : EReal)
  rw [show q.val / 128 % 4 = g by omega, show q.val % 128 = e.val by omega]

theorem tileK (l : ℕ) (hl : g = 4 + l) (hg : l < 4) : gK xp a b c d x = ((actOf (mkT Y cw G B o) r q : ℝ) : EReal) := by
  subst hp ha hb hc hd
  obtain ⟨i, e, rfl⟩ : ∃ (i : Fin 256) (e : Fin 128), x = ix2 i e := ⟨x 0, x 1, eq_ix2 x⟩
  have hr : r = i := Fin.ext (h0.trans (Nat.zero_add _))
  subst hr
  have h1' : q.val = 128 * g + e.val := h1
  rw [gK_at, cm_apply, c2_ix, unitP_Y]
  unfold actOf
  rw [if_neg (by omega), if_pos (by omega)]
  show _ = ((unitY Y cw (o + r.val) (4 + q.val / 128 % 4) (q.val % 128) : ℝ) : EReal)
  rw [show 4 + q.val / 128 % 4 = g by omega, show q.val % 128 = e.val by omega]

theorem tileV (l : ℕ) (hl : g = 8 + l) (hg : l < 4) : gV xp a b c d x = ((actOf (mkT Y cw G B o) r q : ℝ) : EReal) := by
  subst hp ha hb hc hd
  obtain ⟨i, e, rfl⟩ : ∃ (i : Fin 256) (e : Fin 128), x = ix2 i e := ⟨x 0, x 1, eq_ix2 x⟩
  have hr : r = i := Fin.ext (h0.trans (Nat.zero_add _))
  subst hr
  have h1' : q.val = 128 * g + e.val := h1
  rw [gV_at, cm_apply, c2_ix, actP_Y]
  unfold actOf
  rw [if_neg (by omega), if_neg (by omega)]
  show _ = ((actY Y cw (o + r.val) (128 * (8 + q.val / 128 % 4) + q.val % 128) : ℝ) : EReal)
  rw [show 128 * (8 + q.val / 128 % 4) + q.val % 128 = 128 * g + e.val by omega]

end

/-- The index of a tile of columns. -/
theorem idx_cols (o o' n c : ℕ) (m : ℕ) (inb : ∀ a, (![o, o'] : Fin 2 → ℕ) a + (![c, 128] : Fin 2 → ℕ) a ≤ (⟨2, ![n, m]⟩ : Shape).size a)
    (i : Fin c) (d : Fin 128) (h0 : o + i.val < n) (h1 : o' + d.val < m) :
    (Rect.unit (s := (⟨2, ![n, m]⟩ : Shape)) ![o, o'] ![c, 128] inb).toLoadRect.idx (ix2 i d) = (ix2 ⟨o + i.val, h0⟩ ⟨o' + d.val, h1⟩ : (⟨2, ![n, m]⟩ : Shape).Idx) := by
  funext a
  refine Fin.cases ?_ (fun a => Fin.cases ?_ (fun a => a.elim0) a) a
  · exact Fin.ext (by show o + 1 * i.val = o + i.val; omega)
  · exact Fin.ext (by show o' + 1 * d.val = o' + d.val; omega)

variable {sig : RefSig} {κ : Kind} {sp : Space}

/-- A group's rows read from the block with its earlier rows. -/
theorem ld_pad (v : View sig κ sp S264x1536 .f32) (X : v.ty.Contents (Elt Ideal)) (o : ℕ)
    (hX : ∀ (i : Fin 264) (j : Fin 1536), v.read (Elt Ideal) X (ix2 i j) = ((Y (o + i.val) j.val : ℝ) : EReal)) (g o' : ℕ) (ho : o' = 128 * g) (hg : g < 12)
    (inb : ∀ a, (![0, o'] : Fin 2 → ℕ) a + (S264x128).size a ≤ (S264x1536).size a) :
    View.readAt (Elt Ideal) v (Rect.unit (s := S264x1536) ![0, o'] (S264x128).size inb).toLoadRect X = (cm (c2 (rowsY Y o g)) : FVec Ideal S264x128 .f32) := by
  subst ho
  funext y
  obtain ⟨i, d, rfl⟩ : ∃ (i : Fin 264) (d : Fin 128), y = ix2 i d := ⟨y 0, y 1, eq_ix2 y⟩
  rw [View.readAt_apply]
  refine (congrArg (v.read (Elt Ideal) X) (idx_cols 0 (128 * g) 264 264 1536 inb i d (by omega) (by omega))).trans ?_
  rw [hX]
  show ((Y (o + (0 + i.val)) (128 * g + d.val) : ℝ) : EReal) = ((Y (o + i.val) (128 * g + d.val) : ℝ) : EReal)
  rw [Nat.zero_add]

/-- The same, the block having been stored before. -/
theorem ld_padc (v : View sig κ sp S264x1536 .f32) (L : List (View.Piece (Elt Ideal) S264x1536 .f32)) (o : ℕ)
    (hX : ∀ (i : Fin 264) (j : Fin 1536), View.canon L (ix2 i j) = ((Y (o + i.val) j.val : ℝ) : EReal)) (g o' : ℕ) (ho : o' = 128 * g) (hg : g < 12)
    (inb : ∀ a, (![0, o'] : Fin 2 → ℕ) a + (S264x128).size a ≤ (S264x1536).size a) :
    v.readCov L (Rect.unit (s := S264x1536) ![0, o'] (S264x128).size inb).toLoadRect = (cm (c2 (rowsY Y o g)) : FVec Ideal S264x128 .f32) := by
  subst ho
  refine (View.readCov_eq_canon' v L _).trans (funext fun y => ?_)
  obtain ⟨i, d, rfl⟩ : ∃ (i : Fin 264) (d : Fin 128), y = ix2 i d := ⟨y 0, y 1, eq_ix2 y⟩
  refine (congrArg (View.canon L) (idx_cols 0 (128 * g) 264 264 1536 inb i d (by omega) (by omega))).trans ?_
  rw [hX]
  show ((Y (o + (0 + i.val)) (128 * g + d.val) : ℝ) : EReal) = ((Y (o + i.val) (128 * g + d.val) : ℝ) : EReal)
  rw [Nat.zero_add]

/-- A group's row of weights. -/
theorem ld_w (m : Memref sig κ sp S4x1536 .f32) (hm : m.IsWhole) (x5 : FVec Ideal S4x1536 .f32)
    (hx : ∀ (w : Fin 4) (j : Fin 1536), x5 (ix2 w j) = ((cw w.val j.val : ℝ) : EReal)) (g o' w : ℕ) (ho : o' = 128 * g) (hg : g < 12) (hw : w < 4)
    (inb : ∀ a, (![w, o'] : Fin 2 → ℕ) a + (S1x128).size a ≤ (S4x1536).size a) :
    View.readAt (Elt Ideal) m.view (Rect.unit (s := S4x1536) ![w, o'] (S1x128).size inb).toLoadRect (hm.unread x5) = (cm (c2 (colW cw w g)) : FVec Ideal S1x128 .f32) := by
  subst ho
  funext y
  obtain ⟨i, d, rfl⟩ : ∃ (i : Fin 1) (d : Fin 128), y = ix2 i d := ⟨y 0, y 1, eq_ix2 y⟩
  rw [View.readAt_apply, hm.read_unread (Val := Elt Ideal) x5]
  refine (congrArg x5 (idx_cols w (128 * g) 4 1 1536 inb i d (by omega) (by omega))).trans ?_
  rw [hx]
  have : i.val = 0 := by omega
  show ((cw (w + i.val) (128 * g + d.val) : ℝ) : EReal) = _
  rw [this]
  rfl

end

end Dn
-- ==== Proof.DnPad.lean ====
/-
  The rows that the delta-rule kernel keeps from one block to the next, and the convolution's rows.
-/
module

public import proofs.«01_k».proof.Proof.DnConv
public import Idealize.ShloMosaic.Lib.WritesUnit

@[expose] public section

set_option maxRecDepth 16384

noncomputable section

open Idealize.ShloMosaic Idealize.ShloMosaic.TcCoe Idealize.SL.Sem

namespace Dn

open Cert.KernelIdeal Cert.KernelIdeal.Gen

variable {sig : RefSig} {κ κ' : Kind} {sp sp' : Space}

/-- Some rows of a block, read from its buffer. -/
theorem ld_rows {n k : ℕ} {e : EltTy} (m : Memref sig κ sp (⟨3, ![1, n, k]⟩ : Shape) e) (hm : m.IsWhole) (X : Vec Ideal (⟨3, ![1, n, k]⟩ : Shape) e)
    (o c : ℕ) (inb : ∀ a, (![0, o, 0] : Fin 3 → ℕ) a + (![1, c, k] : Fin 3 → ℕ) a ≤ (⟨3, ![1, n, k]⟩ : Shape).size a)
    (u : Fin 1) (i : Fin c) (j : Fin k) (h : o + i.val < n) :
    View.readAt (Elt Ideal) m.view (Rect.unit (s := (⟨3, ![1, n, k]⟩ : Shape)) ![0, o, 0] ![1, c, k] inb).toLoadRect (hm.unread X) (ix3 u i j) = X (ix3 0 ⟨o + i.val, h⟩ j) := by
  have e1 : (Rect.unit (s := (⟨3, ![1, n, k]⟩ : Shape)) ![0, o, 0] ![1, c, k] inb).toLoadRect.idx (ix3 u i j)
      = (ix3 0 ⟨o + i.val, h⟩ j : (⟨3, ![1, n, k]⟩ : Shape).Idx) := by
    have hu : u.val = 0 := by omega
    funext a
    refine Fin.cases ?_ (fun a => Fin.cases ?_ (fun a => Fin.cases ?_ (fun a => a.elim0) a) a) a
    · exact Fin.ext (by show 0 + 1 * u.val = 0; omega)
    · exact Fin.ext (by show o + 1 * i.val = o + i.val; omega)
    · exact Fin.ext (by show 0 + 1 * j.val = j.val; omega)
  rw [View.readAt_apply, hm.read_unread (Val := Elt Ideal) X]
  exact congrArg X e1

theorem pay4_ix (A : FVec Ideal S1x256x1536 .f32) (i : Fin 256) (j : Fin 1536) : k0_pay4 (F := Ideal) A (ix2 i j) = A (ix3 0 i j) := by
  unfold k0_pay4
  pointwise

theorem pay33_ix (A : FVec Ideal S1x8x1536 .f32) (i : Fin 8) (j : Fin 1536) : k0_pay33 (F := Ideal) A (ix2 i j) = A (ix3 0 i j) := by
  unfold k0_pay33
  pointwise

theorem pay3_ix (i : Fin 8) (j : Fin 1536) : k0_pay3 (F := Ideal) (ix2 i j) = ((0 : ℝ) : EReal) := by
  unfold k0_pay3
  pointwise [ofBits_zero]

section
variable (Y : ℕ → ℕ → ℝ) (o : ℕ) (m : Memref sig .tc .vmem S1x256x1536 .f32) (hm : m.IsWhole) (x2 : FVec Ideal S1x256x1536 .f32)
  (hx2 : ∀ (i : Fin 256) (j : Fin 1536), x2 (ix3 0 i j) = ((Y (o + (8 + i.val)) j.val : ℝ) : EReal))
include hx2

theorem blk_at (inb : ∀ a, (![0, 0, 0] : Fin 3 → ℕ) a + (S1x256x1536).size a ≤ (S1x256x1536).size a) (x : S256x1536.Idx) (i : ℕ) (j : Fin 1536)
    (h0 : i = 8 + (x 0).val) (h1 : j.val = (x 1).val) :
    k0_pay4 (F := Ideal) (View.readAt (Elt Ideal) m.view (Rect.unit (s := S1x256x1536) ![0, 0, 0] (S1x256x1536).size inb).toLoadRect (hm.unread x2)) x = ((Y (o + i) j.val : ℝ) : EReal) := by
  obtain ⟨r, n, rfl⟩ : ∃ (r : Fin 256) (n : Fin 1536), x = ix2 r n := ⟨x 0, x 1, eq_ix2 x⟩
  have hn : j = n := Fin.ext h1
  subst hn h0
  rw [pay4_ix]
  refine (ld_rows m hm x2 0 256 inb 0 r j (by omega)).trans ?_
  rw [hx2]
  show ((Y (o + (8 + (0 + r.val))) j.val : ℝ) : EReal) = ((Y (o + (8 + r.val)) j.val : ℝ) : EReal)
  rw [Nat.zero_add]

/-- The block behind eight earlier rows. -/
theorem pad_blk (v : View sig κ sp S264x1536 .f32) (f : v.ty.Contents (Elt Ideal)) (hf : ∀ (i : Fin 264) (j : Fin 1536), i.val < 8 → v.read (Elt Ideal) f (ix2 i j) = ((Y (o + i.val) j.val : ℝ) : EReal))
    (inb : ∀ a, (![8, 0] : Fin 2 → ℕ) a + (S256x1536).size a ≤ (S264x1536).size a)
    (inb' : ∀ a, (![0, 0, 0] : Fin 3 → ℕ) a + (S1x256x1536).size a ≤ (S1x256x1536).size a) (i : Fin 264) (j : Fin 1536) :
    v.read (Elt Ideal) (v.writes (Elt Ideal) f [⟨Rect.unit (s := S264x1536) ![8, 0] (S256x1536).size inb,
      k0_pay4 (F := Ideal) (View.readAt (Elt Ideal) m.view (Rect.unit (s := S1x256x1536) ![0, 0, 0] (S1x256x1536).size inb').toLoadRect (hm.unread x2))⟩]) (ix2 i j)
      = ((Y (o + i.val) j.val : ℝ) : EReal) := by
  by_cases h : i.val < 8
  · refine (View.read_writes_cons_rows_of_not_mem (Val := Elt Ideal) v f inb _ [] (ix2 i j) rfl (W := 256) rfl (.inl h)).trans ?_
    exact hf i j h
  · refine (View.read_writes_cons_rows_of_mem (Val := Elt Ideal) v f inb _ [] (ix2 i j) (ix2 (⟨i.val - 8, by omega⟩ : Fin 256) j) rfl
      (show i.val = 8 + (i.val - 8) by omega) rfl).trans ?_
    exact blk_at Y o m hm x2 hx2 inb' _ i.val j (show i.val = 8 + (i.val - 8) by omega) rfl

/-- The last eight rows of the block, kept for the next. -/
theorem pad_new (v : View sig κ sp S264x1536 .f32) (f : v.ty.Contents (Elt Ideal)) (L : List (View.Piece (Elt Ideal) S264x1536 .f32))
    (inb : ∀ a, (![0, 0] : Fin 2 → ℕ) a + (S8x1536).size a ≤ (S264x1536).size a)
    (inb' : ∀ a, (![0, 248, 0] : Fin 3 → ℕ) a + (S1x8x1536).size a ≤ (S1x256x1536).size a) (i : Fin 264) (hi : i.val < 8) (j : Fin 1536) :
    v.read (Elt Ideal) (v.writes (Elt Ideal) f (⟨Rect.unit (s := S264x1536) ![0, 0] (S8x1536).size inb,
      k0_pay33 (F := Ideal) (View.readAt (Elt Ideal) m.view (Rect.unit (s := S1x256x1536) ![0, 248, 0] (S1x8x1536).size inb').toLoadRect (hm.unread x2))⟩ :: L)) (ix2 i j)
      = ((Y (o + 256 + i.val) j.val : ℝ) : EReal) := by
  refine (View.read_writes_cons_rows_of_mem (Val := Elt Ideal) v f inb _ L (ix2 i j) (ix2 (⟨i.val, hi⟩ : Fin 8) j) rfl
    (show i.val = 0 + i.val by omega) rfl).trans ?_
  rw [pay33_ix]
  refine (ld_rows m hm x2 248 8 inb' 0 ⟨i.val, hi⟩ j (show 248 + i.val < 256 by omega)).trans ?_
  rw [hx2]
  show ((Y (o + (8 + (248 + i.val))) j.val : ℝ) : EReal) = _
  rw [show o + (8 + (248 + i.val)) = o + 256 + i.val by omega]

end

end Dn
-- ==== Proof.DnGate.lean ====
/-
  The gates of the delta-rule kernel at arrays of reals: the write strengths, the log-decays summed within a chunk,
  and their spreading over the lanes.
-/
module

public import proofs.«01_k».proof.Proof.DnPad

@[expose] public section

set_option maxRecDepth 16384

noncomputable section

open Idealize.ShloMosaic Idealize.ShloMosaic.TcCoe Idealize.SL.Sem

namespace Dn

open Cert.KernelIdeal Cert.KernelIdeal.Gen

/-- The logistic function. -/
def sigR (x : ℝ) : ℝ := (1 + Real.exp (-x))⁻¹
/-- The logarithm of one plus the exponential, as it is computed. -/
def spR (x : ℝ) : ℝ := max x 0 + Real.log (1 + Real.exp (-|x|))

variable {s : Shape} {φ : FTy}

theorem sig_cm (A : s.Idx → ℝ) :
    divf (broadcast s (Scalar.ofBits (F := Ideal) .f32 0x3F800000#32)) (addf (broadcast s (Scalar.ofBits (F := Ideal) .f32 0x3F800000#32))
      (exp (subf (broadcast s (Scalar.ofBits (F := Ideal) .f32 0x00000000#32)) (cm A : FVec Ideal s .f32)))) = cm fun i => sigR (A i) := by
  rw [one_cm, zero_cm, subf_cm, exp_cm, addf_cm]
  funext i
  have h : (1 + Real.exp (0 - A i)) ≠ 0 := by have := Real.exp_pos (0 - A i); linarith
  show Ideal.div ((1 : ℝ) : EReal) ((1 + Real.exp (0 - A i) : ℝ) : EReal) = ((sigR (A i) : ℝ) : EReal)
  rw [Ideal.div_coe h, ← EReal.coe_mul]
  unfold sigR
  rw [zero_sub, one_mul, one_div]

theorem max_coe (a b : ℝ) : max (a : EReal) (b : EReal) = ((max a b : ℝ) : EReal) := (EReal.coe_strictMono.monotone.map_max).symm

theorem sp_cm (A : s.Idx → ℝ) :
    addf (maximumf (cm A : FVec Ideal s .f32) (broadcast s (Scalar.ofBits (F := Ideal) .f32 0x00000000#32)))
      (log (addf (broadcast s (Scalar.ofBits (F := Ideal) .f32 0x3F800000#32))
      (exp (subf (broadcast s (Scalar.ofBits (F := Ideal) .f32 0x00000000#32)) (absf (cm A : FVec Ideal s .f32)))))) = cm fun i => spR (A i) := by
  rw [one_cm, zero_cm]
  funext i
  have ea : max ((A i : ℝ) : EReal) (-((A i : ℝ) : EReal)) = ((|A i| : ℝ) : EReal) := by
    rw [← EReal.coe_neg, max_coe]; rfl
  have h : ¬ (1 + Real.exp (0 - |A i|)) ≤ 0 := by have := Real.exp_pos (0 - |A i|); linarith
  show max ((A i : ℝ) : EReal) ((0 : ℝ) : EReal) + Ideal.log (((1 : ℝ) : EReal) + Ideal.exp (((0 : ℝ) : EReal) - max ((A i : ℝ) : EReal) (-((A i : ℝ) : EReal))))
    = ((spR (A i) : ℝ) : EReal)
  rw [ea, ← EReal.coe_sub, Ideal.exp_coe, ← EReal.coe_add, Ideal.log_coe, if_neg h, max_coe, ← EReal.coe_add]
  unfold spR
  rw [zero_sub]

/-- The gates of a token: write strengths in the first four lanes, log-decays behind. -/
def gateA (al dl : Fin 128 → ℝ) (gt : Fin 256 → Fin 128 → ℝ) (i : Fin 256) (l : Fin 128) : ℝ :=
  if l.val < 4 then sigR (gt i l) else -Real.exp (al l) * spR (gt i l + dl l)

theorem lane4 : ∀ l : Fin 128, IntOp.cmpi CmpIPredicate.slt (BitVec.ofNat 32 l.val) 4#32 = if l.val < 4 then 1#1 else 0#1 := by decide +kernel

theorem sel_lane (A B : Fin 256 → Fin 128 → ℝ) :
    select (broadcastTo S256x128 (shapeCast S1x128 (cmpi .slt (iota .tc S1x128 32 [1] iota_S1x128_d1_w32) (broadcast S1x128 4#32)) shapeCasts_S1x128_S1x128) broadcasts_S1x128_S256x128)
      (cm (c2 A) : FVec Ideal S256x128 .f32) (cm (c2 B)) = cm (c2 fun i l => if l.val < 4 then A i l else B i l) := by
  rw [select_cm]
  apply congrArg cm
  apply ext_c2
  intro i l
  pointwise [c2_ix]
  rw [lane4, sel1]

theorem neg_row (al : Fin 128 → ℝ) :
    broadcastTo S256x128 (subf (broadcast S1x128 (Scalar.ofBits (F := Ideal) .f32 0x00000000#32)) (exp (cm (c2 fun _ l => al l) : FVec Ideal S1x128 .f32))) broadcasts_S1x128_S256x128
      = cm (c2 fun _ l => -Real.exp (al l)) := by
  rw [zero_cm, exp_c2, subf_cm, bto_cm]
  apply congrArg cm
  apply ext_c2
  intro i l
  pointwise [c2_ix]
  rw [zero_sub]

theorem pay41_at (al dl : Fin 128 → ℝ) (gt : Fin 256 → Fin 128 → ℝ) :
    k0_pay41 (F := Ideal) (iota .tc S1x128 32 [1] iota_S1x128_d1_w32) (cm (c2 fun _ l => al l) : FVec Ideal S1x128 .f32) (cm (c2 gt) : FVec Ideal S256x128 .f32)
      (cm (c2 fun i l => gt i l + dl l) : FVec Ideal S256x128 .f32) k0_pay40 = cm (c2 (gateA al dl gt)) := by
  unfold k0_pay41 k0_pay40
  dsimp only
  rw [sp_cm, sig_cm, neg_row]
  have e1 : (fun i => spR (c2 (fun i l => gt i l + dl l) i)) = c2 (fun (i : Fin 256) (l : Fin 128) => spR (gt i l + dl l)) := rfl
  have e2 : (fun i => sigR (c2 gt i)) = c2 (fun (i : Fin 256) (l : Fin 128) => sigR (gt i l)) := rfl
  rw [e1, e2, mulf_c2, sel_lane]
  rfl

/-! ## Sums within a chunk -/

/-- The chunk's lower triangle. -/
def lowR (i j : Fin 256) : ℝ := if i.val / 64 = j.val / 64 ∧ j.val ≤ i.val then 1 else 0

/-- The sum of the rows of a chunk up to a row. -/
theorem low_sum (A : ℕ → ℝ) (i : Fin 256) : ∑ j : Fin 256, lowR i j * A j.val = cum (fun n => A (64 * (i.val / 64) + n)) (i.val % 64 + 1) := by
  unfold lowR cum
  rw [Fin.sum_univ_eq_sum_range (fun j => (if i.val / 64 = j / 64 ∧ j ≤ i.val then (1 : ℝ) else 0) * A j) 256]
  have hi := i.isLt
  rw [← Finset.sum_subset (s₁ := (Finset.range (i.val % 64 + 1)).image fun n => 64 * (i.val / 64) + n)]
  · rw [Finset.sum_image (fun a _ b _ h => by simpa using h)]
    refine Finset.sum_congr rfl fun n hn => ?_
    have := Finset.mem_range.mp hn
    rw [if_pos ⟨by omega, by omega⟩, one_mul]
  · intro x hx
    obtain ⟨n, hn, rfl⟩ := Finset.mem_image.mp hx
    have := Finset.mem_range.mp hn
    exact Finset.mem_range.mpr (by omega)
  · intro x hx hn
    rw [if_neg, zero_mul]
    rintro ⟨h1, h2⟩
    exact hn (Finset.mem_image.mpr ⟨x - 64 * (i.val / 64), Finset.mem_range.mpr (by omega), by omega⟩)

theorem low_mask (v543 v544 : IVec S256x256 32) (e3 : v543 = iota .tc S256x256 32 [0] iota_S256x256_d0_w32) (e4 : v544 = iota .tc S256x256 32 [1] iota_S256x256_d1_w32)
    (A : Fin 256 → Fin 128 → ℝ) :
    k0_pay46 (F := Ideal) (cm (c2 A) : FVec Ideal S256x128 .f32) v543 v544 k0_pay42 k0_pay43 k0_pay44 k0_pay45
      = cm (c2 fun i l => ∑ j, lowR i j * A j l) := by
  subst e3 e4
  simp only [k0_pay46, one_cm, zero_cm, select_cm, truncf_cm, extf_cm, subf_c2, const_cm, matmul_cm, addf_cm]
  apply congrArg cm
  apply ext_c2
  intro i l
  have el : ∀ M : IVec S256x256 1, (∀ i j : Fin 256, M (ix2 i j) = if i.val / 64 = j.val / 64 ∧ j.val ≤ i.val then 1#1 else 0#1) →
      (select M (fun _ => (1 : ℝ)) fun _ => (0 : ℝ)) = c2 lowR := by
    intro M hM
    apply ext_c2
    intro i j
    show Scalar.select (M (ix2 i j)) (1 : ℝ) 0 = lowR i j
    rw [hM, sel1]
    rfl
  rw [el _ (by
    intro i j
    pointwise [k0_pay42, k0_pay43, k0_pay44, k0_pay45]
    refine Eq.trans ?_ (and1 _ _)
    rw [← same64, ← sge256, ← quot64 i, ← quot64 j]
    rfl)]
  rw [rmmc5, rmmc5]
  simp [c2_ix]

/-! ## Rows of four numbers, and the spreading -/

/-- Four numbers in lanes four to seven. -/
def rowR (a : Fin 4 → ℝ) (l : Fin 128) : ℝ :=
  if l.val = 7 then a 3 else if l.val = 6 then a 2 else if l.val = 5 then a 1 else if l.val = 4 then a 0 else 0

theorem rowR_at (a : Fin 4 → ℝ) (h : Fin 4) (l : Fin 128) (hl : l.val = 4 + h.val) : rowR a l = a h := by
  unfold rowR
  fin_cases h <;> simp_all

theorem laneq (k : Fin 128) : ∀ l : Fin 128, IntOp.cmpi CmpIPredicate.eq (BitVec.ofNat 32 l.val) (BitVec.ofNat 32 k.val) = if l.val = k.val then 1#1 else 0#1 := by
  intro l
  have e := eq256 ⟨l.val, by omega⟩ ⟨k.val, by omega⟩
  simpa only [Fin.mk.injEq] using e

theorem pick_lane (k : Fin 128) (b : ℝ) (A : Fin 128 → ℝ) :
    select (cmpi .eq (iota .tc S1x128 32 [1] iota_S1x128_d1_w32) (broadcast S1x128 (BitVec.ofNat 32 k.val))) (broadcast S1x128 ((b : ℝ) : EReal))
      (cm (c2 fun _ l => A l) : FVec Ideal S1x128 .f32) = (cm (c2 fun (_ : Fin 1) l => if l.val = k.val then b else A l) : FVec Ideal S1x128 .f32) := by
  have : (broadcast S1x128 ((b : ℝ) : EReal) : FVec Ideal S1x128 .f32) = cm (c2 fun _ _ => b) := rfl
  rw [this, select_cm]
  apply congrArg cm
  apply ext_c2
  intro i l
  pointwise [c2_ix]
  rw [laneq, sel1]

theorem zero_row : (broadcast S1x128 (Scalar.ofBits (F := Ideal) .f32 0x00000000#32) : FVec Ideal S1x128 .f32) = cm (c2 fun _ _ => 0) := zero_cm

theorem pay37_at (a : Fin 4 → ℝ) :
    k0_pay37 (F := Ideal) (iota .tc S1x128 32 [1] iota_S1x128_d1_w32) k0_pay34 k0_pay36 ((a 0 : ℝ) : EReal) ((a 1 : ℝ) : EReal) ((a 2 : ℝ) : EReal) ((a 3 : ℝ) : EReal)
      = cm (c2 fun _ l => rowR a l) := by
  unfold k0_pay37 k0_pay34 k0_pay36
  dsimp only
  have e4 := pick_lane 4 (a 0) fun _ => 0
  have e5 := pick_lane 5 (a 1) fun l => if l.val = (4 : Fin 128).val then a 0 else 0
  have e6 := pick_lane 6 (a 2) fun l => if l.val = (5 : Fin 128).val then a 1 else if l.val = (4 : Fin 128).val then a 0 else 0
  have e7 := pick_lane 7 (a 3) fun l => if l.val = (6 : Fin 128).val then a 2 else if l.val = (5 : Fin 128).val then a 1 else if l.val = (4 : Fin 128).val then a 0 else 0
  rw [zero_row]
  refine Eq.trans ?_ e7
  refine congrArg (select _ _) (Eq.trans ?_ e6)
  refine congrArg (select _ _) (Eq.trans ?_ e5)
  exact congrArg (select _ _) e4

theorem pay39_at (b : Fin 4 → ℝ) (gt : Fin 256 → Fin 128 → ℝ) (x : FVec Ideal S1x256x128 .f32) (hx : k0_pay38 (F := Ideal) x = cm (c2 gt)) :
    k0_pay39 (F := Ideal) (iota .tc S1x128 32 [1] iota_S1x128_d1_w32) k0_pay35 ((b 0 : ℝ) : EReal) ((b 1 : ℝ) : EReal) ((b 2 : ℝ) : EReal) ((b 3 : ℝ) : EReal) x
      = cm (c2 fun i l => gt i l + rowR b l) := by
  have e := pay37_at b
  unfold k0_pay37 k0_pay34 k0_pay36 at e
  unfold k0_pay39 k0_pay35
  dsimp only at e ⊢
  rw [hx]
  refine (congrArg (fun r : FVec Ideal S1x128 .f32 => addf (cm (c2 gt) : FVec Ideal S256x128 .f32) (broadcastTo S256x128 r broadcasts_S1x128_S256x128)) e).trans ?_
  show addf (cm (c2 gt) : FVec Ideal S256x128 .f32) (broadcastTo S256x128 (cm (c2 fun _ l => rowR b l) : FVec Ideal S1x128 .f32) broadcasts_S1x128_S256x128) = _
  rw [bto_cm]
  exact addf_c2 _ fun _ l => rowR b l

theorem pay38_at (m : Memref sig .tc .vmem S1x256x128 .f32) (hm : m.IsWhole) (x4 : FVec Ideal S1x256x128 .f32) (gt : Fin 256 → Fin 128 → ℝ)
    (hx : ∀ i l, x4 (ix3 0 i l) = ((gt i l : ℝ) : EReal)) (inb : ∀ a, (![0, 0, 0] : Fin 3 → ℕ) a + (S1x256x128).size a ≤ (S1x256x128).size a) :
    k0_pay38 (F := Ideal) (View.readAt (Elt Ideal) m.view (Rect.unit (s := S1x256x128) ![0, 0, 0] (S1x256x128).size inb).toLoadRect (hm.unread x4)) = cm (c2 gt) := by
  unfold k0_pay38
  funext y
  obtain ⟨i, l, rfl⟩ : ∃ (i : Fin 256) (l : Fin 128), y = ix2 i l := ⟨y 0, y 1, eq_ix2 y⟩
  pointwise [cm_apply, c2_ix]
  refine (ld_rows m hm x4 0 256 inb 0 i l (by omega)).trans ?_
  rw [hx]
  exact congrArg (fun k => ((gt k l : ℝ) : EReal)) (Fin.ext (Nat.zero_add i.val))

theorem ld_s (m : Memref sig .tc .smem S4 .f32) (hm : m.IsWhole) (x : FVec Ideal S4 .f32) (a : Fin 4 → ℝ) (hx : ∀ h, x (ix1 h) = ((a h : ℝ) : EReal))
    (h : ℕ) (hh : h < 4) (inb : ∀ b, (![h] : Fin 1 → ℕ) b + (S1).size b ≤ (S4).size b) (i : S1.Idx) :
    View.readAt (Elt Ideal) m.view (Rect.unit (s := S4) ![h] (S1).size inb).toLoadRect (hm.unread x) i = ((a ⟨h, hh⟩ : ℝ) : EReal) := by
  have e1 : (Rect.unit (s := S4) ![h] (S1).size inb).toLoadRect.idx i = (ix1 ⟨h, hh⟩ : S4.Idx) := by
    have hu : (i 0).val = 0 := by have : (i 0).val < 1 := (i 0).isLt; omega
    funext b
    refine Fin.cases ?_ (fun b => b.elim0) b
    exact Fin.ext (by show h + 1 * (i 0).val = h; omega)
  rw [View.readAt_apply, hm.read_unread (Val := Elt Ideal) x]
  exact (congrArg x e1).trans (hx _)

theorem quot128 : ∀ b : Fin 1024, Scalar.select
    (IntOp.andi
      (IntOp.cmpi CmpIPredicate.ne
        (IntOp.subi (BitVec.setWidth 32 (IntOp.cmpi CmpIPredicate.sgt (BitVec.ofNat 32 b.val) 0#32))
          (BitVec.setWidth 32 (IntOp.cmpi CmpIPredicate.slt (BitVec.ofNat 32 b.val) 0#32)))
        1#32)
      (IntOp.cmpi CmpIPredicate.ne (IntOp.remsi ArithUnit.vector (BitVec.ofNat 32 b.val) 128#32) 0#32))
    (IntOp.subi (IntOp.divsi ArithUnit.vector (BitVec.ofNat 32 b.val) 128#32) 1#32)
    (IntOp.divsi ArithUnit.vector (BitVec.ofNat 32 b.val) 128#32) = BitVec.ofNat 32 (b.val / 128) := by decide +kernel

/-- The spreading matrix. -/
def sprR (l : Fin 128) (c : Fin 1024) : ℝ := if l.val = c.val / 128 then 1 else 0

theorem spr_sum (W : Fin 128 → ℝ) (c : Fin 1024) : ∑ l, W l * sprR l c = W ⟨c.val / 128, by omega⟩ := by
  unfold sprR
  rw [Finset.sum_eq_single (⟨c.val / 128, by omega⟩ : Fin 128)]
  · simp
  · intro b _ hb
    rw [if_neg (fun h => hb (Fin.ext h)), mul_zero]
  · simp

theorem pay47_at (v609 v610 : IVec S128x1024 32) (e3 : v609 = iota .tc S128x1024 32 [0] iota_S128x1024_d0_w32) (e4 : v610 = iota .tc S128x1024 32 [1] iota_S128x1024_d1_w32)
    (A C : Fin 256 → Fin 128 → ℝ) :
    k0_pay47 (F := Ideal) (iota .tc S1x128 32 [1] iota_S1x128_d1_w32) (cm (c2 A) : FVec Ideal S256x128 .f32) (cm (c2 C) : FVec Ideal S256x128 .f32) v609 v610
      = cm (c2 fun i c => if c.val / 128 < 4 then A i ⟨c.val / 128, by omega⟩ else C i ⟨c.val / 128, by omega⟩) := by
  subst e3 e4
  unfold k0_pay47
  dsimp only
  rw [sel_lane]
  simp only [one_cm, zero_cm, select_cm, truncf_cm, extf_cm, subf_c2, const_cm, matmul_cm, addf_cm]
  apply congrArg cm
  apply ext_c2
  intro i c
  have el : ∀ M : IVec S128x1024 1, (∀ (l : Fin 128) (c : Fin 1024), M (ix2 l c) = if l.val = c.val / 128 then 1#1 else 0#1) →
      (select M (fun _ => (1 : ℝ)) fun _ => (0 : ℝ)) = c2 sprR := by
    intro M hM
    apply ext_c2
    intro l c
    show Scalar.select (M (ix2 l c)) (1 : ℝ) 0 = sprR l c
    rw [hM, sel1]
    rfl
  rw [el _ (by
    intro l c
    pointwise
    refine Eq.trans ?_ (laneq ⟨c.val / 128, by omega⟩ l)
    rw [← quot128 c]
    rfl)]
  rw [rmmc6, rmmc6]
  simp only [c2_ix, sub_self, zero_mul, Finset.sum_const_zero, zero_add, add_zero]
  exact spr_sum (fun l => if l.val < 4 then A i l else C i l) c

/-- The lane of a head's write gate. -/
def lnB (h : Fin 4) : Fin 128 := ⟨h.val, by omega⟩
/-- The lane of a head's decay gate. -/
def lnG (h : Fin 4) : Fin 128 := ⟨4 + h.val, by omega⟩

section
variable (Y cw : ℕ → ℕ → ℝ) (G B : Fin 4 → ℕ → ℝ) (o : ℕ) (al dl : Fin 4 → ℝ) (gt : Fin 256 → Fin 128 → ℝ)
  (hB : ∀ (h : Fin 4) (i : Fin 256), B h (o + i.val) = sigR (gt i (lnB h)))
  (hG : ∀ (h : Fin 4) (i : Fin 256), G h (o + i.val) = -Real.exp (al h) * spR (gt i (lnG h) + dl h))
include hB hG

theorem gates_real (r : Fin 256) (q : Fin 1024) :
    (if q.val / 128 < 4 then gateA (rowR al) (rowR dl) gt r ⟨q.val / 128, by omega⟩
      else ∑ j, lowR r j * gateA (rowR al) (rowR dl) gt j ⟨q.val / 128, by omega⟩) = repOf (mkT Y cw G B o) r q := by
  have hq := q.isLt
  have hr := r.isLt
  unfold repOf
  by_cases h : q.val < 512
  · have h1 : q.val / 128 < 4 := by omega
    rw [if_pos h1, if_pos h]
    unfold gateA
    rw [if_pos h1]
    show _ = B ⟨q.val / 128 % 4, by omega⟩ (o + r.val)
    rw [hB]
    exact congrArg (fun k => sigR (gt r k)) (Fin.ext (show q.val / 128 = q.val / 128 % 4 by omega))
  · have h1 : ¬ q.val / 128 < 4 := by omega
    rw [if_neg h1, if_neg h]
    have e : ∀ j : Fin 256, gateA (rowR al) (rowR dl) gt j ⟨q.val / 128, by omega⟩ = G ⟨q.val / 128 % 4, by omega⟩ (o + j.val) := by
      intro j
      unfold gateA
      rw [if_neg h1, hG, rowR_at al ⟨q.val / 128 % 4, by omega⟩ _ (show q.val / 128 = 4 + q.val / 128 % 4 by omega),
        rowR_at dl ⟨q.val / 128 % 4, by omega⟩ _ (show q.val / 128 = 4 + q.val / 128 % 4 by omega)]
      exact congrArg (fun k => -Real.exp (al ⟨q.val / 128 % 4, by omega⟩) * spR (gt j k + dl ⟨q.val / 128 % 4, by omega⟩))
        (Fin.ext (show q.val / 128 = 4 + q.val / 128 % 4 by omega))
    simp only [e]
    exact low_sum (fun n => G ⟨q.val / 128 % 4, by omega⟩ (o + n)) r

variable (s0 s1 s2 s3 t0 t1 t2 t3 : Elt Ideal .f32)
  (hs0 : s0 = ((al 0 : ℝ) : EReal)) (hs1 : s1 = ((al 1 : ℝ) : EReal)) (hs2 : s2 = ((al 2 : ℝ) : EReal)) (hs3 : s3 = ((al 3 : ℝ) : EReal))
  (ht0 : t0 = ((dl 0 : ℝ) : EReal)) (ht1 : t1 = ((dl 1 : ℝ) : EReal)) (ht2 : t2 = ((dl 2 : ℝ) : EReal)) (ht3 : t3 = ((dl 3 : ℝ) : EReal))
  (x : FVec Ideal S1x256x128 .f32) (hx : k0_pay38 (F := Ideal) x = cm (c2 gt))
include hs0 hs1 hs2 hs3 ht0 ht1 ht2 ht3 hx

theorem gates_at (g : FVec Ideal S256x128 .f32)
    (hg : g = k0_pay41 (F := Ideal) (iota .tc S1x128 32 [1] iota_S1x128_d1_w32) (k0_pay37 (iota .tc S1x128 32 [1] iota_S1x128_d1_w32) k0_pay34 k0_pay36 s0 s1 s2 s3)
      (k0_pay38 x) (k0_pay39 (iota .tc S1x128 32 [1] iota_S1x128_d1_w32) k0_pay35 t0 t1 t2 t3 x) k0_pay40)
    (L : List (View.Piece (Elt Ideal) S256x1024 .f32)) (inb : ∀ a, (![0, 0] : Fin 2 → ℕ) a + (S256x1024).size a ≤ (S256x1024).size a) (hc : S256x1024.ShapeCasts S256x1024)
    (r : Fin 256) (q : Fin 1024) :
    View.canon ((⟨Rect.unit (s := S256x1024) ![0, 0] (S256x1024).size inb, shapeCast S256x1024 (k0_pay47 (F := Ideal) (iota .tc S1x128 32 [1] iota_S1x128_d1_w32) g
      (k0_pay46 g (iota .tc S256x256 32 [0] iota_S256x256_d0_w32) (iota .tc S256x256 32 [1] iota_S256x256_d1_w32) k0_pay42 k0_pay43 k0_pay44 k0_pay45)
      (iota .tc S128x1024 32 [0] iota_S128x1024_d0_w32) (iota .tc S128x1024 32 [1] iota_S128x1024_d1_w32)) hc⟩ : View.Piece (Elt Ideal) S256x1024 .f32) :: L) (ix2 r q)
      = ((repOf (mkT Y cw G B o) r q : ℝ) : EReal) := by
  subst hs0 hs1 hs2 hs3 ht0 ht1 ht2 ht3
  rw [pay37_at, pay39_at dl gt x hx, hx, pay41_at] at hg
  subst hg
  refine (congrFun (View.canon_cons_unit_lit (Val := Elt Ideal) (S := S256x1024) (e := .f32) inb _ L (by decide)) (ix2 r q)).trans ?_
  rw [low_mask _ _ rfl rfl, pay47_at _ _ rfl rfl, cast_cm, cm_apply]
  rw [← gates_real Y cw G B o al dl gt hB hG r q]
  refine congrArg _ ?_
  pointwise [c2_ix]

end

end Dn
-- ==== Proof.DnOut.lean ====
/-
  The output rows of the delta-rule kernel: the residual and the two projections.
-/
module

public import proofs.«01_k».proof.Proof.DnGate

@[expose] public section

set_option maxRecDepth 16384

noncomputable section

open Idealize.ShloMosaic Idealize.ShloMosaic.TcCoe Idealize.SL.Sem

namespace Dn

open Cert.KernelIdeal Cert.KernelIdeal.Gen

/-- A row of the output: the residual, and the two projections. -/
def outA (res : Fin 256 → Fin 1024 → EReal) (ya : Fin 256 → Fin 512 → EReal) (wa : Fin 512 → Fin 1024 → EReal) (yd : Fin 256 → Fin 512 → EReal)
    (wd : Fin 512 → Fin 1024 → EReal) (r : Fin 256) (n : Fin 1024) : EReal :=
  res r n + ∑ k : Fin 512, ya r k * wa k n + ∑ k : Fin 512, yd r k * wd k n

theorem pay1_at (A : FVec Ideal S1x256x1024 .f32) (B : FVec Ideal S1x256x512 .bf16) (C : FVec Ideal S512x1024 .bf16) (D : FVec Ideal S256x512 .bf16)
    (E : FVec Ideal S512x1024 .bf16) (u : Fin 1) (r : Fin 256) (n : Fin 1024) :
    k0_pay1 (F := Ideal) (k0_pay291 A) (k0_pay292 B) C D E (ix3 u r n)
      = outA (fun r n => A (ix3 0 r n)) (fun r k => B (ix3 0 r k)) (fun k n => C (ix2 k n)) (fun r k => D (ix2 r k)) (fun k n => E (ix2 k n)) r n := by
  unfold k0_pay1 k0_pay291 k0_pay292 outA
  pointwise [ofBits_zero]
  simp only [EReal.coe_zero, zero_add]

variable {sig : RefSig} {κ : Kind} {sp : Space}

/-- A matrix read from its buffer. -/
theorem ld_mat {n k : ℕ} {e : EltTy} (m : Memref sig κ sp (⟨2, ![n, k]⟩ : Shape) e) (hm : m.IsWhole) (X : Vec Ideal (⟨2, ![n, k]⟩ : Shape) e)
    (inb : ∀ a, (![0, 0] : Fin 2 → ℕ) a + (![n, k] : Fin 2 → ℕ) a ≤ (⟨2, ![n, k]⟩ : Shape).size a) :
    View.readAt (Elt Ideal) m.view (Rect.unit (s := (⟨2, ![n, k]⟩ : Shape)) ![0, 0] ![n, k] inb).toLoadRect (hm.unread X) = X := by
  funext y
  obtain ⟨i, j, rfl⟩ : ∃ (i : Fin n) (j : Fin k), y = ix2 i j := ⟨y 0, y 1, eq_ix2 y⟩
  have e1 : (Rect.unit (s := (⟨2, ![n, k]⟩ : Shape)) ![0, 0] ![n, k] inb).toLoadRect.idx (ix2 i j) = (ix2 i j : (⟨2, ![n, k]⟩ : Shape).Idx) := by
    funext a
    refine Fin.cases ?_ (fun a => Fin.cases ?_ (fun a => a.elim0) a) a
    · exact Fin.ext (by show 0 + 1 * i.val = i.val; omega)
    · exact Fin.ext (by show 0 + 1 * j.val = j.val; omega)
  rw [View.readAt_apply, hm.read_unread (Val := Elt Ideal) X]
  exact congrArg X e1

/-- A block read whole from its buffer. -/
theorem ld_blk {n k : ℕ} {e : EltTy} (m : Memref sig κ sp (⟨3, ![1, n, k]⟩ : Shape) e) (hm : m.IsWhole) (X : Vec Ideal (⟨3, ![1, n, k]⟩ : Shape) e)
    (inb : ∀ a, (![0, 0, 0] : Fin 3 → ℕ) a + (![1, n, k] : Fin 3 → ℕ) a ≤ (⟨3, ![1, n, k]⟩ : Shape).size a) :
    View.readAt (Elt Ideal) m.view (Rect.unit (s := (⟨3, ![1, n, k]⟩ : Shape)) ![0, 0, 0] ![1, n, k] inb).toLoadRect (hm.unread X) = X := by
  funext y
  obtain ⟨u, i, j, rfl⟩ : ∃ (u : Fin 1) (i : Fin n) (j : Fin k), y = ix3 u i j := ⟨y 0, y 1, y 2, eq_ix3 y⟩
  have e1 : (Rect.unit (s := (⟨3, ![1, n, k]⟩ : Shape)) ![0, 0, 0] ![1, n, k] inb).toLoadRect.idx (ix3 u i j) = (ix3 u i j : (⟨3, ![1, n, k]⟩ : Shape).Idx) := by
    funext a
    refine Fin.cases ?_ (fun a => Fin.cases ?_ (fun a => Fin.cases ?_ (fun a => a.elim0) a) a) a
    · exact Fin.ext (by show 0 + 1 * u.val = u.val; omega)
    · exact Fin.ext (by show 0 + 1 * i.val = i.val; omega)
    · exact Fin.ext (by show 0 + 1 * j.val = j.val; omega)
  rw [View.readAt_apply, hm.read_unread (Val := Elt Ideal) X]
  exact congrArg X e1

/-- What the body stores as its output. -/
theorem out_at (m7 : Memref sig .tc .vmem S1x256x1024 .f32) (h7 : m7.IsWhole) (x7 : FVec Ideal S1x256x1024 .f32)
    (m8 : Memref sig .tc .vmem S1x256x512 .bf16) (h8 : m8.IsWhole) (x8 : FVec Ideal S1x256x512 .bf16)
    (m9 : Memref sig .tc .vmem S512x1024 .bf16) (h9 : m9.IsWhole) (x9 : FVec Ideal S512x1024 .bf16)
    (m10 : Memref sig .tc .vmem S512x1024 .bf16) (h10 : m10.IsWhole) (x10 : FVec Ideal S512x1024 .bf16)
    (v : View sig .tc .vmem S256x512 .bf16) (L : List (View.Piece (Elt Ideal) S256x512 .bf16)) (yd : Fin 256 → Fin 512 → EReal) (hL : ∀ r k, View.canon L (ix2 r k) = yd r k)
    (i7 : ∀ a, (![0, 0, 0] : Fin 3 → ℕ) a + (S1x256x1024).size a ≤ (S1x256x1024).size a) (i8 : ∀ a, (![0, 0, 0] : Fin 3 → ℕ) a + (S1x256x512).size a ≤ (S1x256x512).size a)
    (i9 i10 : ∀ a, (![0, 0] : Fin 2 → ℕ) a + (S512x1024).size a ≤ (S512x1024).size a) (iL : ∀ a, (![0, 0] : Fin 2 → ℕ) a + (S256x512).size a ≤ (S256x512).size a)
    (iO : ∀ a, (![0, 0, 0] : Fin 3 → ℕ) a + (S1x256x1024).size a ≤ (S1x256x1024).size a) (u : Fin 1) (r : Fin 256) (n : Fin 1024) :
    View.canon [(⟨Rect.unit (s := S1x256x1024) ![0, 0, 0] (S1x256x1024).size iO,
      k0_pay1 (F := Ideal) (k0_pay291 (View.readAt (Elt Ideal) m7.view (Rect.unit (s := S1x256x1024) ![0, 0, 0] (S1x256x1024).size i7).toLoadRect (h7.unread x7)))
        (k0_pay292 (View.readAt (Elt Ideal) m8.view (Rect.unit (s := S1x256x512) ![0, 0, 0] (S1x256x512).size i8).toLoadRect (h8.unread x8)))
        (View.readAt (Elt Ideal) m9.view (Rect.unit (s := S512x1024) ![0, 0] (S512x1024).size i9).toLoadRect (h9.unread x9))
        (v.readCov L (Rect.unit (s := S256x512) ![0, 0] (S256x512).size iL).toLoadRect)
        (View.readAt (Elt Ideal) m10.view (Rect.unit (s := S512x1024) ![0, 0] (S512x1024).size i10).toLoadRect (h10.unread x10))⟩ : View.Piece (Elt Ideal) S1x256x1024 .f32)] (ix3 u r n)
      = outA (fun r n => x7 (ix3 0 r n)) (fun r k => x8 (ix3 0 r k)) (fun k n => x9 (ix2 k n)) yd (fun k n => x10 (ix2 k n)) r n := by
  refine (congrFun (View.canon_cons_unit_lit (Val := Elt Ideal) (S := S1x256x1024) (e := .f32) iO _ [] (by decide)) (ix3 u r n)).trans ?_
  have e7 := ld_blk m7 h7 x7 i7
  have e8 := ld_blk m8 h8 x8 i8
  have e9 := ld_mat m9 h9 x9 i9
  have e10 := ld_mat m10 h10 x10 i10
  have eL : v.readCov L (Rect.unit (s := S256x512) ![0, 0] (S256x512).size iL).toLoadRect = fun y : S256x512.Idx => yd (y 0) (y 1) := by
    refine (View.readCov_eq_canon' v L _).trans (funext fun y => ?_)
    obtain ⟨i, d, rfl⟩ : ∃ (i : Fin 256) (d : Fin 512), y = ix2 i d := ⟨y 0, y 1, eq_ix2 y⟩
    have e1 : (Rect.unit (s := S256x512) ![0, 0] (S256x512).size iL).toLoadRect.idx (ix2 i d) = (ix2 i d : S256x512.Idx) := by
      funext a
      refine Fin.cases ?_ (fun a => Fin.cases ?_ (fun a => a.elim0) a) a
      · exact Fin.ext (by show 0 + 1 * i.val = i.val; omega)
      · exact Fin.ext (by show 0 + 1 * d.val = d.val; omega)
    exact (congrArg (View.canon L) e1).trans (hL i d)
  refine (pay1_at _ _ _ _ _ u r n).trans ?_
  rw [e7, e8, e9, e10, eL]
  rfl

end Dn
-- ==== Proof.DnModel.lean ====
/-
  The gated delta rule over a batch's tokens, at the arguments' reals, and the layer's output.
-/
module

public import proofs.«01_k».proof.Proof.DnOut

@[expose] public section

set_option maxRecDepth 16384

noncomputable section

open Idealize.ShloMosaic Idealize.ShloMosaic.TcCoe Idealize.SL.Sem

namespace Dn

/-- Arrays of three and of two axes, by their entries. -/
abbrev A3 (a b c : ℕ) := (⟨3, ![a, b, c]⟩ : Shape).Idx → EReal
abbrev A2 (a b : ℕ) := (⟨2, ![a, b]⟩ : Shape).Idx → EReal

variable (q : A3 4 8192 1536) (z : A3 4 8192 512) (ba : A3 4 8192 8) (x : A3 4 8192 1024) (ya : A3 4 8192 512) (cw : A3 1 4 1536) (al dt : A2 1 4) (nw : A2 1 128)
  (wo : A3 1 1024 1024) (b : Fin 4)

/-- A batch's projected rows, eight rows of zeros before them. -/
def seqY (n c : ℕ) : ℝ := if h : 8 ≤ n ∧ n < 8200 ∧ c < 1536 then (q (ix3 b ⟨n - 8, by omega⟩ ⟨c, h.2.2⟩)).toReal else 0
/-- The convolution's weights. -/
def seqW (w c : ℕ) : ℝ := if h : w < 4 ∧ c < 1536 then (cw (ix3 0 ⟨w, h.1⟩ ⟨c, h.2⟩)).toReal else 0
/-- The write gate of a head at a token. -/
def seqB (h : Fin 4) (n : ℕ) : ℝ := if hn : n < 8192 then sigR (ba (ix3 b ⟨n, hn⟩ ⟨h.val, by omega⟩)).toReal else 0
/-- The logarithm of the decay of a head at a token. -/
def seqG (h : Fin 4) (n : ℕ) : ℝ :=
  if hn : n < 8192 then -Real.exp (al (ix2 0 h)).toReal * spR ((ba (ix3 b ⟨n, hn⟩ ⟨4 + h.val, by omega⟩)).toReal + (dt (ix2 0 h)).toReal) else 0

/-- The tokens of a batch from token `o` on. -/
def TT (o : ℕ) : Toks := mkT (seqY q b) (seqW cw) (seqG ba al dt b) (seqB ba b) o

def zst : Fin 4 → St := fun _ _ _ => 0

/-- The gated, normalised read of the state, a column of all heads at a token. -/
def ydE (s : Fin 8192) (k : Fin 512) : EReal :=
  (((TT q ba cw al dt b 0).rs zst ⟨k.val / 128, by omega⟩ s.val ⟨k.val % 128, by omega⟩ : ℝ) : EReal) * nw (ix2 0 ⟨k.val % 128, by omega⟩)
    * ((siluR (z (ix3 b s k)).toReal : ℝ) : EReal)

/-- A row of the layer's output. -/
def outE (s : Fin 8192) (n : Fin 1024) : EReal :=
  x (ix3 b s n) + ∑ k : Fin 512, ya (ix3 b s k) * wo (ix3 0 ⟨k.val, by omega⟩ n) + ∑ k : Fin 512, ydE q z ba cw al dt nw b s k * wo (ix3 0 ⟨512 + k.val, by omega⟩ n)

def Gout : A3 4 8192 1024 := fun i => outE q z ba x ya cw al dt nw wo (i 0) (i 1) (i 2)

section
variable (Y w : ℕ → ℕ → ℝ) (G B : Fin 4 → ℕ → ℝ) (S : Fin 4 → St)

theorem R_shift (o : ℕ) (h : Fin 4) (n : ℕ) : (mkT Y w G B o).R (fun h => (mkT Y w G B 0).R S h o) h n = (mkT Y w G B 0).R S h (o + n) := by
  unfold Toks.R
  rw [run_add]
  refine run_congr _ _ _ _ _ _ _ _ _ _ (fun i _ => ?_) (fun i _ => ?_) (fun i _ => ?_) (fun i _ => ?_)
  · show G h (o + i) = G h (0 + (o + i)); rw [Nat.zero_add]
  · show B h (o + i) = B h (0 + (o + i)); rw [Nat.zero_add]
  · funext d; show unitY Y w (o + i) (4 + h.val) d.val = unitY Y w (0 + (o + i)) (4 + h.val) d.val; rw [Nat.zero_add]
  · funext d; show actY Y w (o + i) (128 * (8 + h.val) + d.val) = actY Y w (0 + (o + i)) (128 * (8 + h.val) + d.val); rw [Nat.zero_add]

theorem o_shift (o : ℕ) (h : Fin 4) (n : ℕ) (e : Fin 128) : (mkT Y w G B o).o (fun h => (mkT Y w G B 0).R S h o) h n e = (mkT Y w G B 0).o S h (o + n) e := by
  unfold Toks.o
  refine Finset.sum_congr rfl fun d _ => ?_
  rw [R_shift]
  show unitY Y w (o + n) h.val d.val * scaleR * _ = unitY Y w (0 + (o + n)) h.val d.val * scaleR * _
  rw [Nat.zero_add]
  rfl

theorem rs_shift (o : ℕ) (h : Fin 4) (n : ℕ) (e : Fin 128) : (mkT Y w G B o).rs (fun h => (mkT Y w G B 0).R S h o) h n e = (mkT Y w G B 0).rs S h (o + n) e := by
  unfold Toks.rs
  simp only [o_shift]
end

end Dn
-- ==== Proof.DnBlk.lean ====
/-
  The blocks that the delta-rule kernel's grid points read, at the arguments.
-/
module

public import proofs.«01_k».proof.Proof.DnModel
public import proofs.«01_k».proof.Proof.InprojRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Dn.Arr

open Cert.KernelIdeal Cert.KernelIdeal.Gen

variable (m : (ℓ : Loc nD τ sig) → Buf (Elt Ideal) ℓ)

/-- The windows' index maps, decided over the grid. -/
theorem idx : ∀ t : Fin cfg0.N, win0_0.index t = ![0] ∧ win0_1.index t = ![0] ∧ win0_2.index t = ![t.val / 32, t.val % 32, 0]
    ∧ win0_3.index t = ![t.val / 32, t.val % 32, 0] ∧ win0_4.index t = ![t.val / 32, t.val % 32, 0] ∧ win0_5.index t = ![0, 0] ∧ win0_6.index t = ![0, 0]
    ∧ win0_7.index t = ![t.val / 32, t.val % 32, 0] ∧ win0_8.index t = ![t.val / 32, t.val % 32, 0] ∧ win0_9.index t = ![0, 0] ∧ win0_10.index t = ![0, 0]
    ∧ win0_11.index t = ![t.val / 32, t.val % 32, 0] ∧ t.val < 128 :=
  (by decide +kernel : ∀ t : Fin grid0.N, _)

theorem lt (t : Fin cfg0.N) : t.val < 128 := (idx t).2.2.2.2.2.2.2.2.2.2.2.2

/-- The batch of a grid point, and a row of its block in the batch. -/
abbrev bt (t : Fin cfg0.N) : Fin 4 := ⟨t.val / 32, by have := lt t; omega⟩
abbrev tk (t : Fin cfg0.N) (r : Fin 256) : Fin 8192 := ⟨t.val % 32 * 256 + r.val, by omega⟩

variable (c : Dev nD)

abbrev aQ : FVec Ideal S4x8192x1536 .f32 := m ((c : Thread nD τ).loc main_arg0)
abbrev aZ : FVec Ideal S4x8192x512 .f32 := m ((c : Thread nD τ).loc main_arg1)
abbrev aB : FVec Ideal S4x8192x8 .f32 := m ((c : Thread nD τ).loc main_arg2)
abbrev aX : FVec Ideal S4x8192x1024 .f32 := m ((c : Thread nD τ).loc main_arg3)
abbrev aY : FVec Ideal S4x8192x512 .f32 := m ((c : Thread nD τ).loc main_arg4)
abbrev aC : FVec Ideal S1x4x1536 .f32 := m ((c : Thread nD τ).loc main_arg5)
abbrev aL : FVec Ideal S1x4 .f32 := m ((c : Thread nD τ).loc main_arg6)
abbrev aD : FVec Ideal S1x4 .f32 := m ((c : Thread nD τ).loc main_arg7)
abbrev aN : FVec Ideal S1x128 .f32 := m ((c : Thread nD τ).loc main_arg8)
abbrev aW : FVec Ideal S1x1024x1024 .f32 := m ((c : Thread nD τ).loc main_arg9)

theorem V_v0 : (V m c main_v0 : FVec Ideal S4x8192x128 .f32) = pad S4x8192x128 ![0, 0, 0] ![0, 0, 120] ![0, 0, 0] (aB m c)
    (sitofp (F := Ideal) .f32 (constantI S_ 32 0#32)) pads_S4x8192x8_S4x8192x128_000_000_01200 h_S_ := by
  simp only [V, hostOps0, hostOps0_1, hostOps0_2, List.flatten_cons, List.flatten_nil, List.append_nil, List.cons_append, List.nil_append]
  entry_read
  rfl

theorem V_v3 : (V m c main_v3 : FVec Ideal S4 .f32) = shapeCast S4 (aL m c) shapeCasts_S1x4_S4 := by
  simp only [V, hostOps0, hostOps0_1, hostOps0_2, List.flatten_cons, List.flatten_nil, List.append_nil, List.cons_append, List.nil_append]
  entry_read
  rfl

theorem V_v4 : (V m c main_v4 : FVec Ideal S4 .f32) = shapeCast S4 (aD m c) shapeCasts_S1x4_S4 := by
  simp only [V, hostOps0, hostOps0_1, hostOps0_2, List.flatten_cons, List.flatten_nil, List.append_nil, List.cons_append, List.nil_append]
  entry_read
  rfl

theorem V_v5 : (V m c main_v5 : FVec Ideal S4x1536 .f32) = shapeCast S4x1536 (aC m c) shapeCasts_S1x4x1536_S4x1536 := by
  simp only [V, hostOps0, hostOps0_1, hostOps0_2, List.flatten_cons, List.flatten_nil, List.append_nil, List.cons_append, List.nil_append]
  entry_read
  rfl

theorem V_v6 : (V m c main_v6 : FVec Ideal S4x8192x512 .bf16) = truncf .bf16 (aY m c) bitsLt_bf16_f32 := by
  simp only [V, hostOps0, hostOps0_1, hostOps0_2, List.flatten_cons, List.flatten_nil, List.append_nil, List.cons_append, List.nil_append]
  entry_read
  rfl

theorem V_v7 : (V m c main_v7 : FVec Ideal S512x1024 .bf16) = extractStridedSlice S512x1024 ![0, 0]
    (truncf .bf16 (shapeCast S1024x1024 (aW m c) shapeCasts_S1x1024x1024_S1024x1024) bitsLt_bf16_f32) slices_S1024x1024_S512x1024_0_0 := by
  simp only [V, hostOps0, hostOps0_1, hostOps0_2, List.flatten_cons, List.flatten_nil, List.append_nil, List.cons_append, List.nil_append]
  entry_read
  rfl

theorem V_v8 : (V m c main_v8 : FVec Ideal S512x1024 .bf16) = extractStridedSlice S512x1024 ![512, 0]
    (truncf .bf16 (shapeCast S1024x1024 (aW m c) shapeCasts_S1x1024x1024_S1024x1024) bitsLt_bf16_f32) slices_S1024x1024_S512x1024_512_0 := by
  simp only [V, hostOps0, hostOps0_1, hostOps0_2, List.flatten_cons, List.flatten_nil, List.append_nil, List.cons_append, List.nil_append]
  entry_read
  rfl

theorem blk0_at (t : Fin cfg0.N) (h : Fin 4) : (iblk m c 0 t : FVec Ideal S4 .f32) (ix1 h) = aL m c (ix2 0 h) := by
  have e : (iblk m c 0 t : FVec Ideal S4 .f32) (ix1 h) = (V m c main_v3 : FVec Ideal S4 .f32) (ix1 h) := by
    blk_ext [iblk, idx t]
  rw [e, V_v3]
  pointwise

theorem blk1_at (t : Fin cfg0.N) (h : Fin 4) : (iblk m c 1 t : FVec Ideal S4 .f32) (ix1 h) = aD m c (ix2 0 h) := by
  have e : (iblk m c 1 t : FVec Ideal S4 .f32) (ix1 h) = (V m c main_v4 : FVec Ideal S4 .f32) (ix1 h) := by
    blk_ext [iblk, idx t]
  rw [e, V_v4]
  pointwise

theorem blk2_at (t : Fin cfg0.N) (r : Fin 256) (k : Fin 1536) : (iblk m c 2 t : FVec Ideal S1x256x1536 .f32) (ix3 0 r k) = aQ m c (ix3 (bt t) (tk t r) k) := by
  have e : (iblk m c 2 t : FVec Ideal S1x256x1536 .f32) (ix3 0 r k) = (V m c main_arg0 : FVec Ideal S4x8192x1536 .f32) (ix3 (bt t) (tk t r) k) := by
    blk_ext [iblk, idx t]
  rw [e, V_main_arg0]

theorem blk3_at (t : Fin cfg0.N) (r : Fin 256) (k : Fin 512) : (iblk m c 3 t : FVec Ideal S1x256x512 .f32) (ix3 0 r k) = aZ m c (ix3 (bt t) (tk t r) k) := by
  have e : (iblk m c 3 t : FVec Ideal S1x256x512 .f32) (ix3 0 r k) = (V m c main_arg1 : FVec Ideal S4x8192x512 .f32) (ix3 (bt t) (tk t r) k) := by
    blk_ext [iblk, idx t]
  rw [e, V_main_arg1]

theorem blk4_at (t : Fin cfg0.N) (r : Fin 256) (l : Fin 128) : (iblk m c 4 t : FVec Ideal S1x256x128 .f32) (ix3 0 r l)
    = if h : l.val < 8 then aB m c (ix3 (bt t) (tk t r) ⟨l.val, h⟩) else 0 := by
  have e : (iblk m c 4 t : FVec Ideal S1x256x128 .f32) (ix3 0 r l) = (V m c main_v0 : FVec Ideal S4x8192x128 .f32) (ix3 (bt t) (tk t r) l) := by
    blk_ext [iblk, idx t]
  rw [e, V_v0]
  pointwise
  exact Cert.Inproj.dite_same _ _ _ _ ⟨fun h => h.2.2, fun h => ⟨(bt t).isLt, (tk t r).isLt, h⟩⟩ (fun _ _ => rfl) Cert.Inproj.sitofp_zero

theorem blk5_at (t : Fin cfg0.N) (w : Fin 4) (k : Fin 1536) : (iblk m c 5 t : FVec Ideal S4x1536 .f32) (ix2 w k) = aC m c (ix3 0 w k) := by
  have e : (iblk m c 5 t : FVec Ideal S4x1536 .f32) (ix2 w k) = (V m c main_v5 : FVec Ideal S4x1536 .f32) (ix2 w k) := by
    blk_ext [iblk, idx t]
  rw [e, V_v5]
  pointwise

theorem blk6_at (t : Fin cfg0.N) (k : Fin 128) : (iblk m c 6 t : FVec Ideal S1x128 .f32) (ix2 0 k) = aN m c (ix2 0 k) := by
  have e : (iblk m c 6 t : FVec Ideal S1x128 .f32) (ix2 0 k) = (V m c main_arg8 : FVec Ideal S1x128 .f32) (ix2 0 k) := by
    blk_ext [iblk, idx t]
  rw [e, V_main_arg8]

theorem blk7_at (t : Fin cfg0.N) (r : Fin 256) (k : Fin 1024) : (iblk m c 7 t : FVec Ideal S1x256x1024 .f32) (ix3 0 r k) = aX m c (ix3 (bt t) (tk t r) k) := by
  have e : (iblk m c 7 t : FVec Ideal S1x256x1024 .f32) (ix3 0 r k) = (V m c main_arg3 : FVec Ideal S4x8192x1024 .f32) (ix3 (bt t) (tk t r) k) := by
    blk_ext [iblk, idx t]
  rw [e, V_main_arg3]

theorem blk8_at (t : Fin cfg0.N) (r : Fin 256) (k : Fin 512) : (iblk m c 8 t : FVec Ideal S1x256x512 .bf16) (ix3 0 r k) = aY m c (ix3 (bt t) (tk t r) k) := by
  have e : (iblk m c 8 t : FVec Ideal S1x256x512 .bf16) (ix3 0 r k) = (V m c main_v6 : FVec Ideal S4x8192x512 .bf16) (ix3 (bt t) (tk t r) k) := by
    blk_ext [iblk, idx t]
  rw [e, V_v6]
  rfl

theorem blk9_at (t : Fin cfg0.N) (k : Fin 512) (n : Fin 1024) : (iblk m c 9 t : FVec Ideal S512x1024 .bf16) (ix2 k n) = aW m c (ix3 0 ⟨k.val, by omega⟩ n) := by
  have e : (iblk m c 9 t : FVec Ideal S512x1024 .bf16) (ix2 k n) = (V m c main_v7 : FVec Ideal S512x1024 .bf16) (ix2 k n) := by
    blk_ext [iblk, idx t]
  rw [e, V_v7]
  pointwise

theorem blk10_at (t : Fin cfg0.N) (k : Fin 512) (n : Fin 1024) : (iblk m c 10 t : FVec Ideal S512x1024 .bf16) (ix2 k n) = aW m c (ix3 0 ⟨512 + k.val, by omega⟩ n) := by
  have e : (iblk m c 10 t : FVec Ideal S512x1024 .bf16) (ix2 k n) = (V m c main_v8 : FVec Ideal S512x1024 .bf16) (ix2 k n) := by
    blk_ext [iblk, idx t]
  rw [e, V_v8]
  pointwise

end Dn.Arr
-- ==== Proof.DnA.lean ====
/-
  What the delta-rule kernel's body leaves at a point of the grid, case A, at arrays of reals.
-/
module

public import proofs.«01_k».proof.Proof.DnBlock

@[expose] public section

set_option maxRecDepth 16384

noncomputable section

open Idealize.ShloMosaic Idealize.ShloMosaic.TcCoe Idealize.SL.Sem

namespace Dn.A

open Cert.KernelIdeal Cert.KernelIdeal.Gen

variable (c : Dev nD) (i : grid0.Coords) (arg2 : Memref sig .tc .smem S4 .f32) (harg2 : arg2.IsWhole) (arg3 : Memref sig .tc .smem S4 .f32) (harg3 : arg3.IsWhole) (arg4 : Memref sig .tc .vmem S1x256x1536 .f32) (harg4 : arg4.IsWhole) (arg5 : Memref sig .tc .vmem S1x256x512 .f32) (harg5 : arg5.IsWhole) (arg6 : Memref sig .tc .vmem S1x256x128 .f32) (harg6 : arg6.IsWhole) (arg7 : Memref sig .tc .vmem S4x1536 .f32) (harg7 : arg7.IsWhole) (arg8 : Memref sig .tc .vmem S1x128 .f32) (harg8 : arg8.IsWhole) (arg9 : Memref sig .tc .vmem S1x256x1024 .f32) (harg9 : arg9.IsWhole) (arg10 : Memref sig .tc .vmem S1x256x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x256x1024 .f32) (harg13 : arg13.IsWhole) (arg14 : Memref sig .tc .vmem S4x128x128 .f32) (harg14 : arg14.IsWhole) (arg15 : Memref sig .tc .vmem S264x1536 .f32) (harg15 : arg15.IsWhole) (arg16 : Memref sig .tc .vmem S256x1536 .f32) (harg16 : arg16.IsWhole) (arg17 : Memref sig .tc .vmem S256x1024 .f32) (harg17 : arg17.IsWhole) (arg18 : Memref sig .tc .vmem S256x512 .bf16) (harg18 : arg18.IsWhole) (hc0 : cond0_0 i)
  (x0 : Vec Ideal S4 .f32) (x1 : Vec Ideal S4 .f32) (x2 : Vec Ideal S1x256x1536 .f32) (x3 : Vec Ideal S1x256x512 .f32) (x4 : Vec Ideal S1x256x128 .f32) (x5 : Vec Ideal S4x1536 .f32) (x6 : Vec Ideal S1x128 .f32) (x7 : Vec Ideal S1x256x1024 .f32) (x8 : Vec Ideal S1x256x512 .bf16) (x9 : Vec Ideal S512x1024 .bf16) (x10 : Vec Ideal S512x1024 .bf16)
variable (T : Toks) (S0 : Fin 4 → St)
  (hM : ∀ r q, View.canon (kernelRun0_A.sl.HS2_12 (F := Ideal) c arg4 harg4 arg7 harg7 arg15 x2 x5) (ix2 r q) = ((actOf T r q : ℝ) : EReal))
  (hG : ∀ r q, View.canon (kernelRun0_A.sl.HS3_1 (F := Ideal) c arg2 harg2 arg3 harg3 arg6 harg6 x0 x1 x4) (ix2 r q) = ((repOf T r q : ℝ) : EReal))

include hM in
theorem q0 : (kernelRun0_A.sl.r_32 (F := Ideal) c arg4 harg4 arg7 harg7 arg15 arg16 x2 x5) = cm (c2 (stkQ T 0)) :=
  stk _ _ _ _ (fun h i => T.q h (0 + i.val)) (ld_q T _ _ hM 0 0 0 rfl _) (ld_q T _ _ hM 1 0 128 rfl _) (ld_q T _ _ hM 2 0 256 rfl _) (ld_q T _ _ hM 3 0 384 rfl _)

include hM in
theorem k0 : (kernelRun0_A.sl.v741 (F := Ideal) c arg4 harg4 arg7 harg7 arg15 arg16 x2 x5) = cm (c2 (stkK T 0)) :=
  stk _ _ _ _ (fun h i => T.k h (0 + i.val)) (ld_k T _ _ hM 0 0 512 rfl _) (ld_k T _ _ hM 1 0 640 rfl _) (ld_k T _ _ hM 2 0 768 rfl _) (ld_k T _ _ hM 3 0 896 rfl _)

include hM in
theorem v0 : (kernelRun0_A.sl.v761 (F := Ideal) c arg4 harg4 arg7 harg7 arg15 arg16 x2 x5) = cm (c2 (stkV T 0)) :=
  stk _ _ _ _ (fun h i => T.v h (0 + i.val)) (ld_v T _ _ hM 0 0 1024 rfl _) (ld_v T _ _ hM 1 0 1152 rfl _) (ld_v T _ _ hM 2 0 1280 rfl _) (ld_v T _ _ hM 3 0 1408 rfl _)

include hG in
theorem b0 : (kernelRun0_A.sl.v781 (F := Ideal) c arg2 harg2 arg3 harg3 arg6 harg6 arg17 x0 x1 x4) = cm (c2 fun i _ => stkB T 0 i) :=
  stk _ _ _ _ (fun h i _ => T.b h (0 + i.val)) (ld_b T _ _ hG 0 0 0 rfl _) (ld_b T _ _ hG 1 0 128 rfl _) (ld_b T _ _ hG 2 0 256 rfl _) (ld_b T _ _ hG 3 0 384 rfl _)

include hG in
theorem g0 : (kernelRun0_A.sl.v801 (F := Ideal) c arg2 harg2 arg3 harg3 arg6 harg6 arg17 x0 x1 x4) = cm (c2 fun i _ => stkG T 0 i) :=
  stk _ _ _ _ (fun h i _ => cum (fun n => T.g h (0 + n)) (i.val + 1)) (ld_g T _ _ hG 0 0 512 (by decide) rfl _) (ld_g T _ _ hG 1 0 640 (by decide) rfl _) (ld_g T _ _ hG 2 0 768 (by decide) rfl _) (ld_g T _ _ hG 3 0 896 (by decide) rfl _)

include hM in
theorem q1 : (kernelRun0_A.sl.r_33 (F := Ideal) c arg4 harg4 arg7 harg7 arg15 arg16 x2 x5) = cm (c2 (stkQ T 64)) :=
  stk _ _ _ _ (fun h i => T.q h (64 + i.val)) (ld_q T _ _ hM 0 64 0 rfl _) (ld_q T _ _ hM 1 64 128 rfl _) (ld_q T _ _ hM 2 64 256 rfl _) (ld_q T _ _ hM 3 64 384 rfl _)

include hM in
theorem k1 : (kernelRun0_A.sl.v746 (F := Ideal) c arg4 harg4 arg7 harg7 arg15 arg16 x2 x5) = cm (c2 (stkK T 64)) :=
  stk _ _ _ _ (fun h i => T.k h (64 + i.val)) (ld_k T _ _ hM 0 64 512 rfl _) (ld_k T _ _ hM 1 64 640 rfl _) (ld_k T _ _ hM 2 64 768 rfl _) (ld_k T _ _ hM 3 64 896 rfl _)

include hM in
theorem v1 : (kernelRun0_A.sl.v766 (F := Ideal) c arg4 harg4 arg7 harg7 arg15 arg16 x2 x5) = cm (c2 (stkV T 64)) :=
  stk _ _ _ _ (fun h i => T.v h (64 + i.val)) (ld_v T _ _ hM 0 64 1024 rfl _) (ld_v T _ _ hM 1 64 1152 rfl _) (ld_v T _ _ hM 2 64 1280 rfl _) (ld_v T _ _ hM 3 64 1408 rfl _)

include hG in
theorem b1 : (kernelRun0_A.sl.v786 (F := Ideal) c arg2 harg2 arg3 harg3 arg6 harg6 arg17 x0 x1 x4) = cm (c2 fun i _ => stkB T 64 i) :=
  stk _ _ _ _ (fun h i _ => T.b h (64 + i.val)) (ld_b T _ _ hG 0 64 0 rfl _) (ld_b T _ _ hG 1 64 128 rfl _) (ld_b T _ _ hG 2 64 256 rfl _) (ld_b T _ _ hG 3 64 384 rfl _)

include hG in
theorem g1 : (kernelRun0_A.sl.r_35 (F := Ideal) c arg2 harg2 arg3 harg3 arg6 harg6 arg17 x0 x1 x4) = cm (c2 fun i _ => stkG T 64 i) :=
  stk _ _ _ _ (fun h i _ => cum (fun n => T.g h (64 + n)) (i.val + 1)) (ld_g T _ _ hG 0 64 512 (by decide) rfl _) (ld_g T _ _ hG 1 64 640 (by decide) rfl _) (ld_g T _ _ hG 2 64 768 (by decide) rfl _) (ld_g T _ _ hG 3 64 896 (by decide) rfl _)

include hM in
theorem q2 : (kernelRun0_A.sl.r_34 (F := Ideal) c arg4 harg4 arg7 harg7 arg15 arg16 x2 x5) = cm (c2 (stkQ T 128)) :=
  stk _ _ _ _ (fun h i => T.q h (128 + i.val)) (ld_q T _ _ hM 0 128 0 rfl _) (ld_q T _ _ hM 1 128 128 rfl _) (ld_q T _ _ hM 2 128 256 rfl _) (ld_q T _ _ hM 3 128 384 rfl _)

include hM in
theorem k2 : (kernelRun0_A.sl.v751 (F := Ideal) c arg4 harg4 arg7 harg7 arg15 arg16 x2 x5) = cm (c2 (stkK T 128)) :=
  stk _ _ _ _ (fun h i => T.k h (128 + i.val)) (ld_k T _ _ hM 0 128 512 rfl _) (ld_k T _ _ hM 1 128 640 rfl _) (ld_k T _ _ hM 2 128 768 rfl _) (ld_k T _ _ hM 3 128 896 rfl _)

include hM in
theorem v2 : (kernelRun0_A.sl.v771 (F := Ideal) c arg4 harg4 arg7 harg7 arg15 arg16 x2 x5) = cm (c2 (stkV T 128)) :=
  stk _ _ _ _ (fun h i => T.v h (128 + i.val)) (ld_v T _ _ hM 0 128 1024 rfl _) (ld_v T _ _ hM 1 128 1152 rfl _) (ld_v T _ _ hM 2 128 1280 rfl _) (ld_v T _ _ hM 3 128 1408 rfl _)

include hG in
theorem b2 : (kernelRun0_A.sl.v791 (F := Ideal) c arg2 harg2 arg3 harg3 arg6 harg6 arg17 x0 x1 x4) = cm (c2 fun i _ => stkB T 128 i) :=
  stk _ _ _ _ (fun h i _ => T.b h (128 + i.val)) (ld_b T _ _ hG 0 128 0 rfl _) (ld_b T _ _ hG 1 128 128 rfl _) (ld_b T _ _ hG 2 128 256 rfl _) (ld_b T _ _ hG 3 128 384 rfl _)

include hG in
theorem g2 : (kernelRun0_A.sl.r_36 (F := Ideal) c arg2 harg2 arg3 harg3 arg6 harg6 arg17 x0 x1 x4) = cm (c2 fun i _ => stkG T 128 i) :=
  stk _ _ _ _ (fun h i _ => cum (fun n => T.g h (128 + n)) (i.val + 1)) (ld_g T _ _ hG 0 128 512 (by decide) rfl _) (ld_g T _ _ hG 1 128 640 (by decide) rfl _) (ld_g T _ _ hG 2 128 768 (by decide) rfl _) (ld_g T _ _ hG 3 128 896 (by decide) rfl _)

include hM in
theorem q3 : (kernelRun0_A.sl.v736 (F := Ideal) c arg4 harg4 arg7 harg7 arg15 arg16 x2 x5) = cm (c2 (stkQ T 192)) :=
  stk _ _ _ _ (fun h i => T.q h (192 + i.val)) (ld_q T _ _ hM 0 192 0 rfl _) (ld_q T _ _ hM 1 192 128 rfl _) (ld_q T _ _ hM 2 192 256 rfl _) (ld_q T _ _ hM 3 192 384 rfl _)

include hM in
theorem k3 : (kernelRun0_A.sl.v756 (F := Ideal) c arg4 harg4 arg7 harg7 arg15 arg16 x2 x5) = cm (c2 (stkK T 192)) :=
  stk _ _ _ _ (fun h i => T.k h (192 + i.val)) (ld_k T _ _ hM 0 192 512 rfl _) (ld_k T _ _ hM 1 192 640 rfl _) (ld_k T _ _ hM 2 192 768 rfl _) (ld_k T _ _ hM 3 192 896 rfl _)

include hM in
theorem v3 : (kernelRun0_A.sl.v776 (F := Ideal) c arg4 harg4 arg7 harg7 arg15 arg16 x2 x5) = cm (c2 (stkV T 192)) :=
  stk _ _ _ _ (fun h i => T.v h (192 + i.val)) (ld_v T _ _ hM 0 192 1024 rfl _) (ld_v T _ _ hM 1 192 1152 rfl _) (ld_v T _ _ hM 2 192 1280 rfl _) (ld_v T _ _ hM 3 192 1408 rfl _)

include hG in
theorem b3 : (kernelRun0_A.sl.v796 (F := Ideal) c arg2 harg2 arg3 harg3 arg6 harg6 arg17 x0 x1 x4) = cm (c2 fun i _ => stkB T 192 i) :=
  stk _ _ _ _ (fun h i _ => T.b h (192 + i.val)) (ld_b T _ _ hG 0 192 0 rfl _) (ld_b T _ _ hG 1 192 128 rfl _) (ld_b T _ _ hG 2 192 256 rfl _) (ld_b T _ _ hG 3 192 384 rfl _)

include hG in
theorem g3 : (kernelRun0_A.sl.r_37 (F := Ideal) c arg2 harg2 arg3 harg3 arg6 harg6 arg17 x0 x1 x4) = cm (c2 fun i _ => stkG T 192 i) :=
  stk _ _ _ _ (fun h i _ => cum (fun n => T.g h (192 + n)) (i.val + 1)) (ld_g T _ _ hG 0 192 512 (by decide) rfl _) (ld_g T _ _ hG 1 192 640 (by decide) rfl _) (ld_g T _ _ hG 2 192 768 (by decide) rfl _) (ld_g T _ _ hG 3 192 896 (by decide) rfl _)

variable (hS0 : ∀ h d e, S0 h d e = 0)

include hM hG hS0 in
theorem ck0 :
    (kernelRun0_A.sl.HS0_5 (F := Ideal) c arg2 harg2 arg3 harg3 arg4 harg4 arg6 harg6 arg7 harg7 arg14 arg15 arg16 arg17 x0 x1 x2 x4 x5) = stL (sc (T.R S0 0 64)) (sc (T.R S0 1 64)) (sc (T.R S0 2 64)) (sc (T.R S0 3 64)) (kernelRun0_A.sl.HS0_1 (F := Ideal)) := by
  skip
  have a := chunk_stage T S0 0 (kernelRun0_A.sl.r_32 (F := Ideal) c arg4 harg4 arg7 harg7 arg15 arg16 x2 x5) (kernelRun0_A.sl.v741 (F := Ideal) c arg4 harg4 arg7 harg7 arg15 arg16 x2 x5) (kernelRun0_A.sl.v761 (F := Ideal) c arg4 harg4 arg7 harg7 arg15 arg16 x2 x5) (kernelRun0_A.sl.v781 (F := Ideal) c arg2 harg2 arg3 harg3 arg6 harg6 arg17 x0 x1 x4) (kernelRun0_A.sl.v801 (F := Ideal) c arg2 harg2 arg3 harg3 arg6 harg6 arg17 x0 x1 x4)
    (kernelRun0_A.sl.v1252 (F := Ideal) c arg14) (kernelRun0_A.sl.v1254 (F := Ideal) c arg14) (kernelRun0_A.sl.v1256 (F := Ideal) c arg14) (kernelRun0_A.sl.v1258 (F := Ideal) c arg14)
    (q0 c arg4 harg4 arg7 harg7 arg15 arg16 x2 x5 T hM) (k0 c arg4 harg4 arg7 harg7 arg15 arg16 x2 x5 T hM) (v0 c arg4 harg4 arg7 harg7 arg15 arg16 x2 x5 T hM) (b0 c arg2 harg2 arg3 harg3 arg6 harg6 arg17 x0 x1 x4 T hG) (g0 c arg2 harg2 arg3 harg3 arg6 harg6 arg17 x0 x1 x4 T hG)
    (ld0 S0 arg14.view _ hS0 0 (by omega)) (ld0 S0 arg14.view _ hS0 1 (by omega)) (ld0 S0 arg14.view _ hS0 2 (by omega)) (ld0 S0 arg14.view _ hS0 3 (by omega))
  obtain ⟨n0, n1, n2, n3, on⟩ := a
  refine Eq.trans ?_ (stL_congr n0 n1 n2 n3)
  rfl

include hM hG hS0 in
theorem co0 :
    sON (sAI (kernelRun0_A.sl.r_32 (F := Ideal) c arg4 harg4 arg7 harg7 arg15 arg16 x2 x5) (kernelRun0_A.sl.v741 (F := Ideal) c arg4 harg4 arg7 harg7 arg15 arg16 x2 x5) (kernelRun0_A.sl.v801 (F := Ideal) c arg2 harg2 arg3 harg3 arg6 harg6 arg17 x0 x1 x4)) (sUW (kernelRun0_A.sl.v741 (F := Ideal) c arg4 harg4 arg7 harg7 arg15 arg16 x2 x5) (kernelRun0_A.sl.v761 (F := Ideal) c arg4 harg4 arg7 harg7 arg15 arg16 x2 x5) (kernelRun0_A.sl.v781 (F := Ideal) c arg2 harg2 arg3 harg3 arg6 harg6 arg17 x0 x1 x4) (kernelRun0_A.sl.v801 (F := Ideal) c arg2 harg2 arg3 harg3 arg6 harg6 arg17 x0 x1 x4)) (sQD (kernelRun0_A.sl.r_32 (F := Ideal) c arg4 harg4 arg7 harg7 arg15 arg16 x2 x5) (kernelRun0_A.sl.v801 (F := Ideal) c arg2 harg2 arg3 harg3 arg6 harg6 arg17 x0 x1 x4)) (kernelRun0_A.sl.v1252 (F := Ideal) c arg14) (kernelRun0_A.sl.v1254 (F := Ideal) c arg14) (kernelRun0_A.sl.v1256 (F := Ideal) c arg14) (kernelRun0_A.sl.v1258 (F := Ideal) c arg14) = cm (c2 (stkN T S0 0)) := by
  skip
  have a := chunk_stage T S0 0 (kernelRun0_A.sl.r_32 (F := Ideal) c arg4 harg4 arg7 harg7 arg15 arg16 x2 x5) (kernelRun0_A.sl.v741 (F := Ideal) c arg4 harg4 arg7 harg7 arg15 arg16 x2 x5) (kernelRun0_A.sl.v761 (F := Ideal) c arg4 harg4 arg7 harg7 arg15 arg16 x2 x5) (kernelRun0_A.sl.v781 (F := Ideal) c arg2 harg2 arg3 harg3 arg6 harg6 arg17 x0 x1 x4) (kernelRun0_A.sl.v801 (F := Ideal) c arg2 harg2 arg3 harg3 arg6 harg6 arg17 x0 x1 x4)
    (kernelRun0_A.sl.v1252 (F := Ideal) c arg14) (kernelRun0_A.sl.v1254 (F := Ideal) c arg14) (kernelRun0_A.sl.v1256 (F := Ideal) c arg14) (kernelRun0_A.sl.v1258 (F := Ideal) c arg14)
    (q0 c arg4 harg4 arg7 harg7 arg15 arg16 x2 x5 T hM) (k0 c arg4 harg4 arg7 harg7 arg15 arg16 x2 x5 T hM) (v0 c arg4 harg4 arg7 harg7 arg15 arg16 x2 x5 T hM) (b0 c arg2 harg2 arg3 harg3 arg6 harg6 arg17 x0 x1 x4 T hG) (g0 c arg2 harg2 arg3 harg3 arg6 harg6 arg17 x0 x1 x4 T hG)
    (ld0 S0 arg14.view _ hS0 0 (by omega)) (ld0 S0 arg14.view _ hS0 1 (by omega)) (ld0 S0 arg14.view _ hS0 2 (by omega)) (ld0 S0 arg14.view _ hS0 3 (by omega))
  obtain ⟨n0, n1, n2, n3, on⟩ := a
  exact on

include hM hG hS0 in
theorem ck1 :
    (kernelRun0_A.sl.HS0_9 (F := Ideal) c arg2 harg2 arg3 harg3 arg4 harg4 arg6 harg6 arg7 harg7 arg14 arg15 arg16 arg17 x0 x1 x2 x4 x5) = stL (sc (T.R S0 0 128)) (sc (T.R S0 1 128)) (sc (T.R S0 2 128)) (sc (T.R S0 3 128)) (kernelRun0_A.sl.HS0_5 (F := Ideal) c arg2 harg2 arg3 harg3 arg4 harg4 arg6 harg6 arg7 harg7 arg14 arg15 arg16 arg17 x0 x1 x2 x4 x5) := by
  skip
  have a := chunk_stage T S0 64 (kernelRun0_A.sl.r_33 (F := Ideal) c arg4 harg4 arg7 harg7 arg15 arg16 x2 x5) (kernelRun0_A.sl.v746 (F := Ideal) c arg4 harg4 arg7 harg7 arg15 arg16 x2 x5) (kernelRun0_A.sl.v766 (F := Ideal) c arg4 harg4 arg7 harg7 arg15 arg16 x2 x5) (kernelRun0_A.sl.v786 (F := Ideal) c arg2 harg2 arg3 harg3 arg6 harg6 arg17 x0 x1 x4) (kernelRun0_A.sl.r_35 (F := Ideal) c arg2 harg2 arg3 harg3 arg6 harg6 arg17 x0 x1 x4)
    (kernelRun0_A.sl.v1415 (F := Ideal) c arg2 harg2 arg3 harg3 arg4 harg4 arg6 harg6 arg7 harg7 arg14 arg15 arg16 arg17 x0 x1 x2 x4 x5) (kernelRun0_A.sl.v1417 (F := Ideal) c arg2 harg2 arg3 harg3 arg4 harg4 arg6 harg6 arg7 harg7 arg14 arg15 arg16 arg17 x0 x1 x2 x4 x5) (kernelRun0_A.sl.v1419 (F := Ideal) c arg2 harg2 arg3 harg3 arg4 harg4 arg6 harg6 arg7 harg7 arg14 arg15 arg16 arg17 x0 x1 x2 x4 x5) (kernelRun0_A.sl.v1421 (F := Ideal) c arg2 harg2 arg3 harg3 arg4 harg4 arg6 harg6 arg7 harg7 arg14 arg15 arg16 arg17 x0 x1 x2 x4 x5)
    (q1 c arg4 harg4 arg7 harg7 arg15 arg16 x2 x5 T hM) (k1 c arg4 harg4 arg7 harg7 arg15 arg16 x2 x5 T hM) (v1 c arg4 harg4 arg7 harg7 arg15 arg16 x2 x5 T hM) (b1 c arg2 harg2 arg3 harg3 arg6 harg6 arg17 x0 x1 x4 T hG) (g1 c arg2 harg2 arg3 harg3 arg6 harg6 arg17 x0 x1 x4 T hG)
    (by
      refine Eq.trans (congrArg (fun L => View.readCov arg14.view L (stR 0 (by omega)).toLoadRect) (ck0 c arg2 harg2 arg3 harg3 arg4 harg4 arg6 harg6 arg7 harg7 arg14 arg15 arg16 arg17 x0 x1 x2 x4 x5 T S0 hM hG hS0)) ?_
      exact st_read0 arg14.view _ _ _ _ _) (by
      refine Eq.trans (congrArg (fun L => View.readCov arg14.view L (stR 1 (by omega)).toLoadRect) (ck0 c arg2 harg2 arg3 harg3 arg4 harg4 arg6 harg6 arg7 harg7 arg14 arg15 arg16 arg17 x0 x1 x2 x4 x5 T S0 hM hG hS0)) ?_
      exact st_read1 arg14.view _ _ _ _ _) (by
      refine Eq.trans (congrArg (fun L => View.readCov arg14.view L (stR 2 (by omega)).toLoadRect) (ck0 c arg2 harg2 arg3 harg3 arg4 harg4 arg6 harg6 arg7 harg7 arg14 arg15 arg16 arg17 x0 x1 x2 x4 x5 T S0 hM hG hS0)) ?_
      exact st_read2 arg14.view _ _ _ _ _) (by
      refine Eq.trans (congrArg (fun L => View.readCov arg14.view L (stR 3 (by omega)).toLoadRect) (ck0 c arg2 harg2 arg3 harg3 arg4 harg4 arg6 harg6 arg7 harg7 arg14 arg15 arg16 arg17 x0 x1 x2 x4 x5 T S0 hM hG hS0)) ?_
      exact st_read3 arg14.view _ _ _ _ _)
  obtain ⟨n0, n1, n2, n3, on⟩ := a
  refine Eq.trans ?_ (stL_congr n0 n1 n2 n3)
  rfl

include hM hG hS0 in
theorem co1 :
    sON (sAI (kernelRun0_A.sl.r_33 (F := Ideal) c arg4 harg4 arg7 harg7 arg15 arg16 x2 x5) (kernelRun0_A.sl.v746 (F := Ideal) c arg4 harg4 arg7 harg7 arg15 arg16 x2 x5) (kernelRun0_A.sl.r_35 (F := Ideal) c arg2 harg2 arg3 harg3 arg6 harg6 arg17 x0 x1 x4)) (sUW (kernelRun0_A.sl.v746 (F := Ideal) c arg4 harg4 arg7 harg7 arg15 arg16 x2 x5) (kernelRun0_A.sl.v766 (F := Ideal) c arg4 harg4 arg7 harg7 arg15 arg16 x2 x5) (kernelRun0_A.sl.v786 (F := Ideal) c arg2 harg2 arg3 harg3 arg6 harg6 arg17 x0 x1 x4) (kernelRun0_A.sl.r_35 (F := Ideal) c arg2 harg2 arg3 harg3 arg6 harg6 arg17 x0 x1 x4)) (sQD (kernelRun0_A.sl.r_33 (F := Ideal) c arg4 harg4 arg7 harg7 arg15 arg16 x2 x5) (kernelRun0_A.sl.r_35 (F := Ideal) c arg2 harg2 arg3 harg3 arg6 harg6 arg17 x0 x1 x4)) (kernelRun0_A.sl.v1415 (F := Ideal) c arg2 harg2 arg3 harg3 arg4 harg4 arg6 harg6 arg7 harg7 arg14 arg15 arg16 arg17 x0 x1 x2 x4 x5) (kernelRun0_A.sl.v1417 (F := Ideal) c arg2 harg2 arg3 harg3 arg4 harg4 arg6 harg6 arg7 harg7 arg14 arg15 arg16 arg17 x0 x1 x2 x4 x5) (kernelRun0_A.sl.v1419 (F := Ideal) c arg2 harg2 arg3 harg3 arg4 harg4 arg6 harg6 arg7 harg7 arg14 arg15 arg16 arg17 x0 x1 x2 x4 x5) (kernelRun0_A.sl.v1421 (F := Ideal) c arg2 harg2 arg3 harg3 arg4 harg4 arg6 harg6 arg7 harg7 arg14 arg15 arg16 arg17 x0 x1 x2 x4 x5) = cm (c2 (stkN T S0 64)) := by
  skip
  have a := chunk_stage T S0 64 (kernelRun0_A.sl.r_33 (F := Ideal) c arg4 harg4 arg7 harg7 arg15 arg16 x2 x5) (kernelRun0_A.sl.v746 (F := Ideal) c arg4 harg4 arg7 harg7 arg15 arg16 x2 x5) (kernelRun0_A.sl.v766 (F := Ideal) c arg4 harg4 arg7 harg7 arg15 arg16 x2 x5) (kernelRun0_A.sl.v786 (F := Ideal) c arg2 harg2 arg3 harg3 arg6 harg6 arg17 x0 x1 x4) (kernelRun0_A.sl.r_35 (F := Ideal) c arg2 harg2 arg3 harg3 arg6 harg6 arg17 x0 x1 x4)
    (kernelRun0_A.sl.v1415 (F := Ideal) c arg2 harg2 arg3 harg3 arg4 harg4 arg6 harg6 arg7 harg7 arg14 arg15 arg16 arg17 x0 x1 x2 x4 x5) (kernelRun0_A.sl.v1417 (F := Ideal) c arg2 harg2 arg3 harg3 arg4 harg4 arg6 harg6 arg7 harg7 arg14 arg15 arg16 arg17 x0 x1 x2 x4 x5) (kernelRun0_A.sl.v1419 (F := Ideal) c arg2 harg2 arg3 harg3 arg4 harg4 arg6 harg6 arg7 harg7 arg14 arg15 arg16 arg17 x0 x1 x2 x4 x5) (kernelRun0_A.sl.v1421 (F := Ideal) c arg2 harg2 arg3 harg3 arg4 harg4 arg6 harg6 arg7 harg7 arg14 arg15 arg16 arg17 x0 x1 x2 x4 x5)
    (q1 c arg4 harg4 arg7 harg7 arg15 arg16 x2 x5 T hM) (k1 c arg4 harg4 arg7 harg7 arg15 arg16 x2 x5 T hM) (v1 c arg4 harg4 arg7 harg7 arg15 arg16 x2 x5 T hM) (b1 c arg2 harg2 arg3 harg3 arg6 harg6 arg17 x0 x1 x4 T hG) (g1 c arg2 harg2 arg3 harg3 arg6 harg6 arg17 x0 x1 x4 T hG)
    (by
      refine Eq.trans (congrArg (fun L => View.readCov arg14.view L (stR 0 (by omega)).toLoadRect) (ck0 c arg2 harg2 arg3 harg3 arg4 harg4 arg6 harg6 arg7 harg7 arg14 arg15 arg16 arg17 x0 x1 x2 x4 x5 T S0 hM hG hS0)) ?_
      exact st_read0 arg14.view _ _ _ _ _) (by
      refine Eq.trans (congrArg (fun L => View.readCov arg14.view L (stR 1 (by omega)).toLoadRect) (ck0 c arg2 harg2 arg3 harg3 arg4 harg4 arg6 harg6 arg7 harg7 arg14 arg15 arg16 arg17 x0 x1 x2 x4 x5 T S0 hM hG hS0)) ?_
      exact st_read1 arg14.view _ _ _ _ _) (by
      refine Eq.trans (congrArg (fun L => View.readCov arg14.view L (stR 2 (by omega)).toLoadRect) (ck0 c arg2 harg2 arg3 harg3 arg4 harg4 arg6 harg6 arg7 harg7 arg14 arg15 arg16 arg17 x0 x1 x2 x4 x5 T S0 hM hG hS0)) ?_
      exact st_read2 arg14.view _ _ _ _ _) (by
      refine Eq.trans (congrArg (fun L => View.readCov arg14.view L (stR 3 (by omega)).toLoadRect) (ck0 c arg2 harg2 arg3 harg3 arg4 harg4 arg6 harg6 arg7 harg7 arg14 arg15 arg16 arg17 x0 x1 x2 x4 x5 T S0 hM hG hS0)) ?_
      exact st_read3 arg14.view _ _ _ _ _)
  obtain ⟨n0, n1, n2, n3, on⟩ := a
  exact on

include hM hG hS0 in
theorem ck2 :
    (kernelRun0_A.sl.HS0_13 (F := Ideal) c arg2 harg2 arg3 harg3 arg4 harg4 arg6 harg6 arg7 harg7 arg14 arg15 arg16 arg17 x0 x1 x2 x4 x5) = stL (sc (T.R S0 0 192)) (sc (T.R S0 1 192)) (sc (T.R S0 2 192)) (sc (T.R S0 3 192)) (kernelRun0_A.sl.HS0_9 (F := Ideal) c arg2 harg2 arg3 harg3 arg4 harg4 arg6 harg6 arg7 harg7 arg14 arg15 arg16 arg17 x0 x1 x2 x4 x5) := by
  skip
  have a := chunk_stage T S0 128 (kernelRun0_A.sl.r_34 (F := Ideal) c arg4 harg4 arg7 harg7 arg15 arg16 x2 x5) (kernelRun0_A.sl.v751 (F := Ideal) c arg4 harg4 arg7 harg7 arg15 arg16 x2 x5) (kernelRun0_A.sl.v771 (F := Ideal) c arg4 harg4 arg7 harg7 arg15 arg16 x2 x5) (kernelRun0_A.sl.v791 (F := Ideal) c arg2 harg2 arg3 harg3 arg6 harg6 arg17 x0 x1 x4) (kernelRun0_A.sl.r_36 (F := Ideal) c arg2 harg2 arg3 harg3 arg6 harg6 arg17 x0 x1 x4)
    (kernelRun0_A.sl.v1578 (F := Ideal) c arg2 harg2 arg3 harg3 arg4 harg4 arg6 harg6 arg7 harg7 arg14 arg15 arg16 arg17 x0 x1 x2 x4 x5) (kernelRun0_A.sl.v1580 (F := Ideal) c arg2 harg2 arg3 harg3 arg4 harg4 arg6 harg6 arg7 harg7 arg14 arg15 arg16 arg17 x0 x1 x2 x4 x5) (kernelRun0_A.sl.v1582 (F := Ideal) c arg2 harg2 arg3 harg3 arg4 harg4 arg6 harg6 arg7 harg7 arg14 arg15 arg16 arg17 x0 x1 x2 x4 x5) (kernelRun0_A.sl.v1584 (F := Ideal) c arg2 harg2 arg3 harg3 arg4 harg4 arg6 harg6 arg7 harg7 arg14 arg15 arg16 arg17 x0 x1 x2 x4 x5)
    (q2 c arg4 harg4 arg7 harg7 arg15 arg16 x2 x5 T hM) (k2 c arg4 harg4 arg7 harg7 arg15 arg16 x2 x5 T hM) (v2 c arg4 harg4 arg7 harg7 arg15 arg16 x2 x5 T hM) (b2 c arg2 harg2 arg3 harg3 arg6 harg6 arg17 x0 x1 x4 T hG) (g2 c arg2 harg2 arg3 harg3 arg6 harg6 arg17 x0 x1 x4 T hG)
    (by
      refine Eq.trans (congrArg (fun L => View.readCov arg14.view L (stR 0 (by omega)).toLoadRect) (ck1 c arg2 harg2 arg3 harg3 arg4 harg4 arg6 harg6 arg7 harg7 arg14 arg15 arg16 arg17 x0 x1 x2 x4 x5 T S0 hM hG hS0)) ?_
      exact st_read0 arg14.view _ _ _ _ _) (by
      refine Eq.trans (congrArg (fun L => View.readCov arg14.view L (stR 1 (by omega)).toLoadRect) (ck1 c arg2 harg2 arg3 harg3 arg4 harg4 arg6 harg6 arg7 harg7 arg14 arg15 arg16 arg17 x0 x1 x2 x4 x5 T S0 hM hG hS0)) ?_
      exact st_read1 arg14.view _ _ _ _ _) (by
      refine Eq.trans (congrArg (fun L => View.readCov arg14.view L (stR 2 (by omega)).toLoadRect) (ck1 c arg2 harg2 arg3 harg3 arg4 harg4 arg6 harg6 arg7 harg7 arg14 arg15 arg16 arg17 x0 x1 x2 x4 x5 T S0 hM hG hS0)) ?_
      exact st_read2 arg14.view _ _ _ _ _) (by
      refine Eq.trans (congrArg (fun L => View.readCov arg14.view L (stR 3 (by omega)).toLoadRect) (ck1 c arg2 harg2 arg3 harg3 arg4 harg4 arg6 harg6 arg7 harg7 arg14 arg15 arg16 arg17 x0 x1 x2 x4 x5 T S0 hM hG hS0)) ?_
      exact st_read3 arg14.view _ _ _ _ _)
  obtain ⟨n0, n1, n2, n3, on⟩ := a
  refine Eq.trans ?_ (stL_congr n0 n1 n2 n3)
  rfl

include hM hG hS0 in
theorem co2 :
    sON (sAI (kernelRun0_A.sl.r_34 (F := Ideal) c arg4 harg4 arg7 harg7 arg15 arg16 x2 x5) (kernelRun0_A.sl.v751 (F := Ideal) c arg4 harg4 arg7 harg7 arg15 arg16 x2 x5) (kernelRun0_A.sl.r_36 (F := Ideal) c arg2 harg2 arg3 harg3 arg6 harg6 arg17 x0 x1 x4)) (sUW (kernelRun0_A.sl.v751 (F := Ideal) c arg4 harg4 arg7 harg7 arg15 arg16 x2 x5) (kernelRun0_A.sl.v771 (F := Ideal) c arg4 harg4 arg7 harg7 arg15 arg16 x2 x5) (kernelRun0_A.sl.v791 (F := Ideal) c arg2 harg2 arg3 harg3 arg6 harg6 arg17 x0 x1 x4) (kernelRun0_A.sl.r_36 (F := Ideal) c arg2 harg2 arg3 harg3 arg6 harg6 arg17 x0 x1 x4)) (sQD (kernelRun0_A.sl.r_34 (F := Ideal) c arg4 harg4 arg7 harg7 arg15 arg16 x2 x5) (kernelRun0_A.sl.r_36 (F := Ideal) c arg2 harg2 arg3 harg3 arg6 harg6 arg17 x0 x1 x4)) (kernelRun0_A.sl.v1578 (F := Ideal) c arg2 harg2 arg3 harg3 arg4 harg4 arg6 harg6 arg7 harg7 arg14 arg15 arg16 arg17 x0 x1 x2 x4 x5) (kernelRun0_A.sl.v1580 (F := Ideal) c arg2 harg2 arg3 harg3 arg4 harg4 arg6 harg6 arg7 harg7 arg14 arg15 arg16 arg17 x0 x1 x2 x4 x5) (kernelRun0_A.sl.v1582 (F := Ideal) c arg2 harg2 arg3 harg3 arg4 harg4 arg6 harg6 arg7 harg7 arg14 arg15 arg16 arg17 x0 x1 x2 x4 x5) (kernelRun0_A.sl.v1584 (F := Ideal) c arg2 harg2 arg3 harg3 arg4 harg4 arg6 harg6 arg7 harg7 arg14 arg15 arg16 arg17 x0 x1 x2 x4 x5) = cm (c2 (stkN T S0 128)) := by
  skip
  have a := chunk_stage T S0 128 (kernelRun0_A.sl.r_34 (F := Ideal) c arg4 harg4 arg7 harg7 arg15 arg16 x2 x5) (kernelRun0_A.sl.v751 (F := Ideal) c arg4 harg4 arg7 harg7 arg15 arg16 x2 x5) (kernelRun0_A.sl.v771 (F := Ideal) c arg4 harg4 arg7 harg7 arg15 arg16 x2 x5) (kernelRun0_A.sl.v791 (F := Ideal) c arg2 harg2 arg3 harg3 arg6 harg6 arg17 x0 x1 x4) (kernelRun0_A.sl.r_36 (F := Ideal) c arg2 harg2 arg3 harg3 arg6 harg6 arg17 x0 x1 x4)
    (kernelRun0_A.sl.v1578 (F := Ideal) c arg2 harg2 arg3 harg3 arg4 harg4 arg6 harg6 arg7 harg7 arg14 arg15 arg16 arg17 x0 x1 x2 x4 x5) (kernelRun0_A.sl.v1580 (F := Ideal) c arg2 harg2 arg3 harg3 arg4 harg4 arg6 harg6 arg7 harg7 arg14 arg15 arg16 arg17 x0 x1 x2 x4 x5) (kernelRun0_A.sl.v1582 (F := Ideal) c arg2 harg2 arg3 harg3 arg4 harg4 arg6 harg6 arg7 harg7 arg14 arg15 arg16 arg17 x0 x1 x2 x4 x5) (kernelRun0_A.sl.v1584 (F := Ideal) c arg2 harg2 arg3 harg3 arg4 harg4 arg6 harg6 arg7 harg7 arg14 arg15 arg16 arg17 x0 x1 x2 x4 x5)
    (q2 c arg4 harg4 arg7 harg7 arg15 arg16 x2 x5 T hM) (k2 c arg4 harg4 arg7 harg7 arg15 arg16 x2 x5 T hM) (v2 c arg4 harg4 arg7 harg7 arg15 arg16 x2 x5 T hM) (b2 c arg2 harg2 arg3 harg3 arg6 harg6 arg17 x0 x1 x4 T hG) (g2 c arg2 harg2 arg3 harg3 arg6 harg6 arg17 x0 x1 x4 T hG)
    (by
      refine Eq.trans (congrArg (fun L => View.readCov arg14.view L (stR 0 (by omega)).toLoadRect) (ck1 c arg2 harg2 arg3 harg3 arg4 harg4 arg6 harg6 arg7 harg7 arg14 arg15 arg16 arg17 x0 x1 x2 x4 x5 T S0 hM hG hS0)) ?_
      exact st_read0 arg14.view _ _ _ _ _) (by
      refine Eq.trans (congrArg (fun L => View.readCov arg14.view L (stR 1 (by omega)).toLoadRect) (ck1 c arg2 harg2 arg3 harg3 arg4 harg4 arg6 harg6 arg7 harg7 arg14 arg15 arg16 arg17 x0 x1 x2 x4 x5 T S0 hM hG hS0)) ?_
      exact st_read1 arg14.view _ _ _ _ _) (by
      refine Eq.trans (congrArg (fun L => View.readCov arg14.view L (stR 2 (by omega)).toLoadRect) (ck1 c arg2 harg2 arg3 harg3 arg4 harg4 arg6 harg6 arg7 harg7 arg14 arg15 arg16 arg17 x0 x1 x2 x4 x5 T S0 hM hG hS0)) ?_
      exact st_read2 arg14.view _ _ _ _ _) (by
      refine Eq.trans (congrArg (fun L => View.readCov arg14.view L (stR 3 (by omega)).toLoadRect) (ck1 c arg2 harg2 arg3 harg3 arg4 harg4 arg6 harg6 arg7 harg7 arg14 arg15 arg16 arg17 x0 x1 x2 x4 x5 T S0 hM hG hS0)) ?_
      exact st_read3 arg14.view _ _ _ _ _)
  obtain ⟨n0, n1, n2, n3, on⟩ := a
  exact on

include hM hG hS0 in
theorem ck3 :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.1 = stL (sc (T.R S0 0 256)) (sc (T.R S0 1 256)) (sc (T.R S0 2 256)) (sc (T.R S0 3 256)) (kernelRun0_A.sl.HS0_13 (F := Ideal) c arg2 harg2 arg3 harg3 arg4 harg4 arg6 harg6 arg7 harg7 arg14 arg15 arg16 arg17 x0 x1 x2 x4 x5) := by
  skip
  have a := chunk_stage T S0 192 (kernelRun0_A.sl.v736 (F := Ideal) c arg4 harg4 arg7 harg7 arg15 arg16 x2 x5) (kernelRun0_A.sl.v756 (F := Ideal) c arg4 harg4 arg7 harg7 arg15 arg16 x2 x5) (kernelRun0_A.sl.v776 (F := Ideal) c arg4 harg4 arg7 harg7 arg15 arg16 x2 x5) (kernelRun0_A.sl.v796 (F := Ideal) c arg2 harg2 arg3 harg3 arg6 harg6 arg17 x0 x1 x4) (kernelRun0_A.sl.r_37 (F := Ideal) c arg2 harg2 arg3 harg3 arg6 harg6 arg17 x0 x1 x4)
    (kernelRun0_A.sl.v1741 (F := Ideal) c arg2 harg2 arg3 harg3 arg4 harg4 arg6 harg6 arg7 harg7 arg14 arg15 arg16 arg17 x0 x1 x2 x4 x5) (kernelRun0_A.sl.v1743 (F := Ideal) c arg2 harg2 arg3 harg3 arg4 harg4 arg6 harg6 arg7 harg7 arg14 arg15 arg16 arg17 x0 x1 x2 x4 x5) (kernelRun0_A.sl.v1745 (F := Ideal) c arg2 harg2 arg3 harg3 arg4 harg4 arg6 harg6 arg7 harg7 arg14 arg15 arg16 arg17 x0 x1 x2 x4 x5) (kernelRun0_A.sl.v1747 (F := Ideal) c arg2 harg2 arg3 harg3 arg4 harg4 arg6 harg6 arg7 harg7 arg14 arg15 arg16 arg17 x0 x1 x2 x4 x5)
    (q3 c arg4 harg4 arg7 harg7 arg15 arg16 x2 x5 T hM) (k3 c arg4 harg4 arg7 harg7 arg15 arg16 x2 x5 T hM) (v3 c arg4 harg4 arg7 harg7 arg15 arg16 x2 x5 T hM) (b3 c arg2 harg2 arg3 harg3 arg6 harg6 arg17 x0 x1 x4 T hG) (g3 c arg2 harg2 arg3 harg3 arg6 harg6 arg17 x0 x1 x4 T hG)
    (by
      refine Eq.trans (congrArg (fun L => View.readCov arg14.view L (stR 0 (by omega)).toLoadRect) (ck2 c arg2 harg2 arg3 harg3 arg4 harg4 arg6 harg6 arg7 harg7 arg14 arg15 arg16 arg17 x0 x1 x2 x4 x5 T S0 hM hG hS0)) ?_
      exact st_read0 arg14.view _ _ _ _ _) (by
      refine Eq.trans (congrArg (fun L => View.readCov arg14.view L (stR 1 (by omega)).toLoadRect) (ck2 c arg2 harg2 arg3 harg3 arg4 harg4 arg6 harg6 arg7 harg7 arg14 arg15 arg16 arg17 x0 x1 x2 x4 x5 T S0 hM hG hS0)) ?_
      exact st_read1 arg14.view _ _ _ _ _) (by
      refine Eq.trans (congrArg (fun L => View.readCov arg14.view L (stR 2 (by omega)).toLoadRect) (ck2 c arg2 harg2 arg3 harg3 arg4 harg4 arg6 harg6 arg7 harg7 arg14 arg15 arg16 arg17 x0 x1 x2 x4 x5 T S0 hM hG hS0)) ?_
      exact st_read2 arg14.view _ _ _ _ _) (by
      refine Eq.trans (congrArg (fun L => View.readCov arg14.view L (stR 3 (by omega)).toLoadRect) (ck2 c arg2 harg2 arg3 harg3 arg4 harg4 arg6 harg6 arg7 harg7 arg14 arg15 arg16 arg17 x0 x1 x2 x4 x5 T S0 hM hG hS0)) ?_
      exact st_read3 arg14.view _ _ _ _ _)
  obtain ⟨n0, n1, n2, n3, on⟩ := a
  refine Eq.trans ?_ (stL_congr n0 n1 n2 n3)
  rfl

include hM hG hS0 in
theorem co3 :
    sON (sAI (kernelRun0_A.sl.v736 (F := Ideal) c arg4 harg4 arg7 harg7 arg15 arg16 x2 x5) (kernelRun0_A.sl.v756 (F := Ideal) c arg4 harg4 arg7 harg7 arg15 arg16 x2 x5) (kernelRun0_A.sl.r_37 (F := Ideal) c arg2 harg2 arg3 harg3 arg6 harg6 arg17 x0 x1 x4)) (sUW (kernelRun0_A.sl.v756 (F := Ideal) c arg4 harg4 arg7 harg7 arg15 arg16 x2 x5) (kernelRun0_A.sl.v776 (F := Ideal) c arg4 harg4 arg7 harg7 arg15 arg16 x2 x5) (kernelRun0_A.sl.v796 (F := Ideal) c arg2 harg2 arg3 harg3 arg6 harg6 arg17 x0 x1 x4) (kernelRun0_A.sl.r_37 (F := Ideal) c arg2 harg2 arg3 harg3 arg6 harg6 arg17 x0 x1 x4)) (sQD (kernelRun0_A.sl.v736 (F := Ideal) c arg4 harg4 arg7 harg7 arg15 arg16 x2 x5) (kernelRun0_A.sl.r_37 (F := Ideal) c arg2 harg2 arg3 harg3 arg6 harg6 arg17 x0 x1 x4)) (kernelRun0_A.sl.v1741 (F := Ideal) c arg2 harg2 arg3 harg3 arg4 harg4 arg6 harg6 arg7 harg7 arg14 arg15 arg16 arg17 x0 x1 x2 x4 x5) (kernelRun0_A.sl.v1743 (F := Ideal) c arg2 harg2 arg3 harg3 arg4 harg4 arg6 harg6 arg7 harg7 arg14 arg15 arg16 arg17 x0 x1 x2 x4 x5) (kernelRun0_A.sl.v1745 (F := Ideal) c arg2 harg2 arg3 harg3 arg4 harg4 arg6 harg6 arg7 harg7 arg14 arg15 arg16 arg17 x0 x1 x2 x4 x5) (kernelRun0_A.sl.v1747 (F := Ideal) c arg2 harg2 arg3 harg3 arg4 harg4 arg6 harg6 arg7 harg7 arg14 arg15 arg16 arg17 x0 x1 x2 x4 x5) = cm (c2 (stkN T S0 192)) := by
  skip
  have a := chunk_stage T S0 192 (kernelRun0_A.sl.v736 (F := Ideal) c arg4 harg4 arg7 harg7 arg15 arg16 x2 x5) (kernelRun0_A.sl.v756 (F := Ideal) c arg4 harg4 arg7 harg7 arg15 arg16 x2 x5) (kernelRun0_A.sl.v776 (F := Ideal) c arg4 harg4 arg7 harg7 arg15 arg16 x2 x5) (kernelRun0_A.sl.v796 (F := Ideal) c arg2 harg2 arg3 harg3 arg6 harg6 arg17 x0 x1 x4) (kernelRun0_A.sl.r_37 (F := Ideal) c arg2 harg2 arg3 harg3 arg6 harg6 arg17 x0 x1 x4)
    (kernelRun0_A.sl.v1741 (F := Ideal) c arg2 harg2 arg3 harg3 arg4 harg4 arg6 harg6 arg7 harg7 arg14 arg15 arg16 arg17 x0 x1 x2 x4 x5) (kernelRun0_A.sl.v1743 (F := Ideal) c arg2 harg2 arg3 harg3 arg4 harg4 arg6 harg6 arg7 harg7 arg14 arg15 arg16 arg17 x0 x1 x2 x4 x5) (kernelRun0_A.sl.v1745 (F := Ideal) c arg2 harg2 arg3 harg3 arg4 harg4 arg6 harg6 arg7 harg7 arg14 arg15 arg16 arg17 x0 x1 x2 x4 x5) (kernelRun0_A.sl.v1747 (F := Ideal) c arg2 harg2 arg3 harg3 arg4 harg4 arg6 harg6 arg7 harg7 arg14 arg15 arg16 arg17 x0 x1 x2 x4 x5)
    (q3 c arg4 harg4 arg7 harg7 arg15 arg16 x2 x5 T hM) (k3 c arg4 harg4 arg7 harg7 arg15 arg16 x2 x5 T hM) (v3 c arg4 harg4 arg7 harg7 arg15 arg16 x2 x5 T hM) (b3 c arg2 harg2 arg3 harg3 arg6 harg6 arg17 x0 x1 x4 T hG) (g3 c arg2 harg2 arg3 harg3 arg6 harg6 arg17 x0 x1 x4 T hG)
    (by
      refine Eq.trans (congrArg (fun L => View.readCov arg14.view L (stR 0 (by omega)).toLoadRect) (ck2 c arg2 harg2 arg3 harg3 arg4 harg4 arg6 harg6 arg7 harg7 arg14 arg15 arg16 arg17 x0 x1 x2 x4 x5 T S0 hM hG hS0)) ?_
      exact st_read0 arg14.view _ _ _ _ _) (by
      refine Eq.trans (congrArg (fun L => View.readCov arg14.view L (stR 1 (by omega)).toLoadRect) (ck2 c arg2 harg2 arg3 harg3 arg4 harg4 arg6 harg6 arg7 harg7 arg14 arg15 arg16 arg17 x0 x1 x2 x4 x5 T S0 hM hG hS0)) ?_
      exact st_read1 arg14.view _ _ _ _ _) (by
      refine Eq.trans (congrArg (fun L => View.readCov arg14.view L (stR 2 (by omega)).toLoadRect) (ck2 c arg2 harg2 arg3 harg3 arg4 harg4 arg6 harg6 arg7 harg7 arg14 arg15 arg16 arg17 x0 x1 x2 x4 x5 T S0 hM hG hS0)) ?_
      exact st_read2 arg14.view _ _ _ _ _) (by
      refine Eq.trans (congrArg (fun L => View.readCov arg14.view L (stR 3 (by omega)).toLoadRect) (ck2 c arg2 harg2 arg3 harg3 arg4 harg4 arg6 harg6 arg7 harg7 arg14 arg15 arg16 arg17 x0 x1 x2 x4 x5 T S0 hM hG hS0)) ?_
      exact st_read3 arg14.view _ _ _ _ _)
  obtain ⟨n0, n1, n2, n3, on⟩ := a
  exact on

end Dn.A
-- ==== Proof.DnAY.lean ====
/-
  What the delta-rule kernel's body stores as gated rows at a point of the grid, case A, at arrays of reals.
-/
module

public import proofs.«01_k».proof.Proof.DnA

@[expose] public section

set_option maxRecDepth 16384

noncomputable section

open Idealize.ShloMosaic Idealize.ShloMosaic.TcCoe Idealize.SL.Sem

namespace Dn.A

open Cert.KernelIdeal Cert.KernelIdeal.Gen

variable (c : Dev nD) (i : grid0.Coords) (arg2 : Memref sig .tc .smem S4 .f32) (harg2 : arg2.IsWhole) (arg3 : Memref sig .tc .smem S4 .f32) (harg3 : arg3.IsWhole) (arg4 : Memref sig .tc .vmem S1x256x1536 .f32) (harg4 : arg4.IsWhole) (arg5 : Memref sig .tc .vmem S1x256x512 .f32) (harg5 : arg5.IsWhole) (arg6 : Memref sig .tc .vmem S1x256x128 .f32) (harg6 : arg6.IsWhole) (arg7 : Memref sig .tc .vmem S4x1536 .f32) (harg7 : arg7.IsWhole) (arg8 : Memref sig .tc .vmem S1x128 .f32) (harg8 : arg8.IsWhole) (arg9 : Memref sig .tc .vmem S1x256x1024 .f32) (harg9 : arg9.IsWhole) (arg10 : Memref sig .tc .vmem S1x256x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x256x1024 .f32) (harg13 : arg13.IsWhole) (arg14 : Memref sig .tc .vmem S4x128x128 .f32) (harg14 : arg14.IsWhole) (arg15 : Memref sig .tc .vmem S264x1536 .f32) (harg15 : arg15.IsWhole) (arg16 : Memref sig .tc .vmem S256x1536 .f32) (harg16 : arg16.IsWhole) (arg17 : Memref sig .tc .vmem S256x1024 .f32) (harg17 : arg17.IsWhole) (arg18 : Memref sig .tc .vmem S256x512 .bf16) (harg18 : arg18.IsWhole) (hc0 : cond0_0 i)
  (x0 : Vec Ideal S4 .f32) (x1 : Vec Ideal S4 .f32) (x2 : Vec Ideal S1x256x1536 .f32) (x3 : Vec Ideal S1x256x512 .f32) (x4 : Vec Ideal S1x256x128 .f32) (x5 : Vec Ideal S4x1536 .f32) (x6 : Vec Ideal S1x128 .f32) (x7 : Vec Ideal S1x256x1024 .f32) (x8 : Vec Ideal S1x256x512 .bf16) (x9 : Vec Ideal S512x1024 .bf16) (x10 : Vec Ideal S512x1024 .bf16)
variable (T : Toks) (S0 : Fin 4 → St)
  (hM : ∀ r q, View.canon (kernelRun0_A.sl.HS2_12 (F := Ideal) c arg4 harg4 arg7 harg7 arg15 x2 x5) (ix2 r q) = ((actOf T r q : ℝ) : EReal))
  (hG : ∀ r q, View.canon (kernelRun0_A.sl.HS3_1 (F := Ideal) c arg2 harg2 arg3 harg3 arg6 harg6 x0 x1 x4) (ix2 r q) = ((repOf T r q : ℝ) : EReal))

variable (hS0 : ∀ h d e, S0 h d e = 0)

set_option maxHeartbeats 4000000 in
include hM hG hS0 in
theorem yd (Z : Fin 256 → Fin 512 → ℝ) (hZ : x3 = (cm (c3 Z) : FVec Ideal S1x256x512 .f32)) (r : Fin 256) (n : Fin 512) :
    View.canon (kernelRun0_A.sl.HS4_16 (F := Ideal) c arg2 harg2 arg3 harg3 arg4 harg4 arg5 harg5 arg6 harg6 arg7 harg7 arg8 harg8 arg14 arg15 arg16 arg17 x0 x1 x2 x3 x4 x5 x6) (ix2 r n) = ydA T S0 (View.readAt (Elt Ideal) arg8.view (Rect.unit (s := S1x128) ![0, 0] S1x128.size inb_S1x128_S1x128_0_0).toLoadRect (harg8.unread x6)) Z r n := by
  subst hZ
  unfold kernelRun0_A.sl.HS4_16
  canon_tiles x h
  case piece0 =>
    exact tile_at T S0 192 3 192 384 (by omega) (by omega) rfl rfl slices_S256x128_o192_0_S64x128 _ (co3 c arg2 harg2 arg3 harg3 arg4 harg4 arg6 harg6 arg7 harg7 arg14 arg15 arg16 arg17 x0 x1 x2 x4 x5 T S0 hM hG hS0) _ _ Z (ld_z arg5 harg5 Z 192 384 _ (by omega) (by omega)) x r n h0 h1
  case piece1 =>
    exact tile_at T S0 192 2 128 256 (by omega) (by omega) rfl rfl slices_S256x128_o128_0_S64x128 _ (co3 c arg2 harg2 arg3 harg3 arg4 harg4 arg6 harg6 arg7 harg7 arg14 arg15 arg16 arg17 x0 x1 x2 x4 x5 T S0 hM hG hS0) _ _ Z (ld_z arg5 harg5 Z 192 256 _ (by omega) (by omega)) x r n h0 h1
  case piece2 =>
    exact tile_at T S0 192 1 64 128 (by omega) (by omega) rfl rfl slices_S256x128_o64_0_S64x128 _ (co3 c arg2 harg2 arg3 harg3 arg4 harg4 arg6 harg6 arg7 harg7 arg14 arg15 arg16 arg17 x0 x1 x2 x4 x5 T S0 hM hG hS0) _ _ Z (ld_z arg5 harg5 Z 192 128 _ (by omega) (by omega)) x r n h0 h1
  case piece3 =>
    exact tile_at T S0 192 0 0 0 (by omega) (by omega) rfl rfl slices_S256x128_o0_0_S64x128 _ (co3 c arg2 harg2 arg3 harg3 arg4 harg4 arg6 harg6 arg7 harg7 arg14 arg15 arg16 arg17 x0 x1 x2 x4 x5 T S0 hM hG hS0) _ _ Z (ld_z arg5 harg5 Z 192 0 _ (by omega) (by omega)) x r n h0 (h1.trans (Nat.zero_add _).symm)
  case piece4 =>
    exact tile_at T S0 128 3 192 384 (by omega) (by omega) rfl rfl slices_S256x128_o192_0_S64x128 _ (co2 c arg2 harg2 arg3 harg3 arg4 harg4 arg6 harg6 arg7 harg7 arg14 arg15 arg16 arg17 x0 x1 x2 x4 x5 T S0 hM hG hS0) _ _ Z (ld_z arg5 harg5 Z 128 384 _ (by omega) (by omega)) x r n h0 h1
  case piece5 =>
    exact tile_at T S0 128 2 128 256 (by omega) (by omega) rfl rfl slices_S256x128_o128_0_S64x128 _ (co2 c arg2 harg2 arg3 harg3 arg4 harg4 arg6 harg6 arg7 harg7 arg14 arg15 arg16 arg17 x0 x1 x2 x4 x5 T S0 hM hG hS0) _ _ Z (ld_z arg5 harg5 Z 128 256 _ (by omega) (by omega)) x r n h0 h1
  case piece6 =>
    exact tile_at T S0 128 1 64 128 (by omega) (by omega) rfl rfl slices_S256x128_o64_0_S64x128 _ (co2 c arg2 harg2 arg3 harg3 arg4 harg4 arg6 harg6 arg7 harg7 arg14 arg15 arg16 arg17 x0 x1 x2 x4 x5 T S0 hM hG hS0) _ _ Z (ld_z arg5 harg5 Z 128 128 _ (by omega) (by omega)) x r n h0 h1
  case piece7 =>
    exact tile_at T S0 128 0 0 0 (by omega) (by omega) rfl rfl slices_S256x128_o0_0_S64x128 _ (co2 c arg2 harg2 arg3 harg3 arg4 harg4 arg6 harg6 arg7 harg7 arg14 arg15 arg16 arg17 x0 x1 x2 x4 x5 T S0 hM hG hS0) _ _ Z (ld_z arg5 harg5 Z 128 0 _ (by omega) (by omega)) x r n h0 (h1.trans (Nat.zero_add _).symm)
  case piece8 =>
    exact tile_at T S0 64 3 192 384 (by omega) (by omega) rfl rfl slices_S256x128_o192_0_S64x128 _ (co1 c arg2 harg2 arg3 harg3 arg4 harg4 arg6 harg6 arg7 harg7 arg14 arg15 arg16 arg17 x0 x1 x2 x4 x5 T S0 hM hG hS0) _ _ Z (ld_z arg5 harg5 Z 64 384 _ (by omega) (by omega)) x r n h0 h1
  case piece9 =>
    exact tile_at T S0 64 2 128 256 (by omega) (by omega) rfl rfl slices_S256x128_o128_0_S64x128 _ (co1 c arg2 harg2 arg3 harg3 arg4 harg4 arg6 harg6 arg7 harg7 arg14 arg15 arg16 arg17 x0 x1 x2 x4 x5 T S0 hM hG hS0) _ _ Z (ld_z arg5 harg5 Z 64 256 _ (by omega) (by omega)) x r n h0 h1
  case piece10 =>
    exact tile_at T S0 64 1 64 128 (by omega) (by omega) rfl rfl slices_S256x128_o64_0_S64x128 _ (co1 c arg2 harg2 arg3 harg3 arg4 harg4 arg6 harg6 arg7 harg7 arg14 arg15 arg16 arg17 x0 x1 x2 x4 x5 T S0 hM hG hS0) _ _ Z (ld_z arg5 harg5 Z 64 128 _ (by omega) (by omega)) x r n h0 h1
  case piece11 =>
    exact tile_at T S0 64 0 0 0 (by omega) (by omega) rfl rfl slices_S256x128_o0_0_S64x128 _ (co1 c arg2 harg2 arg3 harg3 arg4 harg4 arg6 harg6 arg7 harg7 arg14 arg15 arg16 arg17 x0 x1 x2 x4 x5 T S0 hM hG hS0) _ _ Z (ld_z arg5 harg5 Z 64 0 _ (by omega) (by omega)) x r n h0 (h1.trans (Nat.zero_add _).symm)
  case piece12 =>
    exact tile_at T S0 0 3 192 384 (by omega) (by omega) rfl rfl slices_S256x128_o192_0_S64x128 _ (co0 c arg2 harg2 arg3 harg3 arg4 harg4 arg6 harg6 arg7 harg7 arg14 arg15 arg16 arg17 x0 x1 x2 x4 x5 T S0 hM hG hS0) _ _ Z (ld_z arg5 harg5 Z 0 384 _ (by omega) (by omega)) x r n (h0.trans (Nat.zero_add _).symm) h1
  case piece13 =>
    exact tile_at T S0 0 2 128 256 (by omega) (by omega) rfl rfl slices_S256x128_o128_0_S64x128 _ (co0 c arg2 harg2 arg3 harg3 arg4 harg4 arg6 harg6 arg7 harg7 arg14 arg15 arg16 arg17 x0 x1 x2 x4 x5 T S0 hM hG hS0) _ _ Z (ld_z arg5 harg5 Z 0 256 _ (by omega) (by omega)) x r n (h0.trans (Nat.zero_add _).symm) h1
  case piece14 =>
    exact tile_at T S0 0 1 64 128 (by omega) (by omega) rfl rfl slices_S256x128_o64_0_S64x128 _ (co0 c arg2 harg2 arg3 harg3 arg4 harg4 arg6 harg6 arg7 harg7 arg14 arg15 arg16 arg17 x0 x1 x2 x4 x5 T S0 hM hG hS0) _ _ Z (ld_z arg5 harg5 Z 0 128 _ (by omega) (by omega)) x r n (h0.trans (Nat.zero_add _).symm) h1
  case piece15 =>
    exact tile_at T S0 0 0 0 0 (by omega) (by omega) rfl rfl slices_S256x128_o0_0_S64x128 _ (co0 c arg2 harg2 arg3 harg3 arg4 harg4 arg6 harg6 arg7 harg7 arg14 arg15 arg16 arg17 x0 x1 x2 x4 x5 T S0 hM hG hS0) _ _ Z (ld_z arg5 harg5 Z 0 0 _ (by omega) (by omega)) x r n (h0.trans (Nat.zero_add _).symm) (h1.trans (Nat.zero_add _).symm)

end Dn.A
-- ==== Proof.DnAC.lean ====
/-
  The convolution's rows that the delta-rule kernel's body stores at a point of the grid, case A, at arrays of reals.
-/
module

public import proofs.«01_k».proof.Proof.DnPad

@[expose] public section

set_option maxRecDepth 16384

noncomputable section

open Idealize.ShloMosaic Idealize.ShloMosaic.TcCoe Idealize.SL.Sem

namespace Dn.A

open Cert.KernelIdeal Cert.KernelIdeal.Gen

variable (c : Dev nD) (i : grid0.Coords) (arg2 : Memref sig .tc .smem S4 .f32) (harg2 : arg2.IsWhole) (arg3 : Memref sig .tc .smem S4 .f32) (harg3 : arg3.IsWhole) (arg4 : Memref sig .tc .vmem S1x256x1536 .f32) (harg4 : arg4.IsWhole) (arg5 : Memref sig .tc .vmem S1x256x512 .f32) (harg5 : arg5.IsWhole) (arg6 : Memref sig .tc .vmem S1x256x128 .f32) (harg6 : arg6.IsWhole) (arg7 : Memref sig .tc .vmem S4x1536 .f32) (harg7 : arg7.IsWhole) (arg8 : Memref sig .tc .vmem S1x128 .f32) (harg8 : arg8.IsWhole) (arg9 : Memref sig .tc .vmem S1x256x1024 .f32) (harg9 : arg9.IsWhole) (arg10 : Memref sig .tc .vmem S1x256x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x256x1024 .f32) (harg13 : arg13.IsWhole) (arg14 : Memref sig .tc .vmem S4x128x128 .f32) (harg14 : arg14.IsWhole) (arg15 : Memref sig .tc .vmem S264x1536 .f32) (harg15 : arg15.IsWhole) (arg16 : Memref sig .tc .vmem S256x1536 .f32) (harg16 : arg16.IsWhole) (arg17 : Memref sig .tc .vmem S256x1024 .f32) (harg17 : arg17.IsWhole) (arg18 : Memref sig .tc .vmem S256x512 .bf16) (harg18 : arg18.IsWhole) (hc0 : cond0_0 i)
  (x0 : Vec Ideal S4 .f32) (x1 : Vec Ideal S4 .f32) (x2 : Vec Ideal S1x256x1536 .f32) (x3 : Vec Ideal S1x256x512 .f32) (x4 : Vec Ideal S1x256x128 .f32) (x5 : Vec Ideal S4x1536 .f32) (x6 : Vec Ideal S1x128 .f32) (x7 : Vec Ideal S1x256x1024 .f32) (x8 : Vec Ideal S1x256x512 .bf16) (x9 : Vec Ideal S512x1024 .bf16) (x10 : Vec Ideal S512x1024 .bf16)
variable (Y cw : ℕ → ℕ → ℝ) (G B : Fin 4 → ℕ → ℝ) (o : ℕ)
  (hx2 : ∀ (i : Fin 256) (j : Fin 1536), x2 (ix3 0 i j) = ((Y (o + (8 + i.val)) j.val : ℝ) : EReal))
  (hcw : ∀ (w : Fin 4) (j : Fin 1536), x5 (ix2 w j) = ((cw w.val j.val : ℝ) : EReal))

  (hz : ∀ (n j : ℕ), n < 8 → Y (o + n) j = 0)
include hx2 hz in
theorem pad (i : Fin 264) (j : Fin 1536) : View.canon (kernelRun0_A.sl.HS1_2 (F := Ideal) c arg4 harg4 x2) (ix2 i j) = ((Y (o + i.val) j.val : ℝ) : EReal) := by
  unfold kernelRun0_A.sl.HS1_2
  canon_tiles x h using by
    by_cases hi : i.val < 8
    · exact ⟨_, List.mem_cons_of_mem _ (List.mem_singleton.mpr rfl), (Rect.mem_set_unit (inb := inb_S264x1536_S8x1536_0_0)).mpr fun a => by
        refine Fin.cases ?_ (fun a => Fin.cases ?_ (fun a => a.elim0) a) a
        · exact ⟨Nat.zero_le _, by show i.val < 0 + 8; omega⟩
        · exact ⟨Nat.zero_le _, by show j.val < 0 + 1536; omega⟩⟩
    · exact ⟨_, List.mem_cons_self, (Rect.mem_set_unit (inb := inb_S264x1536_S256x1536_8_0)).mpr fun a => by
        refine Fin.cases ?_ (fun a => Fin.cases ?_ (fun a => a.elim0) a) a
        · exact ⟨by show 8 ≤ i.val; omega, by show i.val < 8 + 256; omega⟩
        · exact ⟨Nat.zero_le _, by show j.val < 0 + 1536; omega⟩⟩
  case piece0 => exact blk_at Y o arg4 harg4 x2 hx2 _ x i.val j h0 h1
  case piece1 =>
    obtain ⟨r, n, rfl⟩ : ∃ (r : Fin 8) (n : Fin 1536), x = ix2 r n := ⟨x 0, x 1, eq_ix2 x⟩
    have hr : i.val = r.val := h0
    rw [hz i.val j.val (by omega)]
    exact pay3_ix r n

set_option maxHeartbeats 4000000 in
include hx2 hcw hz in
theorem act (r : Fin 256) (q : Fin 1536) : View.canon (kernelRun0_A.sl.HS2_12 (F := Ideal) c arg4 harg4 arg7 harg7 arg15 x2 x5) (ix2 r q) = ((actOf (mkT Y cw G B o) r q : ℝ) : EReal) := by
  unfold kernelRun0_A.sl.HS2_12
  canon_tiles x h
  case piece0 =>
    have t := tileV Y cw G B o 11 _ (ld_padc Y arg15.view _ o (pad c arg4 harg4 x2 Y o hx2 hz) 11 1408 rfl (by omega) (by decide)) _ _ _ _ (ld_w cw arg7 harg7 x5 hcw 11 1408 0 rfl (by omega) (by omega) (by decide)) (ld_w cw arg7 harg7 x5 hcw 11 1408 1 rfl (by omega) (by omega) (by decide)) (ld_w cw arg7 harg7 x5 hcw 11 1408 2 rfl (by omega) (by omega) (by decide)) (ld_w cw arg7 harg7 x5 hcw 11 1408 3 rfl (by omega) (by omega) (by decide)) x r q (h0.trans (Nat.zero_add _).symm) h1 3 rfl (by omega)
    exact t
  case piece1 =>
    have t := tileV Y cw G B o 10 _ (ld_padc Y arg15.view _ o (pad c arg4 harg4 x2 Y o hx2 hz) 10 1280 rfl (by omega) (by decide)) _ _ _ _ (ld_w cw arg7 harg7 x5 hcw 10 1280 0 rfl (by omega) (by omega) (by decide)) (ld_w cw arg7 harg7 x5 hcw 10 1280 1 rfl (by omega) (by omega) (by decide)) (ld_w cw arg7 harg7 x5 hcw 10 1280 2 rfl (by omega) (by omega) (by decide)) (ld_w cw arg7 harg7 x5 hcw 10 1280 3 rfl (by omega) (by omega) (by decide)) x r q (h0.trans (Nat.zero_add _).symm) h1 2 rfl (by omega)
    exact t
  case piece2 =>
    have t := tileV Y cw G B o 9 _ (ld_padc Y arg15.view _ o (pad c arg4 harg4 x2 Y o hx2 hz) 9 1152 rfl (by omega) (by decide)) _ _ _ _ (ld_w cw arg7 harg7 x5 hcw 9 1152 0 rfl (by omega) (by omega) (by decide)) (ld_w cw arg7 harg7 x5 hcw 9 1152 1 rfl (by omega) (by omega) (by decide)) (ld_w cw arg7 harg7 x5 hcw 9 1152 2 rfl (by omega) (by omega) (by decide)) (ld_w cw arg7 harg7 x5 hcw 9 1152 3 rfl (by omega) (by omega) (by decide)) x r q (h0.trans (Nat.zero_add _).symm) h1 1 rfl (by omega)
    exact t
  case piece3 =>
    have t := tileV Y cw G B o 8 _ (ld_padc Y arg15.view _ o (pad c arg4 harg4 x2 Y o hx2 hz) 8 1024 rfl (by omega) (by decide)) _ _ _ _ (ld_w cw arg7 harg7 x5 hcw 8 1024 0 rfl (by omega) (by omega) (by decide)) (ld_w cw arg7 harg7 x5 hcw 8 1024 1 rfl (by omega) (by omega) (by decide)) (ld_w cw arg7 harg7 x5 hcw 8 1024 2 rfl (by omega) (by omega) (by decide)) (ld_w cw arg7 harg7 x5 hcw 8 1024 3 rfl (by omega) (by omega) (by decide)) x r q (h0.trans (Nat.zero_add _).symm) h1 0 rfl (by omega)
    exact t
  case piece4 =>
    have t := tileK Y cw G B o 7 _ (ld_padc Y arg15.view _ o (pad c arg4 harg4 x2 Y o hx2 hz) 7 896 rfl (by omega) (by decide)) _ _ _ _ (ld_w cw arg7 harg7 x5 hcw 7 896 0 rfl (by omega) (by omega) (by decide)) (ld_w cw arg7 harg7 x5 hcw 7 896 1 rfl (by omega) (by omega) (by decide)) (ld_w cw arg7 harg7 x5 hcw 7 896 2 rfl (by omega) (by omega) (by decide)) (ld_w cw arg7 harg7 x5 hcw 7 896 3 rfl (by omega) (by omega) (by decide)) x r q (h0.trans (Nat.zero_add _).symm) h1 3 rfl (by omega)
    exact t
  case piece5 =>
    have t := tileK Y cw G B o 6 _ (ld_padc Y arg15.view _ o (pad c arg4 harg4 x2 Y o hx2 hz) 6 768 rfl (by omega) (by decide)) _ _ _ _ (ld_w cw arg7 harg7 x5 hcw 6 768 0 rfl (by omega) (by omega) (by decide)) (ld_w cw arg7 harg7 x5 hcw 6 768 1 rfl (by omega) (by omega) (by decide)) (ld_w cw arg7 harg7 x5 hcw 6 768 2 rfl (by omega) (by omega) (by decide)) (ld_w cw arg7 harg7 x5 hcw 6 768 3 rfl (by omega) (by omega) (by decide)) x r q (h0.trans (Nat.zero_add _).symm) h1 2 rfl (by omega)
    exact t
  case piece6 =>
    have t := tileK Y cw G B o 5 _ (ld_padc Y arg15.view _ o (pad c arg4 harg4 x2 Y o hx2 hz) 5 640 rfl (by omega) (by decide)) _ _ _ _ (ld_w cw arg7 harg7 x5 hcw 5 640 0 rfl (by omega) (by omega) (by decide)) (ld_w cw arg7 harg7 x5 hcw 5 640 1 rfl (by omega) (by omega) (by decide)) (ld_w cw arg7 harg7 x5 hcw 5 640 2 rfl (by omega) (by omega) (by decide)) (ld_w cw arg7 harg7 x5 hcw 5 640 3 rfl (by omega) (by omega) (by decide)) x r q (h0.trans (Nat.zero_add _).symm) h1 1 rfl (by omega)
    exact t
  case piece7 =>
    have t := tileK Y cw G B o 4 _ (ld_padc Y arg15.view _ o (pad c arg4 harg4 x2 Y o hx2 hz) 4 512 rfl (by omega) (by decide)) _ _ _ _ (ld_w cw arg7 harg7 x5 hcw 4 512 0 rfl (by omega) (by omega) (by decide)) (ld_w cw arg7 harg7 x5 hcw 4 512 1 rfl (by omega) (by omega) (by decide)) (ld_w cw arg7 harg7 x5 hcw 4 512 2 rfl (by omega) (by omega) (by decide)) (ld_w cw arg7 harg7 x5 hcw 4 512 3 rfl (by omega) (by omega) (by decide)) x r q (h0.trans (Nat.zero_add _).symm) h1 0 rfl (by omega)
    exact t
  case piece8 =>
    have t := tileQ Y cw G B o 3 _ (ld_padc Y arg15.view _ o (pad c arg4 harg4 x2 Y o hx2 hz) 3 384 rfl (by omega) (by decide)) _ _ _ _ (ld_w cw arg7 harg7 x5 hcw 3 384 0 rfl (by omega) (by omega) (by decide)) (ld_w cw arg7 harg7 x5 hcw 3 384 1 rfl (by omega) (by omega) (by decide)) (ld_w cw arg7 harg7 x5 hcw 3 384 2 rfl (by omega) (by omega) (by decide)) (ld_w cw arg7 harg7 x5 hcw 3 384 3 rfl (by omega) (by omega) (by decide)) x r q (h0.trans (Nat.zero_add _).symm) h1 (by omega)
    exact t
  case piece9 =>
    have t := tileQ Y cw G B o 2 _ (ld_padc Y arg15.view _ o (pad c arg4 harg4 x2 Y o hx2 hz) 2 256 rfl (by omega) (by decide)) _ _ _ _ (ld_w cw arg7 harg7 x5 hcw 2 256 0 rfl (by omega) (by omega) (by decide)) (ld_w cw arg7 harg7 x5 hcw 2 256 1 rfl (by omega) (by omega) (by decide)) (ld_w cw arg7 harg7 x5 hcw 2 256 2 rfl (by omega) (by omega) (by decide)) (ld_w cw arg7 harg7 x5 hcw 2 256 3 rfl (by omega) (by omega) (by decide)) x r q (h0.trans (Nat.zero_add _).symm) h1 (by omega)
    exact t
  case piece10 =>
    have t := tileQ Y cw G B o 1 _ (ld_padc Y arg15.view _ o (pad c arg4 harg4 x2 Y o hx2 hz) 1 128 rfl (by omega) (by decide)) _ _ _ _ (ld_w cw arg7 harg7 x5 hcw 1 128 0 rfl (by omega) (by omega) (by decide)) (ld_w cw arg7 harg7 x5 hcw 1 128 1 rfl (by omega) (by omega) (by decide)) (ld_w cw arg7 harg7 x5 hcw 1 128 2 rfl (by omega) (by omega) (by decide)) (ld_w cw arg7 harg7 x5 hcw 1 128 3 rfl (by omega) (by omega) (by decide)) x r q (h0.trans (Nat.zero_add _).symm) h1 (by omega)
    exact t
  case piece11 =>
    have t := tileQ Y cw G B o 0 _ (ld_padc Y arg15.view _ o (pad c arg4 harg4 x2 Y o hx2 hz) 0 0 rfl (by omega) (by decide)) _ _ _ _ (ld_w cw arg7 harg7 x5 hcw 0 0 0 rfl (by omega) (by omega) (by decide)) (ld_w cw arg7 harg7 x5 hcw 0 0 1 rfl (by omega) (by omega) (by decide)) (ld_w cw arg7 harg7 x5 hcw 0 0 2 rfl (by omega) (by omega) (by decide)) (ld_w cw arg7 harg7 x5 hcw 0 0 3 rfl (by omega) (by omega) (by decide)) x r q (h0.trans (Nat.zero_add _).symm) (h1.trans (Nat.zero_add _).symm) (by omega)
    exact t

end Dn.A
-- ==== Proof.DnAS.lean ====
/-
  What a point of the delta-rule kernel's grid leaves behind, case A: the state, the rows kept for the convolution and the output.
-/
module

public import proofs.«01_k».proof.Proof.DnAY
public import proofs.«01_k».proof.Proof.DnAC
public import proofs.«01_k».proof.Proof.DnOut

@[expose] public section

set_option maxRecDepth 16384

noncomputable section

open Idealize.ShloMosaic Idealize.ShloMosaic.TcCoe Idealize.SL.Sem

namespace Dn.A

open Cert.KernelIdeal Cert.KernelIdeal.Gen

variable (c : Dev nD) (i : grid0.Coords) (arg2 : Memref sig .tc .smem S4 .f32) (harg2 : arg2.IsWhole) (arg3 : Memref sig .tc .smem S4 .f32) (harg3 : arg3.IsWhole) (arg4 : Memref sig .tc .vmem S1x256x1536 .f32) (harg4 : arg4.IsWhole) (arg5 : Memref sig .tc .vmem S1x256x512 .f32) (harg5 : arg5.IsWhole) (arg6 : Memref sig .tc .vmem S1x256x128 .f32) (harg6 : arg6.IsWhole) (arg7 : Memref sig .tc .vmem S4x1536 .f32) (harg7 : arg7.IsWhole) (arg8 : Memref sig .tc .vmem S1x128 .f32) (harg8 : arg8.IsWhole) (arg9 : Memref sig .tc .vmem S1x256x1024 .f32) (harg9 : arg9.IsWhole) (arg10 : Memref sig .tc .vmem S1x256x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x256x1024 .f32) (harg13 : arg13.IsWhole) (arg14 : Memref sig .tc .vmem S4x128x128 .f32) (harg14 : arg14.IsWhole) (arg15 : Memref sig .tc .vmem S264x1536 .f32) (harg15 : arg15.IsWhole) (arg16 : Memref sig .tc .vmem S256x1536 .f32) (harg16 : arg16.IsWhole) (arg17 : Memref sig .tc .vmem S256x1024 .f32) (harg17 : arg17.IsWhole) (arg18 : Memref sig .tc .vmem S256x512 .bf16) (harg18 : arg18.IsWhole) (hc0 : cond0_0 i)
  (x0 : Vec Ideal S4 .f32) (x1 : Vec Ideal S4 .f32) (x2 : Vec Ideal S1x256x1536 .f32) (x3 : Vec Ideal S1x256x512 .f32) (x4 : Vec Ideal S1x256x128 .f32) (x5 : Vec Ideal S4x1536 .f32) (x6 : Vec Ideal S1x128 .f32) (x7 : Vec Ideal S1x256x1024 .f32) (x8 : Vec Ideal S1x256x512 .bf16) (x9 : Vec Ideal S512x1024 .bf16) (x10 : Vec Ideal S512x1024 .bf16)
variable (Y cw : ℕ → ℕ → ℝ) (G B : Fin 4 → ℕ → ℝ) (o : ℕ) (al dl : Fin 4 → ℝ) (gt : Fin 256 → Fin 128 → ℝ)
  (hB : ∀ (h : Fin 4) (i : Fin 256), B h (o + i.val) = sigR (gt i (lnB h)))
  (hG : ∀ (h : Fin 4) (i : Fin 256), G h (o + i.val) = -Real.exp (al h) * spR (gt i (lnG h) + dl h))
  (hx0 : ∀ h, x0 (ix1 h) = ((al h : ℝ) : EReal)) (hx1 : ∀ h, x1 (ix1 h) = ((dl h : ℝ) : EReal))
  (hx4 : ∀ i l, x4 (ix3 0 i l) = ((gt i l : ℝ) : EReal))
  (hx2 : ∀ (i : Fin 256) (j : Fin 1536), x2 (ix3 0 i j) = ((Y (o + (8 + i.val)) j.val : ℝ) : EReal))
  (hcw : ∀ (w : Fin 4) (j : Fin 1536), x5 (ix2 w j) = ((cw w.val j.val : ℝ) : EReal))

include hB hG hx0 hx1 hx4 in
theorem rep (r : Fin 256) (q : Fin 1024) : View.canon (kernelRun0_A.sl.HS3_1 (F := Ideal) c arg2 harg2 arg3 harg3 arg6 harg6 x0 x1 x4) (ix2 r q) = ((repOf (mkT Y cw G B o) r q : ℝ) : EReal) := by
  unfold kernelRun0_A.sl.HS3_1
  have t := gates_at Y cw G B o al dl gt hB hG (kernelRun0_A.sl.r_16 (F := Ideal) c arg2 harg2 x0) (kernelRun0_A.sl.r_18 (F := Ideal) c arg2 harg2 x0) (kernelRun0_A.sl.r_20 (F := Ideal) c arg2 harg2 x0) (kernelRun0_A.sl.r_22 (F := Ideal) c arg2 harg2 x0) (kernelRun0_A.sl.r_17 (F := Ideal) c arg3 harg3 x1) (kernelRun0_A.sl.r_19 (F := Ideal) c arg3 harg3 x1) (kernelRun0_A.sl.r_21 (F := Ideal) c arg3 harg3 x1) (kernelRun0_A.sl.r_23 (F := Ideal) c arg3 harg3 x1)
    (ld_s arg2 harg2 x0 al hx0 0 (by omega) _ _) (ld_s arg2 harg2 x0 al hx0 1 (by omega) _ _) (ld_s arg2 harg2 x0 al hx0 2 (by omega) _ _) (ld_s arg2 harg2 x0 al hx0 3 (by omega) _ _) (ld_s arg3 harg3 x1 dl hx1 0 (by omega) _ _) (ld_s arg3 harg3 x1 dl hx1 1 (by omega) _ _) (ld_s arg3 harg3 x1 dl hx1 2 (by omega) _ _) (ld_s arg3 harg3 x1 dl hx1 3 (by omega) _ _)
    (View.readAt (Elt Ideal) arg6.view (Rect.unit (s := S1x256x128) ![0, 0, 0] (S1x256x128).size (by decide)).toLoadRect (harg6.unread x4)) (pay38_at arg6 harg6 x4 gt hx4 (by decide)) (kernelRun0_A.sl.r_27 (F := Ideal) c arg2 harg2 arg3 harg3 arg6 harg6 x0 x1 x4) rfl [] (by decide) (by decide) r q
  exact t

variable (hz : ∀ (n j : ℕ), n < 8 → Y (o + n) j = 0)

set_option maxHeartbeats 4000000 in
include hB hG hx0 hx1 hx4 hx2 hcw hz  in
theorem state : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 = stA (fun h => (mkT Y cw G B o).R (fun _ _ _ => 0) h 256) := by
  unfold sout0_A_0
  refine (View.read_writes_junk_eq_canon VS0_0 _).trans ?_
  rw [ck3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 (mkT Y cw G B o) (fun _ _ _ => 0) (act c arg4 harg4 arg7 harg7 arg15 x2 x5 Y cw G B o hx2 hcw hz) (rep c arg2 harg2 arg3 harg3 arg6 harg6 x0 x1 x4 Y cw G B o al dl gt hB hG hx0 hx1 hx4) (fun _ _ _ => rfl)]
  funext y
  obtain ⟨h, d, e, rfl⟩ : ∃ (h : Fin 4) (d e : Fin 128), y = ix3 h d e := ⟨y 0, y 1, y 2, eq_ix3 y⟩
  exact st_canon _ (fun h => (mkT Y cw G B o).R (fun _ _ _ => 0) h 256) h d e

include hx2 in
theorem kept (p : Fin 264) (hi : p.val < 8) (j : Fin 1536) : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 (ix2 p j) = ((Y (o + 256 + p.val) j.val : ℝ) : EReal) := by
  unfold sout0_A_1
  exact pad_new Y o arg4 harg4 x2 hx2 VS0_1 VS0_1.junk (kernelRun0_A.sl.HS1_2 (F := Ideal) c arg4 harg4 x2) (by decide) (by decide) p hi j

set_option maxHeartbeats 4000000 in
include hB hG hx0 hx1 hx4 hx2 hcw hz  in
theorem outr (Z : Fin 256 → Fin 512 → ℝ) (hZ : x3 = (cm (c3 Z) : FVec Ideal S1x256x512 .f32)) (u : Fin 1) (r : Fin 256) (n : Fin 1024) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 (ix3 u r n)
      = outA (fun r n => x7 (ix3 0 r n)) (fun r k => x8 (ix3 0 r k)) (fun k n => x9 (ix2 k n)) (ydA (mkT Y cw G B o) (fun _ _ _ => 0) x6 Z) (fun k n => x10 (ix2 k n)) r n := by
  unfold out0_A_11
  refine (congrFun (View.read_writes_junk_eq_canon VO0_11 _) (ix3 u r n)).trans ?_
  have hy := yd c arg2 harg2 arg3 harg3 arg4 harg4 arg5 harg5 arg6 harg6 arg7 harg7 arg8 harg8 arg14 arg15 arg16 arg17 x0 x1 x2 x3 x4 x5 x6 (mkT Y cw G B o) (fun _ _ _ => 0) (act c arg4 harg4 arg7 harg7 arg15 x2 x5 Y cw G B o hx2 hcw hz) (rep c arg2 harg2 arg3 harg3 arg6 harg6 x0 x1 x4 Y cw G B o al dl gt hB hG hx0 hx1 hx4) (fun _ _ _ => rfl) Z hZ
  rw [ld_mat arg8 harg8 x6 inb_S1x128_S1x128_0_0] at hy
  exact out_at arg9 harg9 x7 arg10 harg10 x8 arg11 harg11 x9 arg12 harg12 x10 arg18.view (kernelRun0_A.sl.HS4_16 (F := Ideal) c arg2 harg2 arg3 harg3 arg4 harg4 arg5 harg5 arg6 harg6 arg7 harg7 arg8 harg8 arg14 arg15 arg16 arg17 x0 x1 x2 x3 x4 x5 x6) _ hy (by decide) (by decide) (by decide) (by decide) (by decide) (by decide) u r n

end Dn.A
-- ==== Proof.DnB.lean ====
/-
  What the delta-rule kernel's body leaves at a point of the grid, case B, at arrays of reals.
-/
module

public import proofs.«01_k».proof.Proof.DnBlock

@[expose] public section

set_option maxRecDepth 16384

noncomputable section

open Idealize.ShloMosaic Idealize.ShloMosaic.TcCoe Idealize.SL.Sem

namespace Dn.B

open Cert.KernelIdeal Cert.KernelIdeal.Gen

variable (c : Dev nD) (i : grid0.Coords) (arg2 : Memref sig .tc .smem S4 .f32) (harg2 : arg2.IsWhole) (arg3 : Memref sig .tc .smem S4 .f32) (harg3 : arg3.IsWhole) (arg4 : Memref sig .tc .vmem S1x256x1536 .f32) (harg4 : arg4.IsWhole) (arg5 : Memref sig .tc .vmem S1x256x512 .f32) (harg5 : arg5.IsWhole) (arg6 : Memref sig .tc .vmem S1x256x128 .f32) (harg6 : arg6.IsWhole) (arg7 : Memref sig .tc .vmem S4x1536 .f32) (harg7 : arg7.IsWhole) (arg8 : Memref sig .tc .vmem S1x128 .f32) (harg8 : arg8.IsWhole) (arg9 : Memref sig .tc .vmem S1x256x1024 .f32) (harg9 : arg9.IsWhole) (arg10 : Memref sig .tc .vmem S1x256x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x256x1024 .f32) (harg13 : arg13.IsWhole) (arg14 : Memref sig .tc .vmem S4x128x128 .f32) (harg14 : arg14.IsWhole) (arg15 : Memref sig .tc .vmem S264x1536 .f32) (harg15 : arg15.IsWhole) (arg16 : Memref sig .tc .vmem S256x1536 .f32) (harg16 : arg16.IsWhole) (arg17 : Memref sig .tc .vmem S256x1024 .f32) (harg17 : arg17.IsWhole) (arg18 : Memref sig .tc .vmem S256x512 .bf16) (harg18 : arg18.IsWhole) (hc0 : ¬cond0_0 i)
  (x0 : Vec Ideal S4 .f32) (x1 : Vec Ideal S4 .f32) (x2 : Vec Ideal S1x256x1536 .f32) (x3 : Vec Ideal S1x256x512 .f32) (x4 : Vec Ideal S1x256x128 .f32) (x5 : Vec Ideal S4x1536 .f32) (x6 : Vec Ideal S1x128 .f32) (x7 : Vec Ideal S1x256x1024 .f32) (x8 : Vec Ideal S1x256x512 .bf16) (x9 : Vec Ideal S512x1024 .bf16) (x10 : Vec Ideal S512x1024 .bf16) (xs0 : Vec Ideal S4x128x128 .f32) (xs1 : Vec Ideal S264x1536 .f32)
variable (T : Toks) (S0 : Fin 4 → St)
  (hM : ∀ r q, View.canon (kernelRun0_B.sl.HS2_12 (F := Ideal) c arg4 harg4 arg7 harg7 arg15 harg15 x2 x5 xs1) (ix2 r q) = ((actOf T r q : ℝ) : EReal))
  (hG : ∀ r q, View.canon (kernelRun0_B.sl.HS3_1 (F := Ideal) c arg2 harg2 arg3 harg3 arg6 harg6 x0 x1 x4) (ix2 r q) = ((repOf T r q : ℝ) : EReal))

include hM in
theorem q0 : (kernelRun0_B.sl.r_33 (F := Ideal) c arg4 harg4 arg7 harg7 arg15 harg15 arg16 x2 x5 xs1) = cm (c2 (stkQ T 0)) :=
  stk _ _ _ _ (fun h i => T.q h (0 + i.val)) (ld_q T _ _ hM 0 0 0 rfl _) (ld_q T _ _ hM 1 0 128 rfl _) (ld_q T _ _ hM 2 0 256 rfl _) (ld_q T _ _ hM 3 0 384 rfl _)

include hM in
theorem k0 : (kernelRun0_B.sl.v741 (F := Ideal) c arg4 harg4 arg7 harg7 arg15 harg15 arg16 x2 x5 xs1) = cm (c2 (stkK T 0)) :=
  stk _ _ _ _ (fun h i => T.k h (0 + i.val)) (ld_k T _ _ hM 0 0 512 rfl _) (ld_k T _ _ hM 1 0 640 rfl _) (ld_k T _ _ hM 2 0 768 rfl _) (ld_k T _ _ hM 3 0 896 rfl _)

include hM in
theorem v0 : (kernelRun0_B.sl.v761 (F := Ideal) c arg4 harg4 arg7 harg7 arg15 harg15 arg16 x2 x5 xs1) = cm (c2 (stkV T 0)) :=
  stk _ _ _ _ (fun h i => T.v h (0 + i.val)) (ld_v T _ _ hM 0 0 1024 rfl _) (ld_v T _ _ hM 1 0 1152 rfl _) (ld_v T _ _ hM 2 0 1280 rfl _) (ld_v T _ _ hM 3 0 1408 rfl _)

include hG in
theorem b0 : (kernelRun0_B.sl.v781 (F := Ideal) c arg2 harg2 arg3 harg3 arg6 harg6 arg17 x0 x1 x4) = cm (c2 fun i _ => stkB T 0 i) :=
  stk _ _ _ _ (fun h i _ => T.b h (0 + i.val)) (ld_b T _ _ hG 0 0 0 rfl _) (ld_b T _ _ hG 1 0 128 rfl _) (ld_b T _ _ hG 2 0 256 rfl _) (ld_b T _ _ hG 3 0 384 rfl _)

include hG in
theorem g0 : (kernelRun0_B.sl.v801 (F := Ideal) c arg2 harg2 arg3 harg3 arg6 harg6 arg17 x0 x1 x4) = cm (c2 fun i _ => stkG T 0 i) :=
  stk _ _ _ _ (fun h i _ => cum (fun n => T.g h (0 + n)) (i.val + 1)) (ld_g T _ _ hG 0 0 512 (by decide) rfl _) (ld_g T _ _ hG 1 0 640 (by decide) rfl _) (ld_g T _ _ hG 2 0 768 (by decide) rfl _) (ld_g T _ _ hG 3 0 896 (by decide) rfl _)

include hM in
theorem q1 : (kernelRun0_B.sl.r_34 (F := Ideal) c arg4 harg4 arg7 harg7 arg15 harg15 arg16 x2 x5 xs1) = cm (c2 (stkQ T 64)) :=
  stk _ _ _ _ (fun h i => T.q h (64 + i.val)) (ld_q T _ _ hM 0 64 0 rfl _) (ld_q T _ _ hM 1 64 128 rfl _) (ld_q T _ _ hM 2 64 256 rfl _) (ld_q T _ _ hM 3 64 384 rfl _)

include hM in
theorem k1 : (kernelRun0_B.sl.v746 (F := Ideal) c arg4 harg4 arg7 harg7 arg15 harg15 arg16 x2 x5 xs1) = cm (c2 (stkK T 64)) :=
  stk _ _ _ _ (fun h i => T.k h (64 + i.val)) (ld_k T _ _ hM 0 64 512 rfl _) (ld_k T _ _ hM 1 64 640 rfl _) (ld_k T _ _ hM 2 64 768 rfl _) (ld_k T _ _ hM 3 64 896 rfl _)

include hM in
theorem v1 : (kernelRun0_B.sl.v766 (F := Ideal) c arg4 harg4 arg7 harg7 arg15 harg15 arg16 x2 x5 xs1) = cm (c2 (stkV T 64)) :=
  stk _ _ _ _ (fun h i => T.v h (64 + i.val)) (ld_v T _ _ hM 0 64 1024 rfl _) (ld_v T _ _ hM 1 64 1152 rfl _) (ld_v T _ _ hM 2 64 1280 rfl _) (ld_v T _ _ hM 3 64 1408 rfl _)

include hG in
theorem b1 : (kernelRun0_B.sl.v786 (F := Ideal) c arg2 harg2 arg3 harg3 arg6 harg6 arg17 x0 x1 x4) = cm (c2 fun i _ => stkB T 64 i) :=
  stk _ _ _ _ (fun h i _ => T.b h (64 + i.val)) (ld_b T _ _ hG 0 64 0 rfl _) (ld_b T _ _ hG 1 64 128 rfl _) (ld_b T _ _ hG 2 64 256 rfl _) (ld_b T _ _ hG 3 64 384 rfl _)

include hG in
theorem g1 : (kernelRun0_B.sl.r_36 (F := Ideal) c arg2 harg2 arg3 harg3 arg6 harg6 arg17 x0 x1 x4) = cm (c2 fun i _ => stkG T 64 i) :=
  stk _ _ _ _ (fun h i _ => cum (fun n => T.g h (64 + n)) (i.val + 1)) (ld_g T _ _ hG 0 64 512 (by decide) rfl _) (ld_g T _ _ hG 1 64 640 (by decide) rfl _) (ld_g T _ _ hG 2 64 768 (by decide) rfl _) (ld_g T _ _ hG 3 64 896 (by decide) rfl _)

include hM in
theorem q2 : (kernelRun0_B.sl.r_35 (F := Ideal) c arg4 harg4 arg7 harg7 arg15 harg15 arg16 x2 x5 xs1) = cm (c2 (stkQ T 128)) :=
  stk _ _ _ _ (fun h i => T.q h (128 + i.val)) (ld_q T _ _ hM 0 128 0 rfl _) (ld_q T _ _ hM 1 128 128 rfl _) (ld_q T _ _ hM 2 128 256 rfl _) (ld_q T _ _ hM 3 128 384 rfl _)

include hM in
theorem k2 : (kernelRun0_B.sl.v751 (F := Ideal) c arg4 harg4 arg7 harg7 arg15 harg15 arg16 x2 x5 xs1) = cm (c2 (stkK T 128)) :=
  stk _ _ _ _ (fun h i => T.k h (128 + i.val)) (ld_k T _ _ hM 0 128 512 rfl _) (ld_k T _ _ hM 1 128 640 rfl _) (ld_k T _ _ hM 2 128 768 rfl _) (ld_k T _ _ hM 3 128 896 rfl _)

include hM in
theorem v2 : (kernelRun0_B.sl.v771 (F := Ideal) c arg4 harg4 arg7 harg7 arg15 harg15 arg16 x2 x5 xs1) = cm (c2 (stkV T 128)) :=
  stk _ _ _ _ (fun h i => T.v h (128 + i.val)) (ld_v T _ _ hM 0 128 1024 rfl _) (ld_v T _ _ hM 1 128 1152 rfl _) (ld_v T _ _ hM 2 128 1280 rfl _) (ld_v T _ _ hM 3 128 1408 rfl _)

include hG in
theorem b2 : (kernelRun0_B.sl.v791 (F := Ideal) c arg2 harg2 arg3 harg3 arg6 harg6 arg17 x0 x1 x4) = cm (c2 fun i _ => stkB T 128 i) :=
  stk _ _ _ _ (fun h i _ => T.b h (128 + i.val)) (ld_b T _ _ hG 0 128 0 rfl _) (ld_b T _ _ hG 1 128 128 rfl _) (ld_b T _ _ hG 2 128 256 rfl _) (ld_b T _ _ hG 3 128 384 rfl _)

include hG in
theorem g2 : (kernelRun0_B.sl.r_37 (F := Ideal) c arg2 harg2 arg3 harg3 arg6 harg6 arg17 x0 x1 x4) = cm (c2 fun i _ => stkG T 128 i) :=
  stk _ _ _ _ (fun h i _ => cum (fun n => T.g h (128 + n)) (i.val + 1)) (ld_g T _ _ hG 0 128 512 (by decide) rfl _) (ld_g T _ _ hG 1 128 640 (by decide) rfl _) (ld_g T _ _ hG 2 128 768 (by decide) rfl _) (ld_g T _ _ hG 3 128 896 (by decide) rfl _)

include hM in
theorem q3 : (kernelRun0_B.sl.v736 (F := Ideal) c arg4 harg4 arg7 harg7 arg15 harg15 arg16 x2 x5 xs1) = cm (c2 (stkQ T 192)) :=
  stk _ _ _ _ (fun h i => T.q h (192 + i.val)) (ld_q T _ _ hM 0 192 0 rfl _) (ld_q T _ _ hM 1 192 128 rfl _) (ld_q T _ _ hM 2 192 256 rfl _) (ld_q T _ _ hM 3 192 384 rfl _)

include hM in
theorem k3 : (kernelRun0_B.sl.v756 (F := Ideal) c arg4 harg4 arg7 harg7 arg15 harg15 arg16 x2 x5 xs1) = cm (c2 (stkK T 192)) :=
  stk _ _ _ _ (fun h i => T.k h (192 + i.val)) (ld_k T _ _ hM 0 192 512 rfl _) (ld_k T _ _ hM 1 192 640 rfl _) (ld_k T _ _ hM 2 192 768 rfl _) (ld_k T _ _ hM 3 192 896 rfl _)

include hM in
theorem v3 : (kernelRun0_B.sl.v776 (F := Ideal) c arg4 harg4 arg7 harg7 arg15 harg15 arg16 x2 x5 xs1) = cm (c2 (stkV T 192)) :=
  stk _ _ _ _ (fun h i => T.v h (192 + i.val)) (ld_v T _ _ hM 0 192 1024 rfl _) (ld_v T _ _ hM 1 192 1152 rfl _) (ld_v T _ _ hM 2 192 1280 rfl _) (ld_v T _ _ hM 3 192 1408 rfl _)

include hG in
theorem b3 : (kernelRun0_B.sl.v796 (F := Ideal) c arg2 harg2 arg3 harg3 arg6 harg6 arg17 x0 x1 x4) = cm (c2 fun i _ => stkB T 192 i) :=
  stk _ _ _ _ (fun h i _ => T.b h (192 + i.val)) (ld_b T _ _ hG 0 192 0 rfl _) (ld_b T _ _ hG 1 192 128 rfl _) (ld_b T _ _ hG 2 192 256 rfl _) (ld_b T _ _ hG 3 192 384 rfl _)

include hG in
theorem g3 : (kernelRun0_B.sl.r_38 (F := Ideal) c arg2 harg2 arg3 harg3 arg6 harg6 arg17 x0 x1 x4) = cm (c2 fun i _ => stkG T 192 i) :=
  stk _ _ _ _ (fun h i _ => cum (fun n => T.g h (192 + n)) (i.val + 1)) (ld_g T _ _ hG 0 192 512 (by decide) rfl _) (ld_g T _ _ hG 1 192 640 (by decide) rfl _) (ld_g T _ _ hG 2 192 768 (by decide) rfl _) (ld_g T _ _ hG 3 192 896 (by decide) rfl _)

variable (hS : xs0 = stA S0)

include hM hG hS in
theorem ck0 :
    (kernelRun0_B.sl.HS0_4 (F := Ideal) c arg2 harg2 arg3 harg3 arg4 harg4 arg6 harg6 arg7 harg7 arg14 harg14 arg15 harg15 arg16 arg17 x0 x1 x2 x4 x5 xs0 xs1) = stL (sc (T.R S0 0 64)) (sc (T.R S0 1 64)) (sc (T.R S0 2 64)) (sc (T.R S0 3 64)) [] := by
  subst hS
  have a := chunk_stage T S0 0 (kernelRun0_B.sl.r_33 (F := Ideal) c arg4 harg4 arg7 harg7 arg15 harg15 arg16 x2 x5 xs1) (kernelRun0_B.sl.v741 (F := Ideal) c arg4 harg4 arg7 harg7 arg15 harg15 arg16 x2 x5 xs1) (kernelRun0_B.sl.v761 (F := Ideal) c arg4 harg4 arg7 harg7 arg15 harg15 arg16 x2 x5 xs1) (kernelRun0_B.sl.v781 (F := Ideal) c arg2 harg2 arg3 harg3 arg6 harg6 arg17 x0 x1 x4) (kernelRun0_B.sl.v801 (F := Ideal) c arg2 harg2 arg3 harg3 arg6 harg6 arg17 x0 x1 x4)
    (View.readAt (Elt Ideal) arg14.view (stR 0 (by omega)).toLoadRect (harg14.unread (stA S0))) (View.readAt (Elt Ideal) arg14.view (stR 1 (by omega)).toLoadRect (harg14.unread (stA S0))) (View.readAt (Elt Ideal) arg14.view (stR 2 (by omega)).toLoadRect (harg14.unread (stA S0))) (View.readAt (Elt Ideal) arg14.view (stR 3 (by omega)).toLoadRect (harg14.unread (stA S0)))
    (q0 c arg4 harg4 arg7 harg7 arg15 harg15 arg16 x2 x5 xs1 T hM) (k0 c arg4 harg4 arg7 harg7 arg15 harg15 arg16 x2 x5 xs1 T hM) (v0 c arg4 harg4 arg7 harg7 arg15 harg15 arg16 x2 x5 xs1 T hM) (b0 c arg2 harg2 arg3 harg3 arg6 harg6 arg17 x0 x1 x4 T hG) (g0 c arg2 harg2 arg3 harg3 arg6 harg6 arg17 x0 x1 x4 T hG)
    (ld_st arg14 harg14 S0 0 (by omega)) (ld_st arg14 harg14 S0 1 (by omega)) (ld_st arg14 harg14 S0 2 (by omega)) (ld_st arg14 harg14 S0 3 (by omega))
  obtain ⟨n0, n1, n2, n3, on⟩ := a
  refine Eq.trans ?_ (stL_congr n0 n1 n2 n3)
  rfl

include hM hG hS in
theorem co0 :
    sON (sAI (kernelRun0_B.sl.r_33 (F := Ideal) c arg4 harg4 arg7 harg7 arg15 harg15 arg16 x2 x5 xs1) (kernelRun0_B.sl.v741 (F := Ideal) c arg4 harg4 arg7 harg7 arg15 harg15 arg16 x2 x5 xs1) (kernelRun0_B.sl.v801 (F := Ideal) c arg2 harg2 arg3 harg3 arg6 harg6 arg17 x0 x1 x4)) (sUW (kernelRun0_B.sl.v741 (F := Ideal) c arg4 harg4 arg7 harg7 arg15 harg15 arg16 x2 x5 xs1) (kernelRun0_B.sl.v761 (F := Ideal) c arg4 harg4 arg7 harg7 arg15 harg15 arg16 x2 x5 xs1) (kernelRun0_B.sl.v781 (F := Ideal) c arg2 harg2 arg3 harg3 arg6 harg6 arg17 x0 x1 x4) (kernelRun0_B.sl.v801 (F := Ideal) c arg2 harg2 arg3 harg3 arg6 harg6 arg17 x0 x1 x4)) (sQD (kernelRun0_B.sl.r_33 (F := Ideal) c arg4 harg4 arg7 harg7 arg15 harg15 arg16 x2 x5 xs1) (kernelRun0_B.sl.v801 (F := Ideal) c arg2 harg2 arg3 harg3 arg6 harg6 arg17 x0 x1 x4)) (View.readAt (Elt Ideal) arg14.view (stR 0 (by omega)).toLoadRect (harg14.unread (stA S0))) (View.readAt (Elt Ideal) arg14.view (stR 1 (by omega)).toLoadRect (harg14.unread (stA S0))) (View.readAt (Elt Ideal) arg14.view (stR 2 (by omega)).toLoadRect (harg14.unread (stA S0))) (View.readAt (Elt Ideal) arg14.view (stR 3 (by omega)).toLoadRect (harg14.unread (stA S0))) = cm (c2 (stkN T S0 0)) := by
  subst hS
  have a := chunk_stage T S0 0 (kernelRun0_B.sl.r_33 (F := Ideal) c arg4 harg4 arg7 harg7 arg15 harg15 arg16 x2 x5 xs1) (kernelRun0_B.sl.v741 (F := Ideal) c arg4 harg4 arg7 harg7 arg15 harg15 arg16 x2 x5 xs1) (kernelRun0_B.sl.v761 (F := Ideal) c arg4 harg4 arg7 harg7 arg15 harg15 arg16 x2 x5 xs1) (kernelRun0_B.sl.v781 (F := Ideal) c arg2 harg2 arg3 harg3 arg6 harg6 arg17 x0 x1 x4) (kernelRun0_B.sl.v801 (F := Ideal) c arg2 harg2 arg3 harg3 arg6 harg6 arg17 x0 x1 x4)
    (View.readAt (Elt Ideal) arg14.view (stR 0 (by omega)).toLoadRect (harg14.unread (stA S0))) (View.readAt (Elt Ideal) arg14.view (stR 1 (by omega)).toLoadRect (harg14.unread (stA S0))) (View.readAt (Elt Ideal) arg14.view (stR 2 (by omega)).toLoadRect (harg14.unread (stA S0))) (View.readAt (Elt Ideal) arg14.view (stR 3 (by omega)).toLoadRect (harg14.unread (stA S0)))
    (q0 c arg4 harg4 arg7 harg7 arg15 harg15 arg16 x2 x5 xs1 T hM) (k0 c arg4 harg4 arg7 harg7 arg15 harg15 arg16 x2 x5 xs1 T hM) (v0 c arg4 harg4 arg7 harg7 arg15 harg15 arg16 x2 x5 xs1 T hM) (b0 c arg2 harg2 arg3 harg3 arg6 harg6 arg17 x0 x1 x4 T hG) (g0 c arg2 harg2 arg3 harg3 arg6 harg6 arg17 x0 x1 x4 T hG)
    (ld_st arg14 harg14 S0 0 (by omega)) (ld_st arg14 harg14 S0 1 (by omega)) (ld_st arg14 harg14 S0 2 (by omega)) (ld_st arg14 harg14 S0 3 (by omega))
  obtain ⟨n0, n1, n2, n3, on⟩ := a
  exact on

include hM hG hS in
theorem ck1 :
    (kernelRun0_B.sl.HS0_8 (F := Ideal) c arg2 harg2 arg3 harg3 arg4 harg4 arg6 harg6 arg7 harg7 arg14 harg14 arg15 harg15 arg16 arg17 x0 x1 x2 x4 x5 xs0 xs1) = stL (sc (T.R S0 0 128)) (sc (T.R S0 1 128)) (sc (T.R S0 2 128)) (sc (T.R S0 3 128)) (kernelRun0_B.sl.HS0_4 (F := Ideal) c arg2 harg2 arg3 harg3 arg4 harg4 arg6 harg6 arg7 harg7 arg14 harg14 arg15 harg15 arg16 arg17 x0 x1 x2 x4 x5 xs0 xs1) := by
  skip
  have a := chunk_stage T S0 64 (kernelRun0_B.sl.r_34 (F := Ideal) c arg4 harg4 arg7 harg7 arg15 harg15 arg16 x2 x5 xs1) (kernelRun0_B.sl.v746 (F := Ideal) c arg4 harg4 arg7 harg7 arg15 harg15 arg16 x2 x5 xs1) (kernelRun0_B.sl.v766 (F := Ideal) c arg4 harg4 arg7 harg7 arg15 harg15 arg16 x2 x5 xs1) (kernelRun0_B.sl.v786 (F := Ideal) c arg2 harg2 arg3 harg3 arg6 harg6 arg17 x0 x1 x4) (kernelRun0_B.sl.r_36 (F := Ideal) c arg2 harg2 arg3 harg3 arg6 harg6 arg17 x0 x1 x4)
    (kernelRun0_B.sl.v1415 (F := Ideal) c arg2 harg2 arg3 harg3 arg4 harg4 arg6 harg6 arg7 harg7 arg14 harg14 arg15 harg15 arg16 arg17 x0 x1 x2 x4 x5 xs0 xs1) (kernelRun0_B.sl.v1417 (F := Ideal) c arg2 harg2 arg3 harg3 arg4 harg4 arg6 harg6 arg7 harg7 arg14 harg14 arg15 harg15 arg16 arg17 x0 x1 x2 x4 x5 xs0 xs1) (kernelRun0_B.sl.v1419 (F := Ideal) c arg2 harg2 arg3 harg3 arg4 harg4 arg6 harg6 arg7 harg7 arg14 harg14 arg15 harg15 arg16 arg17 x0 x1 x2 x4 x5 xs0 xs1) (kernelRun0_B.sl.v1421 (F := Ideal) c arg2 harg2 arg3 harg3 arg4 harg4 arg6 harg6 arg7 harg7 arg14 harg14 arg15 harg15 arg16 arg17 x0 x1 x2 x4 x5 xs0 xs1)
    (q1 c arg4 harg4 arg7 harg7 arg15 harg15 arg16 x2 x5 xs1 T hM) (k1 c arg4 harg4 arg7 harg7 arg15 harg15 arg16 x2 x5 xs1 T hM) (v1 c arg4 harg4 arg7 harg7 arg15 harg15 arg16 x2 x5 xs1 T hM) (b1 c arg2 harg2 arg3 harg3 arg6 harg6 arg17 x0 x1 x4 T hG) (g1 c arg2 harg2 arg3 harg3 arg6 harg6 arg17 x0 x1 x4 T hG)
    (by
      refine Eq.trans (congrArg (fun L => View.readCov arg14.view L (stR 0 (by omega)).toLoadRect) (ck0 c arg2 harg2 arg3 harg3 arg4 harg4 arg6 harg6 arg7 harg7 arg14 harg14 arg15 harg15 arg16 arg17 x0 x1 x2 x4 x5 xs0 xs1 T S0 hM hG hS)) ?_
      exact st_read0 arg14.view _ _ _ _ _) (by
      refine Eq.trans (congrArg (fun L => View.readCov arg14.view L (stR 1 (by omega)).toLoadRect) (ck0 c arg2 harg2 arg3 harg3 arg4 harg4 arg6 harg6 arg7 harg7 arg14 harg14 arg15 harg15 arg16 arg17 x0 x1 x2 x4 x5 xs0 xs1 T S0 hM hG hS)) ?_
      exact st_read1 arg14.view _ _ _ _ _) (by
      refine Eq.trans (congrArg (fun L => View.readCov arg14.view L (stR 2 (by omega)).toLoadRect) (ck0 c arg2 harg2 arg3 harg3 arg4 harg4 arg6 harg6 arg7 harg7 arg14 harg14 arg15 harg15 arg16 arg17 x0 x1 x2 x4 x5 xs0 xs1 T S0 hM hG hS)) ?_
      exact st_read2 arg14.view _ _ _ _ _) (by
      refine Eq.trans (congrArg (fun L => View.readCov arg14.view L (stR 3 (by omega)).toLoadRect) (ck0 c arg2 harg2 arg3 harg3 arg4 harg4 arg6 harg6 arg7 harg7 arg14 harg14 arg15 harg15 arg16 arg17 x0 x1 x2 x4 x5 xs0 xs1 T S0 hM hG hS)) ?_
      exact st_read3 arg14.view _ _ _ _ _)
  obtain ⟨n0, n1, n2, n3, on⟩ := a
  refine Eq.trans ?_ (stL_congr n0 n1 n2 n3)
  rfl

include hM hG hS in
theorem co1 :
    sON (sAI (kernelRun0_B.sl.r_34 (F := Ideal) c arg4 harg4 arg7 harg7 arg15 harg15 arg16 x2 x5 xs1) (kernelRun0_B.sl.v746 (F := Ideal) c arg4 harg4 arg7 harg7 arg15 harg15 arg16 x2 x5 xs1) (kernelRun0_B.sl.r_36 (F := Ideal) c arg2 harg2 arg3 harg3 arg6 harg6 arg17 x0 x1 x4)) (sUW (kernelRun0_B.sl.v746 (F := Ideal) c arg4 harg4 arg7 harg7 arg15 harg15 arg16 x2 x5 xs1) (kernelRun0_B.sl.v766 (F := Ideal) c arg4 harg4 arg7 harg7 arg15 harg15 arg16 x2 x5 xs1) (kernelRun0_B.sl.v786 (F := Ideal) c arg2 harg2 arg3 harg3 arg6 harg6 arg17 x0 x1 x4) (kernelRun0_B.sl.r_36 (F := Ideal) c arg2 harg2 arg3 harg3 arg6 harg6 arg17 x0 x1 x4)) (sQD (kernelRun0_B.sl.r_34 (F := Ideal) c arg4 harg4 arg7 harg7 arg15 harg15 arg16 x2 x5 xs1) (kernelRun0_B.sl.r_36 (F := Ideal) c arg2 harg2 arg3 harg3 arg6 harg6 arg17 x0 x1 x4)) (kernelRun0_B.sl.v1415 (F := Ideal) c arg2 harg2 arg3 harg3 arg4 harg4 arg6 harg6 arg7 harg7 arg14 harg14 arg15 harg15 arg16 arg17 x0 x1 x2 x4 x5 xs0 xs1) (kernelRun0_B.sl.v1417 (F := Ideal) c arg2 harg2 arg3 harg3 arg4 harg4 arg6 harg6 arg7 harg7 arg14 harg14 arg15 harg15 arg16 arg17 x0 x1 x2 x4 x5 xs0 xs1) (kernelRun0_B.sl.v1419 (F := Ideal) c arg2 harg2 arg3 harg3 arg4 harg4 arg6 harg6 arg7 harg7 arg14 harg14 arg15 harg15 arg16 arg17 x0 x1 x2 x4 x5 xs0 xs1) (kernelRun0_B.sl.v1421 (F := Ideal) c arg2 harg2 arg3 harg3 arg4 harg4 arg6 harg6 arg7 harg7 arg14 harg14 arg15 harg15 arg16 arg17 x0 x1 x2 x4 x5 xs0 xs1) = cm (c2 (stkN T S0 64)) := by
  skip
  have a := chunk_stage T S0 64 (kernelRun0_B.sl.r_34 (F := Ideal) c arg4 harg4 arg7 harg7 arg15 harg15 arg16 x2 x5 xs1) (kernelRun0_B.sl.v746 (F := Ideal) c arg4 harg4 arg7 harg7 arg15 harg15 arg16 x2 x5 xs1) (kernelRun0_B.sl.v766 (F := Ideal) c arg4 harg4 arg7 harg7 arg15 harg15 arg16 x2 x5 xs1) (kernelRun0_B.sl.v786 (F := Ideal) c arg2 harg2 arg3 harg3 arg6 harg6 arg17 x0 x1 x4) (kernelRun0_B.sl.r_36 (F := Ideal) c arg2 harg2 arg3 harg3 arg6 harg6 arg17 x0 x1 x4)
    (kernelRun0_B.sl.v1415 (F := Ideal) c arg2 harg2 arg3 harg3 arg4 harg4 arg6 harg6 arg7 harg7 arg14 harg14 arg15 harg15 arg16 arg17 x0 x1 x2 x4 x5 xs0 xs1) (kernelRun0_B.sl.v1417 (F := Ideal) c arg2 harg2 arg3 harg3 arg4 harg4 arg6 harg6 arg7 harg7 arg14 harg14 arg15 harg15 arg16 arg17 x0 x1 x2 x4 x5 xs0 xs1) (kernelRun0_B.sl.v1419 (F := Ideal) c arg2 harg2 arg3 harg3 arg4 harg4 arg6 harg6 arg7 harg7 arg14 harg14 arg15 harg15 arg16 arg17 x0 x1 x2 x4 x5 xs0 xs1) (kernelRun0_B.sl.v1421 (F := Ideal) c arg2 harg2 arg3 harg3 arg4 harg4 arg6 harg6 arg7 harg7 arg14 harg14 arg15 harg15 arg16 arg17 x0 x1 x2 x4 x5 xs0 xs1)
    (q1 c arg4 harg4 arg7 harg7 arg15 harg15 arg16 x2 x5 xs1 T hM) (k1 c arg4 harg4 arg7 harg7 arg15 harg15 arg16 x2 x5 xs1 T hM) (v1 c arg4 harg4 arg7 harg7 arg15 harg15 arg16 x2 x5 xs1 T hM) (b1 c arg2 harg2 arg3 harg3 arg6 harg6 arg17 x0 x1 x4 T hG) (g1 c arg2 harg2 arg3 harg3 arg6 harg6 arg17 x0 x1 x4 T hG)
    (by
      refine Eq.trans (congrArg (fun L => View.readCov arg14.view L (stR 0 (by omega)).toLoadRect) (ck0 c arg2 harg2 arg3 harg3 arg4 harg4 arg6 harg6 arg7 harg7 arg14 harg14 arg15 harg15 arg16 arg17 x0 x1 x2 x4 x5 xs0 xs1 T S0 hM hG hS)) ?_
      exact st_read0 arg14.view _ _ _ _ _) (by
      refine Eq.trans (congrArg (fun L => View.readCov arg14.view L (stR 1 (by omega)).toLoadRect) (ck0 c arg2 harg2 arg3 harg3 arg4 harg4 arg6 harg6 arg7 harg7 arg14 harg14 arg15 harg15 arg16 arg17 x0 x1 x2 x4 x5 xs0 xs1 T S0 hM hG hS)) ?_
      exact st_read1 arg14.view _ _ _ _ _) (by
      refine Eq.trans (congrArg (fun L => View.readCov arg14.view L (stR 2 (by omega)).toLoadRect) (ck0 c arg2 harg2 arg3 harg3 arg4 harg4 arg6 harg6 arg7 harg7 arg14 harg14 arg15 harg15 arg16 arg17 x0 x1 x2 x4 x5 xs0 xs1 T S0 hM hG hS)) ?_
      exact st_read2 arg14.view _ _ _ _ _) (by
      refine Eq.trans (congrArg (fun L => View.readCov arg14.view L (stR 3 (by omega)).toLoadRect) (ck0 c arg2 harg2 arg3 harg3 arg4 harg4 arg6 harg6 arg7 harg7 arg14 harg14 arg15 harg15 arg16 arg17 x0 x1 x2 x4 x5 xs0 xs1 T S0 hM hG hS)) ?_
      exact st_read3 arg14.view _ _ _ _ _)
  obtain ⟨n0, n1, n2, n3, on⟩ := a
  exact on

include hM hG hS in
theorem ck2 :
    (kernelRun0_B.sl.HS0_12 (F := Ideal) c arg2 harg2 arg3 harg3 arg4 harg4 arg6 harg6 arg7 harg7 arg14 harg14 arg15 harg15 arg16 arg17 x0 x1 x2 x4 x5 xs0 xs1) = stL (sc (T.R S0 0 192)) (sc (T.R S0 1 192)) (sc (T.R S0 2 192)) (sc (T.R S0 3 192)) (kernelRun0_B.sl.HS0_8 (F := Ideal) c arg2 harg2 arg3 harg3 arg4 harg4 arg6 harg6 arg7 harg7 arg14 harg14 arg15 harg15 arg16 arg17 x0 x1 x2 x4 x5 xs0 xs1) := by
  skip
  have a := chunk_stage T S0 128 (kernelRun0_B.sl.r_35 (F := Ideal) c arg4 harg4 arg7 harg7 arg15 harg15 arg16 x2 x5 xs1) (kernelRun0_B.sl.v751 (F := Ideal) c arg4 harg4 arg7 harg7 arg15 harg15 arg16 x2 x5 xs1) (kernelRun0_B.sl.v771 (F := Ideal) c arg4 harg4 arg7 harg7 arg15 harg15 arg16 x2 x5 xs1) (kernelRun0_B.sl.v791 (F := Ideal) c arg2 harg2 arg3 harg3 arg6 harg6 arg17 x0 x1 x4) (kernelRun0_B.sl.r_37 (F := Ideal) c arg2 harg2 arg3 harg3 arg6 harg6 arg17 x0 x1 x4)
    (kernelRun0_B.sl.v1578 (F := Ideal) c arg2 harg2 arg3 harg3 arg4 harg4 arg6 harg6 arg7 harg7 arg14 harg14 arg15 harg15 arg16 arg17 x0 x1 x2 x4 x5 xs0 xs1) (kernelRun0_B.sl.v1580 (F := Ideal) c arg2 harg2 arg3 harg3 arg4 harg4 arg6 harg6 arg7 harg7 arg14 harg14 arg15 harg15 arg16 arg17 x0 x1 x2 x4 x5 xs0 xs1) (kernelRun0_B.sl.v1582 (F := Ideal) c arg2 harg2 arg3 harg3 arg4 harg4 arg6 harg6 arg7 harg7 arg14 harg14 arg15 harg15 arg16 arg17 x0 x1 x2 x4 x5 xs0 xs1) (kernelRun0_B.sl.v1584 (F := Ideal) c arg2 harg2 arg3 harg3 arg4 harg4 arg6 harg6 arg7 harg7 arg14 harg14 arg15 harg15 arg16 arg17 x0 x1 x2 x4 x5 xs0 xs1)
    (q2 c arg4 harg4 arg7 harg7 arg15 harg15 arg16 x2 x5 xs1 T hM) (k2 c arg4 harg4 arg7 harg7 arg15 harg15 arg16 x2 x5 xs1 T hM) (v2 c arg4 harg4 arg7 harg7 arg15 harg15 arg16 x2 x5 xs1 T hM) (b2 c arg2 harg2 arg3 harg3 arg6 harg6 arg17 x0 x1 x4 T hG) (g2 c arg2 harg2 arg3 harg3 arg6 harg6 arg17 x0 x1 x4 T hG)
    (by
      refine Eq.trans (congrArg (fun L => View.readCov arg14.view L (stR 0 (by omega)).toLoadRect) (ck1 c arg2 harg2 arg3 harg3 arg4 harg4 arg6 harg6 arg7 harg7 arg14 harg14 arg15 harg15 arg16 arg17 x0 x1 x2 x4 x5 xs0 xs1 T S0 hM hG hS)) ?_
      exact st_read0 arg14.view _ _ _ _ _) (by
      refine Eq.trans (congrArg (fun L => View.readCov arg14.view L (stR 1 (by omega)).toLoadRect) (ck1 c arg2 harg2 arg3 harg3 arg4 harg4 arg6 harg6 arg7 harg7 arg14 harg14 arg15 harg15 arg16 arg17 x0 x1 x2 x4 x5 xs0 xs1 T S0 hM hG hS)) ?_
      exact st_read1 arg14.view _ _ _ _ _) (by
      refine Eq.trans (congrArg (fun L => View.readCov arg14.view L (stR 2 (by omega)).toLoadRect) (ck1 c arg2 harg2 arg3 harg3 arg4 harg4 arg6 harg6 arg7 harg7 arg14 harg14 arg15 harg15 arg16 arg17 x0 x1 x2 x4 x5 xs0 xs1 T S0 hM hG hS)) ?_
      exact st_read2 arg14.view _ _ _ _ _) (by
      refine Eq.trans (congrArg (fun L => View.readCov arg14.view L (stR 3 (by omega)).toLoadRect) (ck1 c arg2 harg2 arg3 harg3 arg4 harg4 arg6 harg6 arg7 harg7 arg14 harg14 arg15 harg15 arg16 arg17 x0 x1 x2 x4 x5 xs0 xs1 T S0 hM hG hS)) ?_
      exact st_read3 arg14.view _ _ _ _ _)
  obtain ⟨n0, n1, n2, n3, on⟩ := a
  refine Eq.trans ?_ (stL_congr n0 n1 n2 n3)
  rfl

include hM hG hS in
theorem co2 :
    sON (sAI (kernelRun0_B.sl.r_35 (F := Ideal) c arg4 harg4 arg7 harg7 arg15 harg15 arg16 x2 x5 xs1) (kernelRun0_B.sl.v751 (F := Ideal) c arg4 harg4 arg7 harg7 arg15 harg15 arg16 x2 x5 xs1) (kernelRun0_B.sl.r_37 (F := Ideal) c arg2 harg2 arg3 harg3 arg6 harg6 arg17 x0 x1 x4)) (sUW (kernelRun0_B.sl.v751 (F := Ideal) c arg4 harg4 arg7 harg7 arg15 harg15 arg16 x2 x5 xs1) (kernelRun0_B.sl.v771 (F := Ideal) c arg4 harg4 arg7 harg7 arg15 harg15 arg16 x2 x5 xs1) (kernelRun0_B.sl.v791 (F := Ideal) c arg2 harg2 arg3 harg3 arg6 harg6 arg17 x0 x1 x4) (kernelRun0_B.sl.r_37 (F := Ideal) c arg2 harg2 arg3 harg3 arg6 harg6 arg17 x0 x1 x4)) (sQD (kernelRun0_B.sl.r_35 (F := Ideal) c arg4 harg4 arg7 harg7 arg15 harg15 arg16 x2 x5 xs1) (kernelRun0_B.sl.r_37 (F := Ideal) c arg2 harg2 arg3 harg3 arg6 harg6 arg17 x0 x1 x4)) (kernelRun0_B.sl.v1578 (F := Ideal) c arg2 harg2 arg3 harg3 arg4 harg4 arg6 harg6 arg7 harg7 arg14 harg14 arg15 harg15 arg16 arg17 x0 x1 x2 x4 x5 xs0 xs1) (kernelRun0_B.sl.v1580 (F := Ideal) c arg2 harg2 arg3 harg3 arg4 harg4 arg6 harg6 arg7 harg7 arg14 harg14 arg15 harg15 arg16 arg17 x0 x1 x2 x4 x5 xs0 xs1) (kernelRun0_B.sl.v1582 (F := Ideal) c arg2 harg2 arg3 harg3 arg4 harg4 arg6 harg6 arg7 harg7 arg14 harg14 arg15 harg15 arg16 arg17 x0 x1 x2 x4 x5 xs0 xs1) (kernelRun0_B.sl.v1584 (F := Ideal) c arg2 harg2 arg3 harg3 arg4 harg4 arg6 harg6 arg7 harg7 arg14 harg14 arg15 harg15 arg16 arg17 x0 x1 x2 x4 x5 xs0 xs1) = cm (c2 (stkN T S0 128)) := by
  skip
  have a := chunk_stage T S0 128 (kernelRun0_B.sl.r_35 (F := Ideal) c arg4 harg4 arg7 harg7 arg15 harg15 arg16 x2 x5 xs1) (kernelRun0_B.sl.v751 (F := Ideal) c arg4 harg4 arg7 harg7 arg15 harg15 arg16 x2 x5 xs1) (kernelRun0_B.sl.v771 (F := Ideal) c arg4 harg4 arg7 harg7 arg15 harg15 arg16 x2 x5 xs1) (kernelRun0_B.sl.v791 (F := Ideal) c arg2 harg2 arg3 harg3 arg6 harg6 arg17 x0 x1 x4) (kernelRun0_B.sl.r_37 (F := Ideal) c arg2 harg2 arg3 harg3 arg6 harg6 arg17 x0 x1 x4)
    (kernelRun0_B.sl.v1578 (F := Ideal) c arg2 harg2 arg3 harg3 arg4 harg4 arg6 harg6 arg7 harg7 arg14 harg14 arg15 harg15 arg16 arg17 x0 x1 x2 x4 x5 xs0 xs1) (kernelRun0_B.sl.v1580 (F := Ideal) c arg2 harg2 arg3 harg3 arg4 harg4 arg6 harg6 arg7 harg7 arg14 harg14 arg15 harg15 arg16 arg17 x0 x1 x2 x4 x5 xs0 xs1) (kernelRun0_B.sl.v1582 (F := Ideal) c arg2 harg2 arg3 harg3 arg4 harg4 arg6 harg6 arg7 harg7 arg14 harg14 arg15 harg15 arg16 arg17 x0 x1 x2 x4 x5 xs0 xs1) (kernelRun0_B.sl.v1584 (F := Ideal) c arg2 harg2 arg3 harg3 arg4 harg4 arg6 harg6 arg7 harg7 arg14 harg14 arg15 harg15 arg16 arg17 x0 x1 x2 x4 x5 xs0 xs1)
    (q2 c arg4 harg4 arg7 harg7 arg15 harg15 arg16 x2 x5 xs1 T hM) (k2 c arg4 harg4 arg7 harg7 arg15 harg15 arg16 x2 x5 xs1 T hM) (v2 c arg4 harg4 arg7 harg7 arg15 harg15 arg16 x2 x5 xs1 T hM) (b2 c arg2 harg2 arg3 harg3 arg6 harg6 arg17 x0 x1 x4 T hG) (g2 c arg2 harg2 arg3 harg3 arg6 harg6 arg17 x0 x1 x4 T hG)
    (by
      refine Eq.trans (congrArg (fun L => View.readCov arg14.view L (stR 0 (by omega)).toLoadRect) (ck1 c arg2 harg2 arg3 harg3 arg4 harg4 arg6 harg6 arg7 harg7 arg14 harg14 arg15 harg15 arg16 arg17 x0 x1 x2 x4 x5 xs0 xs1 T S0 hM hG hS)) ?_
      exact st_read0 arg14.view _ _ _ _ _) (by
      refine Eq.trans (congrArg (fun L => View.readCov arg14.view L (stR 1 (by omega)).toLoadRect) (ck1 c arg2 harg2 arg3 harg3 arg4 harg4 arg6 harg6 arg7 harg7 arg14 harg14 arg15 harg15 arg16 arg17 x0 x1 x2 x4 x5 xs0 xs1 T S0 hM hG hS)) ?_
      exact st_read1 arg14.view _ _ _ _ _) (by
      refine Eq.trans (congrArg (fun L => View.readCov arg14.view L (stR 2 (by omega)).toLoadRect) (ck1 c arg2 harg2 arg3 harg3 arg4 harg4 arg6 harg6 arg7 harg7 arg14 harg14 arg15 harg15 arg16 arg17 x0 x1 x2 x4 x5 xs0 xs1 T S0 hM hG hS)) ?_
      exact st_read2 arg14.view _ _ _ _ _) (by
      refine Eq.trans (congrArg (fun L => View.readCov arg14.view L (stR 3 (by omega)).toLoadRect) (ck1 c arg2 harg2 arg3 harg3 arg4 harg4 arg6 harg6 arg7 harg7 arg14 harg14 arg15 harg15 arg16 arg17 x0 x1 x2 x4 x5 xs0 xs1 T S0 hM hG hS)) ?_
      exact st_read3 arg14.view _ _ _ _ _)
  obtain ⟨n0, n1, n2, n3, on⟩ := a
  exact on

include hM hG hS in
theorem ck3 :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xs0 xs1).2.1 = stL (sc (T.R S0 0 256)) (sc (T.R S0 1 256)) (sc (T.R S0 2 256)) (sc (T.R S0 3 256)) (kernelRun0_B.sl.HS0_12 (F := Ideal) c arg2 harg2 arg3 harg3 arg4 harg4 arg6 harg6 arg7 harg7 arg14 harg14 arg15 harg15 arg16 arg17 x0 x1 x2 x4 x5 xs0 xs1) := by
  skip
  have a := chunk_stage T S0 192 (kernelRun0_B.sl.v736 (F := Ideal) c arg4 harg4 arg7 harg7 arg15 harg15 arg16 x2 x5 xs1) (kernelRun0_B.sl.v756 (F := Ideal) c arg4 harg4 arg7 harg7 arg15 harg15 arg16 x2 x5 xs1) (kernelRun0_B.sl.v776 (F := Ideal) c arg4 harg4 arg7 harg7 arg15 harg15 arg16 x2 x5 xs1) (kernelRun0_B.sl.v796 (F := Ideal) c arg2 harg2 arg3 harg3 arg6 harg6 arg17 x0 x1 x4) (kernelRun0_B.sl.r_38 (F := Ideal) c arg2 harg2 arg3 harg3 arg6 harg6 arg17 x0 x1 x4)
    (kernelRun0_B.sl.v1741 (F := Ideal) c arg2 harg2 arg3 harg3 arg4 harg4 arg6 harg6 arg7 harg7 arg14 harg14 arg15 harg15 arg16 arg17 x0 x1 x2 x4 x5 xs0 xs1) (kernelRun0_B.sl.v1743 (F := Ideal) c arg2 harg2 arg3 harg3 arg4 harg4 arg6 harg6 arg7 harg7 arg14 harg14 arg15 harg15 arg16 arg17 x0 x1 x2 x4 x5 xs0 xs1) (kernelRun0_B.sl.v1745 (F := Ideal) c arg2 harg2 arg3 harg3 arg4 harg4 arg6 harg6 arg7 harg7 arg14 harg14 arg15 harg15 arg16 arg17 x0 x1 x2 x4 x5 xs0 xs1) (kernelRun0_B.sl.v1747 (F := Ideal) c arg2 harg2 arg3 harg3 arg4 harg4 arg6 harg6 arg7 harg7 arg14 harg14 arg15 harg15 arg16 arg17 x0 x1 x2 x4 x5 xs0 xs1)
    (q3 c arg4 harg4 arg7 harg7 arg15 harg15 arg16 x2 x5 xs1 T hM) (k3 c arg4 harg4 arg7 harg7 arg15 harg15 arg16 x2 x5 xs1 T hM) (v3 c arg4 harg4 arg7 harg7 arg15 harg15 arg16 x2 x5 xs1 T hM) (b3 c arg2 harg2 arg3 harg3 arg6 harg6 arg17 x0 x1 x4 T hG) (g3 c arg2 harg2 arg3 harg3 arg6 harg6 arg17 x0 x1 x4 T hG)
    (by
      refine Eq.trans (congrArg (fun L => View.readCov arg14.view L (stR 0 (by omega)).toLoadRect) (ck2 c arg2 harg2 arg3 harg3 arg4 harg4 arg6 harg6 arg7 harg7 arg14 harg14 arg15 harg15 arg16 arg17 x0 x1 x2 x4 x5 xs0 xs1 T S0 hM hG hS)) ?_
      exact st_read0 arg14.view _ _ _ _ _) (by
      refine Eq.trans (congrArg (fun L => View.readCov arg14.view L (stR 1 (by omega)).toLoadRect) (ck2 c arg2 harg2 arg3 harg3 arg4 harg4 arg6 harg6 arg7 harg7 arg14 harg14 arg15 harg15 arg16 arg17 x0 x1 x2 x4 x5 xs0 xs1 T S0 hM hG hS)) ?_
      exact st_read1 arg14.view _ _ _ _ _) (by
      refine Eq.trans (congrArg (fun L => View.readCov arg14.view L (stR 2 (by omega)).toLoadRect) (ck2 c arg2 harg2 arg3 harg3 arg4 harg4 arg6 harg6 arg7 harg7 arg14 harg14 arg15 harg15 arg16 arg17 x0 x1 x2 x4 x5 xs0 xs1 T S0 hM hG hS)) ?_
      exact st_read2 arg14.view _ _ _ _ _) (by
      refine Eq.trans (congrArg (fun L => View.readCov arg14.view L (stR 3 (by omega)).toLoadRect) (ck2 c arg2 harg2 arg3 harg3 arg4 harg4 arg6 harg6 arg7 harg7 arg14 harg14 arg15 harg15 arg16 arg17 x0 x1 x2 x4 x5 xs0 xs1 T S0 hM hG hS)) ?_
      exact st_read3 arg14.view _ _ _ _ _)
  obtain ⟨n0, n1, n2, n3, on⟩ := a
  refine Eq.trans ?_ (stL_congr n0 n1 n2 n3)
  rfl

include hM hG hS in
theorem co3 :
    sON (sAI (kernelRun0_B.sl.v736 (F := Ideal) c arg4 harg4 arg7 harg7 arg15 harg15 arg16 x2 x5 xs1) (kernelRun0_B.sl.v756 (F := Ideal) c arg4 harg4 arg7 harg7 arg15 harg15 arg16 x2 x5 xs1) (kernelRun0_B.sl.r_38 (F := Ideal) c arg2 harg2 arg3 harg3 arg6 harg6 arg17 x0 x1 x4)) (sUW (kernelRun0_B.sl.v756 (F := Ideal) c arg4 harg4 arg7 harg7 arg15 harg15 arg16 x2 x5 xs1) (kernelRun0_B.sl.v776 (F := Ideal) c arg4 harg4 arg7 harg7 arg15 harg15 arg16 x2 x5 xs1) (kernelRun0_B.sl.v796 (F := Ideal) c arg2 harg2 arg3 harg3 arg6 harg6 arg17 x0 x1 x4) (kernelRun0_B.sl.r_38 (F := Ideal) c arg2 harg2 arg3 harg3 arg6 harg6 arg17 x0 x1 x4)) (sQD (kernelRun0_B.sl.v736 (F := Ideal) c arg4 harg4 arg7 harg7 arg15 harg15 arg16 x2 x5 xs1) (kernelRun0_B.sl.r_38 (F := Ideal) c arg2 harg2 arg3 harg3 arg6 harg6 arg17 x0 x1 x4)) (kernelRun0_B.sl.v1741 (F := Ideal) c arg2 harg2 arg3 harg3 arg4 harg4 arg6 harg6 arg7 harg7 arg14 harg14 arg15 harg15 arg16 arg17 x0 x1 x2 x4 x5 xs0 xs1) (kernelRun0_B.sl.v1743 (F := Ideal) c arg2 harg2 arg3 harg3 arg4 harg4 arg6 harg6 arg7 harg7 arg14 harg14 arg15 harg15 arg16 arg17 x0 x1 x2 x4 x5 xs0 xs1) (kernelRun0_B.sl.v1745 (F := Ideal) c arg2 harg2 arg3 harg3 arg4 harg4 arg6 harg6 arg7 harg7 arg14 harg14 arg15 harg15 arg16 arg17 x0 x1 x2 x4 x5 xs0 xs1) (kernelRun0_B.sl.v1747 (F := Ideal) c arg2 harg2 arg3 harg3 arg4 harg4 arg6 harg6 arg7 harg7 arg14 harg14 arg15 harg15 arg16 arg17 x0 x1 x2 x4 x5 xs0 xs1) = cm (c2 (stkN T S0 192)) := by
  skip
  have a := chunk_stage T S0 192 (kernelRun0_B.sl.v736 (F := Ideal) c arg4 harg4 arg7 harg7 arg15 harg15 arg16 x2 x5 xs1) (kernelRun0_B.sl.v756 (F := Ideal) c arg4 harg4 arg7 harg7 arg15 harg15 arg16 x2 x5 xs1) (kernelRun0_B.sl.v776 (F := Ideal) c arg4 harg4 arg7 harg7 arg15 harg15 arg16 x2 x5 xs1) (kernelRun0_B.sl.v796 (F := Ideal) c arg2 harg2 arg3 harg3 arg6 harg6 arg17 x0 x1 x4) (kernelRun0_B.sl.r_38 (F := Ideal) c arg2 harg2 arg3 harg3 arg6 harg6 arg17 x0 x1 x4)
    (kernelRun0_B.sl.v1741 (F := Ideal) c arg2 harg2 arg3 harg3 arg4 harg4 arg6 harg6 arg7 harg7 arg14 harg14 arg15 harg15 arg16 arg17 x0 x1 x2 x4 x5 xs0 xs1) (kernelRun0_B.sl.v1743 (F := Ideal) c arg2 harg2 arg3 harg3 arg4 harg4 arg6 harg6 arg7 harg7 arg14 harg14 arg15 harg15 arg16 arg17 x0 x1 x2 x4 x5 xs0 xs1) (kernelRun0_B.sl.v1745 (F := Ideal) c arg2 harg2 arg3 harg3 arg4 harg4 arg6 harg6 arg7 harg7 arg14 harg14 arg15 harg15 arg16 arg17 x0 x1 x2 x4 x5 xs0 xs1) (kernelRun0_B.sl.v1747 (F := Ideal) c arg2 harg2 arg3 harg3 arg4 harg4 arg6 harg6 arg7 harg7 arg14 harg14 arg15 harg15 arg16 arg17 x0 x1 x2 x4 x5 xs0 xs1)
    (q3 c arg4 harg4 arg7 harg7 arg15 harg15 arg16 x2 x5 xs1 T hM) (k3 c arg4 harg4 arg7 harg7 arg15 harg15 arg16 x2 x5 xs1 T hM) (v3 c arg4 harg4 arg7 harg7 arg15 harg15 arg16 x2 x5 xs1 T hM) (b3 c arg2 harg2 arg3 harg3 arg6 harg6 arg17 x0 x1 x4 T hG) (g3 c arg2 harg2 arg3 harg3 arg6 harg6 arg17 x0 x1 x4 T hG)
    (by
      refine Eq.trans (congrArg (fun L => View.readCov arg14.view L (stR 0 (by omega)).toLoadRect) (ck2 c arg2 harg2 arg3 harg3 arg4 harg4 arg6 harg6 arg7 harg7 arg14 harg14 arg15 harg15 arg16 arg17 x0 x1 x2 x4 x5 xs0 xs1 T S0 hM hG hS)) ?_
      exact st_read0 arg14.view _ _ _ _ _) (by
      refine Eq.trans (congrArg (fun L => View.readCov arg14.view L (stR 1 (by omega)).toLoadRect) (ck2 c arg2 harg2 arg3 harg3 arg4 harg4 arg6 harg6 arg7 harg7 arg14 harg14 arg15 harg15 arg16 arg17 x0 x1 x2 x4 x5 xs0 xs1 T S0 hM hG hS)) ?_
      exact st_read1 arg14.view _ _ _ _ _) (by
      refine Eq.trans (congrArg (fun L => View.readCov arg14.view L (stR 2 (by omega)).toLoadRect) (ck2 c arg2 harg2 arg3 harg3 arg4 harg4 arg6 harg6 arg7 harg7 arg14 harg14 arg15 harg15 arg16 arg17 x0 x1 x2 x4 x5 xs0 xs1 T S0 hM hG hS)) ?_
      exact st_read2 arg14.view _ _ _ _ _) (by
      refine Eq.trans (congrArg (fun L => View.readCov arg14.view L (stR 3 (by omega)).toLoadRect) (ck2 c arg2 harg2 arg3 harg3 arg4 harg4 arg6 harg6 arg7 harg7 arg14 harg14 arg15 harg15 arg16 arg17 x0 x1 x2 x4 x5 xs0 xs1 T S0 hM hG hS)) ?_
      exact st_read3 arg14.view _ _ _ _ _)
  obtain ⟨n0, n1, n2, n3, on⟩ := a
  exact on

end Dn.B
-- ==== Proof.DnBY.lean ====
/-
  What the delta-rule kernel's body stores as gated rows at a point of the grid, case B, at arrays of reals.
-/
module

public import proofs.«01_k».proof.Proof.DnB

@[expose] public section

set_option maxRecDepth 16384

noncomputable section

open Idealize.ShloMosaic Idealize.ShloMosaic.TcCoe Idealize.SL.Sem

namespace Dn.B

open Cert.KernelIdeal Cert.KernelIdeal.Gen

variable (c : Dev nD) (i : grid0.Coords) (arg2 : Memref sig .tc .smem S4 .f32) (harg2 : arg2.IsWhole) (arg3 : Memref sig .tc .smem S4 .f32) (harg3 : arg3.IsWhole) (arg4 : Memref sig .tc .vmem S1x256x1536 .f32) (harg4 : arg4.IsWhole) (arg5 : Memref sig .tc .vmem S1x256x512 .f32) (harg5 : arg5.IsWhole) (arg6 : Memref sig .tc .vmem S1x256x128 .f32) (harg6 : arg6.IsWhole) (arg7 : Memref sig .tc .vmem S4x1536 .f32) (harg7 : arg7.IsWhole) (arg8 : Memref sig .tc .vmem S1x128 .f32) (harg8 : arg8.IsWhole) (arg9 : Memref sig .tc .vmem S1x256x1024 .f32) (harg9 : arg9.IsWhole) (arg10 : Memref sig .tc .vmem S1x256x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x256x1024 .f32) (harg13 : arg13.IsWhole) (arg14 : Memref sig .tc .vmem S4x128x128 .f32) (harg14 : arg14.IsWhole) (arg15 : Memref sig .tc .vmem S264x1536 .f32) (harg15 : arg15.IsWhole) (arg16 : Memref sig .tc .vmem S256x1536 .f32) (harg16 : arg16.IsWhole) (arg17 : Memref sig .tc .vmem S256x1024 .f32) (harg17 : arg17.IsWhole) (arg18 : Memref sig .tc .vmem S256x512 .bf16) (harg18 : arg18.IsWhole) (hc0 : ¬cond0_0 i)
  (x0 : Vec Ideal S4 .f32) (x1 : Vec Ideal S4 .f32) (x2 : Vec Ideal S1x256x1536 .f32) (x3 : Vec Ideal S1x256x512 .f32) (x4 : Vec Ideal S1x256x128 .f32) (x5 : Vec Ideal S4x1536 .f32) (x6 : Vec Ideal S1x128 .f32) (x7 : Vec Ideal S1x256x1024 .f32) (x8 : Vec Ideal S1x256x512 .bf16) (x9 : Vec Ideal S512x1024 .bf16) (x10 : Vec Ideal S512x1024 .bf16) (xs0 : Vec Ideal S4x128x128 .f32) (xs1 : Vec Ideal S264x1536 .f32)
variable (T : Toks) (S0 : Fin 4 → St)
  (hM : ∀ r q, View.canon (kernelRun0_B.sl.HS2_12 (F := Ideal) c arg4 harg4 arg7 harg7 arg15 harg15 x2 x5 xs1) (ix2 r q) = ((actOf T r q : ℝ) : EReal))
  (hG : ∀ r q, View.canon (kernelRun0_B.sl.HS3_1 (F := Ideal) c arg2 harg2 arg3 harg3 arg6 harg6 x0 x1 x4) (ix2 r q) = ((repOf T r q : ℝ) : EReal))

variable (hS : xs0 = stA S0)

set_option maxHeartbeats 4000000 in
include hM hG hS in
theorem yd (Z : Fin 256 → Fin 512 → ℝ) (hZ : x3 = (cm (c3 Z) : FVec Ideal S1x256x512 .f32)) (r : Fin 256) (n : Fin 512) :
    View.canon (kernelRun0_B.sl.HS4_16 (F := Ideal) c arg2 harg2 arg3 harg3 arg4 harg4 arg5 harg5 arg6 harg6 arg7 harg7 arg8 harg8 arg14 harg14 arg15 harg15 arg16 arg17 x0 x1 x2 x3 x4 x5 x6 xs0 xs1) (ix2 r n) = ydA T S0 (View.readAt (Elt Ideal) arg8.view (Rect.unit (s := S1x128) ![0, 0] S1x128.size inb_S1x128_S1x128_0_0).toLoadRect (harg8.unread x6)) Z r n := by
  subst hZ hS
  unfold kernelRun0_B.sl.HS4_16
  canon_tiles x h
  case piece0 =>
    exact tile_at T S0 192 3 192 384 (by omega) (by omega) rfl rfl slices_S256x128_o192_0_S64x128 _ (co3 c arg2 harg2 arg3 harg3 arg4 harg4 arg6 harg6 arg7 harg7 arg14 harg14 arg15 harg15 arg16 arg17 x0 x1 x2 x4 x5 (stA S0) xs1 T S0 hM hG rfl) _ _ Z (ld_z arg5 harg5 Z 192 384 _ (by omega) (by omega)) x r n h0 h1
  case piece1 =>
    exact tile_at T S0 192 2 128 256 (by omega) (by omega) rfl rfl slices_S256x128_o128_0_S64x128 _ (co3 c arg2 harg2 arg3 harg3 arg4 harg4 arg6 harg6 arg7 harg7 arg14 harg14 arg15 harg15 arg16 arg17 x0 x1 x2 x4 x5 (stA S0) xs1 T S0 hM hG rfl) _ _ Z (ld_z arg5 harg5 Z 192 256 _ (by omega) (by omega)) x r n h0 h1
  case piece2 =>
    exact tile_at T S0 192 1 64 128 (by omega) (by omega) rfl rfl slices_S256x128_o64_0_S64x128 _ (co3 c arg2 harg2 arg3 harg3 arg4 harg4 arg6 harg6 arg7 harg7 arg14 harg14 arg15 harg15 arg16 arg17 x0 x1 x2 x4 x5 (stA S0) xs1 T S0 hM hG rfl) _ _ Z (ld_z arg5 harg5 Z 192 128 _ (by omega) (by omega)) x r n h0 h1
  case piece3 =>
    exact tile_at T S0 192 0 0 0 (by omega) (by omega) rfl rfl slices_S256x128_o0_0_S64x128 _ (co3 c arg2 harg2 arg3 harg3 arg4 harg4 arg6 harg6 arg7 harg7 arg14 harg14 arg15 harg15 arg16 arg17 x0 x1 x2 x4 x5 (stA S0) xs1 T S0 hM hG rfl) _ _ Z (ld_z arg5 harg5 Z 192 0 _ (by omega) (by omega)) x r n h0 (h1.trans (Nat.zero_add _).symm)
  case piece4 =>
    exact tile_at T S0 128 3 192 384 (by omega) (by omega) rfl rfl slices_S256x128_o192_0_S64x128 _ (co2 c arg2 harg2 arg3 harg3 arg4 harg4 arg6 harg6 arg7 harg7 arg14 harg14 arg15 harg15 arg16 arg17 x0 x1 x2 x4 x5 (stA S0) xs1 T S0 hM hG rfl) _ _ Z (ld_z arg5 harg5 Z 128 384 _ (by omega) (by omega)) x r n h0 h1
  case piece5 =>
    exact tile_at T S0 128 2 128 256 (by omega) (by omega) rfl rfl slices_S256x128_o128_0_S64x128 _ (co2 c arg2 harg2 arg3 harg3 arg4 harg4 arg6 harg6 arg7 harg7 arg14 harg14 arg15 harg15 arg16 arg17 x0 x1 x2 x4 x5 (stA S0) xs1 T S0 hM hG rfl) _ _ Z (ld_z arg5 harg5 Z 128 256 _ (by omega) (by omega)) x r n h0 h1
  case piece6 =>
    exact tile_at T S0 128 1 64 128 (by omega) (by omega) rfl rfl slices_S256x128_o64_0_S64x128 _ (co2 c arg2 harg2 arg3 harg3 arg4 harg4 arg6 harg6 arg7 harg7 arg14 harg14 arg15 harg15 arg16 arg17 x0 x1 x2 x4 x5 (stA S0) xs1 T S0 hM hG rfl) _ _ Z (ld_z arg5 harg5 Z 128 128 _ (by omega) (by omega)) x r n h0 h1
  case piece7 =>
    exact tile_at T S0 128 0 0 0 (by omega) (by omega) rfl rfl slices_S256x128_o0_0_S64x128 _ (co2 c arg2 harg2 arg3 harg3 arg4 harg4 arg6 harg6 arg7 harg7 arg14 harg14 arg15 harg15 arg16 arg17 x0 x1 x2 x4 x5 (stA S0) xs1 T S0 hM hG rfl) _ _ Z (ld_z arg5 harg5 Z 128 0 _ (by omega) (by omega)) x r n h0 (h1.trans (Nat.zero_add _).symm)
  case piece8 =>
    exact tile_at T S0 64 3 192 384 (by omega) (by omega) rfl rfl slices_S256x128_o192_0_S64x128 _ (co1 c arg2 harg2 arg3 harg3 arg4 harg4 arg6 harg6 arg7 harg7 arg14 harg14 arg15 harg15 arg16 arg17 x0 x1 x2 x4 x5 (stA S0) xs1 T S0 hM hG rfl) _ _ Z (ld_z arg5 harg5 Z 64 384 _ (by omega) (by omega)) x r n h0 h1
  case piece9 =>
    exact tile_at T S0 64 2 128 256 (by omega) (by omega) rfl rfl slices_S256x128_o128_0_S64x128 _ (co1 c arg2 harg2 arg3 harg3 arg4 harg4 arg6 harg6 arg7 harg7 arg14 harg14 arg15 harg15 arg16 arg17 x0 x1 x2 x4 x5 (stA S0) xs1 T S0 hM hG rfl) _ _ Z (ld_z arg5 harg5 Z 64 256 _ (by omega) (by omega)) x r n h0 h1
  case piece10 =>
    exact tile_at T S0 64 1 64 128 (by omega) (by omega) rfl rfl slices_S256x128_o64_0_S64x128 _ (co1 c arg2 harg2 arg3 harg3 arg4 harg4 arg6 harg6 arg7 harg7 arg14 harg14 arg15 harg15 arg16 arg17 x0 x1 x2 x4 x5 (stA S0) xs1 T S0 hM hG rfl) _ _ Z (ld_z arg5 harg5 Z 64 128 _ (by omega) (by omega)) x r n h0 h1
  case piece11 =>
    exact tile_at T S0 64 0 0 0 (by omega) (by omega) rfl rfl slices_S256x128_o0_0_S64x128 _ (co1 c arg2 harg2 arg3 harg3 arg4 harg4 arg6 harg6 arg7 harg7 arg14 harg14 arg15 harg15 arg16 arg17 x0 x1 x2 x4 x5 (stA S0) xs1 T S0 hM hG rfl) _ _ Z (ld_z arg5 harg5 Z 64 0 _ (by omega) (by omega)) x r n h0 (h1.trans (Nat.zero_add _).symm)
  case piece12 =>
    exact tile_at T S0 0 3 192 384 (by omega) (by omega) rfl rfl slices_S256x128_o192_0_S64x128 _ (co0 c arg2 harg2 arg3 harg3 arg4 harg4 arg6 harg6 arg7 harg7 arg14 harg14 arg15 harg15 arg16 arg17 x0 x1 x2 x4 x5 (stA S0) xs1 T S0 hM hG rfl) _ _ Z (ld_z arg5 harg5 Z 0 384 _ (by omega) (by omega)) x r n (h0.trans (Nat.zero_add _).symm) h1
  case piece13 =>
    exact tile_at T S0 0 2 128 256 (by omega) (by omega) rfl rfl slices_S256x128_o128_0_S64x128 _ (co0 c arg2 harg2 arg3 harg3 arg4 harg4 arg6 harg6 arg7 harg7 arg14 harg14 arg15 harg15 arg16 arg17 x0 x1 x2 x4 x5 (stA S0) xs1 T S0 hM hG rfl) _ _ Z (ld_z arg5 harg5 Z 0 256 _ (by omega) (by omega)) x r n (h0.trans (Nat.zero_add _).symm) h1
  case piece14 =>
    exact tile_at T S0 0 1 64 128 (by omega) (by omega) rfl rfl slices_S256x128_o64_0_S64x128 _ (co0 c arg2 harg2 arg3 harg3 arg4 harg4 arg6 harg6 arg7 harg7 arg14 harg14 arg15 harg15 arg16 arg17 x0 x1 x2 x4 x5 (stA S0) xs1 T S0 hM hG rfl) _ _ Z (ld_z arg5 harg5 Z 0 128 _ (by omega) (by omega)) x r n (h0.trans (Nat.zero_add _).symm) h1
  case piece15 =>
    exact tile_at T S0 0 0 0 0 (by omega) (by omega) rfl rfl slices_S256x128_o0_0_S64x128 _ (co0 c arg2 harg2 arg3 harg3 arg4 harg4 arg6 harg6 arg7 harg7 arg14 harg14 arg15 harg15 arg16 arg17 x0 x1 x2 x4 x5 (stA S0) xs1 T S0 hM hG rfl) _ _ Z (ld_z arg5 harg5 Z 0 0 _ (by omega) (by omega)) x r n (h0.trans (Nat.zero_add _).symm) (h1.trans (Nat.zero_add _).symm)

end Dn.B
-- ==== Proof.DnBC.lean ====
/-
  The convolution's rows that the delta-rule kernel's body stores at a point of the grid, case B, at arrays of reals.
-/
module

public import proofs.«01_k».proof.Proof.DnPad

@[expose] public section

set_option maxRecDepth 16384

noncomputable section

open Idealize.ShloMosaic Idealize.ShloMosaic.TcCoe Idealize.SL.Sem

namespace Dn.B

open Cert.KernelIdeal Cert.KernelIdeal.Gen

variable (c : Dev nD) (i : grid0.Coords) (arg2 : Memref sig .tc .smem S4 .f32) (harg2 : arg2.IsWhole) (arg3 : Memref sig .tc .smem S4 .f32) (harg3 : arg3.IsWhole) (arg4 : Memref sig .tc .vmem S1x256x1536 .f32) (harg4 : arg4.IsWhole) (arg5 : Memref sig .tc .vmem S1x256x512 .f32) (harg5 : arg5.IsWhole) (arg6 : Memref sig .tc .vmem S1x256x128 .f32) (harg6 : arg6.IsWhole) (arg7 : Memref sig .tc .vmem S4x1536 .f32) (harg7 : arg7.IsWhole) (arg8 : Memref sig .tc .vmem S1x128 .f32) (harg8 : arg8.IsWhole) (arg9 : Memref sig .tc .vmem S1x256x1024 .f32) (harg9 : arg9.IsWhole) (arg10 : Memref sig .tc .vmem S1x256x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x256x1024 .f32) (harg13 : arg13.IsWhole) (arg14 : Memref sig .tc .vmem S4x128x128 .f32) (harg14 : arg14.IsWhole) (arg15 : Memref sig .tc .vmem S264x1536 .f32) (harg15 : arg15.IsWhole) (arg16 : Memref sig .tc .vmem S256x1536 .f32) (harg16 : arg16.IsWhole) (arg17 : Memref sig .tc .vmem S256x1024 .f32) (harg17 : arg17.IsWhole) (arg18 : Memref sig .tc .vmem S256x512 .bf16) (harg18 : arg18.IsWhole) (hc0 : ¬cond0_0 i)
  (x0 : Vec Ideal S4 .f32) (x1 : Vec Ideal S4 .f32) (x2 : Vec Ideal S1x256x1536 .f32) (x3 : Vec Ideal S1x256x512 .f32) (x4 : Vec Ideal S1x256x128 .f32) (x5 : Vec Ideal S4x1536 .f32) (x6 : Vec Ideal S1x128 .f32) (x7 : Vec Ideal S1x256x1024 .f32) (x8 : Vec Ideal S1x256x512 .bf16) (x9 : Vec Ideal S512x1024 .bf16) (x10 : Vec Ideal S512x1024 .bf16) (xs0 : Vec Ideal S4x128x128 .f32) (xs1 : Vec Ideal S264x1536 .f32)
variable (Y cw : ℕ → ℕ → ℝ) (G B : Fin 4 → ℕ → ℝ) (o : ℕ)
  (hx2 : ∀ (i : Fin 256) (j : Fin 1536), x2 (ix3 0 i j) = ((Y (o + (8 + i.val)) j.val : ℝ) : EReal))
  (hcw : ∀ (w : Fin 4) (j : Fin 1536), x5 (ix2 w j) = ((cw w.val j.val : ℝ) : EReal))

  (hp : ∀ (i : Fin 264) (j : Fin 1536), i.val < 8 → xs1 (ix2 i j) = ((Y (o + i.val) j.val : ℝ) : EReal))
include hx2 hp in
theorem pad (i : Fin 264) (j : Fin 1536) :
    arg15.view.read (Elt Ideal) (arg15.view.writes (Elt Ideal) (harg15.unread xs1) (kernelRun0_B.sl.HS1_1 (F := Ideal) c arg4 harg4 x2)) (ix2 i j) = ((Y (o + i.val) j.val : ℝ) : EReal) := by
  refine pad_blk Y o arg4 harg4 x2 hx2 arg15.view (harg15.unread xs1) (fun i j h => ?_) _ _ i j
  rw [harg15.read_unread (Val := Elt Ideal) xs1]
  exact hp i j h

set_option maxHeartbeats 4000000 in
include hx2 hcw hp in
theorem act (r : Fin 256) (q : Fin 1536) : View.canon (kernelRun0_B.sl.HS2_12 (F := Ideal) c arg4 harg4 arg7 harg7 arg15 harg15 x2 x5 xs1) (ix2 r q) = ((actOf (mkT Y cw G B o) r q : ℝ) : EReal) := by
  unfold kernelRun0_B.sl.HS2_12
  canon_tiles x h
  case piece0 =>
    have t := tileV Y cw G B o 11 _ (ld_pad Y arg15.view _ o (pad c arg4 harg4 arg15 harg15 x2 xs1 Y o hx2 hp) 11 1408 rfl (by omega) (by decide)) _ _ _ _ (ld_w cw arg7 harg7 x5 hcw 11 1408 0 rfl (by omega) (by omega) (by decide)) (ld_w cw arg7 harg7 x5 hcw 11 1408 1 rfl (by omega) (by omega) (by decide)) (ld_w cw arg7 harg7 x5 hcw 11 1408 2 rfl (by omega) (by omega) (by decide)) (ld_w cw arg7 harg7 x5 hcw 11 1408 3 rfl (by omega) (by omega) (by decide)) x r q (h0.trans (Nat.zero_add _).symm) h1 3 rfl (by omega)
    exact t
  case piece1 =>
    have t := tileV Y cw G B o 10 _ (ld_pad Y arg15.view _ o (pad c arg4 harg4 arg15 harg15 x2 xs1 Y o hx2 hp) 10 1280 rfl (by omega) (by decide)) _ _ _ _ (ld_w cw arg7 harg7 x5 hcw 10 1280 0 rfl (by omega) (by omega) (by decide)) (ld_w cw arg7 harg7 x5 hcw 10 1280 1 rfl (by omega) (by omega) (by decide)) (ld_w cw arg7 harg7 x5 hcw 10 1280 2 rfl (by omega) (by omega) (by decide)) (ld_w cw arg7 harg7 x5 hcw 10 1280 3 rfl (by omega) (by omega) (by decide)) x r q (h0.trans (Nat.zero_add _).symm) h1 2 rfl (by omega)
    exact t
  case piece2 =>
    have t := tileV Y cw G B o 9 _ (ld_pad Y arg15.view _ o (pad c arg4 harg4 arg15 harg15 x2 xs1 Y o hx2 hp) 9 1152 rfl (by omega) (by decide)) _ _ _ _ (ld_w cw arg7 harg7 x5 hcw 9 1152 0 rfl (by omega) (by omega) (by decide)) (ld_w cw arg7 harg7 x5 hcw 9 1152 1 rfl (by omega) (by omega) (by decide)) (ld_w cw arg7 harg7 x5 hcw 9 1152 2 rfl (by omega) (by omega) (by decide)) (ld_w cw arg7 harg7 x5 hcw 9 1152 3 rfl (by omega) (by omega) (by decide)) x r q (h0.trans (Nat.zero_add _).symm) h1 1 rfl (by omega)
    exact t
  case piece3 =>
    have t := tileV Y cw G B o 8 _ (ld_pad Y arg15.view _ o (pad c arg4 harg4 arg15 harg15 x2 xs1 Y o hx2 hp) 8 1024 rfl (by omega) (by decide)) _ _ _ _ (ld_w cw arg7 harg7 x5 hcw 8 1024 0 rfl (by omega) (by omega) (by decide)) (ld_w cw arg7 harg7 x5 hcw 8 1024 1 rfl (by omega) (by omega) (by decide)) (ld_w cw arg7 harg7 x5 hcw 8 1024 2 rfl (by omega) (by omega) (by decide)) (ld_w cw arg7 harg7 x5 hcw 8 1024 3 rfl (by omega) (by omega) (by decide)) x r q (h0.trans (Nat.zero_add _).symm) h1 0 rfl (by omega)
    exact t
  case piece4 =>
    have t := tileK Y cw G B o 7 _ (ld_pad Y arg15.view _ o (pad c arg4 harg4 arg15 harg15 x2 xs1 Y o hx2 hp) 7 896 rfl (by omega) (by decide)) _ _ _ _ (ld_w cw arg7 harg7 x5 hcw 7 896 0 rfl (by omega) (by omega) (by decide)) (ld_w cw arg7 harg7 x5 hcw 7 896 1 rfl (by omega) (by omega) (by decide)) (ld_w cw arg7 harg7 x5 hcw 7 896 2 rfl (by omega) (by omega) (by decide)) (ld_w cw arg7 harg7 x5 hcw 7 896 3 rfl (by omega) (by omega) (by decide)) x r q (h0.trans (Nat.zero_add _).symm) h1 3 rfl (by omega)
    exact t
  case piece5 =>
    have t := tileK Y cw G B o 6 _ (ld_pad Y arg15.view _ o (pad c arg4 harg4 arg15 harg15 x2 xs1 Y o hx2 hp) 6 768 rfl (by omega) (by decide)) _ _ _ _ (ld_w cw arg7 harg7 x5 hcw 6 768 0 rfl (by omega) (by omega) (by decide)) (ld_w cw arg7 harg7 x5 hcw 6 768 1 rfl (by omega) (by omega) (by decide)) (ld_w cw arg7 harg7 x5 hcw 6 768 2 rfl (by omega) (by omega) (by decide)) (ld_w cw arg7 harg7 x5 hcw 6 768 3 rfl (by omega) (by omega) (by decide)) x r q (h0.trans (Nat.zero_add _).symm) h1 2 rfl (by omega)
    exact t
  case piece6 =>
    have t := tileK Y cw G B o 5 _ (ld_pad Y arg15.view _ o (pad c arg4 harg4 arg15 harg15 x2 xs1 Y o hx2 hp) 5 640 rfl (by omega) (by decide)) _ _ _ _ (ld_w cw arg7 harg7 x5 hcw 5 640 0 rfl (by omega) (by omega) (by decide)) (ld_w cw arg7 harg7 x5 hcw 5 640 1 rfl (by omega) (by omega) (by decide)) (ld_w cw arg7 harg7 x5 hcw 5 640 2 rfl (by omega) (by omega) (by decide)) (ld_w cw arg7 harg7 x5 hcw 5 640 3 rfl (by omega) (by omega) (by decide)) x r q (h0.trans (Nat.zero_add _).symm) h1 1 rfl (by omega)
    exact t
  case piece7 =>
    have t := tileK Y cw G B o 4 _ (ld_pad Y arg15.view _ o (pad c arg4 harg4 arg15 harg15 x2 xs1 Y o hx2 hp) 4 512 rfl (by omega) (by decide)) _ _ _ _ (ld_w cw arg7 harg7 x5 hcw 4 512 0 rfl (by omega) (by omega) (by decide)) (ld_w cw arg7 harg7 x5 hcw 4 512 1 rfl (by omega) (by omega) (by decide)) (ld_w cw arg7 harg7 x5 hcw 4 512 2 rfl (by omega) (by omega) (by decide)) (ld_w cw arg7 harg7 x5 hcw 4 512 3 rfl (by omega) (by omega) (by decide)) x r q (h0.trans (Nat.zero_add _).symm) h1 0 rfl (by omega)
    exact t
  case piece8 =>
    have t := tileQ Y cw G B o 3 _ (ld_pad Y arg15.view _ o (pad c arg4 harg4 arg15 harg15 x2 xs1 Y o hx2 hp) 3 384 rfl (by omega) (by decide)) _ _ _ _ (ld_w cw arg7 harg7 x5 hcw 3 384 0 rfl (by omega) (by omega) (by decide)) (ld_w cw arg7 harg7 x5 hcw 3 384 1 rfl (by omega) (by omega) (by decide)) (ld_w cw arg7 harg7 x5 hcw 3 384 2 rfl (by omega) (by omega) (by decide)) (ld_w cw arg7 harg7 x5 hcw 3 384 3 rfl (by omega) (by omega) (by decide)) x r q (h0.trans (Nat.zero_add _).symm) h1 (by omega)
    exact t
  case piece9 =>
    have t := tileQ Y cw G B o 2 _ (ld_pad Y arg15.view _ o (pad c arg4 harg4 arg15 harg15 x2 xs1 Y o hx2 hp) 2 256 rfl (by omega) (by decide)) _ _ _ _ (ld_w cw arg7 harg7 x5 hcw 2 256 0 rfl (by omega) (by omega) (by decide)) (ld_w cw arg7 harg7 x5 hcw 2 256 1 rfl (by omega) (by omega) (by decide)) (ld_w cw arg7 harg7 x5 hcw 2 256 2 rfl (by omega) (by omega) (by decide)) (ld_w cw arg7 harg7 x5 hcw 2 256 3 rfl (by omega) (by omega) (by decide)) x r q (h0.trans (Nat.zero_add _).symm) h1 (by omega)
    exact t
  case piece10 =>
    have t := tileQ Y cw G B o 1 _ (ld_pad Y arg15.view _ o (pad c arg4 harg4 arg15 harg15 x2 xs1 Y o hx2 hp) 1 128 rfl (by omega) (by decide)) _ _ _ _ (ld_w cw arg7 harg7 x5 hcw 1 128 0 rfl (by omega) (by omega) (by decide)) (ld_w cw arg7 harg7 x5 hcw 1 128 1 rfl (by omega) (by omega) (by decide)) (ld_w cw arg7 harg7 x5 hcw 1 128 2 rfl (by omega) (by omega) (by decide)) (ld_w cw arg7 harg7 x5 hcw 1 128 3 rfl (by omega) (by omega) (by decide)) x r q (h0.trans (Nat.zero_add _).symm) h1 (by omega)
    exact t
  case piece11 =>
    have t := tileQ Y cw G B o 0 _ (ld_pad Y arg15.view _ o (pad c arg4 harg4 arg15 harg15 x2 xs1 Y o hx2 hp) 0 0 rfl (by omega) (by decide)) _ _ _ _ (ld_w cw arg7 harg7 x5 hcw 0 0 0 rfl (by omega) (by omega) (by decide)) (ld_w cw arg7 harg7 x5 hcw 0 0 1 rfl (by omega) (by omega) (by decide)) (ld_w cw arg7 harg7 x5 hcw 0 0 2 rfl (by omega) (by omega) (by decide)) (ld_w cw arg7 harg7 x5 hcw 0 0 3 rfl (by omega) (by omega) (by decide)) x r q (h0.trans (Nat.zero_add _).symm) (h1.trans (Nat.zero_add _).symm) (by omega)
    exact t

end Dn.B
-- ==== Proof.DnBS.lean ====
/-
  What a point of the delta-rule kernel's grid leaves behind, case B: the state, the rows kept for the convolution and the output.
-/
module

public import proofs.«01_k».proof.Proof.DnBY
public import proofs.«01_k».proof.Proof.DnBC
public import proofs.«01_k».proof.Proof.DnOut

@[expose] public section

set_option maxRecDepth 16384

noncomputable section

open Idealize.ShloMosaic Idealize.ShloMosaic.TcCoe Idealize.SL.Sem

namespace Dn.B

open Cert.KernelIdeal Cert.KernelIdeal.Gen

variable (c : Dev nD) (i : grid0.Coords) (arg2 : Memref sig .tc .smem S4 .f32) (harg2 : arg2.IsWhole) (arg3 : Memref sig .tc .smem S4 .f32) (harg3 : arg3.IsWhole) (arg4 : Memref sig .tc .vmem S1x256x1536 .f32) (harg4 : arg4.IsWhole) (arg5 : Memref sig .tc .vmem S1x256x512 .f32) (harg5 : arg5.IsWhole) (arg6 : Memref sig .tc .vmem S1x256x128 .f32) (harg6 : arg6.IsWhole) (arg7 : Memref sig .tc .vmem S4x1536 .f32) (harg7 : arg7.IsWhole) (arg8 : Memref sig .tc .vmem S1x128 .f32) (harg8 : arg8.IsWhole) (arg9 : Memref sig .tc .vmem S1x256x1024 .f32) (harg9 : arg9.IsWhole) (arg10 : Memref sig .tc .vmem S1x256x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x256x1024 .f32) (harg13 : arg13.IsWhole) (arg14 : Memref sig .tc .vmem S4x128x128 .f32) (harg14 : arg14.IsWhole) (arg15 : Memref sig .tc .vmem S264x1536 .f32) (harg15 : arg15.IsWhole) (arg16 : Memref sig .tc .vmem S256x1536 .f32) (harg16 : arg16.IsWhole) (arg17 : Memref sig .tc .vmem S256x1024 .f32) (harg17 : arg17.IsWhole) (arg18 : Memref sig .tc .vmem S256x512 .bf16) (harg18 : arg18.IsWhole) (hc0 : ¬cond0_0 i)
  (x0 : Vec Ideal S4 .f32) (x1 : Vec Ideal S4 .f32) (x2 : Vec Ideal S1x256x1536 .f32) (x3 : Vec Ideal S1x256x512 .f32) (x4 : Vec Ideal S1x256x128 .f32) (x5 : Vec Ideal S4x1536 .f32) (x6 : Vec Ideal S1x128 .f32) (x7 : Vec Ideal S1x256x1024 .f32) (x8 : Vec Ideal S1x256x512 .bf16) (x9 : Vec Ideal S512x1024 .bf16) (x10 : Vec Ideal S512x1024 .bf16) (xs0 : Vec Ideal S4x128x128 .f32) (xs1 : Vec Ideal S264x1536 .f32)
variable (Y cw : ℕ → ℕ → ℝ) (G B : Fin 4 → ℕ → ℝ) (o : ℕ) (al dl : Fin 4 → ℝ) (gt : Fin 256 → Fin 128 → ℝ)
  (hB : ∀ (h : Fin 4) (i : Fin 256), B h (o + i.val) = sigR (gt i (lnB h)))
  (hG : ∀ (h : Fin 4) (i : Fin 256), G h (o + i.val) = -Real.exp (al h) * spR (gt i (lnG h) + dl h))
  (hx0 : ∀ h, x0 (ix1 h) = ((al h : ℝ) : EReal)) (hx1 : ∀ h, x1 (ix1 h) = ((dl h : ℝ) : EReal))
  (hx4 : ∀ i l, x4 (ix3 0 i l) = ((gt i l : ℝ) : EReal))
  (hx2 : ∀ (i : Fin 256) (j : Fin 1536), x2 (ix3 0 i j) = ((Y (o + (8 + i.val)) j.val : ℝ) : EReal))
  (hcw : ∀ (w : Fin 4) (j : Fin 1536), x5 (ix2 w j) = ((cw w.val j.val : ℝ) : EReal))

include hB hG hx0 hx1 hx4 in
theorem rep (r : Fin 256) (q : Fin 1024) : View.canon (kernelRun0_B.sl.HS3_1 (F := Ideal) c arg2 harg2 arg3 harg3 arg6 harg6 x0 x1 x4) (ix2 r q) = ((repOf (mkT Y cw G B o) r q : ℝ) : EReal) := by
  unfold kernelRun0_B.sl.HS3_1
  have t := gates_at Y cw G B o al dl gt hB hG (kernelRun0_B.sl.r_17 (F := Ideal) c arg2 harg2 x0) (kernelRun0_B.sl.r_19 (F := Ideal) c arg2 harg2 x0) (kernelRun0_B.sl.r_21 (F := Ideal) c arg2 harg2 x0) (kernelRun0_B.sl.r_23 (F := Ideal) c arg2 harg2 x0) (kernelRun0_B.sl.r_18 (F := Ideal) c arg3 harg3 x1) (kernelRun0_B.sl.r_20 (F := Ideal) c arg3 harg3 x1) (kernelRun0_B.sl.r_22 (F := Ideal) c arg3 harg3 x1) (kernelRun0_B.sl.r_24 (F := Ideal) c arg3 harg3 x1)
    (ld_s arg2 harg2 x0 al hx0 0 (by omega) _ _) (ld_s arg2 harg2 x0 al hx0 1 (by omega) _ _) (ld_s arg2 harg2 x0 al hx0 2 (by omega) _ _) (ld_s arg2 harg2 x0 al hx0 3 (by omega) _ _) (ld_s arg3 harg3 x1 dl hx1 0 (by omega) _ _) (ld_s arg3 harg3 x1 dl hx1 1 (by omega) _ _) (ld_s arg3 harg3 x1 dl hx1 2 (by omega) _ _) (ld_s arg3 harg3 x1 dl hx1 3 (by omega) _ _)
    (View.readAt (Elt Ideal) arg6.view (Rect.unit (s := S1x256x128) ![0, 0, 0] (S1x256x128).size (by decide)).toLoadRect (harg6.unread x4)) (pay38_at arg6 harg6 x4 gt hx4 (by decide)) (kernelRun0_B.sl.r_28 (F := Ideal) c arg2 harg2 arg3 harg3 arg6 harg6 x0 x1 x4) rfl [] (by decide) (by decide) r q
  exact t

variable (hp : ∀ (i : Fin 264) (j : Fin 1536), i.val < 8 → xs1 (ix2 i j) = ((Y (o + i.val) j.val : ℝ) : EReal)) (S0 : Fin 4 → St) (hS : xs0 = stA S0)

set_option maxHeartbeats 4000000 in
include hB hG hx0 hx1 hx4 hx2 hcw hp hS in
theorem state : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xs0 xs1 = stA (fun h => (mkT Y cw G B o).R S0 h 256) := by
  unfold sout0_B_0
  refine (View.read_writes_junk_eq_canon VS0_0 _).trans ?_
  rw [ck3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xs0 xs1 (mkT Y cw G B o) S0 (act c arg4 harg4 arg7 harg7 arg15 harg15 x2 x5 xs1 Y cw G B o hx2 hcw hp) (rep c arg2 harg2 arg3 harg3 arg6 harg6 x0 x1 x4 Y cw G B o al dl gt hB hG hx0 hx1 hx4) hS]
  funext y
  obtain ⟨h, d, e, rfl⟩ : ∃ (h : Fin 4) (d e : Fin 128), y = ix3 h d e := ⟨y 0, y 1, y 2, eq_ix3 y⟩
  exact st_canon _ (fun h => (mkT Y cw G B o).R S0 h 256) h d e

include hx2 in
theorem kept (p : Fin 264) (hi : p.val < 8) (j : Fin 1536) : sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xs0 xs1 (ix2 p j) = ((Y (o + 256 + p.val) j.val : ℝ) : EReal) := by
  unfold sout0_B_1
  exact pad_new Y o arg4 harg4 x2 hx2 VS0_1 VS0_1.junk (kernelRun0_B.sl.HS1_1 (F := Ideal) c arg4 harg4 x2) (by decide) (by decide) p hi j

set_option maxHeartbeats 4000000 in
include hB hG hx0 hx1 hx4 hx2 hcw hp hS in
theorem outr (Z : Fin 256 → Fin 512 → ℝ) (hZ : x3 = (cm (c3 Z) : FVec Ideal S1x256x512 .f32)) (u : Fin 1) (r : Fin 256) (n : Fin 1024) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xs0 xs1 (ix3 u r n)
      = outA (fun r n => x7 (ix3 0 r n)) (fun r k => x8 (ix3 0 r k)) (fun k n => x9 (ix2 k n)) (ydA (mkT Y cw G B o) S0 x6 Z) (fun k n => x10 (ix2 k n)) r n := by
  unfold out0_B_11
  refine (congrFun (View.read_writes_junk_eq_canon VO0_11 _) (ix3 u r n)).trans ?_
  have hy := yd c arg2 harg2 arg3 harg3 arg4 harg4 arg5 harg5 arg6 harg6 arg7 harg7 arg8 harg8 arg14 harg14 arg15 harg15 arg16 arg17 x0 x1 x2 x3 x4 x5 x6 xs0 xs1 (mkT Y cw G B o) S0 (act c arg4 harg4 arg7 harg7 arg15 harg15 x2 x5 xs1 Y cw G B o hx2 hcw hp) (rep c arg2 harg2 arg3 harg3 arg6 harg6 x0 x1 x4 Y cw G B o al dl gt hB hG hx0 hx1 hx4) hS Z hZ
  rw [ld_mat arg8 harg8 x6 inb_S1x128_S1x128_0_0] at hy
  exact out_at arg9 harg9 x7 arg10 harg10 x8 arg11 harg11 x9 arg12 harg12 x10 arg18.view (kernelRun0_B.sl.HS4_16 (F := Ideal) c arg2 harg2 arg3 harg3 arg4 harg4 arg5 harg5 arg6 harg6 arg7 harg7 arg8 harg8 arg14 harg14 arg15 harg15 arg16 arg17 x0 x1 x2 x3 x4 x5 x6 xs0 xs1) _ hy (by decide) (by decide) (by decide) (by decide) (by decide) (by decide) u r n

end Dn.B
-- ==== Proof.DnGrid.lean ====
/-
  What every point of the delta-rule kernel's grid leaves behind: the state after the batch's tokens so far, the last rows for the convolution, and
  the rows of the output.
-/
module

public import proofs.«01_k».proof.Proof.DnBlk
public import proofs.«01_k».proof.Proof.DnAS
public import proofs.«01_k».proof.Proof.DnBS

@[expose] public section

set_option maxRecDepth 16384

noncomputable section

open Idealize.ShloMosaic Idealize.ShloMosaic.TcCoe Idealize.SL.Sem

namespace Dn

/-- Every entry is a real. -/
def Fin' {ι : Type} (f : ι → EReal) : Prop := ∀ i, f i = ((f i).toReal : EReal)

section
variable (q : A3 4 8192 1536) (ba : A3 4 8192 8) (cw : A3 1 4 1536) (al dt : A2 1 4) (b : Fin 4)

theorem seqY_at (hq : Fin' q) (s : Fin 8192) (n : ℕ) (hn : n = 8 + s.val) (j : Fin 1536) : q (ix3 b s j) = ((seqY q b n j.val : ℝ) : EReal) := by
  subst hn
  unfold seqY
  rw [dif_pos ⟨by omega, by omega, j.isLt⟩]
  have e : (⟨8 + s.val - 8, by omega⟩ : Fin 8192) = s := Fin.ext (by show 8 + s.val - 8 = s.val; omega)
  rw [e]
  exact hq _

theorem seqY_zero (n j : ℕ) (hn : n < 8) : seqY q b n j = 0 := by
  unfold seqY
  rw [dif_neg (fun h => by omega)]

theorem seqW_at (hc : Fin' cw) (w : Fin 4) (j : Fin 1536) : cw (ix3 0 w j) = ((seqW cw w.val j.val : ℝ) : EReal) := by
  unfold seqW
  rw [dif_pos ⟨w.isLt, j.isLt⟩]
  exact hc _

theorem seqB_at (s : Fin 8192) (n : ℕ) (hn : n = s.val) (h : Fin 4) : seqB ba b h n = sigR (ba (ix3 b s ⟨h.val, by omega⟩)).toReal := by
  subst hn
  unfold seqB
  rw [dif_pos s.isLt]

theorem seqG_at (s : Fin 8192) (n : ℕ) (hn : n = s.val) (h : Fin 4) :
    seqG ba al dt b h n = -Real.exp (al (ix2 0 h)).toReal * spR ((ba (ix3 b s ⟨4 + h.val, by omega⟩)).toReal + (dt (ix2 0 h)).toReal) := by
  subst hn
  unfold seqG
  rw [dif_pos s.isLt]
end

end Dn

namespace Dn.Arr

open Cert.KernelIdeal Cert.KernelIdeal.Gen

variable (m : (ℓ : Loc nD τ sig) → Buf (Elt Ideal) ℓ) (c : Dev nD)
  (hq : Fin' (aQ m c)) (hz : Fin' (aZ m c)) (hb : Fin' (aB m c)) (hcv : Fin' (aC m c)) (hal : Fin' (aL m c)) (hdt : Fin' (aD m c))

/-- The gates of a block. -/
def gtT (t : Fin cfg0.N) (i : Fin 256) (l : Fin 128) : ℝ := if h : l.val < 8 then (aB m c (ix3 (bt t) (tk t i) ⟨l.val, h⟩)).toReal else 0
def zT (t : Fin cfg0.N) (r : Fin 256) (k : Fin 512) : ℝ := (aZ m c (ix3 (bt t) (tk t r) k)).toReal
def alT (h : Fin 4) : ℝ := (aL m c (ix2 0 h)).toReal
def dtT (h : Fin 4) : ℝ := (aD m c (ix2 0 h)).toReal

/-- The tokens of a batch. -/
abbrev Tb (b : Fin 4) (o : ℕ) : Toks := TT (aQ m c) (aB m c) (aC m c) (aL m c) (aD m c) b o

section
variable (t : Fin cfg0.N) (o : ℕ) (ho : o = 256 * (t.val % 32))
include ho

theorem f_B (h : Fin 4) (i : Fin 256) : seqB (aB m c) (bt t) h (o + i.val) = sigR (gtT m c t i (lnB h)) := by
  rw [seqB_at (aB m c) (bt t) (tk t i) (o + i.val) (by show o + i.val = t.val % 32 * 256 + i.val; omega) h]
  unfold gtT lnB
  rw [dif_pos (show h.val < 8 by omega)]

theorem f_G (h : Fin 4) (i : Fin 256) :
    seqG (aB m c) (aL m c) (aD m c) (bt t) h (o + i.val) = -Real.exp (alT m c h) * spR (gtT m c t i (lnG h) + dtT m c h) := by
  rw [seqG_at (aB m c) (aL m c) (aD m c) (bt t) (tk t i) (o + i.val) (by show o + i.val = t.val % 32 * 256 + i.val; omega) h]
  unfold gtT lnG alT dtT
  rw [dif_pos (show 4 + h.val < 8 by omega)]

include hq in
theorem f_Y (i : Fin 256) (j : Fin 1536) :
    (iblk m c 2 t : FVec Ideal S1x256x1536 .f32) (ix3 0 i j) = ((seqY (aQ m c) (bt t) (o + (8 + i.val)) j.val : ℝ) : EReal) :=
  (blk2_at m c t i j).trans (seqY_at (aQ m c) (bt t) hq (tk t i) _ (by show o + (8 + i.val) = 8 + (t.val % 32 * 256 + i.val); omega) j)
end

section
variable (t : Fin cfg0.N)
include hal in
theorem f_al (h : Fin 4) : (iblk m c 0 t : FVec Ideal S4 .f32) (ix1 h) = ((alT m c h : ℝ) : EReal) := (blk0_at m c t h).trans (hal _)
include hdt in
theorem f_dt (h : Fin 4) : (iblk m c 1 t : FVec Ideal S4 .f32) (ix1 h) = ((dtT m c h : ℝ) : EReal) := (blk1_at m c t h).trans (hdt _)
include hcv in
theorem f_cw (w : Fin 4) (j : Fin 1536) : (iblk m c 5 t : FVec Ideal S4x1536 .f32) (ix2 w j) = ((seqW (aC m c) w.val j.val : ℝ) : EReal) :=
  (blk5_at m c t w j).trans (seqW_at (aC m c) hcv w j)
include hb in
theorem f_gt (i : Fin 256) (l : Fin 128) : (iblk m c 4 t : FVec Ideal S1x256x128 .f32) (ix3 0 i l) = ((gtT m c t i l : ℝ) : EReal) := by
  rw [blk4_at]
  unfold gtT
  by_cases h : l.val < 8
  · rw [dif_pos h, dif_pos h]; exact hb _
  · rw [dif_neg h, dif_neg h]; rfl
include hz in
theorem f_z : (iblk m c 3 t : FVec Ideal S1x256x512 .f32) = (cm (c3 (zT m c t)) : FVec Ideal S1x256x512 .f32) := by
  funext y
  obtain ⟨u, r, k, rfl⟩ : ∃ (u : Fin 1) (r : Fin 256) (k : Fin 512), y = ix3 u r k := ⟨y 0, y 1, y 2, eq_ix3 y⟩
  obtain rfl : u = 0 := Subsingleton.elim _ _
  exact (blk3_at m c t r k).trans (hz _)
end

/-- What a point leaves behind: the state and the rows kept. -/
def Inv (n : ℕ) (hn : n < cfg0.N) : Prop :=
  (outsAt0 m c n hn).2.1 = stA (fun h => (Tb m c (bt ⟨n, hn⟩) 0).R zst h (256 * (n % 32) + 256))
    ∧ ∀ i : Fin 264, i.val < 8 → ∀ j : Fin 1536, (outsAt0 m c n hn).2.2 (ix2 i j) = ((seqY (aQ m c) (bt ⟨n, hn⟩) (256 * (n % 32) + 256 + i.val) j.val : ℝ) : EReal)

/-- What a point writes to its block of the output. -/
def Out (t : Fin cfg0.N) : Prop := ∀ (u : Fin 1) (r : Fin 256) (n : Fin 1024), (outsAt0 m c t.val t.isLt).1 (ix3 u r n)
  = outE (aQ m c) (aZ m c) (aB m c) (aX m c) (aY m c) (aC m c) (aL m c) (aD m c) (aN m c) (aW m c) (bt t) (tk t r) n

/-- The block's output is the layer's, given that its gated rows are. -/
theorem out_E (t : Fin cfg0.N) (o : ℕ) (ho : o = 256 * (t.val % 32)) (S0 : Fin 4 → St) (hS : S0 = fun h => (Tb m c (bt t) 0).R zst h o) (r : Fin 256) (n : Fin 1024) :
    outA (fun r n => (iblk m c 7 t : FVec Ideal S1x256x1024 .f32) (ix3 0 r n)) (fun r k => (iblk m c 8 t : FVec Ideal S1x256x512 .bf16) (ix3 0 r k))
      (fun k n => (iblk m c 9 t : FVec Ideal S512x1024 .bf16) (ix2 k n)) (ydA (Tb m c (bt t) o) S0 (iblk m c 6 t : FVec Ideal S1x128 .f32) (zT m c t))
      (fun k n => (iblk m c 10 t : FVec Ideal S512x1024 .bf16) (ix2 k n)) r n
      = outE (aQ m c) (aZ m c) (aB m c) (aX m c) (aY m c) (aC m c) (aL m c) (aD m c) (aN m c) (aW m c) (bt t) (tk t r) n := by
  subst hS
  have hy : ∀ k : Fin 512, ydA (Tb m c (bt t) o) (fun h => (Tb m c (bt t) 0).R zst h o) (iblk m c 6 t : FVec Ideal S1x128 .f32) (zT m c t) r k
      = ydE (aQ m c) (aZ m c) (aB m c) (aC m c) (aL m c) (aD m c) (aN m c) (bt t) (tk t r) k := by
    intro k
    unfold ydA ydE
    rw [blk6_at]
    have e : (Tb m c (bt t) o).rs (fun h => (Tb m c (bt t) 0).R zst h o) ⟨k.val / 128, by omega⟩ r.val ⟨k.val % 128, by omega⟩
        = (Tb m c (bt t) 0).rs zst ⟨k.val / 128, by omega⟩ (tk t r).val ⟨k.val % 128, by omega⟩ := by
      refine (rs_shift _ _ _ _ zst o _ _ _).trans ?_
      have e2 : o + r.val = (tk t r).val := by show o + r.val = t.val % 32 * 256 + r.val; omega
      rw [e2]
      rfl
    rw [e]
    rfl
  unfold outA outE
  simp only [blk7_at, blk8_at, blk9_at, blk10_at, hy]

include hq hb hcv hal hdt in
theorem stA' (t : Fin cfg0.N) (h0 : t.val % 32 = 0) :
    (outsAt0 m c t.val t.isLt).2.1 = stA (fun h => (Tb m c (bt t) 0).R zst h (256 * (t.val % 32) + 256)) := by
  have e := A.state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (seqY (aQ m c) (bt t)) (seqW (aC m c)) (seqG (aB m c) (aL m c) (aD m c) (bt t)) (seqB (aB m c) (bt t)) 0 (alT m c) (dtT m c) (gtT m c t) (f_B m c t 0 (by omega)) (f_G m c t 0 (by omega)) (f_al m c hal t) (f_dt m c hdt t) (f_gt m c hb t) (f_Y m c hq t 0 (by omega)) (f_cw m c hcv t) (fun n j hn => (congrArg (fun k => seqY (aQ m c) (bt t) k j) (Nat.zero_add n)).trans (seqY_zero (aQ m c) (bt t) n j hn))
  rw [outsAt0_A m c t h0]
  dsimp only
  refine e.trans ?_
  refine congrArg stA (funext fun h => ?_)
  rw [h0]
  rfl

include hq in
theorem kpA (t : Fin cfg0.N) (h0 : t.val % 32 = 0) (i : Fin 264) (hi : i.val < 8) (j : Fin 1536) :
    (outsAt0 m c t.val t.isLt).2.2 (ix2 i j) = ((seqY (aQ m c) (bt t) (256 * (t.val % 32) + 256 + i.val) j.val : ℝ) : EReal) := by
  rw [outsAt0_A m c t h0]
  dsimp only
  exact A.kept c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (seqY (aQ m c) (bt t)) (256 * (t.val % 32)) (f_Y m c hq t (256 * (t.val % 32)) rfl) i hi j

include hq hz hb hcv hal hdt in
theorem ouA (t : Fin cfg0.N) (h0 : t.val % 32 = 0) : Out m c t := by
  intro u r n
  have e := A.outr c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (seqY (aQ m c) (bt t)) (seqW (aC m c)) (seqG (aB m c) (aL m c) (aD m c) (bt t)) (seqB (aB m c) (bt t)) 0 (alT m c) (dtT m c) (gtT m c t) (f_B m c t 0 (by omega)) (f_G m c t 0 (by omega)) (f_al m c hal t) (f_dt m c hdt t) (f_gt m c hb t) (f_Y m c hq t 0 (by omega)) (f_cw m c hcv t) (fun n j hn => (congrArg (fun k => seqY (aQ m c) (bt t) k j) (Nat.zero_add n)).trans (seqY_zero (aQ m c) (bt t) n j hn)) (zT m c t) (f_z m c hz t) u r n
  rw [outsAt0_A m c t h0]
  dsimp only
  refine e.trans ?_
  exact out_E m c t 0 (by omega) zst (funext fun h => rfl) r n

include hq hb hcv hal hdt in
theorem stB (t : Fin cfg0.N) (h0 : ¬t.val % 32 = 0)
    (hp : ∀ i : Fin 264, i.val < 8 → ∀ j : Fin 1536, (outsAt0 m c (t.val - 1) (Nat.lt_of_le_of_lt (Nat.sub_le _ _) t.isLt)).2.2 (ix2 i j) = ((seqY (aQ m c) (bt t) (256 * (t.val % 32) + i.val) j.val : ℝ) : EReal))
    (hs : (outsAt0 m c (t.val - 1) (Nat.lt_of_le_of_lt (Nat.sub_le _ _) t.isLt)).2.1 = stA (fun h => (Tb m c (bt t) 0).R zst h (256 * (t.val % 32)))) :
    (outsAt0 m c t.val t.isLt).2.1 = stA (fun h => (Tb m c (bt t) 0).R zst h (256 * (t.val % 32) + 256)) := by
  have e := B.state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2 (seqY (aQ m c) (bt t)) (seqW (aC m c)) (seqG (aB m c) (aL m c) (aD m c) (bt t)) (seqB (aB m c) (bt t)) (256 * (t.val % 32)) (alT m c) (dtT m c) (gtT m c t) (f_B m c t (256 * (t.val % 32)) rfl) (f_G m c t (256 * (t.val % 32)) rfl) (f_al m c hal t) (f_dt m c hdt t) (f_gt m c hb t) (f_Y m c hq t (256 * (t.val % 32)) rfl) (f_cw m c hcv t) (fun i j hi => hp i hi j) (fun h => (Tb m c (bt t) 0).R zst h (256 * (t.val % 32))) hs
  rw [outsAt0_B m c t h0]
  dsimp only
  refine e.trans ?_
  refine congrArg stA (funext fun h => ?_)
  exact R_shift _ _ _ _ zst (256 * (t.val % 32)) h 256

include hq in
theorem kpB (t : Fin cfg0.N) (h0 : ¬t.val % 32 = 0) (i : Fin 264) (hi : i.val < 8) (j : Fin 1536) :
    (outsAt0 m c t.val t.isLt).2.2 (ix2 i j) = ((seqY (aQ m c) (bt t) (256 * (t.val % 32) + 256 + i.val) j.val : ℝ) : EReal) := by
  rw [outsAt0_B m c t h0]
  dsimp only
  exact B.kept c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2 (seqY (aQ m c) (bt t)) (256 * (t.val % 32)) (f_Y m c hq t (256 * (t.val % 32)) rfl) i hi j

include hq hz hb hcv hal hdt in
theorem ouB (t : Fin cfg0.N) (h0 : ¬t.val % 32 = 0)
    (hp : ∀ i : Fin 264, i.val < 8 → ∀ j : Fin 1536, (outsAt0 m c (t.val - 1) (Nat.lt_of_le_of_lt (Nat.sub_le _ _) t.isLt)).2.2 (ix2 i j) = ((seqY (aQ m c) (bt t) (256 * (t.val % 32) + i.val) j.val : ℝ) : EReal))
    (hs : (outsAt0 m c (t.val - 1) (Nat.lt_of_le_of_lt (Nat.sub_le _ _) t.isLt)).2.1 = stA (fun h => (Tb m c (bt t) 0).R zst h (256 * (t.val % 32)))) : Out m c t := by
  intro u r n
  have e := B.outr c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2 (seqY (aQ m c) (bt t)) (seqW (aC m c)) (seqG (aB m c) (aL m c) (aD m c) (bt t)) (seqB (aB m c) (bt t)) (256 * (t.val % 32)) (alT m c) (dtT m c) (gtT m c t) (f_B m c t (256 * (t.val % 32)) rfl) (f_G m c t (256 * (t.val % 32)) rfl) (f_al m c hal t) (f_dt m c hdt t) (f_gt m c hb t) (f_Y m c hq t (256 * (t.val % 32)) rfl) (f_cw m c hcv t) (fun i j hi => hp i hi j) (fun h => (Tb m c (bt t) 0).R zst h (256 * (t.val % 32))) hs (zT m c t) (f_z m c hz t) u r n
  rw [outsAt0_B m c t h0]
  dsimp only
  refine e.trans ?_
  exact out_E m c t (256 * (t.val % 32)) rfl (fun h => (Tb m c (bt t) 0).R zst h (256 * (t.val % 32))) rfl r n

include hq hb hcv hal hdt in
theorem inv : ∀ (n : ℕ) (hn : n < cfg0.N), Inv m c n hn
  | 0, hn => ⟨stA' m c hq hb hcv hal hdt ⟨0, hn⟩ rfl, kpA m c hq ⟨0, hn⟩ rfl⟩
  | n + 1, hn => by
    by_cases h0 : (n + 1) % 32 = 0
    · exact ⟨stA' m c hq hb hcv hal hdt ⟨n + 1, hn⟩ h0, kpA m c hq ⟨n + 1, hn⟩ h0⟩
    · have ih := inv n (Nat.lt_of_succ_lt hn)
      have e1 : 256 * (n % 32) + 256 = 256 * ((n + 1) % 32) := by omega
      have e2 : bt ⟨n, Nat.lt_of_succ_lt hn⟩ = bt ⟨n + 1, hn⟩ := Fin.ext (by show n / 32 = (n + 1) / 32; omega)
      unfold Inv at ih
      rw [e1, e2] at ih
      exact ⟨stB m c hq hb hcv hal hdt ⟨n + 1, hn⟩ h0 ih.2 ih.1, kpB m c hq ⟨n + 1, hn⟩ h0⟩

include hq hz hb hcv hal hdt in
theorem out_all (t : Fin cfg0.N) : Out m c t := by
  obtain ⟨n, hn⟩ := t
  by_cases h0 : n % 32 = 0
  · exact ouA m c hq hz hb hcv hal hdt ⟨n, hn⟩ h0
  · cases n with
    | zero => exact absurd rfl h0
    | succ n =>
      have ih := inv m c hq hb hcv hal hdt n (Nat.lt_of_succ_lt hn)
      have e1 : 256 * (n % 32) + 256 = 256 * ((n + 1) % 32) := by omega
      have e2 : bt ⟨n, Nat.lt_of_succ_lt hn⟩ = bt ⟨n + 1, hn⟩ := Fin.ext (by show n / 32 = (n + 1) / 32; omega)
      unfold Inv at ih
      rw [e1, e2] at ih
      exact ouB m c hq hz hb hcv hal hdt ⟨n + 1, hn⟩ h0 ih.2 ih.1

/-- The output array after the run. -/
theorem final (hq : Fin' (aQ m c)) (hz : Fin' (aZ m c)) (hb : Fin' (aB m c)) (hcv : Fin' (aC m c)) (hal : Fin' (aL m c)) (hdt : Fin' (aD m c)) :
    (dats m 0 c).arrAt 11 (cfgs 0).N = Gout (aQ m c) (aZ m c) (aB m c) (aX m c) (aY m c) (aC m c) (aL m c) (aD m c) (aN m c) (aW m c) := by
  refine (dats m 0 c).arrAt_eq_of_covers 11 _ (by decide +kernel) fun t _ y => ?_
  blk_simp
  rw [after0_11]
  obtain ⟨u, r, n, rfl⟩ : ∃ (u : Fin 1) (r : Fin 256) (n : Fin 1024), y = ix3 u r n := ⟨y 0, y 1, y 2, eq_ix3 y⟩
  have e : ((cfg0.win 11).blk t).view.emb (ix3 u r n) = (ix3 (bt t) (tk t r) n : S4x8192x1024.Idx) := by
    obtain rfl : u = 0 := Subsingleton.elim _ _
    blk_ext [idx t]
  refine Eq.trans ?_ (congrArg (Gout (aQ m c) (aZ m c) (aB m c) (aX m c) (aY m c) (aC m c) (aL m c) (aD m c) (aN m c) (aW m c)) e.symm)
  exact out_all m c hq hz hb hcv hal hdt t u r n

end Dn.Arr
-- ==== Proof.DnRefStep.lean ====
/-
  One trip of the reference's loop over the tokens, at arrays of reals.
-/
module

public import proofs.«01_k».proof.Proof.DnModel
public import proofs.«01_k».proof.Proof.Gen.ReferenceIdeal.Run

@[expose] public section

set_option maxRecDepth 16384

noncomputable section

open Idealize.ShloMosaic Idealize.ShloMosaic.TcCoe Idealize.SL.Sem

namespace Dn.Ref

open Cert.ReferenceIdeal Cert.ReferenceIdeal.Gen Cert.ReferenceIdeal.Value

/-- A token's row of an array whose leading axis is the tokens'. -/
theorem row4 {α : Type} (X : S8192x4x4x128.Idx → α) (st : Fin 4 → ℤ) (h : S8192x4x4x128.Slices (fun _ => 0) S1x4x4x128) (s : Fin 8192)
    (h0 : st 0 = s.val) (h1 : st 1 = 0) (h2 : st 2 = 0) (h3 : st 3 = 0) (u : Fin 1) (b k : Fin 4) (d : Fin 128) :
    Host.dynamicSlice S1x4x4x128 X st h (ix4 u b k d) = X (ix4 s b k d) := by
  rw [Host.dynamicSlice_apply]
  have c0 : Host.clampedStart S8192x4x4x128 S1x4x4x128 h.1 st 0 = s.val := Host.clampedStart_of_le h.1 st 0 s.val h0 (by show s.val + 1 ≤ 8192; omega)
  have c1 : Host.clampedStart S8192x4x4x128 S1x4x4x128 h.1 st 1 = 0 := Host.clampedStart_of_le h.1 st 1 0 h1 (by show 0 + 4 ≤ 4; omega)
  have c2 : Host.clampedStart S8192x4x4x128 S1x4x4x128 h.1 st 2 = 0 := Host.clampedStart_of_le h.1 st 2 0 h2 (by show 0 + 4 ≤ 4; omega)
  have c3 : Host.clampedStart S8192x4x4x128 S1x4x4x128 h.1 st 3 = 0 := Host.clampedStart_of_le h.1 st 3 0 h3 (by show 0 + 128 ≤ 128; omega)
  refine congrArg X ?_
  funext a
  refine Fin.cases ?_ (fun a => Fin.cases ?_ (fun a => Fin.cases ?_ (fun a => Fin.cases ?_ (fun a => a.elim0) a) a) a) a
  · exact Fin.ext (by show Host.clampedStart S8192x4x4x128 S1x4x4x128 h.1 st 0 + u.val = s.val; omega)
  · exact Fin.ext (by show Host.clampedStart S8192x4x4x128 S1x4x4x128 h.1 st 1 + b.val = b.val; omega)
  · exact Fin.ext (by show Host.clampedStart S8192x4x4x128 S1x4x4x128 h.1 st 2 + k.val = k.val; omega)
  · exact Fin.ext (by show Host.clampedStart S8192x4x4x128 S1x4x4x128 h.1 st 3 + d.val = d.val; omega)

theorem row3 {α : Type} (X : S8192x4x4.Idx → α) (st : Fin 3 → ℤ) (h : S8192x4x4.Slices (fun _ => 0) S1x4x4) (s : Fin 8192)
    (h0 : st 0 = s.val) (h1 : st 1 = 0) (h2 : st 2 = 0) (u : Fin 1) (b k : Fin 4) :
    Host.dynamicSlice S1x4x4 X st h (ix3 u b k) = X (ix3 s b k) := by
  rw [Host.dynamicSlice_apply]
  have c0 : Host.clampedStart S8192x4x4 S1x4x4 h.1 st 0 = s.val := Host.clampedStart_of_le h.1 st 0 s.val h0 (by show s.val + 1 ≤ 8192; omega)
  have c1 : Host.clampedStart S8192x4x4 S1x4x4 h.1 st 1 = 0 := Host.clampedStart_of_le h.1 st 1 0 h1 (by show 0 + 4 ≤ 4; omega)
  have c2 : Host.clampedStart S8192x4x4 S1x4x4 h.1 st 2 = 0 := Host.clampedStart_of_le h.1 st 2 0 h2 (by show 0 + 4 ≤ 4; omega)
  refine congrArg X ?_
  funext a
  refine Fin.cases ?_ (fun a => Fin.cases ?_ (fun a => Fin.cases ?_ (fun a => a.elim0) a) a) a
  · exact Fin.ext (by show Host.clampedStart S8192x4x4 S1x4x4 h.1 st 0 + u.val = s.val; omega)
  · exact Fin.ext (by show Host.clampedStart S8192x4x4 S1x4x4 h.1 st 1 + b.val = b.val; omega)
  · exact Fin.ext (by show Host.clampedStart S8192x4x4 S1x4x4 h.1 st 2 + k.val = k.val; omega)

/-- A token's row replaced. -/
theorem upd4 {α : Type} (X : S8192x4x4x128.Idx → α) (U : S1x4x4x128.Idx → α) (st : Fin 4 → ℤ) (h : S8192x4x4x128.Slices (fun _ => 0) S1x4x4x128) (s : Fin 8192)
    (h0 : st 0 = s.val) (h1 : st 1 = 0) (h2 : st 2 = 0) (h3 : st 3 = 0) (r : Fin 8192) (b k : Fin 4) (d : Fin 128) :
    Host.dynamicUpdateSlice X U st h (ix4 r b k d) = if r = s then U (ix4 0 b k d) else X (ix4 r b k d) := by
  rw [Host.dynamicUpdateSlice_apply]
  have c0 : Host.clampedStart S8192x4x4x128 S1x4x4x128 h.1 st 0 = s.val := Host.clampedStart_of_le h.1 st 0 s.val h0 (by show s.val + 1 ≤ 8192; omega)
  have c1 : Host.clampedStart S8192x4x4x128 S1x4x4x128 h.1 st 1 = 0 := Host.clampedStart_of_le h.1 st 1 0 h1 (by show 0 + 4 ≤ 4; omega)
  have c2 : Host.clampedStart S8192x4x4x128 S1x4x4x128 h.1 st 2 = 0 := Host.clampedStart_of_le h.1 st 2 0 h2 (by show 0 + 4 ≤ 4; omega)
  have c3 : Host.clampedStart S8192x4x4x128 S1x4x4x128 h.1 st 3 = 0 := Host.clampedStart_of_le h.1 st 3 0 h3 (by show 0 + 128 ≤ 128; omega)
  by_cases hr : r = s
  · rw [if_pos hr, dif_pos]
    · refine congrArg U ?_
      funext a
      refine Fin.cases ?_ (fun a => Fin.cases ?_ (fun a => Fin.cases ?_ (fun a => Fin.cases ?_ (fun a => a.elim0) a) a) a) a
      · exact Fin.ext (by show r.val - Host.clampedStart S8192x4x4x128 S1x4x4x128 h.1 st 0 = 0; rw [c0, hr]; omega)
      · exact Fin.ext (by show b.val - Host.clampedStart S8192x4x4x128 S1x4x4x128 h.1 st 1 = b.val; omega)
      · exact Fin.ext (by show k.val - Host.clampedStart S8192x4x4x128 S1x4x4x128 h.1 st 2 = k.val; omega)
      · exact Fin.ext (by show d.val - Host.clampedStart S8192x4x4x128 S1x4x4x128 h.1 st 3 = d.val; omega)
    · intro a
      refine Fin.cases ?_ (fun a => Fin.cases ?_ (fun a => Fin.cases ?_ (fun a => Fin.cases ?_ (fun a => a.elim0) a) a) a) a
      · exact ⟨by show Host.clampedStart S8192x4x4x128 S1x4x4x128 h.1 st 0 ≤ r.val; rw [c0, hr], by show r.val < Host.clampedStart S8192x4x4x128 S1x4x4x128 h.1 st 0 + 1; rw [c0, hr]; omega⟩
      · exact ⟨by show Host.clampedStart S8192x4x4x128 S1x4x4x128 h.1 st 1 ≤ b.val; omega, by show b.val < Host.clampedStart S8192x4x4x128 S1x4x4x128 h.1 st 1 + 4; omega⟩
      · exact ⟨by show Host.clampedStart S8192x4x4x128 S1x4x4x128 h.1 st 2 ≤ k.val; omega, by show k.val < Host.clampedStart S8192x4x4x128 S1x4x4x128 h.1 st 2 + 4; omega⟩
      · exact ⟨by show Host.clampedStart S8192x4x4x128 S1x4x4x128 h.1 st 3 ≤ d.val; omega, by show d.val < Host.clampedStart S8192x4x4x128 S1x4x4x128 h.1 st 3 + 128; omega⟩
  · rw [if_neg hr, dif_neg]
    intro hin
    have g := hin 0
    have g1 : Host.clampedStart S8192x4x4x128 S1x4x4x128 h.1 st 0 ≤ r.val := g.1
    have g2 : r.val < Host.clampedStart S8192x4x4x128 S1x4x4x128 h.1 st 0 + 1 := g.2
    exact hr (Fin.ext (by omega))

section
variable (V : Valuation τ sig (Elt Ideal)) (s : Fin 8192) (Q K Vv : Fin 4 → Fin 4 → Fin 128 → ℝ) (a bb : Fin 4 → Fin 4 → ℝ) (S : Fin 4 → Fin 4 → St)
  (h5 : (V (Proc.devRef .tc main_v83_5) : IVec S_ 32) = fun _ => BitVec.ofNat 32 s.val)
  (h0 : ∀ b h d, (V (Proc.devRef .tc main_v83_0) : FVec Ideal S8192x4x4x128 .f32) (ix4 s b h d) = ((Q b h d : ℝ) : EReal))
  (h1 : ∀ b h d, (V (Proc.devRef .tc main_v83_1) : FVec Ideal S8192x4x4x128 .f32) (ix4 s b h d) = ((K b h d : ℝ) : EReal))
  (h2 : ∀ b h d, (V (Proc.devRef .tc main_v83_2) : FVec Ideal S8192x4x4x128 .f32) (ix4 s b h d) = ((Vv b h d : ℝ) : EReal))
  (h3 : ∀ b h, (V (Proc.devRef .tc main_v83_3) : FVec Ideal S8192x4x4 .f32) (ix3 s b h) = ((a b h : ℝ) : EReal))
  (h4 : ∀ b h, (V (Proc.devRef .tc main_v83_4) : FVec Ideal S8192x4x4 .f32) (ix3 s b h) = ((bb b h : ℝ) : EReal))
  (h6 : ∀ b h d e, (V (Proc.devRef .tc main_v83_6) : FVec Ideal S4x4x128x128 .f32) (ix4 b h d e) = ((S b h d e : ℝ) : EReal))

theorem word (s : Fin 8192) : (BitVec.ofNat 32 s.val).toInt = (s.val : ℤ) := by
  rw [BitVec.toInt_eq_toNat_cond, BitVec.toNat_ofNat]
  omega

include h5 in
theorem rw4 (X : FVec Ideal S8192x4x4x128 .f32) (h : S8192x4x4x128.Slices (fun _ => 0) S1x4x4x128) (u : Fin 1) (b k : Fin 4) (d : Fin 128) :
    Host.dynamicSlice S1x4x4x128 X (fun k => (((![V (Proc.devRef .tc main_v83_5), constantI S_ 32 0#32, constantI S_ 32 0#32, constantI S_ 32 0#32] : Fin 4 → (⟨S_, .i32⟩ : BufTy).Contents (Elt Ideal))) k (Shape.Idx.first h_S_)).toInt) h (ix4 u b k d)
      = X (ix4 s b k d) :=
  row4 X _ h s (by show ((V (Proc.devRef .tc main_v83_5) : IVec S_ 32) _).toInt = _; rw [h5]; exact word s) rfl rfl rfl u b k d

include h5 in
theorem rw3 (X : FVec Ideal S8192x4x4 .f32) (h : S8192x4x4.Slices (fun _ => 0) S1x4x4) (u : Fin 1) (b k : Fin 4) :
    Host.dynamicSlice S1x4x4 X (fun k => (((![V (Proc.devRef .tc main_v83_5), constantI S_ 32 0#32, constantI S_ 32 0#32] : Fin 3 → (⟨S_, .i32⟩ : BufTy).Contents (Elt Ideal))) k (Shape.Idx.first h_S_)).toInt) h (ix3 u b k)
      = X (ix3 s b k) :=
  row3 X _ h s (by show ((V (Proc.devRef .tc main_v83_5) : IVec S_ 32) _).toInt = _; rw [h5]; exact word s) rfl rfl u b k

theorem cast4 {α : Type} (X : S1x4x4x128.Idx → α) (h : S1x4x4x128.ShapeCasts S4x4x128) (b k : Fin 4) (d : Fin 128) : shapeCast S4x4x128 X h (ix3 b k d) = X (ix4 0 b k d) := by
  pointwise

theorem cast3 {α : Type} (X : S1x4x4.Idx → α) (h : S1x4x4.ShapeCasts S4x4) (b k : Fin 4) : shapeCast S4x4 X h (ix2 b k) = X (ix3 0 b k) := by
  pointwise

include h5 h1 in
theorem k_at (b h : Fin 4) (d : Fin 128) : (res_main_while0b_v107 V : FVec Ideal S4x4x128 .f32) (ix3 b h d) = ((K b h d : ℝ) : EReal) := by
  unfold res_main_while0b_v107
  exact (cast4 _ _ b h d).trans ((rw4 V s h5 _ _ 0 b h d).trans (h1 b h d))

include h5 h1 h4 in
theorem bk_at (b h : Fin 4) (d : Fin 128) (u : Fin 1) : (res_main_while0b_v114 V : FVec Ideal S4x4x128x1 .f32) (ix4 b h d u) = ((bb b h * K b h d : ℝ) : EReal) := by
  unfold res_main_while0b_v114
  have e1 := k_at V s K h5 h1 b h d
  have e2 := (cast3 (Host.dynamicSlice S1x4x4 (V (Proc.devRef .tc main_v83_4) : FVec Ideal S8192x4x4 .f32) (fun k => (((![V (Proc.devRef .tc main_v83_5), constantI S_ 32 0#32, constantI S_ 32 0#32] : Fin 3 → (⟨S_, .i32⟩ : BufTy).Contents (Elt Ideal))) k (Shape.Idx.first h_S_)).toInt) sliceFits_S8192x4x4_S1x4x4) shapeCasts_S1x4x4_S4x4 b h).trans ((rw3 V s h5 _ _ 0 b h).trans (h4 b h))
  generalize shapeCast S4x4 (Host.dynamicSlice S1x4x4 (V (Proc.devRef .tc main_v83_4) : FVec Ideal S8192x4x4 .f32) (fun k => (((![V (Proc.devRef .tc main_v83_5), constantI S_ 32 0#32, constantI S_ 32 0#32] : Fin 3 → (⟨S_, .i32⟩ : BufTy).Contents (Elt Ideal))) k (Shape.Idx.first h_S_)).toInt) sliceFits_S8192x4x4_S1x4x4) shapeCasts_S1x4x4_S4x4 = A at e2 ⊢
  generalize (res_main_while0b_v107 V : FVec Ideal S4x4x128 .f32) = B at e1 ⊢
  pointwise
  rw [e1, e2, EReal.coe_mul]

end

/-- The state after a token, from the pieces. -/
theorem st_at (A : FVec Ideal S4x4 .f32) (S : FVec Ideal S4x4x128x128 .f32) (bk : FVec Ideal S4x4x128x1 .f32) (k v : FVec Ideal S4x4x128 .f32) (b h : Fin 4) (d e : Fin 128) :
    addf (mulf (broadcastInDim S4x4x128x128 ![0, 1, 2, 3] bcast_S4x4x1x1_S4x4x128x128_0_1_2_3 (broadcastInDim S4x4x1x1 ![0, 1] bcast_S4x4_S4x4x1x1_0_1 A))
      (subf S (mulf (broadcastInDim S4x4x128x128 ![0, 1, 2, 3] bcast_S4x4x128x1_S4x4x128x128_0_1_2_3 bk) (broadcastInDim S4x4x128x128 ![0, 1, 2, 3] bcast_S4x4x1x128_S4x4x128x128_0_1_2_3
        (broadcastInDim S4x4x1x128 ![0, 1, 3] bcast_S4x4x128_S4x4x1x128_0_1_3 (Host.dotGeneral dot_S4x4x128_S4x4x128x128_S4x4x128_2_2_n_3_01_01 none k S))))))
      (mulf (broadcastInDim S4x4x128x128 ![0, 1, 2, 3] bcast_S4x4x128x1_S4x4x128x128_0_1_2_3 bk) (broadcastInDim S4x4x128x128 ![0, 1, 2, 3] bcast_S4x4x1x128_S4x4x128x128_0_1_2_3
        (broadcastInDim S4x4x1x128 ![0, 1, 3] bcast_S4x4x128_S4x4x1x128_0_1_3 v))) (ix4 b h d e)
      = A (ix2 b h) * (S (ix4 b h d e) - bk (ix4 b h d 0) * ∑ x, k (ix3 b h x) * S (ix4 b h x e)) + bk (ix4 b h d 0) * v (ix3 b h e) := by
  pointwise

theorem glue {A A' s s' b b' v v' : EReal} {k k' S S' : Fin 128 → EReal} (hA : A = A') (hs : s = s') (hb : b = b') (hk : ∀ x, k x = k' x)
    (hS : ∀ x, S x = S' x) (hv : v = v') : A * (s - b * ∑ x, k x * S x) + b * v = A' * (s' - b' * ∑ x, k' x * S' x) + b' * v' := by
  obtain rfl := funext hk
  obtain rfl := funext hS
  subst hA hs hb hv
  rfl

theorem mul_of {A A' B B' : EReal} (hA : A = A') (hB : B = B') : A * B = A' * B' := by rw [hA, hB]

/-- What a token reads of the state. -/
theorem rd_at (q : FVec Ideal S4x4x128 .f32) (S : FVec Ideal S4x4x128x128 .f32) (u : Fin 1) (b h : Fin 4) (e : Fin 128) :
    (broadcastInDim S1x4x4x128 ![1, 2, 3] bcast_S4x4x128_S1x4x4x128_1_2_3 (Host.dotGeneral dot_S4x4x128_S4x4x128x128_S4x4x128_2_2_n_3_01_01 none q S : FVec Ideal S4x4x128 .f32)) (ix4 u b h e)
      = ∑ d, q (ix3 b h d) * S (ix4 b h d e) := by
  pointwise

section
variable (V : Valuation τ sig (Elt Ideal)) (s : Fin 8192) (Q K Vv : Fin 4 → Fin 4 → Fin 128 → ℝ) (a bb : Fin 4 → Fin 4 → ℝ) (S : Fin 4 → Fin 4 → St)
  (h5 : (V (Proc.devRef .tc main_v83_5) : IVec S_ 32) = fun _ => BitVec.ofNat 32 s.val)
  (h0 : ∀ b h d, (V (Proc.devRef .tc main_v83_0) : FVec Ideal S8192x4x4x128 .f32) (ix4 s b h d) = ((Q b h d : ℝ) : EReal))
  (h1 : ∀ b h d, (V (Proc.devRef .tc main_v83_1) : FVec Ideal S8192x4x4x128 .f32) (ix4 s b h d) = ((K b h d : ℝ) : EReal))
  (h2 : ∀ b h d, (V (Proc.devRef .tc main_v83_2) : FVec Ideal S8192x4x4x128 .f32) (ix4 s b h d) = ((Vv b h d : ℝ) : EReal))
  (h3 : ∀ b h, (V (Proc.devRef .tc main_v83_3) : FVec Ideal S8192x4x4 .f32) (ix3 s b h) = ((a b h : ℝ) : EReal))
  (h4 : ∀ b h, (V (Proc.devRef .tc main_v83_4) : FVec Ideal S8192x4x4 .f32) (ix3 s b h) = ((bb b h : ℝ) : EReal))
  (h6 : ∀ b h d e, (V (Proc.devRef .tc main_v83_6) : FVec Ideal S4x4x128x128 .f32) (ix4 b h d e) = ((S b h d e : ℝ) : EReal))

include h5 h1 h2 h3 h4 h6 in
theorem state_at (b h : Fin 4) (d e : Fin 128) : (res_main_while0b_v128 V : FVec Ideal S4x4x128x128 .f32) (ix4 b h d e)
    = ((tok (a b h) (bb b h) (K b h) (Vv b h) (S b h) d e : ℝ) : EReal) := by
  unfold res_main_while0b_v128
  refine (st_at _ _ _ _ _ b h d e).trans ?_
  refine (glue ((cast3 _ _ b h).trans ((rw3 V s h5 _ _ 0 b h).trans (h3 b h))) (h6 b h d e) (bk_at V s K bb h5 h1 h4 b h d 0)
    (fun x => k_at V s K h5 h1 b h x) (fun x => h6 b h x e) ((cast4 _ _ b h e).trans ((rw4 V s h5 _ _ 0 b h e).trans (h2 b h e)))).trans ?_
  simp only [← EReal.coe_mul, coe_sum, ← EReal.coe_add, ← EReal.coe_sub]
  rfl

include h5 h0 h1 h2 h3 h4 h6 in
theorem write_at (r : Fin 8192) (b h : Fin 4) (e : Fin 128) : (step_main_v83_7 V : FVec Ideal S8192x4x4x128 .f32) (ix4 r b h e)
    = if r = s then ((∑ d, Q b h d * tok (a b h) (bb b h) (K b h) (Vv b h) (S b h) d e : ℝ) : EReal) else (V (Proc.devRef .tc main_v83_7) : FVec Ideal S8192x4x4x128 .f32) (ix4 r b h e) := by
  unfold step_main_v83_7
  refine (upd4 _ _ _ _ s (by show ((V (Proc.devRef .tc main_v83_5) : IVec S_ 32) _).toInt = _; rw [h5]; exact word s) rfl rfl rfl r b h e).trans ?_
  by_cases hr : r = s
  · rw [if_pos hr, if_pos hr]
    refine (rd_at _ _ 0 b h e).trans ?_
    rw [← coe_sum]
    refine Finset.sum_congr rfl fun d _ => ?_
    rw [EReal.coe_mul]
    exact mul_of ((cast4 _ _ b h d).trans ((rw4 V s h5 _ _ 0 b h d).trans (h0 b h d))) (state_at V s K Vv a bb S h5 h1 h2 h3 h4 h6 b h d e)
  · rw [if_neg hr, if_neg hr]

end

/-- The loop's buffers after `n` tokens. -/
structure Inv (T : Fin 4 → Toks) (E V : Valuation τ sig (Elt Ideal)) (n : ℕ) : Prop where
  w5 : (V (Proc.devRef .tc main_v83_5) : IVec S_ 32) = fun _ => BitVec.ofNat 32 n
  w0 : V (Proc.devRef .tc main_v83_0) = E (Proc.devRef .tc main_v83_0)
  w1 : V (Proc.devRef .tc main_v83_1) = E (Proc.devRef .tc main_v83_1)
  w2 : V (Proc.devRef .tc main_v83_2) = E (Proc.devRef .tc main_v83_2)
  w3 : V (Proc.devRef .tc main_v83_3) = E (Proc.devRef .tc main_v83_3)
  w4 : V (Proc.devRef .tc main_v83_4) = E (Proc.devRef .tc main_v83_4)
  w6 : ∀ b h d e, (V (Proc.devRef .tc main_v83_6) : FVec Ideal S4x4x128x128 .f32) (ix4 b h d e) = (((T b).R zst h n d e : ℝ) : EReal)
  w7 : ∀ (s : Fin 8192) b h e, s.val < n → (V (Proc.devRef .tc main_v83_7) : FVec Ideal S8192x4x4x128 .f32) (ix4 s b h e) = (((T b).o zst h s.val e : ℝ) : EReal)

theorem inv_all (T : Fin 4 → Toks) (E : Valuation τ sig (Elt Ideal))
    (h5 : (E (Proc.devRef .tc main_v83_5) : IVec S_ 32) = fun _ => 0#32)
    (h0 : ∀ s b h d, (E (Proc.devRef .tc main_v83_0) : FVec Ideal S8192x4x4x128 .f32) (ix4 s b h d) = (((T b).q h s.val d : ℝ) : EReal))
    (h1 : ∀ s b h d, (E (Proc.devRef .tc main_v83_1) : FVec Ideal S8192x4x4x128 .f32) (ix4 s b h d) = (((T b).k h s.val d : ℝ) : EReal))
    (h2 : ∀ s b h d, (E (Proc.devRef .tc main_v83_2) : FVec Ideal S8192x4x4x128 .f32) (ix4 s b h d) = (((T b).v h s.val d : ℝ) : EReal))
    (h3 : ∀ s b h, (E (Proc.devRef .tc main_v83_3) : FVec Ideal S8192x4x4 .f32) (ix3 s b h) = ((Real.exp ((T b).g h s.val) : ℝ) : EReal))
    (h4 : ∀ s b h, (E (Proc.devRef .tc main_v83_4) : FVec Ideal S8192x4x4 .f32) (ix3 s b h) = (((T b).b h s.val : ℝ) : EReal))
    (h6 : ∀ b h d e, (E (Proc.devRef .tc main_v83_6) : FVec Ideal S4x4x128x128 .f32) (ix4 b h d e) = ((0 : ℝ) : EReal)) :
    ∀ n, n ≤ 8192 → Inv T E (STEP^[n] E) n := by
  intro n
  induction n with
  | zero =>
    intro _
    rw [Function.iterate_zero, id_eq]
    refine ⟨h5, rfl, rfl, rfl, rfl, rfl, fun b h d e => ?_, fun s b h e hs => absurd hs (Nat.not_lt_zero _)⟩
    rw [h6 b h d e]
    rfl
  | succ n ih =>
    intro hn
    have I := ih (by omega)
    rw [Function.iterate_succ_apply']
    generalize STEP^[n] E = V at I ⊢
    have g0 : ∀ b h d, (V (Proc.devRef .tc main_v83_0) : FVec Ideal S8192x4x4x128 .f32) (ix4 (⟨n, hn⟩ : Fin 8192) b h d) = (((T b).q h n d : ℝ) : EReal) :=
      fun b h d => by rw [I.w0]; exact h0 ⟨n, hn⟩ b h d
    have g1 : ∀ b h d, (V (Proc.devRef .tc main_v83_1) : FVec Ideal S8192x4x4x128 .f32) (ix4 (⟨n, hn⟩ : Fin 8192) b h d) = (((T b).k h n d : ℝ) : EReal) :=
      fun b h d => by rw [I.w1]; exact h1 ⟨n, hn⟩ b h d
    have g2 : ∀ b h d, (V (Proc.devRef .tc main_v83_2) : FVec Ideal S8192x4x4x128 .f32) (ix4 (⟨n, hn⟩ : Fin 8192) b h d) = (((T b).v h n d : ℝ) : EReal) :=
      fun b h d => by rw [I.w2]; exact h2 ⟨n, hn⟩ b h d
    have g3 : ∀ b h, (V (Proc.devRef .tc main_v83_3) : FVec Ideal S8192x4x4 .f32) (ix3 (⟨n, hn⟩ : Fin 8192) b h) = ((Real.exp ((T b).g h n) : ℝ) : EReal) :=
      fun b h => by rw [I.w3]; exact h3 ⟨n, hn⟩ b h
    have g4 : ∀ b h, (V (Proc.devRef .tc main_v83_4) : FVec Ideal S8192x4x4 .f32) (ix3 (⟨n, hn⟩ : Fin 8192) b h) = (((T b).b h n : ℝ) : EReal) :=
      fun b h => by rw [I.w4]; exact h4 ⟨n, hn⟩ b h
    refine ⟨?_, (STEP_main_v83_0 V).trans I.w0, (STEP_main_v83_1 V).trans I.w1, (STEP_main_v83_2 V).trans I.w2, (STEP_main_v83_3 V).trans I.w3, (STEP_main_v83_4 V).trans I.w4, ?_, ?_⟩
    · refine (STEP_main_v83_5 V).trans ?_
      unfold step_main_v83_5
      rw [I.w5]
      funext x
      show BitVec.ofNat 32 n + 1#32 = BitVec.ofNat 32 (n + 1)
      rw [BitVec.ofNat_add]
    · intro b h d e
      rw [STEP_main_v83_6 V]
      unfold step_main_v83_6
      exact state_at V ⟨n, hn⟩ (fun b h => (T b).k h n) (fun b h => (T b).v h n) (fun b h => Real.exp ((T b).g h n)) (fun b h => (T b).b h n) (fun b h => (T b).R zst h n) I.w5 g1 g2 g3 g4 I.w6 b h d e
    · intro s b h e hs
      rw [STEP_main_v83_7 V]
      refine (write_at V ⟨n, hn⟩ (fun b h => (T b).q h n) (fun b h => (T b).k h n) (fun b h => (T b).v h n) (fun b h => Real.exp ((T b).g h n)) (fun b h => (T b).b h n) (fun b h => (T b).R zst h n) I.w5 g0 g1 g2 g3 g4 I.w6 s b h e).trans ?_
      by_cases hr : s = ⟨n, hn⟩
      · rw [if_pos hr, hr]
        rfl
      · rw [if_neg hr]
        exact I.w7 s b h e (by have : s.val ≠ n := fun q => hr (Fin.ext q); omega)

end Dn.Ref
-- ==== Proof.DnRefPre.lean ====
/-
  What the reference computes before its loop, at arrays of reals: the convolution with its
  activation, the unit rows, and the gates.
-/
module

public import proofs.«01_k».proof.Proof.DnGrid
public import proofs.«01_k».proof.Proof.DnRefStep

@[expose] public section

set_option maxRecDepth 16384

noncomputable section

open Idealize.ShloMosaic Idealize.ShloMosaic.TcCoe Idealize.SL.Sem

namespace Dn.Ref

open Cert.ReferenceIdeal Cert.ReferenceIdeal.Gen Cert.ReferenceIdeal.Value

/-! ## The text -/

/-- Three zero tokens before the first. -/
def rPad (q : FVec Ideal S4x8192x1536 .f32) : FVec Ideal S4x8195x1536 .f32 :=
  pad S4x8195x1536 ![0, 3, 0] ![0, 0, 0] ![0, 0, 0] q (sitofp .f32 (constantI S_ 32 0#32)) pads_S4x8192x1536_S4x8195x1536_000_300_000 h_S_

def rRow (w : FVec Ideal S1x1536 .f32) : FVec Ideal S4x8192x1536 .f32 :=
  broadcastInDim S4x8192x1536 ![0, 1, 2] bcast_S1x1x1536_S4x8192x1536_0_1_2 (broadcastInDim S1x1x1536 ![2] bcast_S1536_S1x1x1536_2 (shapeCast S1536 w shapeCasts_S1x1536_S1536))

def rConv (P : FVec Ideal S4x8195x1536 .f32) (w : FVec Ideal S4x1536 .f32) : FVec Ideal S4x8192x1536 .f32 :=
  addf (addf (addf (addf (broadcastInDim S4x8192x1536 ![] bcast_S_S4x8192x1536 (constant S_ .f32 0x00000000#32))
    (mulf (extractStridedSlice S4x8192x1536 ![0, 0, 0] P slices_S4x8195x1536_S4x8192x1536_0_0_0) (rRow (extractStridedSlice S1x1536 ![0, 0] w slices_S4x1536_S1x1536_0_0))))
    (mulf (extractStridedSlice S4x8192x1536 ![0, 1, 0] P slices_S4x8195x1536_S4x8192x1536_0_1_0) (rRow (extractStridedSlice S1x1536 ![1, 0] w slices_S4x1536_S1x1536_1_0))))
    (mulf (extractStridedSlice S4x8192x1536 ![0, 2, 0] P slices_S4x8195x1536_S4x8192x1536_0_2_0) (rRow (extractStridedSlice S1x1536 ![2, 0] w slices_S4x1536_S1x1536_2_0))))
    (mulf (extractStridedSlice S4x8192x1536 ![0, 3, 0] P slices_S4x8195x1536_S4x8192x1536_0_3_0) (rRow (extractStridedSlice S1x1536 ![3, 0] w slices_S4x1536_S1x1536_3_0)))

def rSilu (X : FVec Ideal S4x8192x1536 .f32) : FVec Ideal S4x8192x1536 .f32 :=
  mulf X (Host.divf (broadcastInDim S4x8192x1536 ![] bcast_S_S4x8192x1536 (constant S_ .f32 0x3F800000#32))
    (addf (broadcastInDim S4x8192x1536 ![] bcast_S_S4x8192x1536 (constant S_ .f32 0x3F800000#32)) (Host.exp (Host.negf X))))

def rUnit (Z : FVec Ideal S4x8192x512 .f32) : FVec Ideal S8192x4x4x128 .f32 :=
  transpose S8192x4x4x128 [1, 0, 2, 3] (mulf (shapeCast S4x8192x4x128 Z shapeCasts_S4x8192x512_S4x8192x4x128)
    (broadcastInDim S4x8192x4x128 ![0, 1, 2, 3] bcast_S4x8192x4x1_S4x8192x4x128_0_1_2_3
      (Host.rsqrt (addf (broadcastInDim S4x8192x4x1 ![0, 1, 2] bcast_S4x8192x4_S4x8192x4x1_0_1_2
        (Host.reduceAdd (mulf (shapeCast S4x8192x4x128 Z shapeCasts_S4x8192x512_S4x8192x4x128) (shapeCast S4x8192x4x128 Z shapeCasts_S4x8192x512_S4x8192x4x128))
          (constant S_ .f32 0x00000000#32) reducesTo_S4x8192x4x128_S4x8192x4_d3 h_S_))
        (broadcastInDim S4x8192x4x1 ![] bcast_S_S4x8192x4x1 (constant S_ .f32 0x358637BD#32)))))) transposes_S4x8192x4x128_S8192x4x4x128_1_0_2_3

/-! ## Its values -/

theorem pad_at (q : FVec Ideal S4x8192x1536 .f32) (hq : Fin' q) (b : Fin 4) (t : Fin 8195) (c : Fin 1536) :
    rPad q (ix3 b t c) = ((seqY q b (5 + t.val) c.val : ℝ) : EReal) := by
  unfold rPad
  by_cases h : 3 ≤ t.val
  · refine Eq.trans ?_ (seqY_at q b hq ⟨t.val - 3, by omega⟩ (5 + t.val) (by show _ = 8 + (t.val - 3); omega) c)
    pointwise
    exact dif_pos ⟨h, by omega⟩
  · rw [seqY_zero q b _ _ (by omega)]
    pointwise
    exact (dif_neg fun g => h g.1).trans Cert.Inproj.sitofp_zero

theorem row_at (w : FVec Ideal S1x1536 .f32) (b : Fin 4) (s : Fin 8192) (c : Fin 1536) : rRow w (ix3 b s c) = w (ix2 0 c) := by
  unfold rRow
  pointwise

theorem conv_at (P : FVec Ideal S4x8195x1536 .f32) (w : FVec Ideal S4x1536 .f32) (b : Fin 4) (s : Fin 8192) (c : Fin 1536) :
    rConv P w (ix3 b s c) = P (ix3 b ⟨s.val, by omega⟩ c) * w (ix2 0 c) + P (ix3 b ⟨1 + s.val, by omega⟩ c) * w (ix2 1 c)
      + P (ix3 b ⟨2 + s.val, by omega⟩ c) * w (ix2 2 c) + P (ix3 b ⟨3 + s.val, by omega⟩ c) * w (ix2 3 c) := by
  unfold rConv
  pointwise
  simp only [row_at]
  pointwise

theorem silu_at (X : FVec Ideal S4x8192x1536 .f32) (i : S4x8192x1536.Idx) (x : ℝ) (hx : X i = (x : EReal)) : rSilu X i = ((siluR x : ℝ) : EReal) := by
  obtain ⟨b, s, c, rfl⟩ : ∃ b s c, i = ix3 b s c := ⟨i 0, i 1, i 2, eq_ix3 i⟩
  unfold rSilu
  pointwise
  rw [hx, ← EReal.coe_neg, Ideal.exp_coe, ← EReal.coe_one, ← EReal.coe_add, Ideal.div_coe (by have := Real.exp_pos (-x); linarith), ← EReal.coe_mul, ← EReal.coe_mul, one_mul]
  rfl

theorem unit_at (Z : FVec Ideal S4x8192x512 .f32) (s : Fin 8192) (b h : Fin 4) (d : Fin 128) :
    rUnit Z (ix4 s b h d) = Z (ix3 b s ⟨128 * h.val + d.val, by omega⟩)
      * Ideal.rsqrt ((∑ k : Fin 128, Z (ix3 b s ⟨128 * h.val + k.val, by omega⟩) * Z (ix3 b s ⟨128 * h.val + k.val, by omega⟩)) + Ideal.ofBits .f32 0x358637BD#32) := by
  unfold rUnit
  pointwise
  simp only [Nat.mul_comm h.val 128]

/-! ## The gates -/

def rSig (X : FVec Ideal S4x8192x4 .f32) : FVec Ideal S4x8192x4 .f32 :=
  Host.divf (broadcastInDim S4x8192x4 ![] bcast_S_S4x8192x4 (constant S_ .f32 0x3F800000#32))
    (addf (broadcastInDim S4x8192x4 ![] bcast_S_S4x8192x4 (constant S_ .f32 0x3F800000#32)) (Host.exp (Host.negf X)))

def rZero : FVec Ideal S4x8192x4 .f32 := broadcastInDim S4x8192x4 ![] bcast_S_S4x8192x4 (constant S_ .f32 0x00000000#32)

def rSp (D : FVec Ideal S4x8192x4 .f32) : FVec Ideal S4x8192x4 .f32 :=
  select (cmpf .une (subf D rZero) (subf D rZero)) (addf D rZero)
    (addf (maximumf D rZero) (Host.log1p (Host.exp (Host.negf (Host.absf (subf D rZero))))))

def rAll (w : FVec Ideal S4 .f32) : FVec Ideal S4x8192x4 .f32 :=
  broadcastInDim S4x8192x4 ![0, 1, 2] bcast_S1x1x4_S4x8192x4_0_1_2 (broadcastInDim S1x1x4 ![2] bcast_S4_S1x1x4_2 w)

theorem sig_at (X : FVec Ideal S4x8192x4 .f32) (b : Fin 4) (s : Fin 8192) (h : Fin 4) (x : ℝ) (hx : X (ix3 b s h) = (x : EReal)) :
    rSig X (ix3 b s h) = ((sigR x : ℝ) : EReal) := by
  unfold rSig
  pointwise
  rw [hx, ← EReal.coe_neg, Ideal.exp_coe, ← EReal.coe_one, ← EReal.coe_add, Ideal.div_coe (by have := Real.exp_pos (-x); linarith), ← EReal.coe_mul, one_mul, one_div]
  rfl

theorem all_at (w : FVec Ideal S4 .f32) (b : Fin 4) (s : Fin 8192) (h : Fin 4) : rAll w (ix3 b s h) = w (ix1 h) := by
  unfold rAll
  pointwise

theorem sp_at (D : FVec Ideal S4x8192x4 .f32) (b : Fin 4) (s : Fin 8192) (h : Fin 4) (x : ℝ) (hx : D (ix3 b s h) = (x : EReal)) :
    rSp D (ix3 b s h) = ((spR x : ℝ) : EReal) := by
  unfold rSp rZero
  pointwise
  rw [if_neg (fun g => g rfl), hx]
  have ea : max ((x : ℝ) : EReal) (-((x : ℝ) : EReal)) = ((|x| : ℝ) : EReal) := by
    rw [← EReal.coe_neg, max_coe]; rfl
  have hp : ¬ (1 + Real.exp (-|x|)) ≤ 0 := by have := Real.exp_pos (-|x|); linarith
  show max ((x : ℝ) : EReal) ((0 : ℝ) : EReal) + Ideal.log (((1 : ℝ) : EReal) + Ideal.exp (-(max ((x : ℝ) : EReal) (-((x : ℝ) : EReal))))) = ((spR x : ℝ) : EReal)
  rw [ea, ← EReal.coe_neg, Ideal.exp_coe, ← EReal.coe_add, Ideal.log_coe, if_neg hp, max_coe, ← EReal.coe_add]
  rfl

/-! ## The loop's arrays -/

def rAct (q : FVec Ideal S4x8192x1536 .f32) (cw : FVec Ideal S1x4x1536 .f32) : FVec Ideal S4x8192x1536 .f32 :=
  rSilu (rConv (rPad q) (shapeCast S4x1536 cw shapeCasts_S1x4x1536_S4x1536))

def rQ (q : FVec Ideal S4x8192x1536 .f32) (cw : FVec Ideal S1x4x1536 .f32) : FVec Ideal S8192x4x4x128 .f32 :=
  mulf (rUnit (extractStridedSlice S4x8192x512 ![0, 0, 0] (rAct q cw) slices_S4x8192x1536_S4x8192x512_0_0_0))
    (broadcastInDim S8192x4x4x128 ![] bcast_S_S8192x4x4x128 (constant S_ .f32 0x3DB504F3#32))

def rK (q : FVec Ideal S4x8192x1536 .f32) (cw : FVec Ideal S1x4x1536 .f32) : FVec Ideal S8192x4x4x128 .f32 :=
  rUnit (extractStridedSlice S4x8192x512 ![0, 0, 512] (rAct q cw) slices_S4x8192x1536_S4x8192x512_0_0_512)

def rV (q : FVec Ideal S4x8192x1536 .f32) (cw : FVec Ideal S1x4x1536 .f32) : FVec Ideal S8192x4x4x128 .f32 :=
  transpose S8192x4x4x128 [1, 0, 2, 3] (shapeCast S4x8192x4x128 (extractStridedSlice S4x8192x512 ![0, 0, 1024] (rAct q cw) slices_S4x8192x1536_S4x8192x512_0_0_1024)
    shapeCasts_S4x8192x512_S4x8192x4x128) transposes_S4x8192x4x128_S8192x4x4x128_1_0_2_3

def rB (ba : FVec Ideal S4x8192x8 .f32) : FVec Ideal S8192x4x4 .f32 :=
  transpose S8192x4x4 [1, 0, 2] (rSig (extractStridedSlice S4x8192x4 ![0, 0, 0] ba slices_S4x8192x8_S4x8192x4_0_0_0)) transposes_S4x8192x4_S8192x4x4_1_0_2

def rG (ba : FVec Ideal S4x8192x8 .f32) (al dt : FVec Ideal S1x4 .f32) : FVec Ideal S8192x4x4 .f32 :=
  Host.exp (transpose S8192x4x4 [1, 0, 2] (mulf (rAll (Host.negf (Host.exp (shapeCast S4 al shapeCasts_S1x4_S4))))
    (rSp (addf (extractStridedSlice S4x8192x4 ![0, 0, 4] ba slices_S4x8192x8_S4x8192x4_0_0_4) (rAll (shapeCast S4 dt shapeCasts_S1x4_S4)))))
    transposes_S4x8192x4_S8192x4x4_1_0_2)

section
variable (q : FVec Ideal S4x8192x1536 .f32) (ba : FVec Ideal S4x8192x8 .f32) (cw : FVec Ideal S1x4x1536 .f32) (al dt : FVec Ideal S1x4 .f32)
  (hq : Fin' q) (hb : Fin' ba) (hc : Fin' cw) (ha : Fin' al) (hd : Fin' dt)

theorem w_at (w : Fin 4) (c : Fin 1536) : (shapeCast S4x1536 cw shapeCasts_S1x4x1536_S4x1536) (ix2 w c) = cw (ix3 0 w c) := by
  pointwise

include hq hc in
theorem act_at (b : Fin 4) (s : Fin 8192) (c : Fin 1536) : rAct q cw (ix3 b s c) = ((actY (seqY q b) (seqW cw) s.val c.val : ℝ) : EReal) := by
  unfold rAct
  refine silu_at _ _ _ ?_
  rw [conv_at]
  simp only [pad_at q hq, w_at, seqW_at cw hc]
  simp only [← EReal.coe_mul, ← EReal.coe_add]
  refine congrArg _ ?_
  show seqY q b (5 + s.val) c.val * seqW cw 0 c.val + seqY q b (5 + (1 + s.val)) c.val * seqW cw 1 c.val + seqY q b (5 + (2 + s.val)) c.val * seqW cw 2 c.val
    + seqY q b (5 + (3 + s.val)) c.val * seqW cw 3 c.val = _
  rw [show 5 + (1 + s.val) = 6 + s.val by omega, show 5 + (2 + s.val) = 7 + s.val by omega, show 5 + (3 + s.val) = 8 + s.val by omega]
  ring

theorem cut0 (X : FVec Ideal S4x8192x1536 .f32) (b : Fin 4) (s : Fin 8192) (c : Fin 512) :
    extractStridedSlice S4x8192x512 ![0, 0, 0] X slices_S4x8192x1536_S4x8192x512_0_0_0 (ix3 b s c) = X (ix3 b s ⟨c.val, by omega⟩) := by
  pointwise

theorem cut1 (X : FVec Ideal S4x8192x1536 .f32) (b : Fin 4) (s : Fin 8192) (c : Fin 512) :
    extractStridedSlice S4x8192x512 ![0, 0, 512] X slices_S4x8192x1536_S4x8192x512_0_0_512 (ix3 b s c) = X (ix3 b s ⟨512 + c.val, by omega⟩) := by
  pointwise

theorem cut2 (X : FVec Ideal S4x8192x1536 .f32) (b : Fin 4) (s : Fin 8192) (c : Fin 512) :
    extractStridedSlice S4x8192x512 ![0, 0, 1024] X slices_S4x8192x1536_S4x8192x512_0_0_1024 (ix3 b s c) = X (ix3 b s ⟨1024 + c.val, by omega⟩) := by
  pointwise

/-- A row of a head divided by its length. -/
theorem unit_real (Z : FVec Ideal S4x8192x512 .f32) (A : ℕ → ℕ → ℝ) (b : Fin 4) (hZ : ∀ (s : Fin 8192) (c : Fin 512), Z (ix3 b s c) = ((A s.val c.val : ℝ) : EReal)) (s : Fin 8192) (h : Fin 4) (d : Fin 128) :
    rUnit Z (ix4 s b h d) = ((A s.val (128 * h.val + d.val) * (Real.sqrt ((∑ k : Fin 128, A s.val (128 * h.val + k.val) * A s.val (128 * h.val + k.val)) + epsR))⁻¹ : ℝ) : EReal) := by
  rw [unit_at]
  simp only [hZ, ← EReal.coe_mul, coe_sum]
  rw [eps_coe, ← EReal.coe_add, rsqrt_pos (add_pos_of_nonneg_of_pos (Finset.sum_nonneg fun k _ => mul_self_nonneg _) eps_pos), ← EReal.coe_mul]

include hq hc in
theorem z0_at (b : Fin 4) (s : Fin 8192) (c : Fin 512) : extractStridedSlice S4x8192x512 ![0, 0, 0] (rAct q cw) slices_S4x8192x1536_S4x8192x512_0_0_0 (ix3 b s c)
    = ((actY (seqY q b) (seqW cw) s.val c.val : ℝ) : EReal) := by
  rw [cut0 (rAct q cw) b s c, act_at q cw hq hc b s ⟨c.val, by omega⟩]

theorem scaled_at (U : FVec Ideal S8192x4x4x128 .f32) (s : Fin 8192) (b h : Fin 4) (d : Fin 128) :
    mulf U (broadcastInDim S8192x4x4x128 ![] bcast_S_S8192x4x4x128 (constant S_ .f32 0x3DB504F3#32)) (ix4 s b h d) = U (ix4 s b h d) * Ideal.ofBits .f32 0x3DB504F3#32 := by
  pointwise

include hq hc in
theorem uQ_at (s : Fin 8192) (b h : Fin 4) (d : Fin 128) : rUnit (extractStridedSlice S4x8192x512 ![0, 0, 0] (rAct q cw) slices_S4x8192x1536_S4x8192x512_0_0_0) (ix4 s b h d)
    = ((unitY (seqY q b) (seqW cw) s.val h.val d.val : ℝ) : EReal) := by
  have e := unit_real _ (actY (seqY q b) (seqW cw)) b (z0_at q cw hq hc b) s h d
  unfold unitY
  exact e

include hq hc in
theorem rQ_at (s : Fin 8192) (b h : Fin 4) (d : Fin 128) : rQ q cw (ix4 s b h d) = (((TT q ba cw al dt b 0).q h s.val d : ℝ) : EReal) := by
  unfold rQ
  rw [scaled_at, uQ_at q cw hq hc s b h d, scale_coe, ← EReal.coe_mul]
  show _ = ((unitY (seqY q b) (seqW cw) (0 + s.val) h.val d.val * scaleR : ℝ) : EReal)
  simp only [Nat.zero_add]

include hq hc in
theorem rK_at (s : Fin 8192) (b h : Fin 4) (d : Fin 128) : rK q cw (ix4 s b h d) = (((TT q ba cw al dt b 0).k h s.val d : ℝ) : EReal) := by
  refine (unit_real (extractStridedSlice S4x8192x512 ![0, 0, 512] (rAct q cw) slices_S4x8192x1536_S4x8192x512_0_0_512) (fun n c => actY (seqY q b) (seqW cw) n (512 + c)) b (fun s c => (cut1 (rAct q cw) b s c).trans (act_at q cw hq hc b s ⟨512 + c.val, by omega⟩)) s h d).trans ?_
  show _ = ((unitY (seqY q b) (seqW cw) (0 + s.val) (4 + h.val) d.val : ℝ) : EReal)
  unfold unitY
  simp only [show ∀ k, 512 + (128 * h.val + k) = 128 * (4 + h.val) + k by intro k; omega, Nat.zero_add]

include hq hc in
theorem rV_at (s : Fin 8192) (b h : Fin 4) (d : Fin 128) : rV q cw (ix4 s b h d) = (((TT q ba cw al dt b 0).v h s.val d : ℝ) : EReal) := by
  have e := (cut2 (rAct q cw) b s ⟨128 * h.val + d.val, by omega⟩).trans (act_at q cw hq hc b s ⟨1024 + (128 * h.val + d.val), by omega⟩)
  unfold rV
  generalize extractStridedSlice S4x8192x512 ![0, 0, 1024] (rAct q cw) slices_S4x8192x1536_S4x8192x512_0_0_1024 = U at e ⊢
  pointwise
  simp only [Nat.mul_comm h.val 128]
  rw [e]
  show _ = ((actY (seqY q b) (seqW cw) (0 + s.val) (128 * (8 + h.val) + d.val) : ℝ) : EReal)
  simp only [show 1024 + (128 * h.val + d.val) = 128 * (8 + h.val) + d.val by omega, Nat.zero_add]

include hb in
theorem rB_at (s : Fin 8192) (b h : Fin 4) : rB ba (ix3 s b h) = (((TT q ba cw al dt b 0).b h s.val : ℝ) : EReal) := by
  have hx : extractStridedSlice S4x8192x4 ![0, 0, 0] ba slices_S4x8192x8_S4x8192x4_0_0_0 (ix3 b s h) = (((ba (ix3 b s ⟨h.val, by omega⟩)).toReal : ℝ) : EReal) := by
    refine Eq.trans ?_ (hb (ix3 b s ⟨h.val, by omega⟩))
    pointwise
  have e := sig_at _ b s h _ hx
  unfold rB
  generalize rSig (extractStridedSlice S4x8192x4 ![0, 0, 0] ba slices_S4x8192x8_S4x8192x4_0_0_0) = U at e ⊢
  pointwise
  rw [e]
  show _ = ((seqB ba b h (0 + s.val) : ℝ) : EReal)
  rw [seqB_at ba b s (0 + s.val) (Nat.zero_add _) h]

include hb ha hd in
theorem rG_at (s : Fin 8192) (b h : Fin 4) : rG ba al dt (ix3 s b h) = ((Real.exp ((TT q ba cw al dt b 0).g h s.val) : ℝ) : EReal) := by
  have hx : addf (extractStridedSlice S4x8192x4 ![0, 0, 4] ba slices_S4x8192x8_S4x8192x4_0_0_4) (rAll (shapeCast S4 dt shapeCasts_S1x4_S4)) (ix3 b s h)
      = (((ba (ix3 b s ⟨4 + h.val, by omega⟩)).toReal + (dt (ix2 0 h)).toReal : ℝ) : EReal) := by
    have e : rAll (shapeCast S4 dt shapeCasts_S1x4_S4) (ix3 b s h) = dt (ix2 0 h) := by
      rw [all_at]
      pointwise
    rw [EReal.coe_add, ← hb, ← hd, ← e]
    generalize rAll (shapeCast S4 dt shapeCasts_S1x4_S4) = U
    pointwise
  have e := sp_at _ b s h _ hx
  have f : rAll (Host.negf (Host.exp (shapeCast S4 al shapeCasts_S1x4_S4))) (ix3 b s h) = ((-Real.exp (al (ix2 0 h)).toReal : ℝ) : EReal) := by
    rw [all_at, EReal.coe_neg, ← Ideal.exp_coe, ← ha]
    pointwise
  unfold rG
  generalize rSp (addf (extractStridedSlice S4x8192x4 ![0, 0, 4] ba slices_S4x8192x8_S4x8192x4_0_0_4) (rAll (shapeCast S4 dt shapeCasts_S1x4_S4))) = U at e ⊢
  generalize rAll (Host.negf (Host.exp (shapeCast S4 al shapeCasts_S1x4_S4))) = W at f ⊢
  pointwise
  rw [e, f, ← EReal.coe_mul, Ideal.exp_coe]
  show _ = ((Real.exp (seqG ba al dt b h (0 + s.val)) : ℝ) : EReal)
  rw [seqG_at ba al dt b s (0 + s.val) (Nat.zero_add _) h]

end

end Dn.Ref
-- ==== Proof.DnRefEnt.lean ====
/-
  The loop's arrays as the program's text leaves them.
-/
module

public import proofs.«01_k».proof.Proof.DnRefPre

@[expose] public section

set_option maxRecDepth 16384

noncomputable section

open Idealize.ShloMosaic Idealize.ShloMosaic.TcCoe Idealize.ShloMosaic.Tactic Idealize.SL.Sem
open Idealize.ShloMosaic.StableHlo Idealize.ShloMosaic.Pipeline

namespace Dn.Ref

open Cert.ReferenceIdeal Cert.ReferenceIdeal.Gen Cert.ReferenceIdeal.Value

variable (m : (ℓ : Loc nD τ sig) → Buf (Elt Ideal) ℓ) (c : Dev nD)

abbrev gQ : FVec Ideal S4x8192x1536 .f32 := m ((c.tc : Thread nD τ).loc main_arg0)
abbrev gZ : FVec Ideal S4x8192x512 .f32 := m ((c.tc : Thread nD τ).loc main_arg1)
abbrev gB : FVec Ideal S4x8192x8 .f32 := m ((c.tc : Thread nD τ).loc main_arg2)
abbrev gX : FVec Ideal S4x8192x1024 .f32 := m ((c.tc : Thread nD τ).loc main_arg3)
abbrev gY : FVec Ideal S4x8192x512 .f32 := m ((c.tc : Thread nD τ).loc main_arg4)
abbrev gC : FVec Ideal S1x4x1536 .f32 := m ((c.tc : Thread nD τ).loc main_arg5)
abbrev gL : FVec Ideal S1x4 .f32 := m ((c.tc : Thread nD τ).loc main_arg6)
abbrev gD : FVec Ideal S1x4 .f32 := m ((c.tc : Thread nD τ).loc main_arg7)
abbrev gN : FVec Ideal S1x128 .f32 := m ((c.tc : Thread nD τ).loc main_arg8)
abbrev gW : FVec Ideal S1x1024x1024 .f32 := m ((c.tc : Thread nD τ).loc main_arg9)

theorem ent0 : (entryContents (preI (F := Ideal)) m c (Proc.devRef .tc main_v83_0) : FVec Ideal S8192x4x4x128 .f32) = rQ (gQ m c) (gC m c) := by
  simp only [entryContents, afterL_cons, afterL_nil]
  after_reads_simp
  rfl

theorem ent1 : (entryContents (preI (F := Ideal)) m c (Proc.devRef .tc main_v83_1) : FVec Ideal S8192x4x4x128 .f32) = rK (gQ m c) (gC m c) := by
  simp only [entryContents, afterL_cons, afterL_nil]
  after_reads_simp
  rfl

theorem ent2 : (entryContents (preI (F := Ideal)) m c (Proc.devRef .tc main_v83_2) : FVec Ideal S8192x4x4x128 .f32) = rV (gQ m c) (gC m c) := by
  simp only [entryContents, afterL_cons, afterL_nil]
  after_reads_simp
  rfl

theorem ent3 : (entryContents (preI (F := Ideal)) m c (Proc.devRef .tc main_v83_3) : FVec Ideal S8192x4x4 .f32) = rG (gB m c) (gL m c) (gD m c) := by
  simp only [entryContents, afterL_cons, afterL_nil]
  after_reads_simp
  rfl

theorem ent4 : (entryContents (preI (F := Ideal)) m c (Proc.devRef .tc main_v83_4) : FVec Ideal S8192x4x4 .f32) = rB (gB m c) := by
  simp only [entryContents, afterL_cons, afterL_nil]
  after_reads_simp
  rfl

theorem ent6 : (entryContents (preI (F := Ideal)) m c (Proc.devRef .tc main_v83_6) : FVec Ideal S4x4x128x128 .f32) = (broadcastInDim S4x4x128x128 ![] bcast_S_S4x4x128x128 (constant S_ .f32 0x00000000#32) : FVec Ideal S4x4x128x128 .f32) := by
  simp only [entryContents, afterL_cons, afterL_nil]
  after_reads_simp
  rfl

theorem zero_state (b h : Fin 4) (d e : Fin 128) :
    (broadcastInDim S4x4x128x128 ![] bcast_S_S4x4x128x128 (constant S_ .f32 0x00000000#32) : FVec Ideal S4x4x128x128 .f32) (ix4 b h d e) = ((0 : ℝ) : EReal) := by
  pointwise
  rw [EReal.coe_zero]

/-- The loop's buffers after all tokens. -/
theorem inv_end (hq : Fin' (gQ m c)) (hb : Fin' (gB m c)) (hc : Fin' (gC m c)) (ha : Fin' (gL m c)) (hd : Fin' (gD m c)) (n : ℕ) (hn : n = 8192) :
    Inv (fun b => TT (gQ m c) (gB m c) (gC m c) (gL m c) (gD m c) b 0) (entryContents preI m c) (STEP^[n] (entryContents preI m c)) n :=
  inv_all _ _ (ctr_entry m c)
    (fun s b h d => by rw [ent0 m c]; exact rQ_at (gQ m c) (gB m c) (gC m c) (gL m c) (gD m c) hq hc s b h d)
    (fun s b h d => by rw [ent1 m c]; exact rK_at (gQ m c) (gB m c) (gC m c) (gL m c) (gD m c) hq hc s b h d)
    (fun s b h d => by rw [ent2 m c]; exact rV_at (gQ m c) (gB m c) (gC m c) (gL m c) (gD m c) hq hc s b h d)
    (fun s b h => by rw [ent3 m c]; exact rG_at (gQ m c) (gB m c) (gC m c) (gL m c) (gD m c) hb ha hd s b h)
    (fun s b h => by rw [ent4 m c]; exact rB_at (gQ m c) (gB m c) (gC m c) (gL m c) (gD m c) hb s b h)
    (fun b h d e => by rw [ent6 m c]; exact zero_state b h d e)
    n hn.le

end Dn.Ref
-- ==== Proof.DnRefOut.lean ====
/-
  The reference's result from what its loop reads: the norm, the gate and the projection.
-/
module

public import proofs.«01_k».proof.Proof.DnRefEnt

@[expose] public section

set_option maxRecDepth 16384

noncomputable section

open Idealize.ShloMosaic Idealize.ShloMosaic.TcCoe Idealize.SL.Sem
open Idealize.ShloMosaic.StableHlo Idealize.ShloMosaic.Pipeline

namespace Dn.Ref

open Cert.ReferenceIdeal Cert.ReferenceIdeal.Gen Cert.ReferenceIdeal.Value

def rRs (O : FVec Ideal S8192x4x4x128 .f32) (nw : FVec Ideal S1x128 .f32) : FVec Ideal S4x8192x512 .f32 :=
  shapeCast S4x8192x512 (mulf (mulf (transpose S4x8192x4x128 [1, 0, 2, 3] O transposes_S8192x4x4x128_S4x8192x4x128_1_0_2_3)
    (broadcastInDim S4x8192x4x128 ![0, 1, 2, 3] bcast_S4x8192x4x1_S4x8192x4x128_0_1_2_3 (Host.rsqrt (addf (Host.divf
      (broadcastInDim S4x8192x4x1 ![0, 1, 2] bcast_S4x8192x4_S4x8192x4x1_0_1_2 (Host.reduceAdd
        (mulf (transpose S4x8192x4x128 [1, 0, 2, 3] O transposes_S8192x4x4x128_S4x8192x4x128_1_0_2_3) (transpose S4x8192x4x128 [1, 0, 2, 3] O transposes_S8192x4x4x128_S4x8192x4x128_1_0_2_3))
        (constant S_ .f32 0x00000000#32) reducesTo_S4x8192x4x128_S4x8192x4_d3 h_S_))
      (broadcastInDim S4x8192x4x1 ![] bcast_S_S4x8192x4x1 (constant S_ .f32 0x43000000#32)))
      (broadcastInDim S4x8192x4x1 ![] bcast_S_S4x8192x4x1 (constant S_ .f32 0x358637BD#32))))))
    (broadcastInDim S4x8192x4x128 ![0, 1, 2, 3] bcast_S1x1x1x128_S4x8192x4x128_0_1_2_3 (broadcastInDim S1x1x1x128 ![3] bcast_S128_S1x1x1x128_3 (shapeCast S128 nw shapeCasts_S1x128_S128))))
    shapeCasts_S4x8192x4x128_S4x8192x512

def rZs (z : FVec Ideal S4x8192x512 .f32) : FVec Ideal S4x8192x512 .f32 :=
  mulf z (Host.divf (broadcastInDim S4x8192x512 ![] bcast_S_S4x8192x512 (constant S_ .f32 0x3F800000#32))
    (addf (broadcastInDim S4x8192x512 ![] bcast_S_S4x8192x512 (constant S_ .f32 0x3F800000#32)) (Host.exp (Host.negf z))))

def rPrj (x : FVec Ideal S4x8192x1024 .f32) (ya yd : FVec Ideal S4x8192x512 .f32) (wo : FVec Ideal S1x1024x1024 .f32) : FVec Ideal S4x8192x1024 .f32 :=
  addf x (Host.dotGeneral dot_S4x8192x1024_S1024x1024_S4x8192x1024_2_0_01_1_n_n none
    (concatenate S4x8192x1024 2 [⟨S4x8192x512, ya⟩, ⟨S4x8192x512, yd⟩] concatenates_S4x8192x512_S4x8192x512_S4x8192x1024_d2)
    (shapeCast S1024x1024 wo shapeCasts_S1x1024x1024_S1024x1024))

theorem out_text (V : Valuation τ sig (Elt Ideal)) : (out_main_v105 V : FVec Ideal S4x8192x1024 .f32)
    = rPrj (V (Proc.devRef .tc main_arg3)) (V (Proc.devRef .tc main_arg4))
      (mulf (rRs (V (Proc.devRef .tc main_v83_7)) (V (Proc.devRef .tc main_arg8))) (rZs (V (Proc.devRef .tc main_arg1)))) (V (Proc.devRef .tc main_arg9)) := rfl

theorem w128 : Ideal.ofBits .f32 0x43000000#32 = ((128 : ℝ) : EReal) := by
  simp [Ideal.ofBits, Ideal.ieee, -EReal.coe_mul]; norm_num

theorem zs_at (z : FVec Ideal S4x8192x512 .f32) (b : Fin 4) (s : Fin 8192) (k : Fin 512) (x : ℝ) (hx : z (ix3 b s k) = (x : EReal)) : rZs z (ix3 b s k) = ((siluR x : ℝ) : EReal) := by
  unfold rZs
  pointwise
  rw [hx, ← EReal.coe_neg, Ideal.exp_coe, ← EReal.coe_one, ← EReal.coe_add, Ideal.div_coe (by have := Real.exp_pos (-x); linarith), ← EReal.coe_mul, ← EReal.coe_mul, one_mul]
  rfl

theorem rs_at (O : FVec Ideal S8192x4x4x128 .f32) (nw : FVec Ideal S1x128 .f32) (b : Fin 4) (s : Fin 8192) (k : Fin 512) :
    rRs O nw (ix3 b s k) = O (ix4 s b ⟨k.val / 128, by omega⟩ ⟨k.val % 128, by omega⟩)
      * Ideal.rsqrt (Ideal.div (∑ j : Fin 128, O (ix4 s b ⟨k.val / 128, by omega⟩ j) * O (ix4 s b ⟨k.val / 128, by omega⟩ j)) (Ideal.ofBits .f32 0x43000000#32) + Ideal.ofBits .f32 0x358637BD#32)
      * nw (ix2 0 ⟨k.val % 128, by omega⟩) := by
  unfold rRs
  pointwise

theorem prj_at (x : FVec Ideal S4x8192x1024 .f32) (ya yd : FVec Ideal S4x8192x512 .f32) (wo : FVec Ideal S1x1024x1024 .f32) (b : Fin 4) (s : Fin 8192) (n : Fin 1024) :
    rPrj x ya yd wo (ix3 b s n) = x (ix3 b s n) + (∑ k : Fin 512, ya (ix3 b s k) * wo (ix3 0 ⟨k.val, by omega⟩ n) + ∑ k : Fin 512, yd (ix3 b s k) * wo (ix3 0 ⟨512 + k.val, by omega⟩ n)) := by
  unfold rPrj
  pointwise

section
variable (q : A3 4 8192 1536) (z : FVec Ideal S4x8192x512 .f32) (ba : A3 4 8192 8) (x : FVec Ideal S4x8192x1024 .f32) (ya : FVec Ideal S4x8192x512 .f32) (cw : A3 1 4 1536) (al dt : A2 1 4)
  (nw : FVec Ideal S1x128 .f32) (wo : FVec Ideal S1x1024x1024 .f32) (O : FVec Ideal S8192x4x4x128 .f32)

theorem yd_at (hz : Fin' z) (hO : ∀ (s : Fin 8192) b h e, O (ix4 s b h e) = (((TT q ba cw al dt b 0).o zst h s.val e : ℝ) : EReal)) (b : Fin 4) (s : Fin 8192) (k : Fin 512) :
    rRs O nw (ix3 b s k) * rZs z (ix3 b s k) = ydE q z ba cw al dt nw b s k := by
  rw [rs_at, zs_at z b s k _ (hz _)]
  simp only [hO, ← EReal.coe_mul, coe_sum]
  rw [w128, Ideal.div_coe (by norm_num), eps_coe, ← EReal.coe_mul, ← EReal.coe_add,
    rsqrt_pos (add_pos_of_nonneg_of_pos (mul_nonneg (Finset.sum_nonneg fun k _ => mul_self_nonneg _) (by norm_num)) eps_pos), ← EReal.coe_mul]
  rfl

theorem mul_at (U W : FVec Ideal S4x8192x512 .f32) (b : Fin 4) (s : Fin 8192) (k : Fin 512) : mulf U W (ix3 b s k) = U (ix3 b s k) * W (ix3 b s k) := by
  pointwise

theorem arr_val (hz : Fin' z) (hO : ∀ (s : Fin 8192) b h e, O (ix4 s b h e) = (((TT q ba cw al dt b 0).o zst h s.val e : ℝ) : EReal)) :
    rPrj x ya (mulf (rRs O nw) (rZs z)) wo = Gout q z ba x ya cw al dt nw wo := by
  funext i
  obtain ⟨b, s, n, rfl⟩ : ∃ b s n, i = ix3 b s n := ⟨i 0, i 1, i 2, eq_ix3 i⟩
  rw [prj_at]
  show _ = outE q z ba x ya cw al dt nw wo b s n
  unfold outE
  rw [add_assoc]
  simp only [mul_at, yd_at q z ba cw al dt nw O hz hO]

end

/-- The reference's result, of any contents with the loop's last array. -/
theorem value_of (m : (ℓ : Loc nD τ sig) → Buf (Elt Ideal) ℓ) (c : Dev nD) (V : Valuation τ sig (Elt Ideal))
    (e1 : V (Proc.devRef .tc main_arg1) = gZ m c) (e3 : V (Proc.devRef .tc main_arg3) = gX m c) (e4 : V (Proc.devRef .tc main_arg4) = gY m c)
    (e8 : V (Proc.devRef .tc main_arg8) = gN m c) (e9 : V (Proc.devRef .tc main_arg9) = gW m c) (hz : Fin' (gZ m c))
    (hO : ∀ (s : Fin 8192) b h e, (V (Proc.devRef .tc main_v83_7) : FVec Ideal S8192x4x4x128 .f32) (ix4 s b h e) = (((TT (gQ m c) (gB m c) (gC m c) (gL m c) (gD m c) b 0).o zst h s.val e : ℝ) : EReal)) :
    (out_main_v105 V : FVec Ideal S4x8192x1024 .f32) = Gout (gQ m c) (gZ m c) (gB m c) (gX m c) (gY m c) (gC m c) (gL m c) (gD m c) (gN m c) (gW m c) := by
  rw [out_text, e1, e3, e4, e8, e9]
  exact arr_val (gQ m c) (gZ m c) (gB m c) (gX m c) (gY m c) (gC m c) (gL m c) (gD m c) (gN m c) (gW m c) _ hz hO

theorem w7_all {T : Fin 4 → Toks} {E V : Valuation τ sig (Elt Ideal)} {n : ℕ} (I : Inv T E V n) (hn : n = 8192) (s : Fin 8192) (b h : Fin 4) (e : Fin 128) :
    (V (Proc.devRef .tc main_v83_7) : FVec Ideal S8192x4x4x128 .f32) (ix4 s b h e) = (((T b).o zst h s.val e : ℝ) : EReal) :=
  I.w7 s b h e (by omega)

/-- The reference's result. -/
theorem value (m : (ℓ : Loc nD τ sig) → Buf (Elt Ideal) ℓ) (c : Dev nD)
    (hq : Fin' (gQ m c)) (hz : Fin' (gZ m c)) (hb : Fin' (gB m c)) (hc : Fin' (gC m c)) (ha : Fin' (gL m c)) (hd : Fin' (gD m c)) (n : ℕ) (hn : n = 8192) :
    (out_main_v105 (STEP^[n] (entryContents preI m c)) : FVec Ideal S4x8192x1024 .f32)
      = Gout (gQ m c) (gZ m c) (gB m c) (gX m c) (gY m c) (gC m c) (gL m c) (gD m c) (gN m c) (gW m c) :=
  value_of m c _ (iter_main_arg1 m c n) (iter_main_arg3 m c n) (iter_main_arg4 m c n) (iter_main_arg8 m c n) (iter_main_arg9 m c n) hz
    (w7_all (inv_end m c hq hb hc ha hd n hn) hn)

end Dn.Ref
-- ==== Proof.DnClaim.lean ====
/-
  The gated delta rule's claim: the kernel's result and the reference's are the same function of the
  arguments, where the arguments that meet a division, a root or an exponential are finite.
-/
module

public import proofs.«01_k».proof.Defs
public import proofs.«01_k».proof.Proof.DnRefOut
public import Idealize.ShloMosaic.Lib.ReduceAll
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem

namespace Dn.Claim

theorem facts_pre : Cert.Pre_finite.Facts where
  bcast_S_S4x8192x1536 := by decide
  reducesTo_S4x8192x1536_S_d0_1_2 := by decide
  h_S_ := by decide
  bcast_S_S4x8192x512 := by decide
  reducesTo_S4x8192x512_S_d0_1_2 := by decide
  bcast_S_S4x8192x8 := by decide
  reducesTo_S4x8192x8_S_d0_1_2 := by decide
  bcast_S_S1x4x1536 := by decide
  reducesTo_S1x4x1536_S_d0_1_2 := by decide
  bcast_S_S1x4 := by decide
  reducesTo_S1x4_S_d0_1 := by decide

theorem fin_of_lt (a : EReal) (h : max a (-a) < ⊤) : a = (a.toReal : EReal) := by
  refine (EReal.coe_toReal ?_ ?_).symm
  · rintro rfl
    exact absurd h (by simp)
  · rintro rfl
    exact absurd h (by simp)

theorem inf_top : Ideal.ofBits .f32 0x7F800000#32 = ⊤ := by
  simp [Ideal.ofBits, Ideal.ieee]

theorem all_fin {s : Shape} {axes : List (Fin s.rank)} (a : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (e : Host.reduce IntOp.andi (cmpf .olt (Host.absf a) (broadcastInDim s ![] hb (constant (F := Ideal) Cert.Pre_finite.S_ .f32 0x7F800000#32)))
      (constantI Cert.Pre_finite.S_ 1 1#1) hr hu j = 1#1) : Fin' a := by
  haveI : Subsingleton Cert.Pre_finite.S_.Idx := ⟨fun x y => funext fun k => k.elim0⟩
  intro i
  have h := Host.reduce_andi_all _ _ hr hu j e i
  refine fin_of_lt _ ?_
  rw [← inf_top]
  by_contra g
  have : (cmpf .olt (Host.absf a) (broadcastInDim s ![] hb (constant (F := Ideal) Cert.Pre_finite.S_ .f32 0x7F800000#32))) i = 0#1 := by
    show BitVec.ofBool (decide (max (a i) (-(a i)) < Ideal.ofBits .f32 0x7F800000#32)) = 0#1
    rw [decide_eq_false g]
    rfl
  rw [this] at h
  exact absurd h (by decide)

attribute [local instance] facts_pre

open Cert.Pre_finite in
/-- The precondition makes six arguments finite. -/
theorem fin_args (a0 : FVec Ideal S4x8192x1536 .f32) (a1 : FVec Ideal S4x8192x512 .f32) (a2 : FVec Ideal S4x8192x8 .f32) (a3 : FVec Ideal S4x8192x1024 .f32) (a4 : FVec Ideal S4x8192x512 .f32)
    (a5 : FVec Ideal S1x4x1536 .f32) (a6 a7 : FVec Ideal S1x4 .f32) (a8 : FVec Ideal S1x128 .f32) (a9 : FVec Ideal S1x1024x1024 .f32)
    (h : fn (F := Ideal) a0 a1 a2 a3 a4 a5 a6 a7 a8 a9 = fun _ => 1#1) : Fin' a0 ∧ Fin' a1 ∧ Fin' a2 ∧ Fin' a5 ∧ Fin' a6 ∧ Fin' a7 := by
  have e := congrFun h (fun k => k.elim0)
  dsimp only [fn, fn_part1] at e
  obtain ⟨e, e7⟩ := IntOp.andi_eq_one.1 e
  obtain ⟨e, e6⟩ := IntOp.andi_eq_one.1 e
  obtain ⟨e, e5⟩ := IntOp.andi_eq_one.1 e
  obtain ⟨e, e2⟩ := IntOp.andi_eq_one.1 e
  obtain ⟨e0, e1⟩ := IntOp.andi_eq_one.1 e
  exact ⟨all_fin a0 _ _ _ _ e0, all_fin a1 _ _ _ _ e1, all_fin a2 _ _ _ _ e2, all_fin a5 _ _ _ _ e5, all_fin a6 _ _ _ _ e6, all_fin a7 _ _ _ _ e7⟩

/-- The layer's result of the kernel's arguments. -/
def resK (m : (ℓ : Loc Cert.KernelIdeal.nD Cert.KernelIdeal.τ Cert.KernelIdeal.sig) → Buf (Elt Ideal) ℓ) (c : Dev Cert.KernelIdeal.nD) : A3 4 8192 1024 :=
  Gout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))

/-- The layer's result of the reference's arguments. -/
def resR (m : (ℓ : Loc Cert.ReferenceIdeal.nD Cert.ReferenceIdeal.τ Cert.ReferenceIdeal.sig) → Buf (Elt Ideal) ℓ) (c : Dev Cert.ReferenceIdeal.nD) : A3 4 8192 1024 :=
  Gout (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))

open Cert.KernelIdeal Cert.KernelIdeal.Gen in
theorem val_k (m : (ℓ : Loc Cert.KernelIdeal.nD Cert.KernelIdeal.τ Cert.KernelIdeal.sig) → Buf (Elt Ideal) ℓ) (h : Cert.Pre_KernelIdeal_finite m) (c : Dev Cert.KernelIdeal.nD) :
    (dats m 0 c).arrAt 11 cfg0.N = resK m c := by
  obtain ⟨hq, hz, hb, hc, ha, hd⟩ := fin_args _ _ _ _ _ _ _ _ _ _ (h c)
  exact Dn.Arr.final m c hq hz hb hc ha hd

theorem val_r (m : (ℓ : Loc Cert.ReferenceIdeal.nD Cert.ReferenceIdeal.τ Cert.ReferenceIdeal.sig) → Buf (Elt Ideal) ℓ) (h : Cert.Pre_ReferenceIdeal_finite m) (c : Dev Cert.ReferenceIdeal.nD) (n : ℕ) (hn : n = 8192) :
    Cert.ReferenceIdeal.Value.out_main_v105 (Cert.ReferenceIdeal.Value.STEP^[n] (StableHlo.entryContents Cert.ReferenceIdeal.Value.preI m c)) = resR m c := by
  obtain ⟨hq, hz, hb, hc, ha, hd⟩ := fin_args _ _ _ _ _ _ _ _ _ _ (h c)
  exact Dn.Ref.value m c hq hz hb hc ha hd n hn

theorem run_k (m : (ℓ : Loc Cert.KernelIdeal.nD Cert.KernelIdeal.τ Cert.KernelIdeal.sig) → Buf (Elt Ideal) ℓ) (ρ : Dev Cert.KernelIdeal.nD → PrngReg) (hp : Cert.Pre_KernelIdeal_finite m) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v9) = resK m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9) :=
  (θ_run Cert.KernelIdeal.defs _ _).mono (fun r h c => ⟨(h c).1.trans (val_k m hp c), (h c).2⟩) (Cert.KernelIdeal.Value.run_blocks m ρ)

theorem run_r (m : (ℓ : Loc Cert.ReferenceIdeal.nD Cert.ReferenceIdeal.τ Cert.ReferenceIdeal.sig) → Buf (Elt Ideal) ℓ) (ρ : Dev Cert.ReferenceIdeal.nD → PrngReg) (hp : Cert.Pre_ReferenceIdeal_finite m) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v105) = resR m c
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9) :=
  (θ_run Cert.ReferenceIdeal.defs _ _).mono (fun r h c => ⟨(h c).1.trans (val_r m hp c 8192 rfl), (h c).2⟩) (Cert.ReferenceIdeal.Value.run m ρ)

/-- The kernel's result is the reference's. -/
theorem same_result : Cert.algebraic_KernelIdeal_ReferenceIdeal_pre_finite := by
  intro m g m' g' hp hagree
  have hp' : Cert.Pre_ReferenceIdeal_finite m' := by
    intro c
    obtain ⟨e0, e1, e2, e3, e4, e5, e6, e7, e8, e9⟩ := hagree c
    rw [e0, e1, e2, e3, e4, e5, e6, e7, e8, e9]
    exact hp c
  refine ⟨fun c => resK m c, run_k m g hp, (θ_run Cert.ReferenceIdeal.defs _ _).mono (fun r h c => ⟨(h c).1.trans ?_, (h c).2⟩) (run_r m' g' hp')⟩
  obtain ⟨e0, e1, e2, e3, e4, e5, e6, e7, e8, e9⟩ := hagree c
  show resR m' c = resK m c
  unfold resR resK
  rw [e0, e1, e2, e3, e4, e5, e6, e7, e8, e9]

end Dn.Claim
-- ==== Proof.MobaHeld.lean ====
module

public import proofs.«01_k».proof.Proof.Gen.Kernel3.Frame
public import proofs.«01_k».proof.Proof.Gen.Kernel3.Loops

@[expose] public section

set_option maxRecDepth 16384

noncomputable section

namespace Cert.Kernel3.Moba

open Idealize.ShloMosaic Idealize.ShloMosaic.TcCoe Idealize.ShloMosaic.Tactic Cert.Kernel3 Cert.Kernel3.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

theorem off41_eq (i : grid0.Coords) : k0_off41 i = ![(i 2).val % 2, 0, 0, 0] := by
  have h : ∀ n : Fin 32, (
        let arg2 : BitVec 32 := BitVec.ofNat 32 n.val
        let c2_i32 : BitVec 32 := 2#32
        let c0_i32 : BitVec 32 := 0#32
        let v0 : BitVec 1 := Scalar.cmpi .eq c2_i32 c0_i32
        let c1_i32 : BitVec 32 := 1#32
        let v1 : BitVec 32 := Scalar.select v0 c1_i32 c2_i32
        let v2 : BitVec 32 := Scalar.remsi arg2 v1
        let c0_i32_1 : BitVec 32 := 0#32
        let v4 : BitVec 1 := Scalar.cmpi .slt v2 c0_i32_1
        let c0_i32_2 : BitVec 32 := 0#32
        let v5 : BitVec 1 := Scalar.cmpi .slt v1 c0_i32_2
        let v6 : BitVec 1 := Scalar.xori v4 v5
        let c0_i32_0 : BitVec 32 := 0#32
        let v3 : BitVec 1 := Scalar.cmpi .ne v2 c0_i32_0
        let v7 : BitVec 1 := Scalar.andi v6 v3
        let v8 : BitVec 32 := Scalar.addi v2 v1
        let v9 : BitVec 32 := Scalar.select v7 v8 v2
        let v69 : Index := Scalar.indexCast v9
        let c0_31 : Index := 0#32
        let c0_32 : Index := 0#32
        let c0_33 : Index := 0#32
        ![v69.toNat, 0, 0, 0] : Fin 4 → Nat) = ![n.val % 2, 0, 0, 0] := by decide
  exact h (i 2)

instance closedOff41 (i : grid0.Coords) : ClosedOff (k0_off41 i) := ⟨![(i 2).val % 2, 0, 0, 0], off41_eq i⟩

theorem off43_eq (i : grid0.Coords) : k0_off43 i = ![(i 2).val % 2, 1, 0, 0] := by
  have h : ∀ n : Fin 32, (
        let arg2 : BitVec 32 := BitVec.ofNat 32 n.val
        let c2_i32 : BitVec 32 := 2#32
        let c0_i32 : BitVec 32 := 0#32
        let v0 : BitVec 1 := Scalar.cmpi .eq c2_i32 c0_i32
        let c1_i32 : BitVec 32 := 1#32
        let v1 : BitVec 32 := Scalar.select v0 c1_i32 c2_i32
        let v2 : BitVec 32 := Scalar.remsi arg2 v1
        let c0_i32_1 : BitVec 32 := 0#32
        let v4 : BitVec 1 := Scalar.cmpi .slt v2 c0_i32_1
        let c0_i32_2 : BitVec 32 := 0#32
        let v5 : BitVec 1 := Scalar.cmpi .slt v1 c0_i32_2
        let v6 : BitVec 1 := Scalar.xori v4 v5
        let c0_i32_0 : BitVec 32 := 0#32
        let v3 : BitVec 1 := Scalar.cmpi .ne v2 c0_i32_0
        let v7 : BitVec 1 := Scalar.andi v6 v3
        let v8 : BitVec 32 := Scalar.addi v2 v1
        let v9 : BitVec 32 := Scalar.select v7 v8 v2
        let v81 : Index := Scalar.indexCast v9
        let c1_45 : Index := 1#32
        let c0_46 : Index := 0#32
        let c0_47 : Index := 0#32
        ![v81.toNat, 1, 0, 0] : Fin 4 → Nat) = ![n.val % 2, 1, 0, 0] := by decide
  exact h (i 2)

instance closedOff43 (i : grid0.Coords) : ClosedOff (k0_off43 i) := ⟨![(i 2).val % 2, 1, 0, 0], off43_eq i⟩

theorem off48_eq (i : grid0.Coords) : k0_off48 i = ![1 - (i 2).val % 2, 0, 0, 0] := by
  have h : ∀ n : Fin 32, (
        let c1_i32_145 : BitVec 32 := 1#32
        let arg2 : BitVec 32 := BitVec.ofNat 32 n.val
        let c2_i32 : BitVec 32 := 2#32
        let c0_i32 : BitVec 32 := 0#32
        let v0 : BitVec 1 := Scalar.cmpi .eq c2_i32 c0_i32
        let c1_i32 : BitVec 32 := 1#32
        let v1 : BitVec 32 := Scalar.select v0 c1_i32 c2_i32
        let v2 : BitVec 32 := Scalar.remsi arg2 v1
        let c0_i32_1 : BitVec 32 := 0#32
        let v4 : BitVec 1 := Scalar.cmpi .slt v2 c0_i32_1
        let c0_i32_2 : BitVec 32 := 0#32
        let v5 : BitVec 1 := Scalar.cmpi .slt v1 c0_i32_2
        let v6 : BitVec 1 := Scalar.xori v4 v5
        let c0_i32_0 : BitVec 32 := 0#32
        let v3 : BitVec 1 := Scalar.cmpi .ne v2 c0_i32_0
        let v7 : BitVec 1 := Scalar.andi v6 v3
        let v8 : BitVec 32 := Scalar.addi v2 v1
        let v9 : BitVec 32 := Scalar.select v7 v8 v2
        let v166 : BitVec 32 := Scalar.subi c1_i32_145 v9
        let v229 : Index := Scalar.indexCast v166
        let c0_164 : Index := 0#32
        let c0_165 : Index := 0#32
        let c0_166 : Index := 0#32
        ![v229.toNat, 0, 0, 0] : Fin 4 → Nat) = ![1 - n.val % 2, 0, 0, 0] := by decide
  exact h (i 2)

instance closedOff48 (i : grid0.Coords) : ClosedOff (k0_off48 i) := ⟨![1 - (i 2).val % 2, 0, 0, 0], off48_eq i⟩

theorem off49_eq (i : grid0.Coords) : k0_off49 i = ![1 - (i 2).val % 2, 1, 0, 0] := by
  have h : ∀ n : Fin 32, (
        let c1_i32_145 : BitVec 32 := 1#32
        let arg2 : BitVec 32 := BitVec.ofNat 32 n.val
        let c2_i32 : BitVec 32 := 2#32
        let c0_i32 : BitVec 32 := 0#32
        let v0 : BitVec 1 := Scalar.cmpi .eq c2_i32 c0_i32
        let c1_i32 : BitVec 32 := 1#32
        let v1 : BitVec 32 := Scalar.select v0 c1_i32 c2_i32
        let v2 : BitVec 32 := Scalar.remsi arg2 v1
        let c0_i32_1 : BitVec 32 := 0#32
        let v4 : BitVec 1 := Scalar.cmpi .slt v2 c0_i32_1
        let c0_i32_2 : BitVec 32 := 0#32
        let v5 : BitVec 1 := Scalar.cmpi .slt v1 c0_i32_2
        let v6 : BitVec 1 := Scalar.xori v4 v5
        let c0_i32_0 : BitVec 32 := 0#32
        let v3 : BitVec 1 := Scalar.cmpi .ne v2 c0_i32_0
        let v7 : BitVec 1 := Scalar.andi v6 v3
        let v8 : BitVec 32 := Scalar.addi v2 v1
        let v9 : BitVec 32 := Scalar.select v7 v8 v2
        let v166 : BitVec 32 := Scalar.subi c1_i32_145 v9
        let v294 : Index := Scalar.indexCast v166
        let c1_184 : Index := 1#32
        let c0_185 : Index := 0#32
        let c0_186 : Index := 0#32
        ![v294.toNat, 1, 0, 0] : Fin 4 → Nat) = ![1 - n.val % 2, 1, 0, 0] := by decide
  exact h (i 2)

instance closedOff49 (i : grid0.Coords) : ClosedOff (k0_off49 i) := ⟨![1 - (i 2).val % 2, 1, 0, 0], off49_eq i⟩

/-- What the body holds between two of its parts: the arguments it reads at their contents, the window it writes and the
    scratch arrays at some contents. -/
def Held (c : Dev nD) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole)
    (x3 : Vec F S32x8 .f32) (x4 : Vec F S1x256x128 .f32) (x5 : Vec F S1x256x128 .f32) (x6 : Vec F S1x8192x128 .f32) (x7 : Vec F S1x8192x128 .bf16) (x8 : Vec F S1x256x128 .f32) : sProp (MT nD τ sig Unit (Elt F) ℕ (UR sig nD τ) ℕ) :=
  iprop((arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg6.view.loc (c : Thread nD τ) ↦[arg6.view.set]{fullShare} (harg6.unread x6)) ∗ (arg7.view.loc (c : Thread nD τ) ↦[arg7.view.set]{fullShare} (harg7.unread x7)) ∗ (arg8.view.loc (c : Thread nD τ) ↦[arg8.view.set]{fullShare} (harg8.unread x8)) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)))

/-- Two programs run one after the other keep what each of them keeps. -/
theorem chain {c : Dev nD} {E : Set ℕ} {α β : Type} {R : sProp (MT nD τ sig Unit (Elt F) ℕ (UR sig nD τ) ℕ)}
    {p : Prog (TpuEff nD τ sig (Elt F) Λ₀ .tc) α} {k : α → Prog (TpuEff nD τ sig (Elt F) Λ₀ .tc) β}
    (hp : R ⊢ wp frame (wpE (defs₀ (F := F)) Variants.none (c : Thread nD τ) none) E p (fun _ => R))
    (hk : ∀ a, R ⊢ wp frame (wpE (defs₀ (F := F)) Variants.none (c : Thread nD τ) none) E (k a) (fun _ => R)) :
    R ⊢ wp frame (wpE (defs₀ (F := F)) Variants.none (c : Thread nD τ) none) E (p >>= k) (fun _ => R) := by
  rw [wp_bind]
  exact hp.trans (wp_mono frame _ E fun a => hk a)

end Cert.Kernel3.Moba

end
-- ==== Proof.MobaStart.lean ====
module

public import proofs.«01_k».proof.Proof.MobaHeld

@[expose] public section

set_option maxRecDepth 16384

noncomputable section

namespace Cert.Kernel3.Moba

open Idealize.ShloMosaic Idealize.ShloMosaic.TcCoe Idealize.ShloMosaic.Tactic Cert.Kernel3 Cert.Kernel3.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

set_option sl_exec.squeezeSlice true in
set_option maxHeartbeats 40000000 in
theorem part174_TT (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (hc1 : k0_cond1 i = 1#1) (hc2 : k0_cond2 i = 1#1)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part174 i arg3 harg3 arg4 harg4 arg5 harg5 arg6 harg6 arg7 harg7 arg8 harg8 arg9 harg9 arg10 harg10 arg11 harg11 arg12 harg12 arg13 harg13 arg14 harg14 arg15 harg15 arg16 harg16 ) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part174_eq_skeleton]; unfold k0_part174_skel
  try simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact hc1 | sl_exact hc2)
  sl_step
  sl_close

set_option sl_exec.squeezeSlice true in
set_option maxHeartbeats 40000000 in
theorem part174_TF (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (hc1 : k0_cond1 i = 1#1) (hc2 : ¬ k0_cond2 i = 1#1)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part174 i arg3 harg3 arg4 harg4 arg5 harg5 arg6 harg6 arg7 harg7 arg8 harg8 arg9 harg9 arg10 harg10 arg11 harg11 arg12 harg12 arg13 harg13 arg14 harg14 arg15 harg15 arg16 harg16 ) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part174_eq_skeleton]; unfold k0_part174_skel
  try simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact hc1 | sl_exact hc2)
  sl_step
  sl_close

set_option sl_exec.squeezeSlice true in
set_option maxHeartbeats 40000000 in
theorem part174_FT (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (hc1 : ¬ k0_cond1 i = 1#1) (hc2 : k0_cond2 i = 1#1)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part174 i arg3 harg3 arg4 harg4 arg5 harg5 arg6 harg6 arg7 harg7 arg8 harg8 arg9 harg9 arg10 harg10 arg11 harg11 arg12 harg12 arg13 harg13 arg14 harg14 arg15 harg15 arg16 harg16 ) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part174_eq_skeleton]; unfold k0_part174_skel
  try simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact hc1 | sl_exact hc2)
  sl_step
  sl_close

set_option sl_exec.squeezeSlice true in
set_option maxHeartbeats 40000000 in
theorem part174_FF (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (hc1 : ¬ k0_cond1 i = 1#1) (hc2 : ¬ k0_cond2 i = 1#1)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part174 i arg3 harg3 arg4 harg4 arg5 harg5 arg6 harg6 arg7 harg7 arg8 harg8 arg9 harg9 arg10 harg10 arg11 harg11 arg12 harg12 arg13 harg13 arg14 harg14 arg15 harg15 arg16 harg16 ) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part174_eq_skeleton]; unfold k0_part174_skel
  try simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact hc1 | sl_exact hc2)
  sl_step
  sl_close

theorem part174 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part174 i arg3 harg3 arg4 harg4 arg5 harg5 arg6 harg6 arg7 harg7 arg8 harg8 arg9 harg9 arg10 harg10 arg11 harg11 arg12 harg12 arg13 harg13 arg14 harg14 arg15 harg15 arg16 harg16 ) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  by_cases h1 : k0_cond1 i = 1#1 <;> by_cases h2 : k0_cond2 i = 1#1
  · exact (part174_TT c i arg3 harg3 arg4 harg4 arg5 harg5 arg6 harg6 arg7 harg7 arg8 harg8 arg9 harg9 arg10 harg10 arg11 harg11 arg12 harg12 arg13 harg13 arg14 harg14 arg15 harg15 arg16 harg16  h1 h2 x3 x4 x5 x6 x7 x8 E)
  · exact (part174_TF c i arg3 harg3 arg4 harg4 arg5 harg5 arg6 harg6 arg7 harg7 arg8 harg8 arg9 harg9 arg10 harg10 arg11 harg11 arg12 harg12 arg13 harg13 arg14 harg14 arg15 harg15 arg16 harg16  h1 h2 x3 x4 x5 x6 x7 x8 E)
  · exact (part174_FT c i arg3 harg3 arg4 harg4 arg5 harg5 arg6 harg6 arg7 harg7 arg8 harg8 arg9 harg9 arg10 harg10 arg11 harg11 arg12 harg12 arg13 harg13 arg14 harg14 arg15 harg15 arg16 harg16  h1 h2 x3 x4 x5 x6 x7 x8 E)
  · exact (part174_FF c i arg3 harg3 arg4 harg4 arg5 harg5 arg6 harg6 arg7 harg7 arg8 harg8 arg9 harg9 arg10 harg10 arg11 harg11 arg12 harg12 arg13 harg13 arg14 harg14 arg15 harg15 arg16 harg16  h1 h2 x3 x4 x5 x6 x7 x8 E)

end Cert.Kernel3.Moba

end
-- ==== Proof.MobaMidA.lean ====
module

public import proofs.«01_k».proof.Proof.MobaHeld

@[expose] public section

set_option maxRecDepth 16384

noncomputable section

namespace Cert.Kernel3.Moba

open Idealize.ShloMosaic Idealize.ShloMosaic.TcCoe Idealize.ShloMosaic.Tactic Cert.Kernel3 Cert.Kernel3.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

set_option sl_exec.squeezeSlice true in
set_option maxHeartbeats 40000000 in
theorem part175 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (arg2 : BitVec 32) (v9 : BitVec 32) (v19 : FVec F S128x128 .bf16)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part175 i arg3 harg3 arg4 harg4 arg5 harg5 arg6 harg6 arg7 harg7 arg8 harg8 arg9 harg9 arg10 harg10 arg11 harg11 arg12 harg12 arg13 harg13 arg14 harg14 arg15 harg15 arg16 harg16 arg2 v9 v19) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part175_eq_skeleton]; unfold k0_part175_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

set_option sl_exec.squeezeSlice true in
set_option maxHeartbeats 40000000 in
theorem part176 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (arg2 : BitVec 32) (v9 : BitVec 32) (v33 : BitVec 32) (v68 : FVec F S256x128 .bf16) (v71 : FVec F S128x256 .bf16) (cst_34 : FVec F S256x256 .f32)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part176 i arg3 harg3 arg4 harg4 arg5 harg5 arg6 harg6 arg7 harg7 arg8 harg8 arg9 harg9 arg10 harg10 arg11 harg11 arg12 harg12 arg13 harg13 arg14 harg14 arg15 harg15 arg16 harg16 arg2 v9 v33 v68 v71 cst_34) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part176_eq_skeleton]; unfold k0_part176_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

set_option sl_exec.squeezeSlice true in
set_option maxHeartbeats 40000000 in
theorem part177 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v9 : BitVec 32) (v30 : BitVec 32) (v33 : BitVec 32) (v96 : FVec F S256x256 .f32)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part177 i arg3 harg3 arg4 harg4 arg5 harg5 arg6 harg6 arg7 harg7 arg8 harg8 arg9 harg9 arg10 harg10 arg11 harg11 arg12 harg12 arg13 harg13 arg14 harg14 arg15 harg15 arg16 harg16 v9 v30 v33 v96) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part177_eq_skeleton]; unfold k0_part177_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

set_option sl_exec.squeezeSlice true in
set_option maxHeartbeats 40000000 in
theorem part178 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v9 : BitVec 32) (v30 : BitVec 32) (v115 : BitVec 32) (v122 : FVec F S256x256 .f32)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part178 i arg3 harg3 arg4 harg4 arg5 harg5 arg6 harg6 arg7 harg7 arg8 harg8 arg9 harg9 arg10 harg10 arg11 harg11 arg12 harg12 arg13 harg13 arg14 harg14 arg15 harg15 arg16 harg16 v9 v30 v115 v122) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part178_eq_skeleton]; unfold k0_part178_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

set_option sl_exec.squeezeSlice true in
set_option maxHeartbeats 40000000 in
theorem part179 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (arg2 : BitVec 32) (v9 : BitVec 32) (v20 : IVec S64x256 32) (v54 : FVec F S64x256 .f32) (v141 : BitVec 32) (v148 : FVec F S256x256 .f32)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part179 i arg3 harg3 arg4 harg4 arg5 harg5 arg6 harg6 arg7 harg7 arg8 harg8 arg9 harg9 arg10 harg10 arg11 harg11 arg12 harg12 arg13 harg13 arg14 harg14 arg15 harg15 arg16 harg16 arg2 v9 v20 v54 v141 v148) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part179_eq_skeleton]; unfold k0_part179_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

set_option sl_exec.squeezeSlice true in
set_option maxHeartbeats 40000000 in
theorem part180 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v20 : IVec S64x256 32) (v39 : FVec F S128x256 .f32) (v166 : BitVec 32) (v171 : FVec F S64x256 .f32) (v173 : IVec S64x256 1) (v183 : IVec S64x256 1) (v185 : IVec S1x256 1)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part180 i arg3 harg3 arg4 harg4 arg5 harg5 arg6 harg6 arg7 harg7 arg8 harg8 arg9 harg9 arg10 harg10 arg11 harg11 arg12 harg12 arg13 harg13 arg14 harg14 arg15 harg15 arg16 harg16 v20 v39 v166 v171 v173 v183 v185) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part180_eq_skeleton]; unfold k0_part180_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

set_option sl_exec.squeezeSlice true in
set_option maxHeartbeats 40000000 in
theorem part181 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v20 : IVec S64x256 32) (v65 : FVec F S64x256 .f32) (v167 : BitVec 32) (v228 : FVec F S128x256 .bf16) (v230 : Vec F S1x1x128x256 .bf16)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part181 i arg3 harg3 arg4 harg4 arg5 harg5 arg6 harg6 arg7 harg7 arg8 harg8 arg9 harg9 arg10 harg10 arg11 harg11 arg12 harg12 arg13 harg13 arg14 harg14 arg15 harg15 arg16 harg16 v20 v65 v167 v228 v230) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part181_eq_skeleton]; unfold k0_part181_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

set_option sl_exec.squeezeSlice true in
set_option maxHeartbeats 40000000 in
theorem part182 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v20 : IVec S64x256 32) (v39 : FVec F S128x256 .f32) (v166 : BitVec 32) (v270 : IVec S64x256 1) (v274 : FVec F S1x256 .f32) (v276 : IVec S64x256 1) (c64_i32_179 : BitVec 32)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part182 i arg3 harg3 arg4 harg4 arg5 harg5 arg6 harg6 arg7 harg7 arg8 harg8 arg9 harg9 arg10 harg10 arg11 harg11 arg12 harg12 arg13 harg13 arg14 harg14 arg15 harg15 arg16 harg16 v20 v39 v166 v270 v274 v276 c64_i32_179) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part182_eq_skeleton]; unfold k0_part182_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

set_option sl_exec.squeezeSlice true in
set_option maxHeartbeats 40000000 in
theorem part183 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (arg2 : BitVec 32) (v302 : FVec F S1x256 .f32) (v309 : FVec F S256x256 .f32) (v310 : FVec F S256 .f32)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part183 i arg3 harg3 arg4 harg4 arg5 harg5 arg6 harg6 arg7 harg7 arg8 harg8 arg9 harg9 arg10 harg10 arg11 harg11 arg12 harg12 arg13 harg13 arg14 harg14 arg15 harg15 arg16 harg16 arg2 v302 v309 v310) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part183_eq_skeleton]; unfold k0_part183_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

end Cert.Kernel3.Moba

end
-- ==== Proof.MobaMidB.lean ====
module

public import proofs.«01_k».proof.Proof.MobaHeld

@[expose] public section

set_option maxRecDepth 16384

noncomputable section

namespace Cert.Kernel3.Moba

open Idealize.ShloMosaic Idealize.ShloMosaic.TcCoe Idealize.ShloMosaic.Tactic Cert.Kernel3 Cert.Kernel3.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

set_option sl_exec.squeezeSlice true in
set_option maxHeartbeats 40000000 in
theorem part184 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v9 : BitVec 32) (v30 : BitVec 32) (v302 : FVec F S1x256 .f32) (v340 : FVec F S1x256 .f32) (v344 : FVec F S256x256 .bf16)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part184 i arg3 harg3 arg4 harg4 arg5 harg5 arg6 harg6 arg7 harg7 arg8 harg8 arg9 harg9 arg10 harg10 arg11 harg11 arg12 harg12 arg13 harg13 arg14 harg14 arg15 harg15 arg16 harg16 v9 v30 v302 v340 v344) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part184_eq_skeleton]; unfold k0_part184_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

set_option sl_exec.squeezeSlice true in
set_option maxHeartbeats 40000000 in
theorem part185 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v9 : BitVec 32) (v33 : BitVec 32) (v312 : FVec F S1x256 .f32) (v375 : FVec F S256x128 .bf16)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part185 i arg3 harg3 arg4 harg4 arg5 harg5 arg6 harg6 arg7 harg7 arg8 harg8 arg9 harg9 arg10 harg10 arg11 harg11 arg12 harg12 arg13 harg13 arg14 harg14 arg15 harg15 arg16 harg16 v9 v33 v312 v375) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part185_eq_skeleton]; unfold k0_part185_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

set_option sl_exec.squeezeSlice true in
set_option maxHeartbeats 40000000 in
theorem part186 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v33 : BitVec 32) (v340 : FVec F S1x256 .f32) (v402 : FVec F S80x256 .f32) (v404 : FVec F S1x256 .f32)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part186 i arg3 harg3 arg4 harg4 arg5 harg5 arg6 harg6 arg7 harg7 arg8 harg8 arg9 harg9 arg10 harg10 arg11 harg11 arg12 harg12 arg13 harg13 arg14 harg14 arg15 harg15 arg16 harg16 v33 v340 v402 v404) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part186_eq_skeleton]; unfold k0_part186_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

set_option sl_exec.squeezeSlice true in
set_option maxHeartbeats 40000000 in
theorem part187 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v9 : BitVec 32) (v30 : BitVec 32) (v437 : FVec F S80x256 .f32) (v438 : Vec F S1x80x256 .f32)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part187 i arg3 harg3 arg4 harg4 arg5 harg5 arg6 harg6 arg7 harg7 arg8 harg8 arg9 harg9 arg10 harg10 arg11 harg11 arg12 harg12 arg13 harg13 arg14 harg14 arg15 harg15 arg16 harg16 v9 v30 v437 v438) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part187_eq_skeleton]; unfold k0_part187_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

set_option sl_exec.squeezeSlice true in
set_option maxHeartbeats 40000000 in
theorem part188 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v30 : BitVec 32) (v394 : FVec F S1x256 .f32) (v461 : FVec F S256x256 .f32)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part188 i arg3 harg3 arg4 harg4 arg5 harg5 arg6 harg6 arg7 harg7 arg8 harg8 arg9 harg9 arg10 harg10 arg11 harg11 arg12 harg12 arg13 harg13 arg14 harg14 arg15 harg15 arg16 harg16 v30 v394 v461) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part188_eq_skeleton]; unfold k0_part188_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

set_option sl_exec.squeezeSlice true in
set_option maxHeartbeats 40000000 in
theorem part189 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v30 : BitVec 32) (v422 : FVec F S1x256 .f32) (v468 : BitVec 32) (v475 : FVec F S1x256 .f32)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part189 i arg3 harg3 arg4 harg4 arg5 harg5 arg6 harg6 arg7 harg7 arg8 harg8 arg9 harg9 arg10 harg10 arg11 harg11 arg12 harg12 arg13 harg13 arg14 harg14 arg15 harg15 arg16 harg16 v30 v422 v468 v475) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part189_eq_skeleton]; unfold k0_part189_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

set_option sl_exec.squeezeSlice true in
set_option maxHeartbeats 40000000 in
theorem part190 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v475 : FVec F S1x256 .f32) (v500 : FVec F S1x256 .f32) (v520 : BitVec 32) (v527 : FVec F S1x256 .f32) (v531 : FVec F S256x256 .bf16)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part190 i arg3 harg3 arg4 harg4 arg5 harg5 arg6 harg6 arg7 harg7 arg8 harg8 arg9 harg9 arg10 harg10 arg11 harg11 arg12 harg12 arg13 harg13 arg14 harg14 arg15 harg15 arg16 harg16 v475 v500 v520 v527 v531) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part190_eq_skeleton]; unfold k0_part190_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

end Cert.Kernel3.Moba

end
-- ==== Proof.MobaMidC.lean ====
module

public import proofs.«01_k».proof.Proof.MobaHeld

@[expose] public section

set_option maxRecDepth 16384

noncomputable section

namespace Cert.Kernel3.Moba

open Idealize.ShloMosaic Idealize.ShloMosaic.TcCoe Idealize.ShloMosaic.Tactic Cert.Kernel3 Cert.Kernel3.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

set_option sl_exec.squeezeSlice true in
set_option maxHeartbeats 40000000 in
theorem part191 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v9 : BitVec 32) (v30 : BitVec 32) (v527 : FVec F S1x256 .f32) (v552 : FVec F S1x256 .f32) (v560 : FVec F S80x256 .f32) (v566 : FVec F S80x256 .f32)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part191 i arg3 harg3 arg4 harg4 arg5 harg5 arg6 harg6 arg7 harg7 arg8 harg8 arg9 harg9 arg10 harg10 arg11 harg11 arg12 harg12 arg13 harg13 arg14 harg14 arg15 harg15 arg16 harg16 v9 v30 v527 v552 v560 v566) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part191_eq_skeleton]; unfold k0_part191_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

set_option sl_exec.squeezeSlice true in
set_option maxHeartbeats 40000000 in
theorem part192 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v9 : BitVec 32) (v30 : BitVec 32) (v572 : BitVec 32) (v589 : BitVec 32) (v596_0 : FVec F S1x256 .f32) (v596_1 : FVec F S1x256 .f32) (v598 : BitVec 32) (v600 : BitVec 32) (c8_i32 : BitVec 32) (v601 : BitVec 32)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part192 i arg3 harg3 arg4 harg4 arg5 harg5 arg6 harg6 arg7 harg7 arg8 harg8 arg9 harg9 arg10 harg10 arg11 harg11 arg12 harg12 arg13 harg13 arg14 harg14 arg15 harg15 arg16 harg16 v9 v30 v572 v589 v596_0 v596_1 v598 v600 c8_i32 v601) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part192_eq_skeleton]; unfold k0_part192_skel
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

end Cert.Kernel3.Moba

end
-- ==== Proof.MobaEnd.lean ====
module

public import proofs.«01_k».proof.Proof.MobaHeld

@[expose] public section

set_option maxRecDepth 16384

noncomputable section

namespace Cert.Kernel3.Moba

open Idealize.ShloMosaic Idealize.ShloMosaic.TcCoe Idealize.ShloMosaic.Tactic Cert.Kernel3 Cert.Kernel3.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

set_option sl_exec.squeezeSlice true in
set_option maxHeartbeats 40000000 in
theorem part193_TT (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v9 : BitVec 32) (v30 : BitVec 32) (v598 : BitVec 32) (v617 : BitVec 32) (v624_0 : FVec F S1x256 .f32) (v624_1 : FVec F S1x256 .f32) (v628 : BitVec 32) (c4_i32 : BitVec 32) (v629 : BitVec 32) (v640 : BitVec 1) (hc3 : k0_cond3 i = 1#1) (hc4 : k0_cond4 i = 1#1)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part193 i arg3 harg3 arg4 harg4 arg5 harg5 arg6 harg6 arg7 harg7 arg8 harg8 arg9 harg9 arg10 harg10 arg11 harg11 arg12 harg12 arg13 harg13 arg14 harg14 arg15 harg15 arg16 harg16 v9 v30 v598 v617 v624_0 v624_1 v628 c4_i32 v629 v640) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part193_eq_skeleton]; unfold k0_part193_skel
  try simp only [k0_part172_eq_skeleton, k0_part169_eq_skeleton, k0_part170_eq_skeleton, k0_part171_eq_skeleton, k0_part173_eq_skeleton]
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact hc3 | sl_exact hc4)
  sl_step
  sl_close

set_option sl_exec.squeezeSlice true in
set_option maxHeartbeats 40000000 in
theorem part193_TF (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v9 : BitVec 32) (v30 : BitVec 32) (v598 : BitVec 32) (v617 : BitVec 32) (v624_0 : FVec F S1x256 .f32) (v624_1 : FVec F S1x256 .f32) (v628 : BitVec 32) (c4_i32 : BitVec 32) (v629 : BitVec 32) (v640 : BitVec 1) (hc3 : k0_cond3 i = 1#1) (hc4 : ¬ k0_cond4 i = 1#1)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part193 i arg3 harg3 arg4 harg4 arg5 harg5 arg6 harg6 arg7 harg7 arg8 harg8 arg9 harg9 arg10 harg10 arg11 harg11 arg12 harg12 arg13 harg13 arg14 harg14 arg15 harg15 arg16 harg16 v9 v30 v598 v617 v624_0 v624_1 v628 c4_i32 v629 v640) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part193_eq_skeleton]; unfold k0_part193_skel
  try simp only [k0_part172_eq_skeleton, k0_part169_eq_skeleton, k0_part170_eq_skeleton, k0_part171_eq_skeleton, k0_part173_eq_skeleton]
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact hc3 | sl_exact hc4)
  sl_step
  sl_close

set_option sl_exec.squeezeSlice true in
set_option maxHeartbeats 40000000 in
theorem part193_FT (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v9 : BitVec 32) (v30 : BitVec 32) (v598 : BitVec 32) (v617 : BitVec 32) (v624_0 : FVec F S1x256 .f32) (v624_1 : FVec F S1x256 .f32) (v628 : BitVec 32) (c4_i32 : BitVec 32) (v629 : BitVec 32) (v640 : BitVec 1) (hc3 : ¬ k0_cond3 i = 1#1) (hc4 : k0_cond4 i = 1#1)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part193 i arg3 harg3 arg4 harg4 arg5 harg5 arg6 harg6 arg7 harg7 arg8 harg8 arg9 harg9 arg10 harg10 arg11 harg11 arg12 harg12 arg13 harg13 arg14 harg14 arg15 harg15 arg16 harg16 v9 v30 v598 v617 v624_0 v624_1 v628 c4_i32 v629 v640) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part193_eq_skeleton]; unfold k0_part193_skel
  try simp only [k0_part172_eq_skeleton, k0_part169_eq_skeleton, k0_part170_eq_skeleton, k0_part171_eq_skeleton, k0_part173_eq_skeleton]
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact hc3 | sl_exact hc4)
  sl_step
  sl_close

set_option sl_exec.squeezeSlice true in
set_option maxHeartbeats 40000000 in
theorem part193_FF (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v9 : BitVec 32) (v30 : BitVec 32) (v598 : BitVec 32) (v617 : BitVec 32) (v624_0 : FVec F S1x256 .f32) (v624_1 : FVec F S1x256 .f32) (v628 : BitVec 32) (c4_i32 : BitVec 32) (v629 : BitVec 32) (v640 : BitVec 1) (hc3 : ¬ k0_cond3 i = 1#1) (hc4 : ¬ k0_cond4 i = 1#1)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part193 i arg3 harg3 arg4 harg4 arg5 harg5 arg6 harg6 arg7 harg7 arg8 harg8 arg9 harg9 arg10 harg10 arg11 harg11 arg12 harg12 arg13 harg13 arg14 harg14 arg15 harg15 arg16 harg16 v9 v30 v598 v617 v624_0 v624_1 v628 c4_i32 v629 v640) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [k0_part193_eq_skeleton]; unfold k0_part193_skel
  try simp only [k0_part172_eq_skeleton, k0_part169_eq_skeleton, k0_part170_eq_skeleton, k0_part171_eq_skeleton, k0_part173_eq_skeleton]
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact hc3 | sl_exact hc4)
  sl_step
  sl_close

theorem part193 (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole) (v9 : BitVec 32) (v30 : BitVec 32) (v598 : BitVec 32) (v617 : BitVec 32) (v624_0 : FVec F S1x256 .f32) (v624_1 : FVec F S1x256 .f32) (v628 : BitVec 32) (c4_i32 : BitVec 32) (v629 : BitVec 32) (v640 : BitVec 1)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (k0_part193 i arg3 harg3 arg4 harg4 arg5 harg5 arg6 harg6 arg7 harg7 arg8 harg8 arg9 harg9 arg10 harg10 arg11 harg11 arg12 harg12 arg13 harg13 arg14 harg14 arg15 harg15 arg16 harg16 v9 v30 v598 v617 v624_0 v624_1 v628 c4_i32 v629 v640) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  by_cases h1 : k0_cond3 i = 1#1 <;> by_cases h2 : k0_cond4 i = 1#1
  · exact (part193_TT c i arg3 harg3 arg4 harg4 arg5 harg5 arg6 harg6 arg7 harg7 arg8 harg8 arg9 harg9 arg10 harg10 arg11 harg11 arg12 harg12 arg13 harg13 arg14 harg14 arg15 harg15 arg16 harg16 v9 v30 v598 v617 v624_0 v624_1 v628 c4_i32 v629 v640 h1 h2 x3 x4 x5 x6 x7 x8 E)
  · exact (part193_TF c i arg3 harg3 arg4 harg4 arg5 harg5 arg6 harg6 arg7 harg7 arg8 harg8 arg9 harg9 arg10 harg10 arg11 harg11 arg12 harg12 arg13 harg13 arg14 harg14 arg15 harg15 arg16 harg16 v9 v30 v598 v617 v624_0 v624_1 v628 c4_i32 v629 v640 h1 h2 x3 x4 x5 x6 x7 x8 E)
  · exact (part193_FT c i arg3 harg3 arg4 harg4 arg5 harg5 arg6 harg6 arg7 harg7 arg8 harg8 arg9 harg9 arg10 harg10 arg11 harg11 arg12 harg12 arg13 harg13 arg14 harg14 arg15 harg15 arg16 harg16 v9 v30 v598 v617 v624_0 v624_1 v628 c4_i32 v629 v640 h1 h2 x3 x4 x5 x6 x7 x8 E)
  · exact (part193_FF c i arg3 harg3 arg4 harg4 arg5 harg5 arg6 harg6 arg7 harg7 arg8 harg8 arg9 harg9 arg10 harg10 arg11 harg11 arg12 harg12 arg13 harg13 arg14 harg14 arg15 harg15 arg16 harg16 v9 v30 v598 v617 v624_0 v624_1 v628 c4_i32 v629 v640 h1 h2 x3 x4 x5 x6 x7 x8 E)

end Cert.Kernel3.Moba

end
-- ==== Proof.MobaBody.lean ====
module

public import proofs.«01_k».proof.Proof.MobaStart
public import proofs.«01_k».proof.Proof.MobaMidA
public import proofs.«01_k».proof.Proof.MobaMidB
public import proofs.«01_k».proof.Proof.MobaMidC
public import proofs.«01_k».proof.Proof.MobaEnd

@[expose] public section

set_option maxRecDepth 16384

noncomputable section

namespace Cert.Kernel3.Moba

open Idealize.ShloMosaic Idealize.ShloMosaic.TcCoe Idealize.ShloMosaic.Tactic Cert.Kernel3 Cert.Kernel3.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
/-- The body keeps what it holds. -/
theorem body (c : Dev nD) (i : grid0.Coords) (arg3 : Memref sig .tc .smem S32x8 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x8192x128 .f32) (harg6 : arg6.IsWhole) (arg7 : Memref sig .tc .vmem S1x8192x128 .bf16) (harg7 : arg7.IsWhole) (arg8 : Memref sig .tc .vmem S1x256x128 .f32) (harg8 : arg8.IsWhole) (arg9 : Memref sig .tc .vmem S1x256x128 .bf16) (harg9 : arg9.IsWhole) (arg10 : Memref sig .tc .vmem S2x33x256x128 .bf16) (harg10 : arg10.IsWhole) (arg11 : Memref sig .tc .vmem S33x2x80x256 .bf16) (harg11 : arg11.IsWhole) (arg12 : Memref sig .tc .vmem S2x64x128 .f32) (harg12 : arg12.IsWhole) (arg13 : Memref sig .tc .vmem S2x2x256x256 .f32) (harg13 : arg13.IsWhole) (arg14 : Memref sig .tc .vmem S2x80x256 .f32) (harg14 : arg14.IsWhole) (arg15 : Memref sig .tc .vmem S2x2x128x256 .bf16) (harg15 : arg15.IsWhole) (arg16 : Memref sig .tc .vmem S4x2x256x256 .f32) (harg16 : arg16.IsWhole)
    (x3 : Vec F S32x8 .f32) (x4 : Vec F S1x256x128 .f32) (x5 : Vec F S1x256x128 .f32) (x6 : Vec F S1x8192x128 .f32) (x7 : Vec F S1x8192x128 .bf16) (x8 : Vec F S1x256x128 .f32) (E : Set ℕ) :
    Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 ⊢ wp frame (wpE (defs₀ (F := F)) Variants.none (c : Thread nD τ) none) E (cc0_moba i arg3 harg3 arg4 harg4 arg5 harg5 arg6 harg6 arg7 harg7 arg8 harg8 arg9 harg9 arg10 harg10 arg11 harg11 arg12 harg12 arg13 harg13 arg14 harg14 arg15 harg15 arg16 harg16) (fun _ => Held c arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8) := by
  rw [cc0_moba_eq_skeleton]; unfold cc0_moba_skel
  refine chain (part174 c i arg3 harg3 arg4 harg4 arg5 harg5 arg6 harg6 arg7 harg7 arg8 harg8 arg9 harg9 arg10 harg10 arg11 harg11 arg12 harg12 arg13 harg13 arg14 harg14 arg15 harg15 arg16 harg16  x3 x4 x5 x6 x7 x8 E) fun r => ?_
  dsimp only
  refine chain (part175 c i arg3 harg3 arg4 harg4 arg5 harg5 arg6 harg6 arg7 harg7 arg8 harg8 arg9 harg9 arg10 harg10 arg11 harg11 arg12 harg12 arg13 harg13 arg14 harg14 arg15 harg15 arg16 harg16 _ _ _ x3 x4 x5 x6 x7 x8 E) fun r => ?_
  dsimp only
  refine chain (part176 c i arg3 harg3 arg4 harg4 arg5 harg5 arg6 harg6 arg7 harg7 arg8 harg8 arg9 harg9 arg10 harg10 arg11 harg11 arg12 harg12 arg13 harg13 arg14 harg14 arg15 harg15 arg16 harg16 _ _ _ _ _ _ x3 x4 x5 x6 x7 x8 E) fun r => ?_
  dsimp only
  refine chain (part177 c i arg3 harg3 arg4 harg4 arg5 harg5 arg6 harg6 arg7 harg7 arg8 harg8 arg9 harg9 arg10 harg10 arg11 harg11 arg12 harg12 arg13 harg13 arg14 harg14 arg15 harg15 arg16 harg16 _ _ _ _ x3 x4 x5 x6 x7 x8 E) fun r => ?_
  dsimp only
  refine chain (part178 c i arg3 harg3 arg4 harg4 arg5 harg5 arg6 harg6 arg7 harg7 arg8 harg8 arg9 harg9 arg10 harg10 arg11 harg11 arg12 harg12 arg13 harg13 arg14 harg14 arg15 harg15 arg16 harg16 _ _ _ _ x3 x4 x5 x6 x7 x8 E) fun r => ?_
  dsimp only
  refine chain (part179 c i arg3 harg3 arg4 harg4 arg5 harg5 arg6 harg6 arg7 harg7 arg8 harg8 arg9 harg9 arg10 harg10 arg11 harg11 arg12 harg12 arg13 harg13 arg14 harg14 arg15 harg15 arg16 harg16 _ _ _ _ _ _ x3 x4 x5 x6 x7 x8 E) fun r => ?_
  dsimp only
  refine chain (part180 c i arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ x3 x4 x5 x6 x7 x8 E) fun r => ?_
  dsimp only
  refine chain (part181 c i arg3 harg3 arg4 harg4 arg5 harg5 arg6 harg6 arg7 harg7 arg8 harg8 arg9 harg9 arg10 harg10 arg11 harg11 arg12 harg12 arg13 harg13 arg14 harg14 arg15 harg15 arg16 harg16 _ _ _ _ _ x3 x4 x5 x6 x7 x8 E) fun r => ?_
  dsimp only
  refine chain (part182 c i arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ x3 x4 x5 x6 x7 x8 E) fun r => ?_
  dsimp only
  refine chain (part183 c i arg3 harg3 arg4 harg4 arg5 harg5 arg6 harg6 arg7 harg7 arg8 harg8 arg9 harg9 arg10 harg10 arg11 harg11 arg12 harg12 arg13 harg13 arg14 harg14 arg15 harg15 arg16 harg16 _ _ _ _ x3 x4 x5 x6 x7 x8 E) fun r => ?_
  dsimp only
  refine chain (part184 c i arg3 harg3 arg4 harg4 arg5 harg5 arg6 harg6 arg7 harg7 arg8 harg8 arg9 harg9 arg10 harg10 arg11 harg11 arg12 harg12 arg13 harg13 arg14 harg14 arg15 harg15 arg16 harg16 _ _ _ _ _ x3 x4 x5 x6 x7 x8 E) fun r => ?_
  dsimp only
  refine chain (part185 c i arg3 harg3 arg4 harg4 arg5 harg5 arg6 harg6 arg7 harg7 arg8 harg8 arg9 harg9 arg10 harg10 arg11 harg11 arg12 harg12 arg13 harg13 arg14 harg14 arg15 harg15 arg16 harg16 _ _ _ _ x3 x4 x5 x6 x7 x8 E) fun r => ?_
  dsimp only
  refine chain (part186 c i arg3 harg3 arg4 harg4 arg5 harg5 arg6 harg6 arg7 harg7 arg8 harg8 arg9 harg9 arg10 harg10 arg11 harg11 arg12 harg12 arg13 harg13 arg14 harg14 arg15 harg15 arg16 harg16 _ _ _ _ x3 x4 x5 x6 x7 x8 E) fun r => ?_
  dsimp only
  refine chain (part187 c i arg3 harg3 arg4 harg4 arg5 harg5 arg6 harg6 arg7 harg7 arg8 harg8 arg9 harg9 arg10 harg10 arg11 harg11 arg12 harg12 arg13 harg13 arg14 harg14 arg15 harg15 arg16 harg16 _ _ _ _ x3 x4 x5 x6 x7 x8 E) fun r => ?_
  dsimp only
  refine chain (part188 c i arg3 harg3 arg4 harg4 arg5 harg5 arg6 harg6 arg7 harg7 arg8 harg8 arg9 harg9 arg10 harg10 arg11 harg11 arg12 harg12 arg13 harg13 arg14 harg14 arg15 harg15 arg16 harg16 _ _ _ x3 x4 x5 x6 x7 x8 E) fun r => ?_
  dsimp only
  refine chain (part189 c i arg3 harg3 arg4 harg4 arg5 harg5 arg6 harg6 arg7 harg7 arg8 harg8 arg9 harg9 arg10 harg10 arg11 harg11 arg12 harg12 arg13 harg13 arg14 harg14 arg15 harg15 arg16 harg16 _ _ _ _ x3 x4 x5 x6 x7 x8 E) fun r => ?_
  dsimp only
  refine chain (part190 c i arg3 harg3 arg4 harg4 arg5 harg5 arg6 harg6 arg7 harg7 arg8 harg8 arg9 harg9 arg10 harg10 arg11 harg11 arg12 harg12 arg13 harg13 arg14 harg14 arg15 harg15 arg16 harg16 _ _ _ _ _ x3 x4 x5 x6 x7 x8 E) fun r => ?_
  dsimp only
  refine chain (part191 c i arg3 harg3 arg4 harg4 arg5 harg5 arg6 harg6 arg7 harg7 arg8 harg8 arg9 harg9 arg10 harg10 arg11 harg11 arg12 harg12 arg13 harg13 arg14 harg14 arg15 harg15 arg16 harg16 _ _ _ _ _ _ x3 x4 x5 x6 x7 x8 E) fun r => ?_
  dsimp only
  refine chain (part192 c i arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ x3 x4 x5 x6 x7 x8 E) fun r => ?_
  dsimp only
  refine chain (part193 c i arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ x3 x4 x5 x6 x7 x8 E) fun r => ?_
  dsimp only
  unfold Held
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  sl_close

end Cert.Kernel3.Moba

end
-- ==== Proof.MobaFrame.lean ====
module

public import proofs.«01_k».proof.Proof.MobaBody
public import Idealize.ShloMosaic.Lib.Pipeline.Frame

@[expose] public section

set_option maxRecDepth 16384

noncomputable section

namespace Cert.Kernel3.Moba

open Idealize.ShloMosaic Idealize.ShloMosaic.TcCoe Idealize.ShloMosaic.Tactic Cert.Kernel3 Cert.Kernel3.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The machine the assertions are about. -/
abbrev Mach (F : FTy → Type) := MT nD τ sig Unit (Elt F) ℕ (UR sig nD τ) ℕ

/-- A whole memref owned at contents is its buffer's elements at those contents. -/
theorem lend (c : Dev nD) {sp : Space} {s : Shape} {e : EltTy} (a : Memref sig .tc sp s e) (h : a.IsWhole) (x : s.Idx → Elt F e) :
    (owns (c : Thread nD τ) a fullShare x : sProp (Mach F)) ⊢ a.view.loc (c : Thread nD τ) ↦[a.view.set]{fullShare} h.unread x := by
  unfold owns
  iintro ⟨%f, %hf, H⟩
  obtain rfl := h.eq_unread hf
  iexact H

theorem back (c : Dev nD) {sp : Space} {s : Shape} {e : EltTy} (a : Memref sig .tc sp s e) (h : a.IsWhole) (x : s.Idx → Elt F e) :
    (a.view.loc (c : Thread nD τ) ↦[a.view.set]{fullShare} h.unread x : sProp (Mach F)) ⊢ owns (c : Thread nD τ) a fullShare x := by
  have := owns_intro (Val := Elt F) (Ix := Unit) (Name := ℕ) (U := UR sig nD τ) (Lvl := ℕ) (c : Thread nD τ) a fullShare (h.unread x)
  rwa [h.read_unread] at this

theorem owns_some (c : Dev nD) {sp : Space} {s : Shape} {e : EltTy} (a : Memref sig .tc sp s e) (x : s.Idx → Elt F e) :
    (owns (c : Thread nD τ) a fullShare x : sProp (Mach F))
      ⊢ iprop(∃ f : BufTy.Contents (Elt F) a.view.ty, a.view.loc (c : Thread nD τ) ↦[a.view.set]{fullShare} f) := by
  unfold owns
  iintro ⟨%f, -, H⟩
  iexists f
  iexact H

theorem some_owns (c : Dev nD) {sp : Space} {s : Shape} {e : EltTy} (a : Memref sig .tc sp s e) :
    (iprop(∃ f : BufTy.Contents (Elt F) a.view.ty, a.view.loc (c : Thread nD τ) ↦[a.view.set]{fullShare} f) : sProp (Mach F))
      ⊢ iprop(∃ d, owns (c : Thread nD τ) a fullShare d) := by
  iintro ⟨%f, H⟩
  iexists a.view.read (Elt F) f
  unfold owns
  iexists f
  isplitr; · ipureintro; rfl
  iexact H

/-- A scratch array at some contents, as its whole memref's elements at some contents. -/
theorem scratch_eq (c : Dev nD) (b : Ref sig .tc) :
    (iprop(∃ f : Buf (Elt F) ((c : Thread nD τ).loc b), ((c : Thread nD τ).loc b) ↦{fullShare} f) : sProp (Mach F))
      = iprop(∃ f : BufTy.Contents (Elt F) (Memref.whole b).view.ty,
          ((Memref.whole b).view.loc (c : Thread nD τ)) ↦[(Memref.whole b).view.set]{fullShare} f) := by
  simp only [View.set_whole, Memref.view_whole]

variable (m : (ℓ : Loc nD τ sig) → Buf (Elt F) ℓ) (ρ : Dev nD → PrngReg)

/-- The window the body writes is not named. -/
def unnamedOut : Fin 7 → Bool := fun w => w.val == 6

/-- The pipeline's data: every array as the call finds it, every block read left in place, the block written not named. The queries'
    array is under two windows, which share it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d

/-- The body at a point: it gives back every block it reads, and what it writes at some contents. -/
theorem point (c : Dev nD) (t : Fin cfg0.N) :
    iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d))
      ∗ (∃ d, owns (c : Thread nD τ) (st0_6 t) fullShare d))
    ⊢ wp frame (wpE (defs₀ (F := F)) Variants.none (c : Thread nD τ) none) Set.univ (bodyAt0 t) (fun _ =>
      iprop((dats m 0 c).Φ t.succ ∗ (dats m 0 c).owesAt () t.succ
        ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t)
        ∗ (∃ d, owns (c : Thread nD τ) (st0_6 t) fullShare d))) := by
  have run := body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t) Set.univ
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  simp only [before_0, after_0, before_1, after_1, before_2, after_2, before_3, after_3, before_4, after_4, before_5, after_5]
  unfold Pipeline.ΦA
  rw [scopedRest0_eq]
  simp only [scratch_eq]
  iintro ⟨⟨⟨S0, S1, S2, S3, S4, S5, S6⟩, Hr⟩, Ho, ⟨%d0, H0⟩, ⟨%d1, H1⟩, ⟨%d2, H2⟩, ⟨%d3, H3⟩, ⟨%d4, H4⟩, ⟨%d5, H5⟩, ⟨%d6, H6⟩⟩
  ihave G0 := (lend c (st0_0 t) (hstage0_0 ((cfg0.slots t 0).cast nbuf0_0)) (iblk m c 0 t)) $$ H0
  ihave G1 := (lend c (st0_1 t) (hstage0_1 ((cfg0.slots t 1).cast nbuf0_1)) (iblk m c 1 t)) $$ H1
  ihave G2 := (lend c (st0_2 t) (hstage0_2 ((cfg0.slots t 2).cast nbuf0_2)) (iblk m c 2 t)) $$ H2
  ihave G3 := (lend c (st0_3 t) (hstage0_3 ((cfg0.slots t 3).cast nbuf0_3)) (iblk m c 3 t)) $$ H3
  ihave G4 := (lend c (st0_4 t) (hstage0_4 ((cfg0.slots t 4).cast nbuf0_4)) (iblk m c 4 t)) $$ H4
  ihave G5 := (lend c (st0_5 t) (hstage0_5 ((cfg0.slots t 5).cast nbuf0_5)) (iblk m c 5 t)) $$ H5
  ihave G6 := (owns_some c (st0_6 t) d6) $$ H6
  iapply (wp_wand_r frame (wpE (defs₀ (F := F)) Variants.none (c : Thread nD τ) none) Set.univ)
  isplitl [G0 G1 G2 G3 G4 G5 G6 S0 S1 S2 S3 S4 S5 S6]
  · iapply run
    unfold Held
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [S0]; · iexact S0
    isplitl [S1]; · iexact S1
    isplitl [S2]; · iexact S2
    isplitl [S3]; · iexact S3
    isplitl [S4]; · iexact S4
    isplitl [S5]; · iexact S5
    iexact S6
  iintro %r HH
  unfold Held
  icases HH with ⟨G0, G1, G2, G3, G4, G5, G6, S0, S1, S2, S3, S4, S5, S6⟩
  ihave H0 := (back c (st0_0 t) (hstage0_0 ((cfg0.slots t 0).cast nbuf0_0)) (iblk m c 0 t)) $$ G0
  ihave H1 := (back c (st0_1 t) (hstage0_1 ((cfg0.slots t 1).cast nbuf0_1)) (iblk m c 1 t)) $$ G1
  ihave H2 := (back c (st0_2 t) (hstage0_2 ((cfg0.slots t 2).cast nbuf0_2)) (iblk m c 2 t)) $$ G2
  ihave H3 := (back c (st0_3 t) (hstage0_3 ((cfg0.slots t 3).cast nbuf0_3)) (iblk m c 3 t)) $$ G3
  ihave H4 := (back c (st0_4 t) (hstage0_4 ((cfg0.slots t 4).cast nbuf0_4)) (iblk m c 4 t)) $$ G4
  ihave H5 := (back c (st0_5 t) (hstage0_5 ((cfg0.slots t 5).cast nbuf0_5)) (iblk m c 5 t)) $$ G5
  ihave H6 := (some_owns c (st0_6 t)) $$ G6
  isplitl [S0 S1 S2 S3 S4 S5 S6 Hr]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row (t : Fin cfg0.N) : (defs₀ (F := F)) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ unnamedOut := fun t => by
  rw [bigSep_W0, bigSep_W0, row]
  exact Idealize.ShloMosaic.triple_restated (point m c t) rfl .rfl fun _ => .rfl

/-- The call runs to an end, its arguments end unchanged and every semaphore ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ ⟨h, hz⟩ => ⟨fun c =>
      ⟨(Pipeline.RDat.FramePost.arr_in h c 2 rfl).trans ((A_eq m c 2).trans (V_main_arg0 m c)),
       (Pipeline.RDat.FramePost.arr_in h c 3 rfl).trans ((A_eq m c 3).trans (V_main_arg1 m c)),
       ((h c).2 main_arg2 (Pipeline.mem_restRefs_of main_arg2 (by decide) (by decide))).trans (V_main_arg2 m c),
       (Pipeline.RDat.FramePost.arr_in h c 5 rfl).trans ((A_eq m c 5).trans (V_main_arg3 m c)),
       (Pipeline.RDat.FramePost.arr_in h c 0 rfl).trans ((A_eq m c 0).trans (V_main_arg4 m c))⟩, hz⟩)
    (Pipeline.θ_run_frame_forget_shared (Q' := fun r => Pipeline.RDat.FramePost (cfgs 0) (fun c => (dats m 0 c).toRForget unnamedOut) (V m) r ∧ r.2.sem = fun _ => 0)
      cfgs (dats m) (0 : Fin 1) launch₀0 defs₀ Variants.none unnamedOut m ρ main
      (hbody := fun c => (obligation m c).loose) (hq := fun _ _ _ => rfl) (howed := fun _ _ => rfl) (V := V m)
      (hmain := hmain m Variants.none) (hA := A_eq m) (hΦ := fun _ _ => rfl))

end Cert.Kernel3.Moba

end
-- ==== Proof.MobaTwin.lean ====
/-
  The idealized MoBA program is the program's own text, so the one run of `Proof/MobaFrame.lean`, at any floats, is also its run.
-/
module

public import proofs.«01_k».proof.Defs
public import proofs.«01_k».proof.Proof.MobaFrame
public import proofs.«01_k».proof.Proof.Gen.Kernel3Ideal

@[expose] public section

set_option maxRecDepth 16384

noncomputable section

namespace Cert.Kernel3.Twin

open Idealize.ShloMosaic Idealize.SL.Sem

variable {F : FTy → Type} [FloatOps F]

theorem same_main : Kernel3.main (F := F) = Kernel3Ideal.main (F := F) := rfl

theorem same_row (t) (s) : Kernel3.defs₀ (F := F) .tc 0 (t, s) = Kernel3Ideal.defs₀ (F := F) .tc 0 (t, s) := by
  unfold Kernel3.defs₀ Kernel3Ideal.defs₀
  rw [Defs.onTc_tc, Defs.onTc_tc]
  exact rfl

theorem same_bodies : Kernel3.defs₀ (F := F) = Kernel3Ideal.defs₀ (F := F) := by
  funext k l a
  match k, l, a with
  | .tc, ⟨0, _⟩, (t, s) => exact same_row t s
  | .scScalar _, _, _ => rfl
  | .scVector _ _, _, _ => rfl

theorem same_defs : Kernel3.defs (F := F) = Kernel3Ideal.defs (F := F) :=
  congrArg (Pipeline.defs (Kernel3.pcfgs (F := F))) (same_bodies (F := F))

theorem frame : Cert.quiescent_Kernel3 := fun m ρ _ => Moba.frame_run m ρ

theorem frame_ideal : Cert.quiescent_Kernel3Ideal := fun m ρ _ => by
  have h := Moba.frame_run (F := Ideal) m ρ
  rw [same_defs (F := Ideal), same_main (F := Ideal)] at h
  exact h

end Cert.Kernel3.Twin

end
-- ==== Proof.lean ====
/-
  The proof of `Cert.Claim`: the frames of the eight programs (MoBA's by `Proof/MobaFrame.lean`), the value of the gated delta rule's call (`Proof/DnClaim.lean`),
  and the input projection's value (`Proof/InprojClaim.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3.Loops
public import proofs.«01_k».proof.Proof.Gen.Kernel3Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Reference2Ideal.Read
public import proofs.«01_k».proof.Proof.InprojClaim
public import proofs.«01_k».proof.Proof.DnClaim
public import proofs.«01_k».proof.Proof.MobaFrame
public import proofs.«01_k».proof.Proof.MobaTwin
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_r : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Dn.Claim.facts_pre,
  fun m ρ _ => Cert.Kernel.Gen.frame m ρ, fun m ρ _ => Cert.KernelIdeal.Gen.frame m ρ, fun m ρ _ => Cert.KernelIdeal.Gen.frame m ρ, frame_r, fun m ρ _ => frame_r m ρ trivial,
  fun m ρ _ => Cert.Kernel2.Gen.frame m ρ, fun m ρ _ => Cert.Kernel2Ideal.Gen.frame m ρ, Cert.InprojClaim.frame_r,
  Cert.Kernel3.Twin.frame, Cert.Kernel3.Twin.frame_ideal,
  trivial, Dn.Claim.same_result, trivial, Cert.InprojClaim.same_results, trivial⟩

end Cert.Proof

end
